-- ==== Defs.lean ====
def Pre_Kernel [hPre_dispatch : Cert.Pre_dispatch.Facts] (m : (ℓ : Loc Cert.Kernel.nD Cert.Kernel.τ Cert.Kernel.sig) → Buf (Elt Bits) ℓ) : Prop :=
  ∀ c : Dev Cert.Kernel.nD,
    (Cert.Pre_dispatch.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_dispatch : Cert.Pre_dispatch.Facts] (m : (ℓ : Loc Cert.KernelIdeal.nD Cert.KernelIdeal.τ Cert.KernelIdeal.sig) → Buf (Elt Ideal) ℓ) : Prop :=
  ∀ c : Dev Cert.KernelIdeal.nD,
    (Cert.Pre_dispatch.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_dispatch : Cert.Pre_dispatch.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_dispatch.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def Pre_Reference [hPre_dispatch : Cert.Pre_dispatch.Facts] (m : (ℓ : Loc Cert.Reference.nD Cert.Reference.τ Cert.Reference.sig) → Buf (Elt Bits) ℓ) : Prop :=
  ∀ c : Dev Cert.Reference.nD,
    (Cert.Pre_dispatch.fn (F := Bits) (m ((c.tc : Thread Cert.Reference.nD Cert.Reference.τ).loc Cert.Reference.main_arg0)) (m ((c.tc : Thread Cert.Reference.nD Cert.Reference.τ).loc Cert.Reference.main_arg1)) (m ((c.tc : Thread Cert.Reference.nD Cert.Reference.τ).loc Cert.Reference.main_arg2))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Kernel2Ideal_finite [hPre_finite : Cert.Pre_finite.Facts] (m : (ℓ : Loc Cert.Kernel2Ideal.nD Cert.Kernel2Ideal.τ Cert.Kernel2Ideal.sig) → Buf (Elt Ideal) ℓ) : Prop :=
  ∀ c : Dev Cert.Kernel2Ideal.nD,
    (Cert.Pre_finite.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2))) = (fun _ => 1#1)

def Pre_Reference2Ideal (m : (ℓ : Loc Cert.Reference2Ideal.nD Cert.Reference2Ideal.τ Cert.Reference2Ideal.sig) → Buf (Elt Ideal) ℓ) : Prop :=
  True

def Pre_Reference2Ideal_finite [hPre_finite : Cert.Pre_finite.Facts] (m : (ℓ : Loc Cert.Reference2Ideal.nD Cert.Reference2Ideal.τ Cert.Reference2Ideal.sig) → Buf (Elt Ideal) ℓ) : Prop :=
  ∀ c : Dev Cert.Reference2Ideal.nD,
    (Cert.Pre_finite.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2))) = (fun _ => 1#1)

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Kernel4Ideal_finite_diff [hPre_finite_diff : Cert.Pre_finite_diff.Facts] (m : (ℓ : Loc Cert.Kernel4Ideal.nD Cert.Kernel4Ideal.τ Cert.Kernel4Ideal.sig) → Buf (Elt Ideal) ℓ) : Prop :=
  ∀ c : Dev Cert.Kernel4Ideal.nD,
    (Cert.Pre_finite_diff.fn (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) (m ((c.tc : Thread Cert.Kernel4Ideal.nD Cert.Kernel4Ideal.τ).loc Cert.Kernel4Ideal.main_arg3)) (m ((c.tc : Thread Cert.Kernel4Ideal.nD Cert.Kernel4Ideal.τ).loc Cert.Kernel4Ideal.main_arg4)) (m ((c.tc : Thread Cert.Kernel4Ideal.nD Cert.Kernel4Ideal.τ).loc Cert.Kernel4Ideal.main_arg5)) (m ((c.tc : Thread Cert.Kernel4Ideal.nD Cert.Kernel4Ideal.τ).loc Cert.Kernel4Ideal.main_arg6)) (m ((c.tc : Thread Cert.Kernel4Ideal.nD Cert.Kernel4Ideal.τ).loc Cert.Kernel4Ideal.main_arg7))) = (fun _ => 1#1)

def Pre_Reference4Ideal (m : (ℓ : Loc Cert.Reference4Ideal.nD Cert.Reference4Ideal.τ Cert.Reference4Ideal.sig) → Buf (Elt Ideal) ℓ) : Prop :=
  True

def Pre_Reference4Ideal_finite_diff [hPre_finite_diff : Cert.Pre_finite_diff.Facts] (m : (ℓ : Loc Cert.Reference4Ideal.nD Cert.Reference4Ideal.τ Cert.Reference4Ideal.sig) → Buf (Elt Ideal) ℓ) : Prop :=
  ∀ c : Dev Cert.Reference4Ideal.nD,
    (Cert.Pre_finite_diff.fn (F := Ideal) (m ((c.tc : Thread Cert.Reference4Ideal.nD Cert.Reference4Ideal.τ).loc Cert.Reference4Ideal.main_arg0)) (m ((c.tc : Thread Cert.Reference4Ideal.nD Cert.Reference4Ideal.τ).loc Cert.Reference4Ideal.main_arg1)) (m ((c.tc : Thread Cert.Reference4Ideal.nD Cert.Reference4Ideal.τ).loc Cert.Reference4Ideal.main_arg2)) (m ((c.tc : Thread Cert.Reference4Ideal.nD Cert.Reference4Ideal.τ).loc Cert.Reference4Ideal.main_arg3)) (m ((c.tc : Thread Cert.Reference4Ideal.nD Cert.Reference4Ideal.τ).loc Cert.Reference4Ideal.main_arg4)) (m ((c.tc : Thread Cert.Reference4Ideal.nD Cert.Reference4Ideal.τ).loc Cert.Reference4Ideal.main_arg5)) (m ((c.tc : Thread Cert.Reference4Ideal.nD Cert.Reference4Ideal.τ).loc Cert.Reference4Ideal.main_arg6)) (m ((c.tc : Thread Cert.Reference4Ideal.nD Cert.Reference4Ideal.τ).loc Cert.Reference4Ideal.main_arg7))) = (fun _ => 1#1)

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Kernel5Ideal_finite_diff [hPre_finite_diff : Cert.Pre_finite_diff.Facts] (m : (ℓ : Loc Cert.Kernel5Ideal.nD Cert.Kernel5Ideal.τ Cert.Kernel5Ideal.sig) → Buf (Elt Ideal) ℓ) : Prop :=
  ∀ c : Dev Cert.Kernel5Ideal.nD,
    (Cert.Pre_finite_diff.fn (F := Ideal) (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)) (m ((c.tc : Thread Cert.Kernel5Ideal.nD Cert.Kernel5Ideal.τ).loc Cert.Kernel5Ideal.main_arg2)) (m ((c.tc : Thread Cert.Kernel5Ideal.nD Cert.Kernel5Ideal.τ).loc Cert.Kernel5Ideal.main_arg3)) (m ((c.tc : Thread Cert.Kernel5Ideal.nD Cert.Kernel5Ideal.τ).loc Cert.Kernel5Ideal.main_arg4)) (m ((c.tc : Thread Cert.Kernel5Ideal.nD Cert.Kernel5Ideal.τ).loc Cert.Kernel5Ideal.main_arg5)) (m ((c.tc : Thread Cert.Kernel5Ideal.nD Cert.Kernel5Ideal.τ).loc Cert.Kernel5Ideal.main_arg6)) (m ((c.tc : Thread Cert.Kernel5Ideal.nD Cert.Kernel5Ideal.τ).loc Cert.Kernel5Ideal.main_arg7))) = (fun _ => 1#1)

def Pre_Reference5Ideal (m : (ℓ : Loc Cert.Reference5Ideal.nD Cert.Reference5Ideal.τ Cert.Reference5Ideal.sig) → Buf (Elt Ideal) ℓ) : Prop :=
  True

def Pre_Reference5Ideal_finite_diff [hPre_finite_diff : Cert.Pre_finite_diff.Facts] (m : (ℓ : Loc Cert.Reference5Ideal.nD Cert.Reference5Ideal.τ Cert.Reference5Ideal.sig) → Buf (Elt Ideal) ℓ) : Prop :=
  ∀ c : Dev Cert.Reference5Ideal.nD,
    (Cert.Pre_finite_diff.fn (F := Ideal) (m ((c.tc : Thread Cert.Reference5Ideal.nD Cert.Reference5Ideal.τ).loc Cert.Reference5Ideal.main_arg0)) (m ((c.tc : Thread Cert.Reference5Ideal.nD Cert.Reference5Ideal.τ).loc Cert.Reference5Ideal.main_arg1)) (m ((c.tc : Thread Cert.Reference5Ideal.nD Cert.Reference5Ideal.τ).loc Cert.Reference5Ideal.main_arg2)) (m ((c.tc : Thread Cert.Reference5Ideal.nD Cert.Reference5Ideal.τ).loc Cert.Reference5Ideal.main_arg3)) (m ((c.tc : Thread Cert.Reference5Ideal.nD Cert.Reference5Ideal.τ).loc Cert.Reference5Ideal.main_arg4)) (m ((c.tc : Thread Cert.Reference5Ideal.nD Cert.Reference5Ideal.τ).loc Cert.Reference5Ideal.main_arg5)) (m ((c.tc : Thread Cert.Reference5Ideal.nD Cert.Reference5Ideal.τ).loc Cert.Reference5Ideal.main_arg6)) (m ((c.tc : Thread Cert.Reference5Ideal.nD Cert.Reference5Ideal.τ).loc Cert.Reference5Ideal.main_arg7))) = (fun _ => 1#1)

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def quiescent_Kernel [hKernel : Cert.Kernel.Facts] [hPre_dispatch : Cert.Pre_dispatch.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] [hPre_dispatch : Cert.Pre_dispatch.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] [hPre_dispatch : Cert.Pre_dispatch.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_Reference [hReference : Cert.Reference.Facts] [hPre_dispatch : Cert.Pre_dispatch.Facts] : Prop :=
  ∀ (m : (ℓ : Loc Cert.Reference.nD Cert.Reference.τ Cert.Reference.sig) → Buf (Elt Bits) ℓ) (g : Dev Cert.Reference.nD → PrngReg), Pre_Reference m →
    θ_run (Cert.Reference.defs (F := Bits)) (onTc (τ := Cert.Reference.τ) (Cert.Reference.main (F := Bits))) ⟨m, fun _ => 0, g⟩ (fun r => (∀ c : Dev Cert.Reference.nD,
      r.2.mem ((c.tc : Thread Cert.Reference.nD Cert.Reference.τ).loc Cert.Reference.main_arg0) = m ((c.tc : Thread Cert.Reference.nD Cert.Reference.τ).loc Cert.Reference.main_arg0)
      ∧ r.2.mem ((c.tc : Thread Cert.Reference.nD Cert.Reference.τ).loc Cert.Reference.main_arg1) = m ((c.tc : Thread Cert.Reference.nD Cert.Reference.τ).loc Cert.Reference.main_arg1)
      ∧ r.2.mem ((c.tc : Thread Cert.Reference.nD Cert.Reference.τ).loc Cert.Reference.main_arg2) = m ((c.tc : Thread Cert.Reference.nD Cert.Reference.τ).loc Cert.Reference.main_arg2))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2))
      ∧ r.2.sem = fun _ => 0)

def quiescent_Kernel2Ideal_pre_finite [hKernel2Ideal : Cert.Kernel2Ideal.Facts] [hPre_finite : Cert.Pre_finite.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal_finite m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2))
      ∧ r.2.sem = fun _ => 0)

def quiescent_Reference2Ideal_pre_finite [hReference2Ideal : Cert.Reference2Ideal.Facts] [hPre_finite : Cert.Pre_finite.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal_finite m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4)
      ∧ r.2.mem ((c.tc : Thread Cert.Kernel4.nD Cert.Kernel4.τ).loc Cert.Kernel4.main_arg5) = m ((c.tc : Thread Cert.Kernel4.nD Cert.Kernel4.τ).loc Cert.Kernel4.main_arg5)
      ∧ r.2.mem ((c.tc : Thread Cert.Kernel4.nD Cert.Kernel4.τ).loc Cert.Kernel4.main_arg6) = m ((c.tc : Thread Cert.Kernel4.nD Cert.Kernel4.τ).loc Cert.Kernel4.main_arg6)
      ∧ r.2.mem ((c.tc : Thread Cert.Kernel4.nD Cert.Kernel4.τ).loc Cert.Kernel4.main_arg7) = m ((c.tc : Thread Cert.Kernel4.nD Cert.Kernel4.τ).loc Cert.Kernel4.main_arg7))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
      ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
      ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7))
      ∧ r.2.sem = fun _ => 0)

def quiescent_Kernel4Ideal_pre_finite_diff [hKernel4Ideal : Cert.Kernel4Ideal.Facts] [hPre_finite_diff : Cert.Pre_finite_diff.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal_finite_diff m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
      ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
      ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5)
      ∧ r.2.mem ((c.tc : Thread Cert.Reference4Ideal.nD Cert.Reference4Ideal.τ).loc Cert.Reference4Ideal.main_arg6) = m ((c.tc : Thread Cert.Reference4Ideal.nD Cert.Reference4Ideal.τ).loc Cert.Reference4Ideal.main_arg6)
      ∧ r.2.mem ((c.tc : Thread Cert.Reference4Ideal.nD Cert.Reference4Ideal.τ).loc Cert.Reference4Ideal.main_arg7) = m ((c.tc : Thread Cert.Reference4Ideal.nD Cert.Reference4Ideal.τ).loc Cert.Reference4Ideal.main_arg7))
      ∧ r.2.sem = fun _ => 0)

def quiescent_Reference4Ideal_pre_finite_diff [hReference4Ideal : Cert.Reference4Ideal.Facts] [hPre_finite_diff : Cert.Pre_finite_diff.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal_finite_diff m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5)
      ∧ r.2.mem ((c.tc : Thread Cert.Reference4Ideal.nD Cert.Reference4Ideal.τ).loc Cert.Reference4Ideal.main_arg6) = m ((c.tc : Thread Cert.Reference4Ideal.nD Cert.Reference4Ideal.τ).loc Cert.Reference4Ideal.main_arg6)
      ∧ r.2.mem ((c.tc : Thread Cert.Reference4Ideal.nD Cert.Reference4Ideal.τ).loc Cert.Reference4Ideal.main_arg7) = m ((c.tc : Thread Cert.Reference4Ideal.nD Cert.Reference4Ideal.τ).loc Cert.Reference4Ideal.main_arg7))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3)
      ∧ r.2.mem ((c.tc : Thread Cert.Kernel5.nD Cert.Kernel5.τ).loc Cert.Kernel5.main_arg4) = m ((c.tc : Thread Cert.Kernel5.nD Cert.Kernel5.τ).loc Cert.Kernel5.main_arg4)
      ∧ r.2.mem ((c.tc : Thread Cert.Kernel5.nD Cert.Kernel5.τ).loc Cert.Kernel5.main_arg5) = m ((c.tc : Thread Cert.Kernel5.nD Cert.Kernel5.τ).loc Cert.Kernel5.main_arg5)
      ∧ r.2.mem ((c.tc : Thread Cert.Kernel5.nD Cert.Kernel5.τ).loc Cert.Kernel5.main_arg6) = m ((c.tc : Thread Cert.Kernel5.nD Cert.Kernel5.τ).loc Cert.Kernel5.main_arg6)
      ∧ r.2.mem ((c.tc : Thread Cert.Kernel5.nD Cert.Kernel5.τ).loc Cert.Kernel5.main_arg7) = m ((c.tc : Thread Cert.Kernel5.nD Cert.Kernel5.τ).loc Cert.Kernel5.main_arg7))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
      ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
      ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6)
      ∧ r.2.mem ((c.tc : Thread Cert.Kernel5Ideal.nD Cert.Kernel5Ideal.τ).loc Cert.Kernel5Ideal.main_arg7) = m ((c.tc : Thread Cert.Kernel5Ideal.nD Cert.Kernel5Ideal.τ).loc Cert.Kernel5Ideal.main_arg7))
      ∧ r.2.sem = fun _ => 0)

def quiescent_Kernel5Ideal_pre_finite_diff [hKernel5Ideal : Cert.Kernel5Ideal.Facts] [hPre_finite_diff : Cert.Pre_finite_diff.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal_finite_diff m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
      ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
      ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6)
      ∧ r.2.mem ((c.tc : Thread Cert.Kernel5Ideal.nD Cert.Kernel5Ideal.τ).loc Cert.Kernel5Ideal.main_arg7) = m ((c.tc : Thread Cert.Kernel5Ideal.nD Cert.Kernel5Ideal.τ).loc Cert.Kernel5Ideal.main_arg7))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4)
      ∧ r.2.mem ((c.tc : Thread Cert.Reference5Ideal.nD Cert.Reference5Ideal.τ).loc Cert.Reference5Ideal.main_arg5) = m ((c.tc : Thread Cert.Reference5Ideal.nD Cert.Reference5Ideal.τ).loc Cert.Reference5Ideal.main_arg5)
      ∧ r.2.mem ((c.tc : Thread Cert.Reference5Ideal.nD Cert.Reference5Ideal.τ).loc Cert.Reference5Ideal.main_arg6) = m ((c.tc : Thread Cert.Reference5Ideal.nD Cert.Reference5Ideal.τ).loc Cert.Reference5Ideal.main_arg6)
      ∧ r.2.mem ((c.tc : Thread Cert.Reference5Ideal.nD Cert.Reference5Ideal.τ).loc Cert.Reference5Ideal.main_arg7) = m ((c.tc : Thread Cert.Reference5Ideal.nD Cert.Reference5Ideal.τ).loc Cert.Reference5Ideal.main_arg7))
      ∧ r.2.sem = fun _ => 0)

def quiescent_Reference5Ideal_pre_finite_diff [hReference5Ideal : Cert.Reference5Ideal.Facts] [hPre_finite_diff : Cert.Pre_finite_diff.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal_finite_diff m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4)
      ∧ r.2.mem ((c.tc : Thread Cert.Reference5Ideal.nD Cert.Reference5Ideal.τ).loc Cert.Reference5Ideal.main_arg5) = m ((c.tc : Thread Cert.Reference5Ideal.nD Cert.Reference5Ideal.τ).loc Cert.Reference5Ideal.main_arg5)
      ∧ r.2.mem ((c.tc : Thread Cert.Reference5Ideal.nD Cert.Reference5Ideal.τ).loc Cert.Reference5Ideal.main_arg6) = m ((c.tc : Thread Cert.Reference5Ideal.nD Cert.Reference5Ideal.τ).loc Cert.Reference5Ideal.main_arg6)
      ∧ r.2.mem ((c.tc : Thread Cert.Reference5Ideal.nD Cert.Reference5Ideal.τ).loc Cert.Reference5Ideal.main_arg7) = m ((c.tc : Thread Cert.Reference5Ideal.nD Cert.Reference5Ideal.τ).loc Cert.Reference5Ideal.main_arg7))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2)
      ∧ r.2.mem ((c.tc : Thread Cert.Kernel6.nD Cert.Kernel6.τ).loc Cert.Kernel6.main_arg3) = m ((c.tc : Thread Cert.Kernel6.nD Cert.Kernel6.τ).loc Cert.Kernel6.main_arg3)
      ∧ r.2.mem ((c.tc : Thread Cert.Kernel6.nD Cert.Kernel6.τ).loc Cert.Kernel6.main_arg4) = m ((c.tc : Thread Cert.Kernel6.nD Cert.Kernel6.τ).loc Cert.Kernel6.main_arg4)
      ∧ r.2.mem ((c.tc : Thread Cert.Kernel6.nD Cert.Kernel6.τ).loc Cert.Kernel6.main_arg5) = m ((c.tc : Thread Cert.Kernel6.nD Cert.Kernel6.τ).loc Cert.Kernel6.main_arg5))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
      ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
      ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3)
      ∧ r.2.mem ((c.tc : Thread Cert.Reference6Ideal.nD Cert.Reference6Ideal.τ).loc Cert.Reference6Ideal.main_arg4) = m ((c.tc : Thread Cert.Reference6Ideal.nD Cert.Reference6Ideal.τ).loc Cert.Reference6Ideal.main_arg4)
      ∧ r.2.mem ((c.tc : Thread Cert.Reference6Ideal.nD Cert.Reference6Ideal.τ).loc Cert.Reference6Ideal.main_arg5) = m ((c.tc : Thread Cert.Reference6Ideal.nD Cert.Reference6Ideal.τ).loc Cert.Reference6Ideal.main_arg5))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] [hPre_dispatch : Cert.Pre_dispatch.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v41)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v41) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v20) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def bitexact_Kernel_Reference [hKernel : Cert.Kernel.Facts] [hReference : Cert.Reference.Facts] [hPre_dispatch : Cert.Pre_dispatch.Facts] : Prop :=
  ∀ (m : (ℓ : Loc Cert.Kernel.nD Cert.Kernel.τ Cert.Kernel.sig) → Buf (Elt Bits) ℓ) (g : Dev Cert.Kernel.nD → PrngReg)
    (m' : (ℓ : Loc Cert.Reference.nD Cert.Reference.τ Cert.Reference.sig) → Buf (Elt Bits) ℓ) (g' : Dev Cert.Reference.nD → PrngReg), Pre_Kernel m →
    (∀ c : Dev Cert.Kernel.nD,
      m' ((c.tc : Thread Cert.Reference.nD Cert.Reference.τ).loc Cert.Reference.main_arg0) = m ((c.tc : Thread Cert.Kernel.nD Cert.Kernel.τ).loc Cert.Kernel.main_arg0)
      ∧ m' ((c.tc : Thread Cert.Reference.nD Cert.Reference.τ).loc Cert.Reference.main_arg1) = m ((c.tc : Thread Cert.Kernel.nD Cert.Kernel.τ).loc Cert.Kernel.main_arg1)
      ∧ m' ((c.tc : Thread Cert.Reference.nD Cert.Reference.τ).loc Cert.Reference.main_arg2) = m ((c.tc : Thread Cert.Kernel.nD Cert.Kernel.τ).loc Cert.Kernel.main_arg2)) →
    ∃ (v0 : (c : Dev Cert.Kernel.nD) → Buf (Elt Bits) ((c.tc : Thread Cert.Kernel.nD Cert.Kernel.τ).loc Cert.Kernel.main_v41)),
      θ_run (Cert.Kernel.defs (F := Bits)) (Cert.Kernel.threads (F := Bits)) ⟨m, fun _ => 0, g⟩ (fun r => ∀ c : Dev Cert.Kernel.nD,
          r.2.mem ((c.tc : Thread Cert.Kernel.nD Cert.Kernel.τ).loc Cert.Kernel.main_v41) = v0 c
          ∧ r.2.mem ((c.tc : Thread Cert.Kernel.nD Cert.Kernel.τ).loc Cert.Kernel.main_arg0) = m ((c.tc : Thread Cert.Kernel.nD Cert.Kernel.τ).loc Cert.Kernel.main_arg0)
          ∧ r.2.mem ((c.tc : Thread Cert.Kernel.nD Cert.Kernel.τ).loc Cert.Kernel.main_arg1) = m ((c.tc : Thread Cert.Kernel.nD Cert.Kernel.τ).loc Cert.Kernel.main_arg1)
          ∧ r.2.mem ((c.tc : Thread Cert.Kernel.nD Cert.Kernel.τ).loc Cert.Kernel.main_arg2) = m ((c.tc : Thread Cert.Kernel.nD Cert.Kernel.τ).loc Cert.Kernel.main_arg2))
      ∧ θ_run (Cert.Reference.defs (F := Bits)) (onTc (τ := Cert.Reference.τ) (Cert.Reference.main (F := Bits))) ⟨m', fun _ => 0, g'⟩ (fun r => ∀ c : Dev Cert.Reference.nD,
          r.2.mem ((c.tc : Thread Cert.Reference.nD Cert.Reference.τ).loc Cert.Reference.main_v20) = v0 c
          ∧ r.2.mem ((c.tc : Thread Cert.Reference.nD Cert.Reference.τ).loc Cert.Reference.main_arg0) = m' ((c.tc : Thread Cert.Reference.nD Cert.Reference.τ).loc Cert.Reference.main_arg0)
          ∧ r.2.mem ((c.tc : Thread Cert.Reference.nD Cert.Reference.τ).loc Cert.Reference.main_arg1) = m' ((c.tc : Thread Cert.Reference.nD Cert.Reference.τ).loc Cert.Reference.main_arg1)
          ∧ r.2.mem ((c.tc : Thread Cert.Reference.nD Cert.Reference.τ).loc Cert.Reference.main_arg2) = m' ((c.tc : Thread Cert.Reference.nD Cert.Reference.τ).loc Cert.Reference.main_arg2))

def preserves_Kernel2_Kernel2Ideal : Prop :=
  IdealRules.named_const.Statement Cert.Kernel2Ideal.κ "scale" .f32 0x3E16C740#32 (((3424635 / 33554432) * (Real.log 2)⁻¹ : ℝ) : EReal)
  ∧ IdealRules.named_const.Statement Cert.Kernel2Ideal.κ "mask" .f32 0xF149F2CA#32 ⊥

def algebraic_Kernel2Ideal_Reference2Ideal_pre_finite [hKernel2Ideal : Cert.Kernel2Ideal.Facts] [hReference2Ideal : Cert.Reference2Ideal.Facts] [hPre_finite : Cert.Pre_finite.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal_finite m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)) →
    ∃ (v0 : (c : Dev Cert.Kernel2Ideal.nD) → Buf (Elt Ideal) ((c.tc : Thread Cert.Kernel2Ideal.nD Cert.Kernel2Ideal.τ).loc Cert.Kernel2Ideal.main_v10)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v10) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v29) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)) →
    ∃ (v0 : (c : Dev Cert.Kernel3Ideal.nD) → Buf (Elt Ideal) ((c.tc : Thread Cert.Kernel3Ideal.nD Cert.Kernel3Ideal.τ).loc Cert.Kernel3Ideal.main_v9)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v9) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v26) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4))

def preserves_Kernel4_Kernel4Ideal : Prop :=
  IdealRules.named_const.Statement Cert.Kernel4Ideal.κ "scale" .f32 0x3E38AA3B#32 (((1 / 8) * (Real.log 2)⁻¹ : ℝ) : EReal)
  ∧ IdealRules.named_const.Statement Cert.Kernel4Ideal.κ "mask" .f32 0xF149F2CA#32 ⊥

def algebraic_Kernel4Ideal_Reference4Ideal_pre_finite_diff [hKernel4Ideal : Cert.Kernel4Ideal.Facts] [hReference4Ideal : Cert.Reference4Ideal.Facts] [hPre_finite_diff : Cert.Pre_finite_diff.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal_finite_diff m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)
      ∧ m' ((c.tc : Thread Cert.Reference4Ideal.nD Cert.Reference4Ideal.τ).loc Cert.Reference4Ideal.main_arg5) = m ((c.tc : Thread Cert.Kernel4Ideal.nD Cert.Kernel4Ideal.τ).loc Cert.Kernel4Ideal.main_arg5)
      ∧ m' ((c.tc : Thread Cert.Reference4Ideal.nD Cert.Reference4Ideal.τ).loc Cert.Reference4Ideal.main_arg6) = m ((c.tc : Thread Cert.Kernel4Ideal.nD Cert.Kernel4Ideal.τ).loc Cert.Kernel4Ideal.main_arg6)
      ∧ m' ((c.tc : Thread Cert.Reference4Ideal.nD Cert.Reference4Ideal.τ).loc Cert.Reference4Ideal.main_arg7) = m ((c.tc : Thread Cert.Kernel4Ideal.nD Cert.Kernel4Ideal.τ).loc Cert.Kernel4Ideal.main_arg7)) →
    ∃ (v0 : (c : Dev Cert.Kernel4Ideal.nD) → Buf (Elt Ideal) ((c.tc : Thread Cert.Kernel4Ideal.nD Cert.Kernel4Ideal.τ).loc Cert.Kernel4Ideal.main_v12)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v12) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
          ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
          ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
          ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v59) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4)
          ∧ r.2.mem ((c.tc : Thread Cert.Reference4Ideal.nD Cert.Reference4Ideal.τ).loc Cert.Reference4Ideal.main_arg5) = m' ((c.tc : Thread Cert.Reference4Ideal.nD Cert.Reference4Ideal.τ).loc Cert.Reference4Ideal.main_arg5)
          ∧ r.2.mem ((c.tc : Thread Cert.Reference4Ideal.nD Cert.Reference4Ideal.τ).loc Cert.Reference4Ideal.main_arg6) = m' ((c.tc : Thread Cert.Reference4Ideal.nD Cert.Reference4Ideal.τ).loc Cert.Reference4Ideal.main_arg6)
          ∧ r.2.mem ((c.tc : Thread Cert.Reference4Ideal.nD Cert.Reference4Ideal.τ).loc Cert.Reference4Ideal.main_arg7) = m' ((c.tc : Thread Cert.Reference4Ideal.nD Cert.Reference4Ideal.τ).loc Cert.Reference4Ideal.main_arg7))

def preserves_Kernel5_Kernel5Ideal : Prop :=
  IdealRules.named_const.Statement Cert.Kernel5Ideal.κ "scale" .f32 0x3E38AA3B#32 (((1 / 8) * (Real.log 2)⁻¹ : ℝ) : EReal)
  ∧ IdealRules.named_const.Statement Cert.Kernel5Ideal.κ "mask" .f32 0xF149F2CA#32 ⊥

def algebraic_Kernel5Ideal_Reference5Ideal_pre_finite_diff [hKernel5Ideal : Cert.Kernel5Ideal.Facts] [hReference5Ideal : Cert.Reference5Ideal.Facts] [hPre_finite_diff : Cert.Pre_finite_diff.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal_finite_diff m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)
      ∧ m' ((c.tc : Thread Cert.Reference5Ideal.nD Cert.Reference5Ideal.τ).loc Cert.Reference5Ideal.main_arg4) = m ((c.tc : Thread Cert.Kernel5Ideal.nD Cert.Kernel5Ideal.τ).loc Cert.Kernel5Ideal.main_arg4)
      ∧ m' ((c.tc : Thread Cert.Reference5Ideal.nD Cert.Reference5Ideal.τ).loc Cert.Reference5Ideal.main_arg5) = m ((c.tc : Thread Cert.Kernel5Ideal.nD Cert.Kernel5Ideal.τ).loc Cert.Kernel5Ideal.main_arg5)
      ∧ m' ((c.tc : Thread Cert.Reference5Ideal.nD Cert.Reference5Ideal.τ).loc Cert.Reference5Ideal.main_arg6) = m ((c.tc : Thread Cert.Kernel5Ideal.nD Cert.Kernel5Ideal.τ).loc Cert.Kernel5Ideal.main_arg6)
      ∧ m' ((c.tc : Thread Cert.Reference5Ideal.nD Cert.Reference5Ideal.τ).loc Cert.Reference5Ideal.main_arg7) = m ((c.tc : Thread Cert.Kernel5Ideal.nD Cert.Kernel5Ideal.τ).loc Cert.Kernel5Ideal.main_arg7)) →
    ∃ (v0 : (c : Dev Cert.Kernel5Ideal.nD) → Buf (Elt Ideal) ((c.tc : Thread Cert.Kernel5Ideal.nD Cert.Kernel5Ideal.τ).loc Cert.Kernel5Ideal.main_v12)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v12) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
          ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
          ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
          ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6)
          ∧ r.2.mem ((c.tc : Thread Cert.Kernel5Ideal.nD Cert.Kernel5Ideal.τ).loc Cert.Kernel5Ideal.main_arg7) = m ((c.tc : Thread Cert.Kernel5Ideal.nD Cert.Kernel5Ideal.τ).loc Cert.Kernel5Ideal.main_arg7))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v59) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3)
          ∧ r.2.mem ((c.tc : Thread Cert.Reference5Ideal.nD Cert.Reference5Ideal.τ).loc Cert.Reference5Ideal.main_arg4) = m' ((c.tc : Thread Cert.Reference5Ideal.nD Cert.Reference5Ideal.τ).loc Cert.Reference5Ideal.main_arg4)
          ∧ r.2.mem ((c.tc : Thread Cert.Reference5Ideal.nD Cert.Reference5Ideal.τ).loc Cert.Reference5Ideal.main_arg5) = m' ((c.tc : Thread Cert.Reference5Ideal.nD Cert.Reference5Ideal.τ).loc Cert.Reference5Ideal.main_arg5)
          ∧ r.2.mem ((c.tc : Thread Cert.Reference5Ideal.nD Cert.Reference5Ideal.τ).loc Cert.Reference5Ideal.main_arg6) = m' ((c.tc : Thread Cert.Reference5Ideal.nD Cert.Reference5Ideal.τ).loc Cert.Reference5Ideal.main_arg6)
          ∧ r.2.mem ((c.tc : Thread Cert.Reference5Ideal.nD Cert.Reference5Ideal.τ).loc Cert.Reference5Ideal.main_arg7) = m' ((c.tc : Thread Cert.Reference5Ideal.nD Cert.Reference5Ideal.τ).loc Cert.Reference5Ideal.main_arg7))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)
      ∧ m' ((c.tc : Thread Cert.Reference6Ideal.nD Cert.Reference6Ideal.τ).loc Cert.Reference6Ideal.main_arg3) = m ((c.tc : Thread Cert.Kernel6Ideal.nD Cert.Kernel6Ideal.τ).loc Cert.Kernel6Ideal.main_arg3)
      ∧ m' ((c.tc : Thread Cert.Reference6Ideal.nD Cert.Reference6Ideal.τ).loc Cert.Reference6Ideal.main_arg4) = m ((c.tc : Thread Cert.Kernel6Ideal.nD Cert.Kernel6Ideal.τ).loc Cert.Kernel6Ideal.main_arg4)
      ∧ m' ((c.tc : Thread Cert.Reference6Ideal.nD Cert.Reference6Ideal.τ).loc Cert.Reference6Ideal.main_arg5) = m ((c.tc : Thread Cert.Kernel6Ideal.nD Cert.Kernel6Ideal.τ).loc Cert.Kernel6Ideal.main_arg5)) →
    ∃ (v0 : (c : Dev Cert.Kernel6Ideal.nD) → Buf (Elt Ideal) ((c.tc : Thread Cert.Kernel6Ideal.nD Cert.Kernel6Ideal.τ).loc Cert.Kernel6Ideal.main_v11)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v11) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
          ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
          ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
          ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v71) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2)
          ∧ r.2.mem ((c.tc : Thread Cert.Reference6Ideal.nD Cert.Reference6Ideal.τ).loc Cert.Reference6Ideal.main_arg3) = m' ((c.tc : Thread Cert.Reference6Ideal.nD Cert.Reference6Ideal.τ).loc Cert.Reference6Ideal.main_arg3)
          ∧ r.2.mem ((c.tc : Thread Cert.Reference6Ideal.nD Cert.Reference6Ideal.τ).loc Cert.Reference6Ideal.main_arg4) = m' ((c.tc : Thread Cert.Reference6Ideal.nD Cert.Reference6Ideal.τ).loc Cert.Reference6Ideal.main_arg4)
          ∧ r.2.mem ((c.tc : Thread Cert.Reference6Ideal.nD Cert.Reference6Ideal.τ).loc Cert.Reference6Ideal.main_arg5) = m' ((c.tc : Thread Cert.Reference6Ideal.nD Cert.Reference6Ideal.τ).loc Cert.Reference6Ideal.main_arg5))

def Claim : Prop :=
  ∃ (hKernel : Cert.Kernel.Facts) (hKernelIdeal : Cert.KernelIdeal.Facts) (hReferenceIdeal : Cert.ReferenceIdeal.Facts) (hReference : Cert.Reference.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hPre_dispatch : Cert.Pre_dispatch.Facts) (hPre_finite : Cert.Pre_finite.Facts) (hPre_finite_diff : Cert.Pre_finite_diff.Facts),
    quiescent_Kernel (hKernel := hKernel) (hPre_dispatch := hPre_dispatch)
    ∧ quiescent_KernelIdeal (hKernelIdeal := hKernelIdeal) (hPre_dispatch := hPre_dispatch)
    ∧ quiescent_ReferenceIdeal (hReferenceIdeal := hReferenceIdeal) (hPre_dispatch := hPre_dispatch)
    ∧ quiescent_Reference (hReference := hReference) (hPre_dispatch := hPre_dispatch)
    ∧ quiescent_Kernel2 (hKernel2 := hKernel2)
    ∧ quiescent_Kernel2Ideal (hKernel2Ideal := hKernel2Ideal)
    ∧ quiescent_Kernel2Ideal_pre_finite (hKernel2Ideal := hKernel2Ideal) (hPre_finite := hPre_finite)
    ∧ quiescent_Reference2Ideal (hReference2Ideal := hReference2Ideal)
    ∧ quiescent_Reference2Ideal_pre_finite (hReference2Ideal := hReference2Ideal) (hPre_finite := hPre_finite)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Kernel4Ideal_pre_finite_diff (hKernel4Ideal := hKernel4Ideal) (hPre_finite_diff := hPre_finite_diff)
    ∧ quiescent_Reference4Ideal (hReference4Ideal := hReference4Ideal)
    ∧ quiescent_Reference4Ideal_pre_finite_diff (hReference4Ideal := hReference4Ideal) (hPre_finite_diff := hPre_finite_diff)
    ∧ quiescent_Kernel5 (hKernel5 := hKernel5)
    ∧ quiescent_Kernel5Ideal (hKernel5Ideal := hKernel5Ideal)
    ∧ quiescent_Kernel5Ideal_pre_finite_diff (hKernel5Ideal := hKernel5Ideal) (hPre_finite_diff := hPre_finite_diff)
    ∧ quiescent_Reference5Ideal (hReference5Ideal := hReference5Ideal)
    ∧ quiescent_Reference5Ideal_pre_finite_diff (hReference5Ideal := hReference5Ideal) (hPre_finite_diff := hPre_finite_diff)
    ∧ quiescent_Kernel6 (hKernel6 := hKernel6)
    ∧ quiescent_Kernel6Ideal (hKernel6Ideal := hKernel6Ideal)
    ∧ quiescent_Reference6Ideal (hReference6Ideal := hReference6Ideal)
    ∧ preserves_Kernel_KernelIdeal
    ∧ algebraic_KernelIdeal_ReferenceIdeal (hKernelIdeal := hKernelIdeal) (hReferenceIdeal := hReferenceIdeal) (hPre_dispatch := hPre_dispatch)
    ∧ bitexact_Kernel_Reference (hKernel := hKernel) (hReference := hReference) (hPre_dispatch := hPre_dispatch)
    ∧ preserves_Kernel2_Kernel2Ideal
    ∧ algebraic_Kernel2Ideal_Reference2Ideal_pre_finite (hKernel2Ideal := hKernel2Ideal) (hReference2Ideal := hReference2Ideal) (hPre_finite := hPre_finite)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal_pre_finite_diff (hKernel4Ideal := hKernel4Ideal) (hReference4Ideal := hReference4Ideal) (hPre_finite_diff := hPre_finite_diff)
    ∧ preserves_Kernel5_Kernel5Ideal
    ∧ algebraic_Kernel5Ideal_Reference5Ideal_pre_finite_diff (hKernel5Ideal := hKernel5Ideal) (hReference5Ideal := hReference5Ideal) (hPre_finite_diff := hPre_finite_diff)
    ∧ preserves_Kernel6_Kernel6Ideal
    ∧ algebraic_Kernel6Ideal_Reference6Ideal (hKernel6Ideal := hKernel6Ideal) (hReference6Ideal := hReference6Ideal)
-- ==== Pre_dispatch.lean ====
abbrev S4x33792x128 : Shape := ⟨3, ![4, 33792, 128]⟩
abbrev S33792x4 : Shape := ⟨2, ![33792, 4]⟩
abbrev S296 : Shape := ⟨1, ![296]⟩
abbrev S135168 : Shape := ⟨1, ![135168]⟩
abbrev S_ : Shape := ⟨0, ![]⟩
abbrev S151552 : Shape := ⟨1, ![151552]⟩
abbrev S135168x1 : Shape := ⟨2, ![135168, 1]⟩
abbrev S296x512 : Shape := ⟨2, ![296, 512]⟩
abbrev S296x1 : Shape := ⟨2, ![296, 1]⟩
abbrev S151552x1 : Shape := ⟨2, ![151552, 1]⟩

class Facts : Prop where
  shapeCasts_S33792x4_S135168 : S33792x4.ShapeCasts S135168
  bcast_S_S135168 : S_.BroadcastsInDim S135168 (![] : Fin 0 → Fin S135168.rank)
  bcast_S_S151552 : S_.BroadcastsInDim S151552 (![] : Fin 0 → Fin S151552.rank)
  bcast_S135168_S135168x1_0 : S135168.BroadcastsInDim S135168x1 (![0] : Fin 1 → Fin S135168x1.rank)
  bcast_S296_S296x1_0 : S296.BroadcastsInDim S296x1 (![0] : Fin 1 → Fin S296x1.rank)
  bcast_S296x1_S296x512_0_1 : S296x1.BroadcastsInDim S296x512 (![0, 1] : Fin 2 → Fin S296x512.rank)
  shapeCasts_S296x512_S151552 : S296x512.ShapeCasts S151552
  bcast_S151552_S151552x1_0 : S151552.BroadcastsInDim S151552x1 (![0] : Fin 1 → Fin S151552x1.rank)
  reducesTo_S135168_S_d0 : S135168.ReducesTo [0] S_
  h_S_ : 0 < S_.numel
  reducesTo_S151552_S_d0 : S151552.ReducesTo [0] S_
  scatter_S151552_S135168x1_S135168_n_0_0_1_wf : ScatterDims.WF S151552 S135168x1 S135168 [] [0] [0] 1
  gather_S151552_S135168x1_S135168_n_0_n_n_0_1_1_wf : GatherDims.WF S151552 S135168x1 S135168 [] [0] [] [0] [] 1 ![1]
  gather_S135168_S151552x1_S151552_n_0_n_n_0_1_1_wf : GatherDims.WF S135168 S151552x1 S151552 [] [0] [] [0] [] 1 ![1]

variable [Facts]

def scatter_S151552_S135168x1_S135168_n_0_0_1 : ScatterDims S151552 S135168x1 S135168 where
  updateWindowDims := []
  insertedWindowDims := [0]
  scatterDimsToOperandDims := [0]
  indexVectorDim := 1
  wf := scatter_S151552_S135168x1_S135168_n_0_0_1_wf
def gather_S151552_S135168x1_S135168_n_0_n_n_0_1_1 : GatherDims S151552 S135168x1 S135168 where
  offsetDims := []
  collapsedSliceDims := [0]
  operandBatchingDims := []
  startIndicesBatchingDims := []
  startIndexMap := [0]
  indexVectorDim := 1
  sliceSizes := ![1]
  wf := gather_S151552_S135168x1_S135168_n_0_n_n_0_1_1_wf
def gather_S135168_S151552x1_S151552_n_0_n_n_0_1_1 : GatherDims S135168 S151552x1 S151552 where
  offsetDims := []
  collapsedSliceDims := [0]
  operandBatchingDims := []
  startIndicesBatchingDims := []
  startIndexMap := [0]
  indexVectorDim := 1
  sliceSizes := ![1]
  wf := gather_S135168_S151552x1_S151552_n_0_n_n_0_1_1_wf
def fn_part2 {F : FTy → Type} [FloatOps F] (main_v0 : IVec S135168 32) (main_v6 : IVec S135168 1) (main_v14 : IVec S151552 32) (main_v35 : IVec S135168 1) (main_v36 : IVec S151552 1) (main_v37 : IVec S151552 32) : IVec S_ 1 :=
  let main_v38 : IVec S151552 1 := cmpi .slt main_v14 main_v37
  let main_c_9 : IVec S_ 32 := constantI S_ 32 135168#32
  let main_v39 : IVec S151552 32 := broadcastInDim S151552 ![] bcast_S_S151552 main_c_9
  let main_v40 : IVec S151552 32 := addi main_v14 main_v39
  let main_v41 : IVec S151552 32 := select main_v38 main_v40 main_v14
  let main_v42 : IVec S151552x1 32 := broadcastInDim S151552x1 ![0] bcast_S151552_S151552x1_0 main_v41
  let main_v43 : IVec S151552 32 := (fun x i => Host.gather gather_S135168_S151552x1_S151552_n_0_n_n_0_1_1 x i) main_v0 main_v42
  let main_v44 : IVec S151552 32 := iotaInDim S151552 32 0
  let main_v45 : IVec S151552 1 := cmpi .eq main_v43 main_v44
  let main_v46 : IVec S151552 1 := ori main_v36 main_v45
  let main_v47 : IVec S135168 1 := andi main_v6 main_v35
  let main_c_10 : IVec S_ 1 := constantI S_ 1 1#1
  let main_v48 : IVec S_ 1 := (fun x v => Host.reduce IntOp.andi x v reducesTo_S135168_S_d0 h_S_) main_v47 main_c_10
  let main_c_11 : IVec S_ 1 := constantI S_ 1 1#1
  let main_v49 : IVec S_ 1 := (fun x v => Host.reduce IntOp.andi x v reducesTo_S151552_S_d0 h_S_) main_v46 main_c_11
  let main_v50 : IVec S_ 1 := andi main_v48 main_v49
  main_v50

def fn_part1 {F : FTy → Type} [FloatOps F] (main_v0 : IVec S135168 32) (main_v1 : IVec S135168 32) (main_v6 : IVec S135168 1) (main_v14 : IVec S151552 32) (main_v18 : IVec S296x512 1) : IVec S_ 1 :=
  let main_v19 : IVec S151552 1 := shapeCast S151552 main_v18 shapeCasts_S296x512_S151552
  let main_c_4 : IVec S_ 32 := constantI S_ 32 0#32
  let main_v20 : IVec S135168 32 := broadcastInDim S135168 ![] bcast_S_S135168 main_c_4
  let main_v21 : IVec S135168 1 := cmpi .slt main_v0 main_v20
  let main_c_5 : IVec S_ 32 := constantI S_ 32 151552#32
  let main_v22 : IVec S135168 32 := broadcastInDim S135168 ![] bcast_S_S135168 main_c_5
  let main_v23 : IVec S135168 32 := addi main_v0 main_v22
  let main_v24 : IVec S135168 32 := select main_v21 main_v23 main_v0
  let main_v25 : IVec S135168x1 32 := broadcastInDim S135168x1 ![0] bcast_S135168_S135168x1_0 main_v24
  let main_v26 : IVec S135168 32 := (fun x i => Host.gather gather_S151552_S135168x1_S135168_n_0_n_n_0_1_1 x i) main_v14 main_v25
  let main_v27 : IVec S135168 1 := cmpi .eq main_v26 main_v1
  let main_c_6 : IVec S_ 32 := constantI S_ 32 0#32
  let main_v28 : IVec S135168 32 := broadcastInDim S135168 ![] bcast_S_S135168 main_c_6
  let main_v29 : IVec S135168 1 := cmpi .slt main_v0 main_v28
  let main_c_7 : IVec S_ 32 := constantI S_ 32 151552#32
  let main_v30 : IVec S135168 32 := broadcastInDim S135168 ![] bcast_S_S135168 main_c_7
  let main_v31 : IVec S135168 32 := addi main_v0 main_v30
  let main_v32 : IVec S135168 32 := select main_v29 main_v31 main_v0
  let main_v33 : IVec S135168x1 32 := broadcastInDim S135168x1 ![0] bcast_S135168_S135168x1_0 main_v32
  let main_v34 : IVec S135168 1 := (fun x i => Host.gather gather_S151552_S135168x1_S135168_n_0_n_n_0_1_1 x i) main_v19 main_v33
  let main_v35 : IVec S135168 1 := andi main_v27 main_v34
  let main_v36 : IVec S151552 1 := noti main_v19
  let main_c_8 : IVec S_ 32 := constantI S_ 32 0#32
  let main_v37 : IVec S151552 32 := broadcastInDim S151552 ![] bcast_S_S151552 main_c_8
  fn_part2 (F := F) main_v0 main_v6 main_v14 main_v35 main_v36 main_v37

def fn {F : FTy → Type} [FloatOps F] (main_arg0 : IVec S4x33792x128 32) (main_arg1 : IVec S33792x4 32) (main_arg2 : IVec S296 32) : IVec S_ 1 :=
  let main_v0 : IVec S135168 32 := shapeCast S135168 main_arg1 shapeCasts_S33792x4_S135168
  let main_v1 : IVec S135168 32 := iotaInDim S135168 32 0
  let main_c : IVec S_ 32 := constantI S_ 32 0#32
  let main_v2 : IVec S135168 32 := broadcastInDim S135168 ![] bcast_S_S135168 main_c
  let main_v3 : IVec S135168 1 := cmpi .sge main_v0 main_v2
  let main_c_0 : IVec S_ 32 := constantI S_ 32 151552#32
  let main_v4 : IVec S135168 32 := broadcastInDim S135168 ![] bcast_S_S135168 main_c_0
  let main_v5 : IVec S135168 1 := cmpi .slt main_v0 main_v4
  let main_v6 : IVec S135168 1 := andi main_v3 main_v5
  let main_c_1 : IVec S_ 32 := constantI S_ 32 0#32
  let main_v7 : IVec S151552 32 := broadcastInDim S151552 ![] bcast_S_S151552 main_c_1
  let main_c_2 : IVec S_ 32 := constantI S_ 32 0#32
  let main_v8 : IVec S135168 32 := broadcastInDim S135168 ![] bcast_S_S135168 main_c_2
  let main_v9 : IVec S135168 1 := cmpi .slt main_v0 main_v8
  let main_c_3 : IVec S_ 32 := constantI S_ 32 151552#32
  let main_v10 : IVec S135168 32 := broadcastInDim S135168 ![] bcast_S_S135168 main_c_3
  let main_v11 : IVec S135168 32 := addi main_v0 main_v10
  let main_v12 : IVec S135168 32 := select main_v9 main_v11 main_v0
  let main_v13 : IVec S135168x1 32 := broadcastInDim S135168x1 ![0] bcast_S135168_S135168x1_0 main_v12
  let main_v14 : IVec S151552 32 := (fun x i u => Host.scatter scatter_S151552_S135168x1_S135168_n_0_0_1 (fun _ b => b) x i u) main_v7 main_v13 main_v1
  let main_v15 : IVec S296x512 32 := iotaInDim S296x512 32 1
  let main_v16 : IVec S296x1 32 := broadcastInDim S296x1 ![0] bcast_S296_S296x1_0 main_arg2
  let main_v17 : IVec S296x512 32 := broadcastInDim S296x512 ![0, 1] bcast_S296x1_S296x512_0_1 main_v16
  let main_v18 : IVec S296x512 1 := cmpi .slt main_v15 main_v17
  fn_part1 (F := F) main_v0 main_v1 main_v6 main_v14 main_v18
-- ==== Pre_finite.lean ====
abbrev S33792x8x96 : Shape := ⟨3, ![33792, 8, 96]⟩
abbrev S33792x8x64 : Shape := ⟨3, ![33792, 8, 64]⟩
abbrev S_ : Shape := ⟨0, ![]⟩

class Facts : Prop where
  bcast_S_S33792x8x96 : S_.BroadcastsInDim S33792x8x96 (![] : Fin 0 → Fin S33792x8x96.rank)
  reducesTo_S33792x8x96_S_d0_1_2 : S33792x8x96.ReducesTo [0, 1, 2] S_
  h_S_ : 0 < S_.numel

variable [Facts]

def fn {F : FTy → Type} [FloatOps F] (main_arg0 : FVec F S33792x8x96 .f32) (main_arg1 : FVec F S33792x8x96 .f32) (main_arg2 : FVec F S33792x8x64 .f32) : IVec S_ 1 :=
  let main_v0 : FVec F S33792x8x96 .f32 := Host.absf main_arg0
  let main_cst : FVec F S_ .f32 := constant S_ .f32 0x7F800000#32
  let main_v1 : FVec F S33792x8x96 .f32 := broadcastInDim S33792x8x96 ![] bcast_S_S33792x8x96 main_cst
  let main_v2 : IVec S33792x8x96 1 := cmpf .olt main_v0 main_v1
  let main_c : IVec S_ 1 := constantI S_ 1 1#1
  let main_v3 : IVec S_ 1 := (fun x v => Host.reduce IntOp.andi x v reducesTo_S33792x8x96_S_d0_1_2 h_S_) main_v2 main_c
  let main_v4 : FVec F S33792x8x96 .f32 := Host.absf main_arg1
  let main_cst_0 : FVec F S_ .f32 := constant S_ .f32 0x7F800000#32
  let main_v5 : FVec F S33792x8x96 .f32 := broadcastInDim S33792x8x96 ![] bcast_S_S33792x8x96 main_cst_0
  let main_v6 : IVec S33792x8x96 1 := cmpf .olt main_v4 main_v5
  let main_c_1 : IVec S_ 1 := constantI S_ 1 1#1
  let main_v7 : IVec S_ 1 := (fun x v => Host.reduce IntOp.andi x v reducesTo_S33792x8x96_S_d0_1_2 h_S_) main_v6 main_c_1
  let main_v8 : IVec S_ 1 := andi main_v3 main_v7
  main_v8
-- ==== Pre_finite_diff.lean ====
abbrev S33792x4x2x64 : Shape := ⟨4, ![33792, 4, 2, 64]⟩
abbrev S33792x4x128 : Shape := ⟨3, ![33792, 4, 128]⟩
abbrev S64 : Shape := ⟨1, ![64]⟩
abbrev S128 : Shape := ⟨1, ![128]⟩
abbrev S_ : Shape := ⟨0, ![]⟩

class Facts : Prop where
  bcast_S_S33792x4x2x64 : S_.BroadcastsInDim S33792x4x2x64 (![] : Fin 0 → Fin S33792x4x2x64.rank)
  reducesTo_S33792x4x2x64_S_d0_1_2_3 : S33792x4x2x64.ReducesTo [0, 1, 2, 3] S_
  h_S_ : 0 < S_.numel
  bcast_S_S33792x4x128 : S_.BroadcastsInDim S33792x4x128 (![] : Fin 0 → Fin S33792x4x128.rank)
  reducesTo_S33792x4x128_S_d0_1_2 : S33792x4x128.ReducesTo [0, 1, 2] S_
  bcast_S_S64 : S_.BroadcastsInDim S64 (![] : Fin 0 → Fin S64.rank)
  reducesTo_S64_S_d0 : S64.ReducesTo [0] S_

variable [Facts]

def fn_part1 {F : FTy → Type} [FloatOps F] (main_arg4 : FVec F S64 .f32) (main_arg5 : FVec F S64 .f32) (main_arg6 : FVec F S64 .f32) (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  let main_v19 : FVec F S64 .f32 := Host.absf main_arg4
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  let main_v24 : FVec F S64 .f32 := Host.absf main_arg5
  let main_cst_8 : FVec F S_ .f32 := constant S_ .f32 0x7F800000#32
  let main_v25 : FVec F S64 .f32 := broadcastInDim S64 ![] bcast_S_S64 main_cst_8
  let main_v26 : IVec S64 1 := cmpf .olt main_v24 main_v25
  let main_c_9 : IVec S_ 1 := constantI S_ 1 1#1
  let main_v27 : IVec S_ 1 := (fun x v => Host.reduce IntOp.andi x v reducesTo_S64_S_d0 h_S_) main_v26 main_c_9
  let main_v28 : IVec S_ 1 := andi main_v23 main_v27
  let main_v29 : FVec F S64 .f32 := Host.absf main_arg6
  let main_cst_10 : FVec F S_ .f32 := constant S_ .f32 0x7F800000#32
  let main_v30 : FVec F S64 .f32 := broadcastInDim S64 ![] bcast_S_S64 main_cst_10
  let main_v31 : IVec S64 1 := cmpf .olt main_v29 main_v30
  let main_c_11 : IVec S_ 1 := constantI S_ 1 1#1
  let main_v32 : IVec S_ 1 := (fun x v => Host.reduce IntOp.andi x v reducesTo_S64_S_d0 h_S_) main_v31 main_c_11
  let main_v33 : IVec S_ 1 := andi main_v28 main_v32
  main_v33

def fn {F : FTy → Type} [FloatOps F] (main_arg0 : FVec F S33792x4x2x64 .f32) (main_arg1 : FVec F S33792x4x2x64 .f32) (main_arg2 : FVec F S33792x4x128 .f32) (main_arg3 : FVec F S64 .f32) (main_arg4 : FVec F S64 .f32) (main_arg5 : FVec F S64 .f32) (main_arg6 : FVec F S64 .f32) (main_arg7 : FVec F S128 .f32) : IVec S_ 1 :=
  let main_v0 : FVec F S33792x4x2x64 .f32 := Host.absf main_arg0
  let main_cst : FVec F S_ .f32 := constant S_ .f32 0x7F800000#32
  let main_v1 : FVec F S33792x4x2x64 .f32 := broadcastInDim S33792x4x2x64 ![] bcast_S_S33792x4x2x64 main_cst
  let main_v2 : IVec S33792x4x2x64 1 := cmpf .olt main_v0 main_v1
  let main_c : IVec S_ 1 := constantI S_ 1 1#1
  let main_v3 : IVec S_ 1 := (fun x v => Host.reduce IntOp.andi x v reducesTo_S33792x4x2x64_S_d0_1_2_3 h_S_) main_v2 main_c
  let main_v4 : FVec F S33792x4x2x64 .f32 := Host.absf main_arg1
  let main_cst_0 : FVec F S_ .f32 := constant S_ .f32 0x7F800000#32
  let main_v5 : FVec F S33792x4x2x64 .f32 := broadcastInDim S33792x4x2x64 ![] bcast_S_S33792x4x2x64 main_cst_0
  let main_v6 : IVec S33792x4x2x64 1 := cmpf .olt main_v4 main_v5
  let main_c_1 : IVec S_ 1 := constantI S_ 1 1#1
  let main_v7 : IVec S_ 1 := (fun x v => Host.reduce IntOp.andi x v reducesTo_S33792x4x2x64_S_d0_1_2_3 h_S_) main_v6 main_c_1
  let main_v8 : IVec S_ 1 := andi main_v3 main_v7
  let main_v9 : FVec F S33792x4x128 .f32 := Host.absf main_arg2
  let main_cst_2 : FVec F S_ .f32 := constant S_ .f32 0x7F800000#32
  let main_v10 : FVec F S33792x4x128 .f32 := broadcastInDim S33792x4x128 ![] bcast_S_S33792x4x128 main_cst_2
  let main_v11 : IVec S33792x4x128 1 := cmpf .olt main_v9 main_v10
  let main_c_3 : IVec S_ 1 := constantI S_ 1 1#1
  let main_v12 : IVec S_ 1 := (fun x v => Host.reduce IntOp.andi x v reducesTo_S33792x4x128_S_d0_1_2 h_S_) main_v11 main_c_3
  let main_v13 : IVec S_ 1 := andi main_v8 main_v12
  let main_v14 : FVec F S64 .f32 := Host.absf main_arg3
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_arg4 main_arg5 main_arg6 main_v13 main_v16
-- ==== Kernel.lean ====
abbrev S4x33792x128 : Shape := ⟨3, ![4, 33792, 128]⟩
abbrev S33792x4 : Shape := ⟨2, ![33792, 4]⟩
abbrev S296 : Shape := ⟨1, ![296]⟩
abbrev S4 : Shape := ⟨1, ![4]⟩
abbrev S_ : Shape := ⟨0, ![]⟩
abbrev S4x1 : Shape := ⟨2, ![4, 1]⟩
abbrev S135168x128 : Shape := ⟨2, ![135168, 128]⟩
abbrev S33792x1 : Shape := ⟨2, ![33792, 1]⟩
abbrev S33792 : Shape := ⟨1, ![33792]⟩
abbrev S1x33792 : Shape := ⟨2, ![1, 33792]⟩
abbrev S4x33792 : Shape := ⟨2, ![4, 33792]⟩
abbrev S1x135168 : Shape := ⟨2, ![1, 135168]⟩
abbrev S606208x128 : Shape := ⟨2, ![606208, 128]⟩
abbrev S2x128x128 : Shape := ⟨3, ![2, 128, 128]⟩
abbrev S2 : Shape := ⟨1, ![2]⟩
abbrev S2x1x128 : Shape := ⟨3, ![2, 1, 128]⟩
abbrev S1x128x128 : Shape := ⟨3, ![1, 128, 128]⟩
abbrev S128x128 : Shape := ⟨2, ![128, 128]⟩
abbrev S1 : Shape := ⟨1, ![1]⟩
abbrev S1x1x128 : Shape := ⟨3, ![1, 1, 128]⟩
abbrev S1x128 : Shape := ⟨2, ![1, 128]⟩
abbrev S128 : Shape := ⟨1, ![128]⟩
abbrev S4x151552x128 : Shape := ⟨3, ![4, 151552, 128]⟩
abbrev S296x512 : Shape := ⟨2, ![296, 512]⟩
abbrev S296x1 : Shape := ⟨2, ![296, 1]⟩
abbrev S151552 : Shape := ⟨1, ![151552]⟩
abbrev S1x151552x1 : Shape := ⟨3, ![1, 151552, 1]⟩

abbrev nBuf : Table → Nat
  | .hbm => 49
  | .local .scVector .vmem => 5
  | _ => 0

abbrev bufTy : (tb : Table) → Fin (nBuf tb) → BufTy
  | .hbm, ⟨0, _⟩ => ⟨S4x33792x128, .i32⟩
  | .hbm, ⟨1, _⟩ => ⟨S33792x4, .i32⟩
  | .hbm, ⟨2, _⟩ => ⟨S296, .i32⟩
  | .hbm, ⟨3, _⟩ => ⟨S4, .i32⟩
  | .hbm, ⟨4, _⟩ => ⟨S_, .i32⟩
  | .hbm, ⟨5, _⟩ => ⟨S4, .i32⟩
  | .hbm, ⟨6, _⟩ => ⟨S4, .i32⟩
  | .hbm, ⟨7, _⟩ => ⟨S4x1, .i32⟩
  | .hbm, ⟨8, _⟩ => ⟨S135168x128, .i32⟩
  | .hbm, ⟨9, _⟩ => ⟨S33792x1, .i32⟩
  | .hbm, ⟨10, _⟩ => ⟨S33792, .i32⟩
  | .hbm, ⟨11, _⟩ => ⟨S1x33792, .i32⟩
  | .hbm, ⟨12, _⟩ => ⟨S4x33792, .i32⟩
  | .hbm, ⟨13, _⟩ => ⟨S4x33792, .i32⟩
  | .hbm, ⟨14, _⟩ => ⟨S4x33792, .i32⟩
  | .hbm, ⟨15, _⟩ => ⟨S1x135168, .i32⟩
  | .hbm, ⟨16, _⟩ => ⟨S33792x1, .i32⟩
  | .hbm, ⟨17, _⟩ => ⟨S33792, .i32⟩
  | .hbm, ⟨18, _⟩ => ⟨S1x33792, .i32⟩
  | .hbm, ⟨19, _⟩ => ⟨S4x33792, .i32⟩
  | .hbm, ⟨20, _⟩ => ⟨S4x33792, .i32⟩
  | .hbm, ⟨21, _⟩ => ⟨S4x33792, .i32⟩
  | .hbm, ⟨22, _⟩ => ⟨S1x135168, .i32⟩
  | .hbm, ⟨23, _⟩ => ⟨S33792x1, .i32⟩
  | .hbm, ⟨24, _⟩ => ⟨S33792, .i32⟩
  | .hbm, ⟨25, _⟩ => ⟨S1x33792, .i32⟩
  | .hbm, ⟨26, _⟩ => ⟨S4x33792, .i32⟩
  | .hbm, ⟨27, _⟩ => ⟨S4x33792, .i32⟩
  | .hbm, ⟨28, _⟩ => ⟨S4x33792, .i32⟩
  | .hbm, ⟨29, _⟩ => ⟨S1x135168, .i32⟩
  | .hbm, ⟨30, _⟩ => ⟨S33792x1, .i32⟩
  | .hbm, ⟨31, _⟩ => ⟨S33792, .i32⟩
  | .hbm, ⟨32, _⟩ => ⟨S1x33792, .i32⟩
  | .hbm, ⟨33, _⟩ => ⟨S4x33792, .i32⟩
  | .hbm, ⟨34, _⟩ => ⟨S4x33792, .i32⟩
  | .hbm, ⟨35, _⟩ => ⟨S4x33792, .i32⟩
  | .hbm, ⟨36, _⟩ => ⟨S1x135168, .i32⟩
  | .hbm, ⟨37, _⟩ => ⟨S606208x128, .i32⟩
  | .hbm, ⟨38, _⟩ => ⟨S4x151552x128, .i32⟩
  | .hbm, ⟨39, _⟩ => ⟨S296x512, .i32⟩
  | .hbm, ⟨40, _⟩ => ⟨S296x1, .i32⟩
  | .hbm, ⟨41, _⟩ => ⟨S296x512, .i32⟩
  | .hbm, ⟨42, _⟩ => ⟨S296x512, .i1⟩
  | .hbm, ⟨43, _⟩ => ⟨S151552, .i1⟩
  | .hbm, ⟨44, _⟩ => ⟨S1x151552x1, .i1⟩
  | .hbm, ⟨45, _⟩ => ⟨S_, .i32⟩
  | .hbm, ⟨46, _⟩ => ⟨S4x151552x128, .i1⟩
  | .hbm, ⟨47, _⟩ => ⟨S4x151552x128, .i32⟩
  | .hbm, ⟨48, _⟩ => ⟨S4x151552x128, .i32⟩
  | .local .scVector .vmem, ⟨0, _⟩ => ⟨S2x128x128, .i32⟩
  | .local .scVector .vmem, ⟨1, _⟩ => ⟨S2x1x128, .i32⟩
  | .local .scVector .vmem, ⟨2, _⟩ => ⟨S2x1x128, .i32⟩
  | .local .scVector .vmem, ⟨3, _⟩ => ⟨S2x1x128, .i32⟩
  | .local .scVector .vmem, ⟨4, _⟩ => ⟨S2x1x128, .i32⟩
  | _, _ => ⟨S4x33792x128, .i32⟩

abbrev bufScoped : (cs : CoreSpace) → Fin (nBuf (.local .tc cs)) → Bool
  | _, _ => false

abbrev semScoped : Fin 4 → Bool
  | ⟨0, _⟩ => false
  | ⟨1, _⟩ => false
  | ⟨2, _⟩ => false
  | ⟨3, _⟩ => false
  | _ => false

abbrev dmaSemScoped : Fin 14 → Bool
  | ⟨0, _⟩ => false
  | ⟨1, _⟩ => false
  | ⟨2, _⟩ => false
  | ⟨3, _⟩ => false
  | ⟨4, _⟩ => false
  | ⟨5, _⟩ => false
  | ⟨6, _⟩ => false
  | ⟨7, _⟩ => false
  | ⟨8, _⟩ => false
  | ⟨9, _⟩ => false
  | ⟨10, _⟩ => false
  | ⟨11, _⟩ => false
  | ⟨12, _⟩ => false
  | ⟨13, _⟩ => false
  | _ => false

abbrev sig : RefSig :=
  ofTables nBuf rfl bufTy 4 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_c : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_v23 : Ref sig .tc := ⟨.hbm, 27, rfl⟩
abbrev main_v24 : Ref sig .tc := ⟨.hbm, 28, rfl⟩
abbrev main_v25 : Ref sig .tc := ⟨.hbm, 29, rfl⟩
abbrev main_v26 : Ref sig .tc := ⟨.hbm, 30, rfl⟩
abbrev main_v27 : Ref sig .tc := ⟨.hbm, 31, rfl⟩
abbrev main_v28 : Ref sig .tc := ⟨.hbm, 32, rfl⟩
abbrev main_v29 : Ref sig .tc := ⟨.hbm, 33, rfl⟩
abbrev main_v30 : Ref sig .tc := ⟨.hbm, 34, rfl⟩
abbrev main_v31 : Ref sig .tc := ⟨.hbm, 35, rfl⟩
abbrev main_v32 : Ref sig .tc := ⟨.hbm, 36, rfl⟩
abbrev main_v33 : Ref sig .tc := ⟨.hbm, 37, rfl⟩
abbrev main_v34 : Ref sig .tc := ⟨.hbm, 38, rfl⟩
abbrev main_v35 : Ref sig .tc := ⟨.hbm, 39, rfl⟩
abbrev main_v36 : Ref sig .tc := ⟨.hbm, 40, rfl⟩
abbrev main_v37 : Ref sig .tc := ⟨.hbm, 41, rfl⟩
abbrev main_v38 : Ref sig .tc := ⟨.hbm, 42, rfl⟩
abbrev main_v39 : Ref sig .tc := ⟨.hbm, 43, rfl⟩
abbrev main_v40 : Ref sig .tc := ⟨.hbm, 44, rfl⟩
abbrev main_c_0 : Ref sig .tc := ⟨.hbm, 45, rfl⟩
abbrev main_call0_v0 : Ref sig .tc := ⟨.hbm, 46, rfl⟩
abbrev main_call0_v1 : Ref sig .tc := ⟨.hbm, 47, rfl⟩
abbrev main_v41 : Ref sig .tc := ⟨.hbm, 48, rfl⟩
abbrev main_v4_scv : Ref sig .scVector := ⟨.hbm, 8, rfl⟩
abbrev main_v11_scv : Ref sig .scVector := ⟨.hbm, 15, rfl⟩
abbrev main_v18_scv : Ref sig .scVector := ⟨.hbm, 22, rfl⟩
abbrev main_v25_scv : Ref sig .scVector := ⟨.hbm, 29, rfl⟩
abbrev main_v32_scv : Ref sig .scVector := ⟨.hbm, 36, rfl⟩
abbrev main_v33_scv : Ref sig .scVector := ⟨.hbm, 37, rfl⟩
abbrev cc0_scoped0 : Ref sig .scVector := ⟨.vmem, 0, rfl⟩
abbrev cc0_scoped2 : Ref sig .scVector := ⟨.vmem, 1, rfl⟩
abbrev cc0_scoped4 : Ref sig .scVector := ⟨.vmem, 2, rfl⟩
abbrev cc0_scoped6 : Ref sig .scVector := ⟨.vmem, 3, rfl⟩
abbrev cc0_scoped8 : Ref sig .scVector := ⟨.vmem, 4, rfl⟩
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_off1 : Fin 3 → Nat :=
  let c0_i32_16_r0 : BitVec 32 := 0#32
  let c2_i32_r0 : BitVec 32 := 2#32
  let v24_r0 : BitVec 32 := Scalar.remui c0_i32_16_r0 c2_i32_r0
  let c0_i32_17_r0 : BitVec 32 := 0#32
  let c0_i32_18_r0 : BitVec 32 := 0#32
  ![v24_r0.toNat, 0, 0]
def k0_off2 (i : grid0.Coords) : Fin 2 → Nat :=
  let c128_i32_r0 : BitVec 32 := 128#32
  let c0_i32_4_r0 : BitVec 32 := 0#32
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c33_i32 : BitVec 32 := 33#32
  let v4 : BitVec 32 := Scalar.muli v3 c33_i32
  let v10_r0 : BitVec 32 := Scalar.addi c0_i32_4_r0 v4
  let v25_r0 : BitVec 32 := Scalar.muli c128_i32_r0 v10_r0
  let c0_i32_19_r0 : BitVec 32 := 0#32
  ![v25_r0.toNat, 0]
def k0_off3 : Fin 1 → Nat :=
  let c0_i32_16_r0 : BitVec 32 := 0#32
  let c2_i32_r0 : BitVec 32 := 2#32
  let v24_r0 : BitVec 32 := Scalar.remui c0_i32_16_r0 c2_i32_r0
  ![v24_r0.toNat]
def k0_off4 : Fin 3 → Nat :=
  let c0_i32_25_r0 : BitVec 32 := 0#32
  let c2_i32_26_r0 : BitVec 32 := 2#32
  let v35_r0 : BitVec 32 := Scalar.remui c0_i32_25_r0 c2_i32_26_r0
  let c0_i32_28_r0 : BitVec 32 := 0#32
  let c0_i32_29_r0 : BitVec 32 := 0#32
  ![v35_r0.toNat, 0, 0]
def k0_off5 (i : grid0.Coords) : Fin 2 → Nat :=
  let c0_i32_30_r0 : BitVec 32 := 0#32
  let c128_i32_27_r0 : BitVec 32 := 128#32
  let c0_i32_4_r0 : BitVec 32 := 0#32
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c33_i32 : BitVec 32 := 33#32
  let v4 : BitVec 32 := Scalar.muli v3 c33_i32
  let v10_r0 : BitVec 32 := Scalar.addi c0_i32_4_r0 v4
  let v36_r0 : BitVec 32 := Scalar.muli c128_i32_27_r0 v10_r0
  ![0, v36_r0.toNat]
@[reducible] def k0_t1_loop : Scf.Loop 32 :=
  let c0_i32_75_r0 : BitVec 32 := 0#32
  let c33_i32_76_r0 : BitVec 32 := 33#32
  let v79_r0 : BitVec 32 := Scalar.addi c0_i32_75_r0 c33_i32_76_r0
  let c1_i32_77_r0 : BitVec 32 := 1#32
  ⟨c0_i32_75_r0, v79_r0, c1_i32_77_r0⟩
def k0_off6 (arg9_r0 : BitVec 32) : Fin 3 → Nat :=
  let c2_i32_191_r0 : BitVec 32 := 2#32
  let v283_r0 : BitVec 32 := Scalar.remui arg9_r0 c2_i32_191_r0
  let c0_i32_193_r0 : BitVec 32 := 0#32
  let c0_i32_194_r0 : BitVec 32 := 0#32
  ![v283_r0.toNat, 0, 0]
def k0_cond1 (i : grid0.Coords) (k0_t1 : Fin k0_t1_loop.trips) (arg19_r0 : BitVec 32) : BitVec 1 :=
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c33_i32 : BitVec 32 := 33#32
  let v4 : BitVec 32 := Scalar.muli v3 c33_i32
  let v103_r0 : BitVec 32 := Scalar.addi arg19_r0 v4
  let true_102_r0 : BitVec 1 := 1#1
  let c1_i32_101_r0 : BitVec 32 := 1#32
  let v109_r0 : BitVec 32 := Scalar.addi arg19_r0 c1_i32_101_r0
  let v110_r0 : BitVec 32 := Scalar.select true_102_r0 v109_r0 arg19_r0
  let c33_i32_103_r0 : BitVec 32 := 33#32
  let v111_r0 : BitVec 1 := Scalar.cmpi .eq v110_r0 c33_i32_103_r0
  let c0_i32_104_r0 : BitVec 32 := 0#32
  let v112_r0 : BitVec 32 := Scalar.select v111_r0 c0_i32_104_r0 v110_r0
  let v113_r0 : BitVec 32 := Scalar.addi v112_r0 v4
  let v119_r0 : BitVec 1 := Scalar.cmpi .ne v103_r0 v113_r0
  let c0_i32_75_r0 : BitVec 32 := 0#32
  let c1_i32_77_r0 : BitVec 32 := 1#32
  let arg8_r0 : BitVec 32 := Scf.iv c0_i32_75_r0 c1_i32_77_r0 k0_t1
  let c32_i32_109_r0 : BitVec 32 := 32#32
  let v120_r0 : BitVec 1 := Scalar.cmpi .sge arg8_r0 c32_i32_109_r0
  let true_110_r0 : BitVec 1 := 1#1
  let v121_r0 : BitVec 1 := Scalar.xori v120_r0 true_110_r0
  let v122_r0 : BitVec 1 := Scalar.andi v119_r0 v121_r0
  let true_111_r0 : BitVec 1 := 1#1
  let v123_r0 : BitVec 1 := Scalar.andi v122_r0 true_111_r0
  let v124_r0 : BitVec 32 := Scalar.extui v123_r0
  let c0_i32_112_r0 : BitVec 32 := 0#32
  let v125_r0 : BitVec 1 := Scalar.cmpi .ne v124_r0 c0_i32_112_r0
  v125_r0

def k0_off7 (i : grid0.Coords) (arg19_r0 : BitVec 32) : Fin 2 → Nat :=
  let c128_i32_192_r0 : BitVec 32 := 128#32
  let true_102_r0 : BitVec 1 := 1#1
  let c1_i32_101_r0 : BitVec 32 := 1#32
  let v109_r0 : BitVec 32 := Scalar.addi arg19_r0 c1_i32_101_r0
  let v110_r0 : BitVec 32 := Scalar.select true_102_r0 v109_r0 arg19_r0
  let c33_i32_103_r0 : BitVec 32 := 33#32
  let v111_r0 : BitVec 1 := Scalar.cmpi .eq v110_r0 c33_i32_103_r0
  let c0_i32_104_r0 : BitVec 32 := 0#32
  let v112_r0 : BitVec 32 := Scalar.select v111_r0 c0_i32_104_r0 v110_r0
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c33_i32 : BitVec 32 := 33#32
  let v4 : BitVec 32 := Scalar.muli v3 c33_i32
  let v113_r0 : BitVec 32 := Scalar.addi v112_r0 v4
  let v284_r0 : BitVec 32 := Scalar.muli c128_i32_192_r0 v113_r0
  let c0_i32_195_r0 : BitVec 32 := 0#32
  ![v284_r0.toNat, 0]
def k0_off8 (arg9_r0 : BitVec 32) : Fin 1 → Nat :=
  let c2_i32_191_r0 : BitVec 32 := 2#32
  let v283_r0 : BitVec 32 := Scalar.remui arg9_r0 c2_i32_191_r0
  ![v283_r0.toNat]
def k0_off9 (arg11_r0 : BitVec 32) : Fin 3 → Nat :=
  let c2_i32_191_r0 : BitVec 32 := 2#32
  let v283_r0 : BitVec 32 := Scalar.remui arg11_r0 c2_i32_191_r0
  let c0_i32_193_r0 : BitVec 32 := 0#32
  let c0_i32_194_r0 : BitVec 32 := 0#32
  ![v283_r0.toNat, 0, 0]
def k0_cond2 (i : grid0.Coords) (k0_t1 : Fin k0_t1_loop.trips) (arg19_r0 : BitVec 32) : BitVec 1 :=
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c33_i32 : BitVec 32 := 33#32
  let v4 : BitVec 32 := Scalar.muli v3 c33_i32
  let v103_r0 : BitVec 32 := Scalar.addi arg19_r0 v4
  let true_102_r0 : BitVec 1 := 1#1
  let c1_i32_101_r0 : BitVec 32 := 1#32
  let v109_r0 : BitVec 32 := Scalar.addi arg19_r0 c1_i32_101_r0
  let v110_r0 : BitVec 32 := Scalar.select true_102_r0 v109_r0 arg19_r0
  let c33_i32_103_r0 : BitVec 32 := 33#32
  let v111_r0 : BitVec 1 := Scalar.cmpi .eq v110_r0 c33_i32_103_r0
  let c0_i32_104_r0 : BitVec 32 := 0#32
  let v112_r0 : BitVec 32 := Scalar.select v111_r0 c0_i32_104_r0 v110_r0
  let v113_r0 : BitVec 32 := Scalar.addi v112_r0 v4
  let v129_r0 : BitVec 1 := Scalar.cmpi .ne v103_r0 v113_r0
  let c0_i32_75_r0 : BitVec 32 := 0#32
  let c1_i32_77_r0 : BitVec 32 := 1#32
  let arg8_r0 : BitVec 32 := Scf.iv c0_i32_75_r0 c1_i32_77_r0 k0_t1
  let c32_i32_115_r0 : BitVec 32 := 32#32
  let v130_r0 : BitVec 1 := Scalar.cmpi .sge arg8_r0 c32_i32_115_r0
  let true_116_r0 : BitVec 1 := 1#1
  let v131_r0 : BitVec 1 := Scalar.xori v130_r0 true_116_r0
  let v132_r0 : BitVec 1 := Scalar.andi v129_r0 v131_r0
  let true_117_r0 : BitVec 1 := 1#1
  let v133_r0 : BitVec 1 := Scalar.andi v132_r0 true_117_r0
  let v134_r0 : BitVec 32 := Scalar.extui v133_r0
  let c0_i32_118_r0 : BitVec 32 := 0#32
  let v135_r0 : BitVec 1 := Scalar.cmpi .ne v134_r0 c0_i32_118_r0
  v135_r0

def k0_off10 (i : grid0.Coords) (arg19_r0 : BitVec 32) : Fin 2 → Nat :=
  let c0_i32_195_r0 : BitVec 32 := 0#32
  let c128_i32_192_r0 : BitVec 32 := 128#32
  let true_102_r0 : BitVec 1 := 1#1
  let c1_i32_101_r0 : BitVec 32 := 1#32
  let v109_r0 : BitVec 32 := Scalar.addi arg19_r0 c1_i32_101_r0
  let v110_r0 : BitVec 32 := Scalar.select true_102_r0 v109_r0 arg19_r0
  let c33_i32_103_r0 : BitVec 32 := 33#32
  let v111_r0 : BitVec 1 := Scalar.cmpi .eq v110_r0 c33_i32_103_r0
  let c0_i32_104_r0 : BitVec 32 := 0#32
  let v112_r0 : BitVec 32 := Scalar.select v111_r0 c0_i32_104_r0 v110_r0
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c33_i32 : BitVec 32 := 33#32
  let v4 : BitVec 32 := Scalar.muli v3 c33_i32
  let v113_r0 : BitVec 32 := Scalar.addi v112_r0 v4
  let v284_r0 : BitVec 32 := Scalar.muli c128_i32_192_r0 v113_r0
  ![0, v284_r0.toNat]
def k0_off11 (arg11_r0 : BitVec 32) : Fin 1 → Nat :=
  let c2_i32_191_r0 : BitVec 32 := 2#32
  let v283_r0 : BitVec 32 := Scalar.remui arg11_r0 c2_i32_191_r0
  ![v283_r0.toNat]
def k0_off12 (arg13_r0 : BitVec 32) : Fin 3 → Nat :=
  let c2_i32_191_r0 : BitVec 32 := 2#32
  let v283_r0 : BitVec 32 := Scalar.remui arg13_r0 c2_i32_191_r0
  let c0_i32_193_r0 : BitVec 32 := 0#32
  let c0_i32_194_r0 : BitVec 32 := 0#32
  ![v283_r0.toNat, 0, 0]
def k0_cond3 (i : grid0.Coords) (k0_t1 : Fin k0_t1_loop.trips) (arg19_r0 : BitVec 32) : BitVec 1 :=
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c33_i32 : BitVec 32 := 33#32
  let v4 : BitVec 32 := Scalar.muli v3 c33_i32
  let v103_r0 : BitVec 32 := Scalar.addi arg19_r0 v4
  let true_102_r0 : BitVec 1 := 1#1
  let c1_i32_101_r0 : BitVec 32 := 1#32
  let v109_r0 : BitVec 32 := Scalar.addi arg19_r0 c1_i32_101_r0
  let v110_r0 : BitVec 32 := Scalar.select true_102_r0 v109_r0 arg19_r0
  let c33_i32_103_r0 : BitVec 32 := 33#32
  let v111_r0 : BitVec 1 := Scalar.cmpi .eq v110_r0 c33_i32_103_r0
  let c0_i32_104_r0 : BitVec 32 := 0#32
  let v112_r0 : BitVec 32 := Scalar.select v111_r0 c0_i32_104_r0 v110_r0
  let v113_r0 : BitVec 32 := Scalar.addi v112_r0 v4
  let v139_r0 : BitVec 1 := Scalar.cmpi .ne v103_r0 v113_r0
  let c0_i32_75_r0 : BitVec 32 := 0#32
  let c1_i32_77_r0 : BitVec 32 := 1#32
  let arg8_r0 : BitVec 32 := Scf.iv c0_i32_75_r0 c1_i32_77_r0 k0_t1
  let c32_i32_121_r0 : BitVec 32 := 32#32
  let v140_r0 : BitVec 1 := Scalar.cmpi .sge arg8_r0 c32_i32_121_r0
  let true_122_r0 : BitVec 1 := 1#1
  let v141_r0 : BitVec 1 := Scalar.xori v140_r0 true_122_r0
  let v142_r0 : BitVec 1 := Scalar.andi v139_r0 v141_r0
  let true_123_r0 : BitVec 1 := 1#1
  let v143_r0 : BitVec 1 := Scalar.andi v142_r0 true_123_r0
  let v144_r0 : BitVec 32 := Scalar.extui v143_r0
  let c0_i32_124_r0 : BitVec 32 := 0#32
  let v145_r0 : BitVec 1 := Scalar.cmpi .ne v144_r0 c0_i32_124_r0
  v145_r0

def k0_off13 (i : grid0.Coords) (arg19_r0 : BitVec 32) : Fin 2 → Nat :=
  let c0_i32_195_r0 : BitVec 32 := 0#32
  let c128_i32_192_r0 : BitVec 32 := 128#32
  let true_102_r0 : BitVec 1 := 1#1
  let c1_i32_101_r0 : BitVec 32 := 1#32
  let v109_r0 : BitVec 32 := Scalar.addi arg19_r0 c1_i32_101_r0
  let v110_r0 : BitVec 32 := Scalar.select true_102_r0 v109_r0 arg19_r0
  let c33_i32_103_r0 : BitVec 32 := 33#32
  let v111_r0 : BitVec 1 := Scalar.cmpi .eq v110_r0 c33_i32_103_r0
  let c0_i32_104_r0 : BitVec 32 := 0#32
  let v112_r0 : BitVec 32 := Scalar.select v111_r0 c0_i32_104_r0 v110_r0
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c33_i32 : BitVec 32 := 33#32
  let v4 : BitVec 32 := Scalar.muli v3 c33_i32
  let v113_r0 : BitVec 32 := Scalar.addi v112_r0 v4
  let v284_r0 : BitVec 32 := Scalar.muli c128_i32_192_r0 v113_r0
  ![0, v284_r0.toNat]
def k0_off14 (arg13_r0 : BitVec 32) : Fin 1 → Nat :=
  let c2_i32_191_r0 : BitVec 32 := 2#32
  let v283_r0 : BitVec 32 := Scalar.remui arg13_r0 c2_i32_191_r0
  ![v283_r0.toNat]
def k0_off15 (arg15_r0 : BitVec 32) : Fin 3 → Nat :=
  let c2_i32_191_r0 : BitVec 32 := 2#32
  let v283_r0 : BitVec 32 := Scalar.remui arg15_r0 c2_i32_191_r0
  let c0_i32_193_r0 : BitVec 32 := 0#32
  let c0_i32_194_r0 : BitVec 32 := 0#32
  ![v283_r0.toNat, 0, 0]
def k0_cond4 (i : grid0.Coords) (k0_t1 : Fin k0_t1_loop.trips) (arg19_r0 : BitVec 32) : BitVec 1 :=
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c33_i32 : BitVec 32 := 33#32
  let v4 : BitVec 32 := Scalar.muli v3 c33_i32
  let v103_r0 : BitVec 32 := Scalar.addi arg19_r0 v4
  let true_102_r0 : BitVec 1 := 1#1
  let c1_i32_101_r0 : BitVec 32 := 1#32
  let v109_r0 : BitVec 32 := Scalar.addi arg19_r0 c1_i32_101_r0
  let v110_r0 : BitVec 32 := Scalar.select true_102_r0 v109_r0 arg19_r0
  let c33_i32_103_r0 : BitVec 32 := 33#32
  let v111_r0 : BitVec 1 := Scalar.cmpi .eq v110_r0 c33_i32_103_r0
  let c0_i32_104_r0 : BitVec 32 := 0#32
  let v112_r0 : BitVec 32 := Scalar.select v111_r0 c0_i32_104_r0 v110_r0
  let v113_r0 : BitVec 32 := Scalar.addi v112_r0 v4
  let v149_r0 : BitVec 1 := Scalar.cmpi .ne v103_r0 v113_r0
  let c0_i32_75_r0 : BitVec 32 := 0#32
  let c1_i32_77_r0 : BitVec 32 := 1#32
  let arg8_r0 : BitVec 32 := Scf.iv c0_i32_75_r0 c1_i32_77_r0 k0_t1
  let c32_i32_127_r0 : BitVec 32 := 32#32
  let v150_r0 : BitVec 1 := Scalar.cmpi .sge arg8_r0 c32_i32_127_r0
  let true_128_r0 : BitVec 1 := 1#1
  let v151_r0 : BitVec 1 := Scalar.xori v150_r0 true_128_r0
  let v152_r0 : BitVec 1 := Scalar.andi v149_r0 v151_r0
  let true_129_r0 : BitVec 1 := 1#1
  let v153_r0 : BitVec 1 := Scalar.andi v152_r0 true_129_r0
  let v154_r0 : BitVec 32 := Scalar.extui v153_r0
  let c0_i32_130_r0 : BitVec 32 := 0#32
  let v155_r0 : BitVec 1 := Scalar.cmpi .ne v154_r0 c0_i32_130_r0
  v155_r0

def k0_off16 (i : grid0.Coords) (arg19_r0 : BitVec 32) : Fin 2 → Nat :=
  let c0_i32_195_r0 : BitVec 32 := 0#32
  let c128_i32_192_r0 : BitVec 32 := 128#32
  let true_102_r0 : BitVec 1 := 1#1
  let c1_i32_101_r0 : BitVec 32 := 1#32
  let v109_r0 : BitVec 32 := Scalar.addi arg19_r0 c1_i32_101_r0
  let v110_r0 : BitVec 32 := Scalar.select true_102_r0 v109_r0 arg19_r0
  let c33_i32_103_r0 : BitVec 32 := 33#32
  let v111_r0 : BitVec 1 := Scalar.cmpi .eq v110_r0 c33_i32_103_r0
  let c0_i32_104_r0 : BitVec 32 := 0#32
  let v112_r0 : BitVec 32 := Scalar.select v111_r0 c0_i32_104_r0 v110_r0
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c33_i32 : BitVec 32 := 33#32
  let v4 : BitVec 32 := Scalar.muli v3 c33_i32
  let v113_r0 : BitVec 32 := Scalar.addi v112_r0 v4
  let v284_r0 : BitVec 32 := Scalar.muli c128_i32_192_r0 v113_r0
  ![0, v284_r0.toNat]
def k0_off17 (arg15_r0 : BitVec 32) : Fin 1 → Nat :=
  let c2_i32_191_r0 : BitVec 32 := 2#32
  let v283_r0 : BitVec 32 := Scalar.remui arg15_r0 c2_i32_191_r0
  ![v283_r0.toNat]
def k0_off18 (arg17_r0 : BitVec 32) : Fin 3 → Nat :=
  let c2_i32_191_r0 : BitVec 32 := 2#32
  let v283_r0 : BitVec 32 := Scalar.remui arg17_r0 c2_i32_191_r0
  let c0_i32_193_r0 : BitVec 32 := 0#32
  let c0_i32_194_r0 : BitVec 32 := 0#32
  ![v283_r0.toNat, 0, 0]
def k0_cond5 (i : grid0.Coords) (k0_t1 : Fin k0_t1_loop.trips) (arg19_r0 : BitVec 32) : BitVec 1 :=
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c33_i32 : BitVec 32 := 33#32
  let v4 : BitVec 32 := Scalar.muli v3 c33_i32
  let v103_r0 : BitVec 32 := Scalar.addi arg19_r0 v4
  let true_102_r0 : BitVec 1 := 1#1
  let c1_i32_101_r0 : BitVec 32 := 1#32
  let v109_r0 : BitVec 32 := Scalar.addi arg19_r0 c1_i32_101_r0
  let v110_r0 : BitVec 32 := Scalar.select true_102_r0 v109_r0 arg19_r0
  let c33_i32_103_r0 : BitVec 32 := 33#32
  let v111_r0 : BitVec 1 := Scalar.cmpi .eq v110_r0 c33_i32_103_r0
  let c0_i32_104_r0 : BitVec 32 := 0#32
  let v112_r0 : BitVec 32 := Scalar.select v111_r0 c0_i32_104_r0 v110_r0
  let v113_r0 : BitVec 32 := Scalar.addi v112_r0 v4
  let v159_r0 : BitVec 1 := Scalar.cmpi .ne v103_r0 v113_r0
  let c0_i32_75_r0 : BitVec 32 := 0#32
  let c1_i32_77_r0 : BitVec 32 := 1#32
  let arg8_r0 : BitVec 32 := Scf.iv c0_i32_75_r0 c1_i32_77_r0 k0_t1
  let c32_i32_133_r0 : BitVec 32 := 32#32
  let v160_r0 : BitVec 1 := Scalar.cmpi .sge arg8_r0 c32_i32_133_r0
  let true_134_r0 : BitVec 1 := 1#1
  let v161_r0 : BitVec 1 := Scalar.xori v160_r0 true_134_r0
  let v162_r0 : BitVec 1 := Scalar.andi v159_r0 v161_r0
  let true_135_r0 : BitVec 1 := 1#1
  let v163_r0 : BitVec 1 := Scalar.andi v162_r0 true_135_r0
  let v164_r0 : BitVec 32 := Scalar.extui v163_r0
  let c0_i32_136_r0 : BitVec 32 := 0#32
  let v165_r0 : BitVec 1 := Scalar.cmpi .ne v164_r0 c0_i32_136_r0
  v165_r0

def k0_off19 (i : grid0.Coords) (arg19_r0 : BitVec 32) : Fin 2 → Nat :=
  let c0_i32_195_r0 : BitVec 32 := 0#32
  let c128_i32_192_r0 : BitVec 32 := 128#32
  let true_102_r0 : BitVec 1 := 1#1
  let c1_i32_101_r0 : BitVec 32 := 1#32
  let v109_r0 : BitVec 32 := Scalar.addi arg19_r0 c1_i32_101_r0
  let v110_r0 : BitVec 32 := Scalar.select true_102_r0 v109_r0 arg19_r0
  let c33_i32_103_r0 : BitVec 32 := 33#32
  let v111_r0 : BitVec 1 := Scalar.cmpi .eq v110_r0 c33_i32_103_r0
  let c0_i32_104_r0 : BitVec 32 := 0#32
  let v112_r0 : BitVec 32 := Scalar.select v111_r0 c0_i32_104_r0 v110_r0
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c33_i32 : BitVec 32 := 33#32
  let v4 : BitVec 32 := Scalar.muli v3 c33_i32
  let v113_r0 : BitVec 32 := Scalar.addi v112_r0 v4
  let v284_r0 : BitVec 32 := Scalar.muli c128_i32_192_r0 v113_r0
  ![0, v284_r0.toNat]
def k0_off20 (arg17_r0 : BitVec 32) : Fin 1 → Nat :=
  let c2_i32_191_r0 : BitVec 32 := 2#32
  let v283_r0 : BitVec 32 := Scalar.remui arg17_r0 c2_i32_191_r0
  ![v283_r0.toNat]
def k0_off21 (arg10_r0 : BitVec 32) : Fin 3 → Nat :=
  let c2_i32_192_r0 : BitVec 32 := 2#32
  let v284_r0 : BitVec 32 := Scalar.remui arg10_r0 c2_i32_192_r0
  let c0_i32_193_r0 : BitVec 32 := 0#32
  let c0_i32_194_r0 : BitVec 32 := 0#32
  ![v284_r0.toNat, 0, 0]
def k0_cond6 (i : grid0.Coords) (k0_t1 : Fin k0_t1_loop.trips) (arg19_r0 : BitVec 32) : BitVec 1 :=
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c33_i32 : BitVec 32 := 33#32
  let v4 : BitVec 32 := Scalar.muli v3 c33_i32
  let v103_r0 : BitVec 32 := Scalar.addi arg19_r0 v4
  let true_98_r0 : BitVec 1 := 1#1
  let c1_i32_97_r0 : BitVec 32 := 1#32
  let v104_r0 : BitVec 32 := Scalar.subi arg19_r0 c1_i32_97_r0
  let v105_r0 : BitVec 32 := Scalar.select true_98_r0 v104_r0 arg19_r0
  let c_m1_i32_99_r0 : BitVec 32 := 4294967295#32
  let v106_r0 : BitVec 1 := Scalar.cmpi .eq v105_r0 c_m1_i32_99_r0
  let c32_i32_100_r0 : BitVec 32 := 32#32
  let v107_r0 : BitVec 32 := Scalar.select v106_r0 c32_i32_100_r0 v105_r0
  let v108_r0 : BitVec 32 := Scalar.addi v107_r0 v4
  let v169_r0 : BitVec 1 := Scalar.cmpi .ne v103_r0 v108_r0
  let c0_i32_75_r0 : BitVec 32 := 0#32
  let c1_i32_77_r0 : BitVec 32 := 1#32
  let arg8_r0 : BitVec 32 := Scf.iv c0_i32_75_r0 c1_i32_77_r0 k0_t1
  let c0_i32_95_r0 : BitVec 32 := 0#32
  let v101_r0 : BitVec 1 := Scalar.cmpi .eq arg8_r0 c0_i32_95_r0
  let v170_r0 : BitVec 1 := Scalar.ori v169_r0 v101_r0
  let c0_i32_139_r0 : BitVec 32 := 0#32
  let v171_r0 : BitVec 1 := Scalar.cmpi .sge arg8_r0 c0_i32_139_r0
  let v172_r0 : BitVec 1 := Scalar.andi v170_r0 v171_r0
  let v173_r0 : BitVec 32 := Scalar.extui v172_r0
  let c0_i32_140_r0 : BitVec 32 := 0#32
  let v174_r0 : BitVec 1 := Scalar.cmpi .ne v173_r0 c0_i32_140_r0
  v174_r0

def k0_off22 (i : grid0.Coords) (arg19_r0 : BitVec 32) : Fin 2 → Nat :=
  let c128_i32_191_r0 : BitVec 32 := 128#32
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c33_i32 : BitVec 32 := 33#32
  let v4 : BitVec 32 := Scalar.muli v3 c33_i32
  let v103_r0 : BitVec 32 := Scalar.addi arg19_r0 v4
  let v283_r0 : BitVec 32 := Scalar.muli c128_i32_191_r0 v103_r0
  let c0_i32_195_r0 : BitVec 32 := 0#32
  ![v283_r0.toNat, 0]
def k0_off23 (arg10_r0 : BitVec 32) : Fin 1 → Nat :=
  let c2_i32_192_r0 : BitVec 32 := 2#32
  let v284_r0 : BitVec 32 := Scalar.remui arg10_r0 c2_i32_192_r0
  ![v284_r0.toNat]
def k0_off24 (arg12_r0 : BitVec 32) : Fin 3 → Nat :=
  let c2_i32_192_r0 : BitVec 32 := 2#32
  let v284_r0 : BitVec 32 := Scalar.remui arg12_r0 c2_i32_192_r0
  let c0_i32_193_r0 : BitVec 32 := 0#32
  let c0_i32_194_r0 : BitVec 32 := 0#32
  ![v284_r0.toNat, 0, 0]
def k0_cond7 (i : grid0.Coords) (k0_t1 : Fin k0_t1_loop.trips) (arg19_r0 : BitVec 32) : BitVec 1 :=
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c33_i32 : BitVec 32 := 33#32
  let v4 : BitVec 32 := Scalar.muli v3 c33_i32
  let v103_r0 : BitVec 32 := Scalar.addi arg19_r0 v4
  let true_98_r0 : BitVec 1 := 1#1
  let c1_i32_97_r0 : BitVec 32 := 1#32
  let v104_r0 : BitVec 32 := Scalar.subi arg19_r0 c1_i32_97_r0
  let v105_r0 : BitVec 32 := Scalar.select true_98_r0 v104_r0 arg19_r0
  let c_m1_i32_99_r0 : BitVec 32 := 4294967295#32
  let v106_r0 : BitVec 1 := Scalar.cmpi .eq v105_r0 c_m1_i32_99_r0
  let c32_i32_100_r0 : BitVec 32 := 32#32
  let v107_r0 : BitVec 32 := Scalar.select v106_r0 c32_i32_100_r0 v105_r0
  let v108_r0 : BitVec 32 := Scalar.addi v107_r0 v4
  let v175_r0 : BitVec 1 := Scalar.cmpi .ne v103_r0 v108_r0
  let c0_i32_75_r0 : BitVec 32 := 0#32
  let c1_i32_77_r0 : BitVec 32 := 1#32
  let arg8_r0 : BitVec 32 := Scf.iv c0_i32_75_r0 c1_i32_77_r0 k0_t1
  let c0_i32_95_r0 : BitVec 32 := 0#32
  let v101_r0 : BitVec 1 := Scalar.cmpi .eq arg8_r0 c0_i32_95_r0
  let v176_r0 : BitVec 1 := Scalar.ori v175_r0 v101_r0
  let c0_i32_141_r0 : BitVec 32 := 0#32
  let v177_r0 : BitVec 1 := Scalar.cmpi .sge arg8_r0 c0_i32_141_r0
  let v178_r0 : BitVec 1 := Scalar.andi v176_r0 v177_r0
  let v179_r0 : BitVec 32 := Scalar.extui v178_r0
  let c0_i32_142_r0 : BitVec 32 := 0#32
  let v180_r0 : BitVec 1 := Scalar.cmpi .ne v179_r0 c0_i32_142_r0
  v180_r0

def k0_off25 (i : grid0.Coords) (arg19_r0 : BitVec 32) : Fin 2 → Nat :=
  let c0_i32_195_r0 : BitVec 32 := 0#32
  let c128_i32_191_r0 : BitVec 32 := 128#32
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c33_i32 : BitVec 32 := 33#32
  let v4 : BitVec 32 := Scalar.muli v3 c33_i32
  let v103_r0 : BitVec 32 := Scalar.addi arg19_r0 v4
  let v283_r0 : BitVec 32 := Scalar.muli c128_i32_191_r0 v103_r0
  ![0, v283_r0.toNat]
def k0_off26 (arg12_r0 : BitVec 32) : Fin 1 → Nat :=
  let c2_i32_192_r0 : BitVec 32 := 2#32
  let v284_r0 : BitVec 32 := Scalar.remui arg12_r0 c2_i32_192_r0
  ![v284_r0.toNat]
def k0_off27 (arg14_r0 : BitVec 32) : Fin 3 → Nat :=
  let c2_i32_192_r0 : BitVec 32 := 2#32
  let v284_r0 : BitVec 32 := Scalar.remui arg14_r0 c2_i32_192_r0
  let c0_i32_193_r0 : BitVec 32 := 0#32
  let c0_i32_194_r0 : BitVec 32 := 0#32
  ![v284_r0.toNat, 0, 0]
def k0_cond8 (i : grid0.Coords) (k0_t1 : Fin k0_t1_loop.trips) (arg19_r0 : BitVec 32) : BitVec 1 :=
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c33_i32 : BitVec 32 := 33#32
  let v4 : BitVec 32 := Scalar.muli v3 c33_i32
  let v103_r0 : BitVec 32 := Scalar.addi arg19_r0 v4
  let true_98_r0 : BitVec 1 := 1#1
  let c1_i32_97_r0 : BitVec 32 := 1#32
  let v104_r0 : BitVec 32 := Scalar.subi arg19_r0 c1_i32_97_r0
  let v105_r0 : BitVec 32 := Scalar.select true_98_r0 v104_r0 arg19_r0
  let c_m1_i32_99_r0 : BitVec 32 := 4294967295#32
  let v106_r0 : BitVec 1 := Scalar.cmpi .eq v105_r0 c_m1_i32_99_r0
  let c32_i32_100_r0 : BitVec 32 := 32#32
  let v107_r0 : BitVec 32 := Scalar.select v106_r0 c32_i32_100_r0 v105_r0
  let v108_r0 : BitVec 32 := Scalar.addi v107_r0 v4
  let v181_r0 : BitVec 1 := Scalar.cmpi .ne v103_r0 v108_r0
  let c0_i32_75_r0 : BitVec 32 := 0#32
  let c1_i32_77_r0 : BitVec 32 := 1#32
  let arg8_r0 : BitVec 32 := Scf.iv c0_i32_75_r0 c1_i32_77_r0 k0_t1
  let c0_i32_95_r0 : BitVec 32 := 0#32
  let v101_r0 : BitVec 1 := Scalar.cmpi .eq arg8_r0 c0_i32_95_r0
  let v182_r0 : BitVec 1 := Scalar.ori v181_r0 v101_r0
  let c0_i32_143_r0 : BitVec 32 := 0#32
  let v183_r0 : BitVec 1 := Scalar.cmpi .sge arg8_r0 c0_i32_143_r0
  let v184_r0 : BitVec 1 := Scalar.andi v182_r0 v183_r0
  let v185_r0 : BitVec 32 := Scalar.extui v184_r0
  let c0_i32_144_r0 : BitVec 32 := 0#32
  let v186_r0 : BitVec 1 := Scalar.cmpi .ne v185_r0 c0_i32_144_r0
  v186_r0

def k0_off28 (i : grid0.Coords) (arg19_r0 : BitVec 32) : Fin 2 → Nat :=
  let c0_i32_195_r0 : BitVec 32 := 0#32
  let c128_i32_191_r0 : BitVec 32 := 128#32
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c33_i32 : BitVec 32 := 33#32
  let v4 : BitVec 32 := Scalar.muli v3 c33_i32
  let v103_r0 : BitVec 32 := Scalar.addi arg19_r0 v4
  let v283_r0 : BitVec 32 := Scalar.muli c128_i32_191_r0 v103_r0
  ![0, v283_r0.toNat]
def k0_off29 (arg14_r0 : BitVec 32) : Fin 1 → Nat :=
  let c2_i32_192_r0 : BitVec 32 := 2#32
  let v284_r0 : BitVec 32 := Scalar.remui arg14_r0 c2_i32_192_r0
  ![v284_r0.toNat]
def k0_off30 (arg16_r0 : BitVec 32) : Fin 3 → Nat :=
  let c2_i32_192_r0 : BitVec 32 := 2#32
  let v284_r0 : BitVec 32 := Scalar.remui arg16_r0 c2_i32_192_r0
  let c0_i32_193_r0 : BitVec 32 := 0#32
  let c0_i32_194_r0 : BitVec 32 := 0#32
  ![v284_r0.toNat, 0, 0]
def k0_cond9 (i : grid0.Coords) (k0_t1 : Fin k0_t1_loop.trips) (arg19_r0 : BitVec 32) : BitVec 1 :=
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c33_i32 : BitVec 32 := 33#32
  let v4 : BitVec 32 := Scalar.muli v3 c33_i32
  let v103_r0 : BitVec 32 := Scalar.addi arg19_r0 v4
  let true_98_r0 : BitVec 1 := 1#1
  let c1_i32_97_r0 : BitVec 32 := 1#32
  let v104_r0 : BitVec 32 := Scalar.subi arg19_r0 c1_i32_97_r0
  let v105_r0 : BitVec 32 := Scalar.select true_98_r0 v104_r0 arg19_r0
  let c_m1_i32_99_r0 : BitVec 32 := 4294967295#32
  let v106_r0 : BitVec 1 := Scalar.cmpi .eq v105_r0 c_m1_i32_99_r0
  let c32_i32_100_r0 : BitVec 32 := 32#32
  let v107_r0 : BitVec 32 := Scalar.select v106_r0 c32_i32_100_r0 v105_r0
  let v108_r0 : BitVec 32 := Scalar.addi v107_r0 v4
  let v187_r0 : BitVec 1 := Scalar.cmpi .ne v103_r0 v108_r0
  let c0_i32_75_r0 : BitVec 32 := 0#32
  let c1_i32_77_r0 : BitVec 32 := 1#32
  let arg8_r0 : BitVec 32 := Scf.iv c0_i32_75_r0 c1_i32_77_r0 k0_t1
  let c0_i32_95_r0 : BitVec 32 := 0#32
  let v101_r0 : BitVec 1 := Scalar.cmpi .eq arg8_r0 c0_i32_95_r0
  let v188_r0 : BitVec 1 := Scalar.ori v187_r0 v101_r0
  let c0_i32_145_r0 : BitVec 32 := 0#32
  let v189_r0 : BitVec 1 := Scalar.cmpi .sge arg8_r0 c0_i32_145_r0
  let v190_r0 : BitVec 1 := Scalar.andi v188_r0 v189_r0
  let v191_r0 : BitVec 32 := Scalar.extui v190_r0
  let c0_i32_146_r0 : BitVec 32 := 0#32
  let v192_r0 : BitVec 1 := Scalar.cmpi .ne v191_r0 c0_i32_146_r0
  v192_r0

def k0_off31 (i : grid0.Coords) (arg19_r0 : BitVec 32) : Fin 2 → Nat :=
  let c0_i32_195_r0 : BitVec 32 := 0#32
  let c128_i32_191_r0 : BitVec 32 := 128#32
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c33_i32 : BitVec 32 := 33#32
  let v4 : BitVec 32 := Scalar.muli v3 c33_i32
  let v103_r0 : BitVec 32 := Scalar.addi arg19_r0 v4
  let v283_r0 : BitVec 32 := Scalar.muli c128_i32_191_r0 v103_r0
  ![0, v283_r0.toNat]
def k0_off32 (arg16_r0 : BitVec 32) : Fin 1 → Nat :=
  let c2_i32_192_r0 : BitVec 32 := 2#32
  let v284_r0 : BitVec 32 := Scalar.remui arg16_r0 c2_i32_192_r0
  ![v284_r0.toNat]
def k0_off33 (arg18_r0 : BitVec 32) : Fin 3 → Nat :=
  let c2_i32_192_r0 : BitVec 32 := 2#32
  let v284_r0 : BitVec 32 := Scalar.remui arg18_r0 c2_i32_192_r0
  let c0_i32_193_r0 : BitVec 32 := 0#32
  let c0_i32_194_r0 : BitVec 32 := 0#32
  ![v284_r0.toNat, 0, 0]
def k0_cond10 (i : grid0.Coords) (k0_t1 : Fin k0_t1_loop.trips) (arg19_r0 : BitVec 32) : BitVec 1 :=
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c33_i32 : BitVec 32 := 33#32
  let v4 : BitVec 32 := Scalar.muli v3 c33_i32
  let v103_r0 : BitVec 32 := Scalar.addi arg19_r0 v4
  let true_98_r0 : BitVec 1 := 1#1
  let c1_i32_97_r0 : BitVec 32 := 1#32
  let v104_r0 : BitVec 32 := Scalar.subi arg19_r0 c1_i32_97_r0
  let v105_r0 : BitVec 32 := Scalar.select true_98_r0 v104_r0 arg19_r0
  let c_m1_i32_99_r0 : BitVec 32 := 4294967295#32
  let v106_r0 : BitVec 1 := Scalar.cmpi .eq v105_r0 c_m1_i32_99_r0
  let c32_i32_100_r0 : BitVec 32 := 32#32
  let v107_r0 : BitVec 32 := Scalar.select v106_r0 c32_i32_100_r0 v105_r0
  let v108_r0 : BitVec 32 := Scalar.addi v107_r0 v4
  let v193_r0 : BitVec 1 := Scalar.cmpi .ne v103_r0 v108_r0
  let c0_i32_75_r0 : BitVec 32 := 0#32
  let c1_i32_77_r0 : BitVec 32 := 1#32
  let arg8_r0 : BitVec 32 := Scf.iv c0_i32_75_r0 c1_i32_77_r0 k0_t1
  let c0_i32_95_r0 : BitVec 32 := 0#32
  let v101_r0 : BitVec 1 := Scalar.cmpi .eq arg8_r0 c0_i32_95_r0
  let v194_r0 : BitVec 1 := Scalar.ori v193_r0 v101_r0
  let c0_i32_147_r0 : BitVec 32 := 0#32
  let v195_r0 : BitVec 1 := Scalar.cmpi .sge arg8_r0 c0_i32_147_r0
  let v196_r0 : BitVec 1 := Scalar.andi v194_r0 v195_r0
  let v197_r0 : BitVec 32 := Scalar.extui v196_r0
  let c0_i32_148_r0 : BitVec 32 := 0#32
  let v198_r0 : BitVec 1 := Scalar.cmpi .ne v197_r0 c0_i32_148_r0
  v198_r0

def k0_off34 (i : grid0.Coords) (arg19_r0 : BitVec 32) : Fin 2 → Nat :=
  let c0_i32_195_r0 : BitVec 32 := 0#32
  let c128_i32_191_r0 : BitVec 32 := 128#32
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c33_i32 : BitVec 32 := 33#32
  let v4 : BitVec 32 := Scalar.muli v3 c33_i32
  let v103_r0 : BitVec 32 := Scalar.addi arg19_r0 v4
  let v283_r0 : BitVec 32 := Scalar.muli c128_i32_191_r0 v103_r0
  ![0, v283_r0.toNat]
def k0_off35 (arg18_r0 : BitVec 32) : Fin 1 → Nat :=
  let c2_i32_192_r0 : BitVec 32 := 2#32
  let v284_r0 : BitVec 32 := Scalar.remui arg18_r0 c2_i32_192_r0
  ![v284_r0.toNat]

def k0_chk1 (i : grid0.Coords) (k0_t1 : Fin k0_t1_loop.trips) (arg9_r0 : BitVec 32) (arg10_r0 : BitVec 32) (arg11_r0 : BitVec 32) (arg12_r0 : BitVec 32) (arg13_r0 : BitVec 32) (arg14_r0 : BitVec 32) (arg15_r0 : BitVec 32) (arg16_r0 : BitVec 32) (arg17_r0 : BitVec 32) (arg18_r0 : BitVec 32) (arg19_r0 : BitVec 32) : Prop :=
  (∀ (k0_h1 : k0_cond1 i k0_t1 arg19_r0 = 1#1), ∀ a, (k0_off6 arg9_r0) a + S1x128x128.size a ≤ S2x128x128.size a) ∧
  (∀ (k0_h1 : k0_cond1 i k0_t1 arg19_r0 = 1#1), ∀ a, (k0_off7 i arg19_r0) a + S128x128.size a ≤ S135168x128.size a) ∧
  (∀ (k0_h1 : k0_cond1 i k0_t1 arg19_r0 = 1#1), ∀ a, (k0_off8 arg9_r0) a + S1.size a ≤ S2.size a) ∧
  (∀ (k0_h2 : k0_cond2 i k0_t1 arg19_r0 = 1#1), ∀ a, (k0_off9 arg11_r0) a + S1x1x128.size a ≤ S2x1x128.size a) ∧
  (∀ (k0_h2 : k0_cond2 i k0_t1 arg19_r0 = 1#1), ∀ a, (k0_off10 i arg19_r0) a + S1x128.size a ≤ S1x135168.size a) ∧
  (∀ (k0_h2 : k0_cond2 i k0_t1 arg19_r0 = 1#1), ∀ a, (k0_off11 arg11_r0) a + S1.size a ≤ S2.size a) ∧
  (∀ (k0_h3 : k0_cond3 i k0_t1 arg19_r0 = 1#1), ∀ a, (k0_off12 arg13_r0) a + S1x1x128.size a ≤ S2x1x128.size a) ∧
  (∀ (k0_h3 : k0_cond3 i k0_t1 arg19_r0 = 1#1), ∀ a, (k0_off13 i arg19_r0) a + S1x128.size a ≤ S1x135168.size a) ∧
  (∀ (k0_h3 : k0_cond3 i k0_t1 arg19_r0 = 1#1), ∀ a, (k0_off14 arg13_r0) a + S1.size a ≤ S2.size a) ∧
  (∀ (k0_h4 : k0_cond4 i k0_t1 arg19_r0 = 1#1), ∀ a, (k0_off15 arg15_r0) a + S1x1x128.size a ≤ S2x1x128.size a) ∧
  (∀ (k0_h4 : k0_cond4 i k0_t1 arg19_r0 = 1#1), ∀ a, (k0_off16 i arg19_r0) a + S1x128.size a ≤ S1x135168.size a) ∧
  (∀ (k0_h4 : k0_cond4 i k0_t1 arg19_r0 = 1#1), ∀ a, (k0_off17 arg15_r0) a + S1.size a ≤ S2.size a) ∧
  (∀ (k0_h5 : k0_cond5 i k0_t1 arg19_r0 = 1#1), ∀ a, (k0_off18 arg17_r0) a + S1x1x128.size a ≤ S2x1x128.size a) ∧
  (∀ (k0_h5 : k0_cond5 i k0_t1 arg19_r0 = 1#1), ∀ a, (k0_off19 i arg19_r0) a + S1x128.size a ≤ S1x135168.size a) ∧
  (∀ (k0_h5 : k0_cond5 i k0_t1 arg19_r0 = 1#1), ∀ a, (k0_off20 arg17_r0) a + S1.size a ≤ S2.size a) ∧
  (∀ (k0_h6 : k0_cond6 i k0_t1 arg19_r0 = 1#1), ∀ a, (k0_off21 arg10_r0) a + S1x128x128.size a ≤ S2x128x128.size a) ∧
  (∀ (k0_h6 : k0_cond6 i k0_t1 arg19_r0 = 1#1), ∀ a, (k0_off22 i arg19_r0) a + S128x128.size a ≤ S135168x128.size a) ∧
  (∀ (k0_h6 : k0_cond6 i k0_t1 arg19_r0 = 1#1), ∀ a, (k0_off23 arg10_r0) a + S1.size a ≤ S2.size a) ∧
  (∀ (k0_h7 : k0_cond7 i k0_t1 arg19_r0 = 1#1), ∀ a, (k0_off24 arg12_r0) a + S1x1x128.size a ≤ S2x1x128.size a) ∧
  (∀ (k0_h7 : k0_cond7 i k0_t1 arg19_r0 = 1#1), ∀ a, (k0_off25 i arg19_r0) a + S1x128.size a ≤ S1x135168.size a) ∧
  (∀ (k0_h7 : k0_cond7 i k0_t1 arg19_r0 = 1#1), ∀ a, (k0_off26 arg12_r0) a + S1.size a ≤ S2.size a) ∧
  (∀ (k0_h8 : k0_cond8 i k0_t1 arg19_r0 = 1#1), ∀ a, (k0_off27 arg14_r0) a + S1x1x128.size a ≤ S2x1x128.size a) ∧
  (∀ (k0_h8 : k0_cond8 i k0_t1 arg19_r0 = 1#1), ∀ a, (k0_off28 i arg19_r0) a + S1x128.size a ≤ S1x135168.size a) ∧
  (∀ (k0_h8 : k0_cond8 i k0_t1 arg19_r0 = 1#1), ∀ a, (k0_off29 arg14_r0) a + S1.size a ≤ S2.size a) ∧
  (∀ (k0_h9 : k0_cond9 i k0_t1 arg19_r0 = 1#1), ∀ a, (k0_off30 arg16_r0) a + S1x1x128.size a ≤ S2x1x128.size a) ∧
  (∀ (k0_h9 : k0_cond9 i k0_t1 arg19_r0 = 1#1), ∀ a, (k0_off31 i arg19_r0) a + S1x128.size a ≤ S1x135168.size a) ∧
  (∀ (k0_h9 : k0_cond9 i k0_t1 arg19_r0 = 1#1), ∀ a, (k0_off32 arg16_r0) a + S1.size a ≤ S2.size a) ∧
  (∀ (k0_h10 : k0_cond10 i k0_t1 arg19_r0 = 1#1), ∀ a, (k0_off33 arg18_r0) a + S1x1x128.size a ≤ S2x1x128.size a) ∧
  (∀ (k0_h10 : k0_cond10 i k0_t1 arg19_r0 = 1#1), ∀ a, (k0_off34 i arg19_r0) a + S1x128.size a ≤ S1x135168.size a) ∧
  (∀ (k0_h10 : k0_cond10 i k0_t1 arg19_r0 = 1#1), ∀ a, (k0_off35 arg18_r0) a + S1.size a ≤ S2.size a)
theorem k0_off6_inb : ∀ (i : grid0.Coords) (k0_t1 : Fin k0_t1_loop.trips) (arg9_r0 : BitVec 32) (arg10_r0 : BitVec 32) (arg11_r0 : BitVec 32) (arg12_r0 : BitVec 32) (arg13_r0 : BitVec 32) (arg14_r0 : BitVec 32) (arg15_r0 : BitVec 32) (arg16_r0 : BitVec 32) (arg17_r0 : BitVec 32) (arg18_r0 : BitVec 32) (arg19_r0 : BitVec 32) (k0_hw1 : k0_chk1 i k0_t1 arg9_r0 arg10_r0 arg11_r0 arg12_r0 arg13_r0 arg14_r0 arg15_r0 arg16_r0 arg17_r0 arg18_r0 arg19_r0), ∀ (k0_h1 : k0_cond1 i k0_t1 arg19_r0 = 1#1), ∀ a, (k0_off6 arg9_r0) a + S1x128x128.size a ≤ S2x128x128.size a := fun i k0_t1 arg9_r0 arg10_r0 arg11_r0 arg12_r0 arg13_r0 arg14_r0 arg15_r0 arg16_r0 arg17_r0 arg18_r0 arg19_r0 k0_hw1 k0_h1 => k0_hw1.1 k0_h1
theorem k0_off7_inb : ∀ (i : grid0.Coords) (k0_t1 : Fin k0_t1_loop.trips) (arg9_r0 : BitVec 32) (arg10_r0 : BitVec 32) (arg11_r0 : BitVec 32) (arg12_r0 : BitVec 32) (arg13_r0 : BitVec 32) (arg14_r0 : BitVec 32) (arg15_r0 : BitVec 32) (arg16_r0 : BitVec 32) (arg17_r0 : BitVec 32) (arg18_r0 : BitVec 32) (arg19_r0 : BitVec 32) (k0_hw1 : k0_chk1 i k0_t1 arg9_r0 arg10_r0 arg11_r0 arg12_r0 arg13_r0 arg14_r0 arg15_r0 arg16_r0 arg17_r0 arg18_r0 arg19_r0), ∀ (k0_h1 : k0_cond1 i k0_t1 arg19_r0 = 1#1), ∀ a, (k0_off7 i arg19_r0) a + S128x128.size a ≤ S135168x128.size a := fun i k0_t1 arg9_r0 arg10_r0 arg11_r0 arg12_r0 arg13_r0 arg14_r0 arg15_r0 arg16_r0 arg17_r0 arg18_r0 arg19_r0 k0_hw1 k0_h1 => k0_hw1.2.1 k0_h1
theorem k0_off8_inb : ∀ (i : grid0.Coords) (k0_t1 : Fin k0_t1_loop.trips) (arg9_r0 : BitVec 32) (arg10_r0 : BitVec 32) (arg11_r0 : BitVec 32) (arg12_r0 : BitVec 32) (arg13_r0 : BitVec 32) (arg14_r0 : BitVec 32) (arg15_r0 : BitVec 32) (arg16_r0 : BitVec 32) (arg17_r0 : BitVec 32) (arg18_r0 : BitVec 32) (arg19_r0 : BitVec 32) (k0_hw1 : k0_chk1 i k0_t1 arg9_r0 arg10_r0 arg11_r0 arg12_r0 arg13_r0 arg14_r0 arg15_r0 arg16_r0 arg17_r0 arg18_r0 arg19_r0), ∀ (k0_h1 : k0_cond1 i k0_t1 arg19_r0 = 1#1), ∀ a, (k0_off8 arg9_r0) a + S1.size a ≤ S2.size a := fun i k0_t1 arg9_r0 arg10_r0 arg11_r0 arg12_r0 arg13_r0 arg14_r0 arg15_r0 arg16_r0 arg17_r0 arg18_r0 arg19_r0 k0_hw1 k0_h1 => k0_hw1.2.2.1 k0_h1
theorem k0_off9_inb : ∀ (i : grid0.Coords) (k0_t1 : Fin k0_t1_loop.trips) (arg9_r0 : BitVec 32) (arg10_r0 : BitVec 32) (arg11_r0 : BitVec 32) (arg12_r0 : BitVec 32) (arg13_r0 : BitVec 32) (arg14_r0 : BitVec 32) (arg15_r0 : BitVec 32) (arg16_r0 : BitVec 32) (arg17_r0 : BitVec 32) (arg18_r0 : BitVec 32) (arg19_r0 : BitVec 32) (k0_hw1 : k0_chk1 i k0_t1 arg9_r0 arg10_r0 arg11_r0 arg12_r0 arg13_r0 arg14_r0 arg15_r0 arg16_r0 arg17_r0 arg18_r0 arg19_r0), ∀ (k0_h2 : k0_cond2 i k0_t1 arg19_r0 = 1#1), ∀ a, (k0_off9 arg11_r0) a + S1x1x128.size a ≤ S2x1x128.size a := fun i k0_t1 arg9_r0 arg10_r0 arg11_r0 arg12_r0 arg13_r0 arg14_r0 arg15_r0 arg16_r0 arg17_r0 arg18_r0 arg19_r0 k0_hw1 k0_h2 => k0_hw1.2.2.2.1 k0_h2
theorem k0_off10_inb : ∀ (i : grid0.Coords) (k0_t1 : Fin k0_t1_loop.trips) (arg9_r0 : BitVec 32) (arg10_r0 : BitVec 32) (arg11_r0 : BitVec 32) (arg12_r0 : BitVec 32) (arg13_r0 : BitVec 32) (arg14_r0 : BitVec 32) (arg15_r0 : BitVec 32) (arg16_r0 : BitVec 32) (arg17_r0 : BitVec 32) (arg18_r0 : BitVec 32) (arg19_r0 : BitVec 32) (k0_hw1 : k0_chk1 i k0_t1 arg9_r0 arg10_r0 arg11_r0 arg12_r0 arg13_r0 arg14_r0 arg15_r0 arg16_r0 arg17_r0 arg18_r0 arg19_r0), ∀ (k0_h2 : k0_cond2 i k0_t1 arg19_r0 = 1#1), ∀ a, (k0_off10 i arg19_r0) a + S1x128.size a ≤ S1x135168.size a := fun i k0_t1 arg9_r0 arg10_r0 arg11_r0 arg12_r0 arg13_r0 arg14_r0 arg15_r0 arg16_r0 arg17_r0 arg18_r0 arg19_r0 k0_hw1 k0_h2 => k0_hw1.2.2.2.2.1 k0_h2
theorem k0_off11_inb : ∀ (i : grid0.Coords) (k0_t1 : Fin k0_t1_loop.trips) (arg9_r0 : BitVec 32) (arg10_r0 : BitVec 32) (arg11_r0 : BitVec 32) (arg12_r0 : BitVec 32) (arg13_r0 : BitVec 32) (arg14_r0 : BitVec 32) (arg15_r0 : BitVec 32) (arg16_r0 : BitVec 32) (arg17_r0 : BitVec 32) (arg18_r0 : BitVec 32) (arg19_r0 : BitVec 32) (k0_hw1 : k0_chk1 i k0_t1 arg9_r0 arg10_r0 arg11_r0 arg12_r0 arg13_r0 arg14_r0 arg15_r0 arg16_r0 arg17_r0 arg18_r0 arg19_r0), ∀ (k0_h2 : k0_cond2 i k0_t1 arg19_r0 = 1#1), ∀ a, (k0_off11 arg11_r0) a + S1.size a ≤ S2.size a := fun i k0_t1 arg9_r0 arg10_r0 arg11_r0 arg12_r0 arg13_r0 arg14_r0 arg15_r0 arg16_r0 arg17_r0 arg18_r0 arg19_r0 k0_hw1 k0_h2 => k0_hw1.2.2.2.2.2.1 k0_h2
theorem k0_off12_inb : ∀ (i : grid0.Coords) (k0_t1 : Fin k0_t1_loop.trips) (arg9_r0 : BitVec 32) (arg10_r0 : BitVec 32) (arg11_r0 : BitVec 32) (arg12_r0 : BitVec 32) (arg13_r0 : BitVec 32) (arg14_r0 : BitVec 32) (arg15_r0 : BitVec 32) (arg16_r0 : BitVec 32) (arg17_r0 : BitVec 32) (arg18_r0 : BitVec 32) (arg19_r0 : BitVec 32) (k0_hw1 : k0_chk1 i k0_t1 arg9_r0 arg10_r0 arg11_r0 arg12_r0 arg13_r0 arg14_r0 arg15_r0 arg16_r0 arg17_r0 arg18_r0 arg19_r0), ∀ (k0_h3 : k0_cond3 i k0_t1 arg19_r0 = 1#1), ∀ a, (k0_off12 arg13_r0) a + S1x1x128.size a ≤ S2x1x128.size a := fun i k0_t1 arg9_r0 arg10_r0 arg11_r0 arg12_r0 arg13_r0 arg14_r0 arg15_r0 arg16_r0 arg17_r0 arg18_r0 arg19_r0 k0_hw1 k0_h3 => k0_hw1.2.2.2.2.2.2.1 k0_h3
theorem k0_off13_inb : ∀ (i : grid0.Coords) (k0_t1 : Fin k0_t1_loop.trips) (arg9_r0 : BitVec 32) (arg10_r0 : BitVec 32) (arg11_r0 : BitVec 32) (arg12_r0 : BitVec 32) (arg13_r0 : BitVec 32) (arg14_r0 : BitVec 32) (arg15_r0 : BitVec 32) (arg16_r0 : BitVec 32) (arg17_r0 : BitVec 32) (arg18_r0 : BitVec 32) (arg19_r0 : BitVec 32) (k0_hw1 : k0_chk1 i k0_t1 arg9_r0 arg10_r0 arg11_r0 arg12_r0 arg13_r0 arg14_r0 arg15_r0 arg16_r0 arg17_r0 arg18_r0 arg19_r0), ∀ (k0_h3 : k0_cond3 i k0_t1 arg19_r0 = 1#1), ∀ a, (k0_off13 i arg19_r0) a + S1x128.size a ≤ S1x135168.size a := fun i k0_t1 arg9_r0 arg10_r0 arg11_r0 arg12_r0 arg13_r0 arg14_r0 arg15_r0 arg16_r0 arg17_r0 arg18_r0 arg19_r0 k0_hw1 k0_h3 => k0_hw1.2.2.2.2.2.2.2.1 k0_h3
theorem k0_off14_inb : ∀ (i : grid0.Coords) (k0_t1 : Fin k0_t1_loop.trips) (arg9_r0 : BitVec 32) (arg10_r0 : BitVec 32) (arg11_r0 : BitVec 32) (arg12_r0 : BitVec 32) (arg13_r0 : BitVec 32) (arg14_r0 : BitVec 32) (arg15_r0 : BitVec 32) (arg16_r0 : BitVec 32) (arg17_r0 : BitVec 32) (arg18_r0 : BitVec 32) (arg19_r0 : BitVec 32) (k0_hw1 : k0_chk1 i k0_t1 arg9_r0 arg10_r0 arg11_r0 arg12_r0 arg13_r0 arg14_r0 arg15_r0 arg16_r0 arg17_r0 arg18_r0 arg19_r0), ∀ (k0_h3 : k0_cond3 i k0_t1 arg19_r0 = 1#1), ∀ a, (k0_off14 arg13_r0) a + S1.size a ≤ S2.size a := fun i k0_t1 arg9_r0 arg10_r0 arg11_r0 arg12_r0 arg13_r0 arg14_r0 arg15_r0 arg16_r0 arg17_r0 arg18_r0 arg19_r0 k0_hw1 k0_h3 => k0_hw1.2.2.2.2.2.2.2.2.1 k0_h3
theorem k0_off15_inb : ∀ (i : grid0.Coords) (k0_t1 : Fin k0_t1_loop.trips) (arg9_r0 : BitVec 32) (arg10_r0 : BitVec 32) (arg11_r0 : BitVec 32) (arg12_r0 : BitVec 32) (arg13_r0 : BitVec 32) (arg14_r0 : BitVec 32) (arg15_r0 : BitVec 32) (arg16_r0 : BitVec 32) (arg17_r0 : BitVec 32) (arg18_r0 : BitVec 32) (arg19_r0 : BitVec 32) (k0_hw1 : k0_chk1 i k0_t1 arg9_r0 arg10_r0 arg11_r0 arg12_r0 arg13_r0 arg14_r0 arg15_r0 arg16_r0 arg17_r0 arg18_r0 arg19_r0), ∀ (k0_h4 : k0_cond4 i k0_t1 arg19_r0 = 1#1), ∀ a, (k0_off15 arg15_r0) a + S1x1x128.size a ≤ S2x1x128.size a := fun i k0_t1 arg9_r0 arg10_r0 arg11_r0 arg12_r0 arg13_r0 arg14_r0 arg15_r0 arg16_r0 arg17_r0 arg18_r0 arg19_r0 k0_hw1 k0_h4 => k0_hw1.2.2.2.2.2.2.2.2.2.1 k0_h4
theorem k0_off16_inb : ∀ (i : grid0.Coords) (k0_t1 : Fin k0_t1_loop.trips) (arg9_r0 : BitVec 32) (arg10_r0 : BitVec 32) (arg11_r0 : BitVec 32) (arg12_r0 : BitVec 32) (arg13_r0 : BitVec 32) (arg14_r0 : BitVec 32) (arg15_r0 : BitVec 32) (arg16_r0 : BitVec 32) (arg17_r0 : BitVec 32) (arg18_r0 : BitVec 32) (arg19_r0 : BitVec 32) (k0_hw1 : k0_chk1 i k0_t1 arg9_r0 arg10_r0 arg11_r0 arg12_r0 arg13_r0 arg14_r0 arg15_r0 arg16_r0 arg17_r0 arg18_r0 arg19_r0), ∀ (k0_h4 : k0_cond4 i k0_t1 arg19_r0 = 1#1), ∀ a, (k0_off16 i arg19_r0) a + S1x128.size a ≤ S1x135168.size a := fun i k0_t1 arg9_r0 arg10_r0 arg11_r0 arg12_r0 arg13_r0 arg14_r0 arg15_r0 arg16_r0 arg17_r0 arg18_r0 arg19_r0 k0_hw1 k0_h4 => k0_hw1.2.2.2.2.2.2.2.2.2.2.1 k0_h4
theorem k0_off17_inb : ∀ (i : grid0.Coords) (k0_t1 : Fin k0_t1_loop.trips) (arg9_r0 : BitVec 32) (arg10_r0 : BitVec 32) (arg11_r0 : BitVec 32) (arg12_r0 : BitVec 32) (arg13_r0 : BitVec 32) (arg14_r0 : BitVec 32) (arg15_r0 : BitVec 32) (arg16_r0 : BitVec 32) (arg17_r0 : BitVec 32) (arg18_r0 : BitVec 32) (arg19_r0 : BitVec 32) (k0_hw1 : k0_chk1 i k0_t1 arg9_r0 arg10_r0 arg11_r0 arg12_r0 arg13_r0 arg14_r0 arg15_r0 arg16_r0 arg17_r0 arg18_r0 arg19_r0), ∀ (k0_h4 : k0_cond4 i k0_t1 arg19_r0 = 1#1), ∀ a, (k0_off17 arg15_r0) a + S1.size a ≤ S2.size a := fun i k0_t1 arg9_r0 arg10_r0 arg11_r0 arg12_r0 arg13_r0 arg14_r0 arg15_r0 arg16_r0 arg17_r0 arg18_r0 arg19_r0 k0_hw1 k0_h4 => k0_hw1.2.2.2.2.2.2.2.2.2.2.2.1 k0_h4
theorem k0_off18_inb : ∀ (i : grid0.Coords) (k0_t1 : Fin k0_t1_loop.trips) (arg9_r0 : BitVec 32) (arg10_r0 : BitVec 32) (arg11_r0 : BitVec 32) (arg12_r0 : BitVec 32) (arg13_r0 : BitVec 32) (arg14_r0 : BitVec 32) (arg15_r0 : BitVec 32) (arg16_r0 : BitVec 32) (arg17_r0 : BitVec 32) (arg18_r0 : BitVec 32) (arg19_r0 : BitVec 32) (k0_hw1 : k0_chk1 i k0_t1 arg9_r0 arg10_r0 arg11_r0 arg12_r0 arg13_r0 arg14_r0 arg15_r0 arg16_r0 arg17_r0 arg18_r0 arg19_r0), ∀ (k0_h5 : k0_cond5 i k0_t1 arg19_r0 = 1#1), ∀ a, (k0_off18 arg17_r0) a + S1x1x128.size a ≤ S2x1x128.size a := fun i k0_t1 arg9_r0 arg10_r0 arg11_r0 arg12_r0 arg13_r0 arg14_r0 arg15_r0 arg16_r0 arg17_r0 arg18_r0 arg19_r0 k0_hw1 k0_h5 => k0_hw1.2.2.2.2.2.2.2.2.2.2.2.2.1 k0_h5
theorem k0_off19_inb : ∀ (i : grid0.Coords) (k0_t1 : Fin k0_t1_loop.trips) (arg9_r0 : BitVec 32) (arg10_r0 : BitVec 32) (arg11_r0 : BitVec 32) (arg12_r0 : BitVec 32) (arg13_r0 : BitVec 32) (arg14_r0 : BitVec 32) (arg15_r0 : BitVec 32) (arg16_r0 : BitVec 32) (arg17_r0 : BitVec 32) (arg18_r0 : BitVec 32) (arg19_r0 : BitVec 32) (k0_hw1 : k0_chk1 i k0_t1 arg9_r0 arg10_r0 arg11_r0 arg12_r0 arg13_r0 arg14_r0 arg15_r0 arg16_r0 arg17_r0 arg18_r0 arg19_r0), ∀ (k0_h5 : k0_cond5 i k0_t1 arg19_r0 = 1#1), ∀ a, (k0_off19 i arg19_r0) a + S1x128.size a ≤ S1x135168.size a := fun i k0_t1 arg9_r0 arg10_r0 arg11_r0 arg12_r0 arg13_r0 arg14_r0 arg15_r0 arg16_r0 arg17_r0 arg18_r0 arg19_r0 k0_hw1 k0_h5 => k0_hw1.2.2.2.2.2.2.2.2.2.2.2.2.2.1 k0_h5
theorem k0_off20_inb : ∀ (i : grid0.Coords) (k0_t1 : Fin k0_t1_loop.trips) (arg9_r0 : BitVec 32) (arg10_r0 : BitVec 32) (arg11_r0 : BitVec 32) (arg12_r0 : BitVec 32) (arg13_r0 : BitVec 32) (arg14_r0 : BitVec 32) (arg15_r0 : BitVec 32) (arg16_r0 : BitVec 32) (arg17_r0 : BitVec 32) (arg18_r0 : BitVec 32) (arg19_r0 : BitVec 32) (k0_hw1 : k0_chk1 i k0_t1 arg9_r0 arg10_r0 arg11_r0 arg12_r0 arg13_r0 arg14_r0 arg15_r0 arg16_r0 arg17_r0 arg18_r0 arg19_r0), ∀ (k0_h5 : k0_cond5 i k0_t1 arg19_r0 = 1#1), ∀ a, (k0_off20 arg17_r0) a + S1.size a ≤ S2.size a := fun i k0_t1 arg9_r0 arg10_r0 arg11_r0 arg12_r0 arg13_r0 arg14_r0 arg15_r0 arg16_r0 arg17_r0 arg18_r0 arg19_r0 k0_hw1 k0_h5 => k0_hw1.2.2.2.2.2.2.2.2.2.2.2.2.2.2.1 k0_h5
theorem k0_off21_inb : ∀ (i : grid0.Coords) (k0_t1 : Fin k0_t1_loop.trips) (arg9_r0 : BitVec 32) (arg10_r0 : BitVec 32) (arg11_r0 : BitVec 32) (arg12_r0 : BitVec 32) (arg13_r0 : BitVec 32) (arg14_r0 : BitVec 32) (arg15_r0 : BitVec 32) (arg16_r0 : BitVec 32) (arg17_r0 : BitVec 32) (arg18_r0 : BitVec 32) (arg19_r0 : BitVec 32) (k0_hw1 : k0_chk1 i k0_t1 arg9_r0 arg10_r0 arg11_r0 arg12_r0 arg13_r0 arg14_r0 arg15_r0 arg16_r0 arg17_r0 arg18_r0 arg19_r0), ∀ (k0_h6 : k0_cond6 i k0_t1 arg19_r0 = 1#1), ∀ a, (k0_off21 arg10_r0) a + S1x128x128.size a ≤ S2x128x128.size a := fun i k0_t1 arg9_r0 arg10_r0 arg11_r0 arg12_r0 arg13_r0 arg14_r0 arg15_r0 arg16_r0 arg17_r0 arg18_r0 arg19_r0 k0_hw1 k0_h6 => k0_hw1.2.2.2.2.2.2.2.2.2.2.2.2.2.2.2.1 k0_h6
theorem k0_off22_inb : ∀ (i : grid0.Coords) (k0_t1 : Fin k0_t1_loop.trips) (arg9_r0 : BitVec 32) (arg10_r0 : BitVec 32) (arg11_r0 : BitVec 32) (arg12_r0 : BitVec 32) (arg13_r0 : BitVec 32) (arg14_r0 : BitVec 32) (arg15_r0 : BitVec 32) (arg16_r0 : BitVec 32) (arg17_r0 : BitVec 32) (arg18_r0 : BitVec 32) (arg19_r0 : BitVec 32) (k0_hw1 : k0_chk1 i k0_t1 arg9_r0 arg10_r0 arg11_r0 arg12_r0 arg13_r0 arg14_r0 arg15_r0 arg16_r0 arg17_r0 arg18_r0 arg19_r0), ∀ (k0_h6 : k0_cond6 i k0_t1 arg19_r0 = 1#1), ∀ a, (k0_off22 i arg19_r0) a + S128x128.size a ≤ S135168x128.size a := fun i k0_t1 arg9_r0 arg10_r0 arg11_r0 arg12_r0 arg13_r0 arg14_r0 arg15_r0 arg16_r0 arg17_r0 arg18_r0 arg19_r0 k0_hw1 k0_h6 => k0_hw1.2.2.2.2.2.2.2.2.2.2.2.2.2.2.2.2.1 k0_h6
theorem k0_off23_inb : ∀ (i : grid0.Coords) (k0_t1 : Fin k0_t1_loop.trips) (arg9_r0 : BitVec 32) (arg10_r0 : BitVec 32) (arg11_r0 : BitVec 32) (arg12_r0 : BitVec 32) (arg13_r0 : BitVec 32) (arg14_r0 : BitVec 32) (arg15_r0 : BitVec 32) (arg16_r0 : BitVec 32) (arg17_r0 : BitVec 32) (arg18_r0 : BitVec 32) (arg19_r0 : BitVec 32) (k0_hw1 : k0_chk1 i k0_t1 arg9_r0 arg10_r0 arg11_r0 arg12_r0 arg13_r0 arg14_r0 arg15_r0 arg16_r0 arg17_r0 arg18_r0 arg19_r0), ∀ (k0_h6 : k0_cond6 i k0_t1 arg19_r0 = 1#1), ∀ a, (k0_off23 arg10_r0) a + S1.size a ≤ S2.size a := fun i k0_t1 arg9_r0 arg10_r0 arg11_r0 arg12_r0 arg13_r0 arg14_r0 arg15_r0 arg16_r0 arg17_r0 arg18_r0 arg19_r0 k0_hw1 k0_h6 => k0_hw1.2.2.2.2.2.2.2.2.2.2.2.2.2.2.2.2.2.1 k0_h6
theorem k0_off24_inb : ∀ (i : grid0.Coords) (k0_t1 : Fin k0_t1_loop.trips) (arg9_r0 : BitVec 32) (arg10_r0 : BitVec 32) (arg11_r0 : BitVec 32) (arg12_r0 : BitVec 32) (arg13_r0 : BitVec 32) (arg14_r0 : BitVec 32) (arg15_r0 : BitVec 32) (arg16_r0 : BitVec 32) (arg17_r0 : BitVec 32) (arg18_r0 : BitVec 32) (arg19_r0 : BitVec 32) (k0_hw1 : k0_chk1 i k0_t1 arg9_r0 arg10_r0 arg11_r0 arg12_r0 arg13_r0 arg14_r0 arg15_r0 arg16_r0 arg17_r0 arg18_r0 arg19_r0), ∀ (k0_h7 : k0_cond7 i k0_t1 arg19_r0 = 1#1), ∀ a, (k0_off24 arg12_r0) a + S1x1x128.size a ≤ S2x1x128.size a := fun i k0_t1 arg9_r0 arg10_r0 arg11_r0 arg12_r0 arg13_r0 arg14_r0 arg15_r0 arg16_r0 arg17_r0 arg18_r0 arg19_r0 k0_hw1 k0_h7 => k0_hw1.2.2.2.2.2.2.2.2.2.2.2.2.2.2.2.2.2.2.1 k0_h7
theorem k0_off25_inb : ∀ (i : grid0.Coords) (k0_t1 : Fin k0_t1_loop.trips) (arg9_r0 : BitVec 32) (arg10_r0 : BitVec 32) (arg11_r0 : BitVec 32) (arg12_r0 : BitVec 32) (arg13_r0 : BitVec 32) (arg14_r0 : BitVec 32) (arg15_r0 : BitVec 32) (arg16_r0 : BitVec 32) (arg17_r0 : BitVec 32) (arg18_r0 : BitVec 32) (arg19_r0 : BitVec 32) (k0_hw1 : k0_chk1 i k0_t1 arg9_r0 arg10_r0 arg11_r0 arg12_r0 arg13_r0 arg14_r0 arg15_r0 arg16_r0 arg17_r0 arg18_r0 arg19_r0), ∀ (k0_h7 : k0_cond7 i k0_t1 arg19_r0 = 1#1), ∀ a, (k0_off25 i arg19_r0) a + S1x128.size a ≤ S1x135168.size a := fun i k0_t1 arg9_r0 arg10_r0 arg11_r0 arg12_r0 arg13_r0 arg14_r0 arg15_r0 arg16_r0 arg17_r0 arg18_r0 arg19_r0 k0_hw1 k0_h7 => k0_hw1.2.2.2.2.2.2.2.2.2.2.2.2.2.2.2.2.2.2.2.1 k0_h7
theorem k0_off26_inb : ∀ (i : grid0.Coords) (k0_t1 : Fin k0_t1_loop.trips) (arg9_r0 : BitVec 32) (arg10_r0 : BitVec 32) (arg11_r0 : BitVec 32) (arg12_r0 : BitVec 32) (arg13_r0 : BitVec 32) (arg14_r0 : BitVec 32) (arg15_r0 : BitVec 32) (arg16_r0 : BitVec 32) (arg17_r0 : BitVec 32) (arg18_r0 : BitVec 32) (arg19_r0 : BitVec 32) (k0_hw1 : k0_chk1 i k0_t1 arg9_r0 arg10_r0 arg11_r0 arg12_r0 arg13_r0 arg14_r0 arg15_r0 arg16_r0 arg17_r0 arg18_r0 arg19_r0), ∀ (k0_h7 : k0_cond7 i k0_t1 arg19_r0 = 1#1), ∀ a, (k0_off26 arg12_r0) a + S1.size a ≤ S2.size a := fun i k0_t1 arg9_r0 arg10_r0 arg11_r0 arg12_r0 arg13_r0 arg14_r0 arg15_r0 arg16_r0 arg17_r0 arg18_r0 arg19_r0 k0_hw1 k0_h7 => k0_hw1.2.2.2.2.2.2.2.2.2.2.2.2.2.2.2.2.2.2.2.2.1 k0_h7
theorem k0_off27_inb : ∀ (i : grid0.Coords) (k0_t1 : Fin k0_t1_loop.trips) (arg9_r0 : BitVec 32) (arg10_r0 : BitVec 32) (arg11_r0 : BitVec 32) (arg12_r0 : BitVec 32) (arg13_r0 : BitVec 32) (arg14_r0 : BitVec 32) (arg15_r0 : BitVec 32) (arg16_r0 : BitVec 32) (arg17_r0 : BitVec 32) (arg18_r0 : BitVec 32) (arg19_r0 : BitVec 32) (k0_hw1 : k0_chk1 i k0_t1 arg9_r0 arg10_r0 arg11_r0 arg12_r0 arg13_r0 arg14_r0 arg15_r0 arg16_r0 arg17_r0 arg18_r0 arg19_r0), ∀ (k0_h8 : k0_cond8 i k0_t1 arg19_r0 = 1#1), ∀ a, (k0_off27 arg14_r0) a + S1x1x128.size a ≤ S2x1x128.size a := fun i k0_t1 arg9_r0 arg10_r0 arg11_r0 arg12_r0 arg13_r0 arg14_r0 arg15_r0 arg16_r0 arg17_r0 arg18_r0 arg19_r0 k0_hw1 k0_h8 => k0_hw1.2.2.2.2.2.2.2.2.2.2.2.2.2.2.2.2.2.2.2.2.2.1 k0_h8
theorem k0_off28_inb : ∀ (i : grid0.Coords) (k0_t1 : Fin k0_t1_loop.trips) (arg9_r0 : BitVec 32) (arg10_r0 : BitVec 32) (arg11_r0 : BitVec 32) (arg12_r0 : BitVec 32) (arg13_r0 : BitVec 32) (arg14_r0 : BitVec 32) (arg15_r0 : BitVec 32) (arg16_r0 : BitVec 32) (arg17_r0 : BitVec 32) (arg18_r0 : BitVec 32) (arg19_r0 : BitVec 32) (k0_hw1 : k0_chk1 i k0_t1 arg9_r0 arg10_r0 arg11_r0 arg12_r0 arg13_r0 arg14_r0 arg15_r0 arg16_r0 arg17_r0 arg18_r0 arg19_r0), ∀ (k0_h8 : k0_cond8 i k0_t1 arg19_r0 = 1#1), ∀ a, (k0_off28 i arg19_r0) a + S1x128.size a ≤ S1x135168.size a := fun i k0_t1 arg9_r0 arg10_r0 arg11_r0 arg12_r0 arg13_r0 arg14_r0 arg15_r0 arg16_r0 arg17_r0 arg18_r0 arg19_r0 k0_hw1 k0_h8 => k0_hw1.2.2.2.2.2.2.2.2.2.2.2.2.2.2.2.2.2.2.2.2.2.2.1 k0_h8
theorem k0_off29_inb : ∀ (i : grid0.Coords) (k0_t1 : Fin k0_t1_loop.trips) (arg9_r0 : BitVec 32) (arg10_r0 : BitVec 32) (arg11_r0 : BitVec 32) (arg12_r0 : BitVec 32) (arg13_r0 : BitVec 32) (arg14_r0 : BitVec 32) (arg15_r0 : BitVec 32) (arg16_r0 : BitVec 32) (arg17_r0 : BitVec 32) (arg18_r0 : BitVec 32) (arg19_r0 : BitVec 32) (k0_hw1 : k0_chk1 i k0_t1 arg9_r0 arg10_r0 arg11_r0 arg12_r0 arg13_r0 arg14_r0 arg15_r0 arg16_r0 arg17_r0 arg18_r0 arg19_r0), ∀ (k0_h8 : k0_cond8 i k0_t1 arg19_r0 = 1#1), ∀ a, (k0_off29 arg14_r0) a + S1.size a ≤ S2.size a := fun i k0_t1 arg9_r0 arg10_r0 arg11_r0 arg12_r0 arg13_r0 arg14_r0 arg15_r0 arg16_r0 arg17_r0 arg18_r0 arg19_r0 k0_hw1 k0_h8 => k0_hw1.2.2.2.2.2.2.2.2.2.2.2.2.2.2.2.2.2.2.2.2.2.2.2.1 k0_h8
theorem k0_off30_inb : ∀ (i : grid0.Coords) (k0_t1 : Fin k0_t1_loop.trips) (arg9_r0 : BitVec 32) (arg10_r0 : BitVec 32) (arg11_r0 : BitVec 32) (arg12_r0 : BitVec 32) (arg13_r0 : BitVec 32) (arg14_r0 : BitVec 32) (arg15_r0 : BitVec 32) (arg16_r0 : BitVec 32) (arg17_r0 : BitVec 32) (arg18_r0 : BitVec 32) (arg19_r0 : BitVec 32) (k0_hw1 : k0_chk1 i k0_t1 arg9_r0 arg10_r0 arg11_r0 arg12_r0 arg13_r0 arg14_r0 arg15_r0 arg16_r0 arg17_r0 arg18_r0 arg19_r0), ∀ (k0_h9 : k0_cond9 i k0_t1 arg19_r0 = 1#1), ∀ a, (k0_off30 arg16_r0) a + S1x1x128.size a ≤ S2x1x128.size a := fun i k0_t1 arg9_r0 arg10_r0 arg11_r0 arg12_r0 arg13_r0 arg14_r0 arg15_r0 arg16_r0 arg17_r0 arg18_r0 arg19_r0 k0_hw1 k0_h9 => k0_hw1.2.2.2.2.2.2.2.2.2.2.2.2.2.2.2.2.2.2.2.2.2.2.2.2.1 k0_h9
theorem k0_off31_inb : ∀ (i : grid0.Coords) (k0_t1 : Fin k0_t1_loop.trips) (arg9_r0 : BitVec 32) (arg10_r0 : BitVec 32) (arg11_r0 : BitVec 32) (arg12_r0 : BitVec 32) (arg13_r0 : BitVec 32) (arg14_r0 : BitVec 32) (arg15_r0 : BitVec 32) (arg16_r0 : BitVec 32) (arg17_r0 : BitVec 32) (arg18_r0 : BitVec 32) (arg19_r0 : BitVec 32) (k0_hw1 : k0_chk1 i k0_t1 arg9_r0 arg10_r0 arg11_r0 arg12_r0 arg13_r0 arg14_r0 arg15_r0 arg16_r0 arg17_r0 arg18_r0 arg19_r0), ∀ (k0_h9 : k0_cond9 i k0_t1 arg19_r0 = 1#1), ∀ a, (k0_off31 i arg19_r0) a + S1x128.size a ≤ S1x135168.size a := fun i k0_t1 arg9_r0 arg10_r0 arg11_r0 arg12_r0 arg13_r0 arg14_r0 arg15_r0 arg16_r0 arg17_r0 arg18_r0 arg19_r0 k0_hw1 k0_h9 => k0_hw1.2.2.2.2.2.2.2.2.2.2.2.2.2.2.2.2.2.2.2.2.2.2.2.2.2.1 k0_h9
theorem k0_off32_inb : ∀ (i : grid0.Coords) (k0_t1 : Fin k0_t1_loop.trips) (arg9_r0 : BitVec 32) (arg10_r0 : BitVec 32) (arg11_r0 : BitVec 32) (arg12_r0 : BitVec 32) (arg13_r0 : BitVec 32) (arg14_r0 : BitVec 32) (arg15_r0 : BitVec 32) (arg16_r0 : BitVec 32) (arg17_r0 : BitVec 32) (arg18_r0 : BitVec 32) (arg19_r0 : BitVec 32) (k0_hw1 : k0_chk1 i k0_t1 arg9_r0 arg10_r0 arg11_r0 arg12_r0 arg13_r0 arg14_r0 arg15_r0 arg16_r0 arg17_r0 arg18_r0 arg19_r0), ∀ (k0_h9 : k0_cond9 i k0_t1 arg19_r0 = 1#1), ∀ a, (k0_off32 arg16_r0) a + S1.size a ≤ S2.size a := fun i k0_t1 arg9_r0 arg10_r0 arg11_r0 arg12_r0 arg13_r0 arg14_r0 arg15_r0 arg16_r0 arg17_r0 arg18_r0 arg19_r0 k0_hw1 k0_h9 => k0_hw1.2.2.2.2.2.2.2.2.2.2.2.2.2.2.2.2.2.2.2.2.2.2.2.2.2.2.1 k0_h9
theorem k0_off33_inb : ∀ (i : grid0.Coords) (k0_t1 : Fin k0_t1_loop.trips) (arg9_r0 : BitVec 32) (arg10_r0 : BitVec 32) (arg11_r0 : BitVec 32) (arg12_r0 : BitVec 32) (arg13_r0 : BitVec 32) (arg14_r0 : BitVec 32) (arg15_r0 : BitVec 32) (arg16_r0 : BitVec 32) (arg17_r0 : BitVec 32) (arg18_r0 : BitVec 32) (arg19_r0 : BitVec 32) (k0_hw1 : k0_chk1 i k0_t1 arg9_r0 arg10_r0 arg11_r0 arg12_r0 arg13_r0 arg14_r0 arg15_r0 arg16_r0 arg17_r0 arg18_r0 arg19_r0), ∀ (k0_h10 : k0_cond10 i k0_t1 arg19_r0 = 1#1), ∀ a, (k0_off33 arg18_r0) a + S1x1x128.size a ≤ S2x1x128.size a := fun i k0_t1 arg9_r0 arg10_r0 arg11_r0 arg12_r0 arg13_r0 arg14_r0 arg15_r0 arg16_r0 arg17_r0 arg18_r0 arg19_r0 k0_hw1 k0_h10 => k0_hw1.2.2.2.2.2.2.2.2.2.2.2.2.2.2.2.2.2.2.2.2.2.2.2.2.2.2.2.1 k0_h10
theorem k0_off34_inb : ∀ (i : grid0.Coords) (k0_t1 : Fin k0_t1_loop.trips) (arg9_r0 : BitVec 32) (arg10_r0 : BitVec 32) (arg11_r0 : BitVec 32) (arg12_r0 : BitVec 32) (arg13_r0 : BitVec 32) (arg14_r0 : BitVec 32) (arg15_r0 : BitVec 32) (arg16_r0 : BitVec 32) (arg17_r0 : BitVec 32) (arg18_r0 : BitVec 32) (arg19_r0 : BitVec 32) (k0_hw1 : k0_chk1 i k0_t1 arg9_r0 arg10_r0 arg11_r0 arg12_r0 arg13_r0 arg14_r0 arg15_r0 arg16_r0 arg17_r0 arg18_r0 arg19_r0), ∀ (k0_h10 : k0_cond10 i k0_t1 arg19_r0 = 1#1), ∀ a, (k0_off34 i arg19_r0) a + S1x128.size a ≤ S1x135168.size a := fun i k0_t1 arg9_r0 arg10_r0 arg11_r0 arg12_r0 arg13_r0 arg14_r0 arg15_r0 arg16_r0 arg17_r0 arg18_r0 arg19_r0 k0_hw1 k0_h10 => k0_hw1.2.2.2.2.2.2.2.2.2.2.2.2.2.2.2.2.2.2.2.2.2.2.2.2.2.2.2.2.1 k0_h10
theorem k0_off35_inb : ∀ (i : grid0.Coords) (k0_t1 : Fin k0_t1_loop.trips) (arg9_r0 : BitVec 32) (arg10_r0 : BitVec 32) (arg11_r0 : BitVec 32) (arg12_r0 : BitVec 32) (arg13_r0 : BitVec 32) (arg14_r0 : BitVec 32) (arg15_r0 : BitVec 32) (arg16_r0 : BitVec 32) (arg17_r0 : BitVec 32) (arg18_r0 : BitVec 32) (arg19_r0 : BitVec 32) (k0_hw1 : k0_chk1 i k0_t1 arg9_r0 arg10_r0 arg11_r0 arg12_r0 arg13_r0 arg14_r0 arg15_r0 arg16_r0 arg17_r0 arg18_r0 arg19_r0), ∀ (k0_h10 : k0_cond10 i k0_t1 arg19_r0 = 1#1), ∀ a, (k0_off35 arg18_r0) a + S1.size a ≤ S2.size a := fun i k0_t1 arg9_r0 arg10_r0 arg11_r0 arg12_r0 arg13_r0 arg14_r0 arg15_r0 arg16_r0 arg17_r0 arg18_r0 arg19_r0 k0_hw1 k0_h10 => k0_hw1.2.2.2.2.2.2.2.2.2.2.2.2.2.2.2.2.2.2.2.2.2.2.2.2.2.2.2.2.2 k0_h10

def k0_off36 (arg10_r0 : BitVec 32) : Fin 3 → Nat :=
  let c2_i32_149_r0 : BitVec 32 := 2#32
  let v199_r0 : BitVec 32 := Scalar.remui arg10_r0 c2_i32_149_r0
  let c0_i32_191_r1 : BitVec 32 := 0#32
  let c0_i32_192_r1 : BitVec 32 := 0#32
  ![v199_r0.toNat, 0, 0]

def k0_chk2 (arg10_r0 : BitVec 32) : Prop :=
  (∀ a, (k0_off36 arg10_r0) a + S1x128x128.size a ≤ S2x128x128.size a)
theorem k0_off36_inb : ∀ (arg10_r0 : BitVec 32) (k0_hw2 : k0_chk2 arg10_r0), ∀ a, (k0_off36 arg10_r0) a + S1x128x128.size a ≤ S2x128x128.size a := fun arg10_r0 k0_hw2 => k0_hw2

def k0_off37 (arg12_r0 : BitVec 32) : Fin 3 → Nat :=
  let c2_i32_150_r0 : BitVec 32 := 2#32
  let v200_r0 : BitVec 32 := Scalar.remui arg12_r0 c2_i32_150_r0
  let c0_i32_193_r1 : BitVec 32 := 0#32
  let c0_i32_194_r1 : BitVec 32 := 0#32
  ![v200_r0.toNat, 0, 0]

def k0_chk3 (arg12_r0 : BitVec 32) : Prop :=
  (∀ a, (k0_off37 arg12_r0) a + S1x1x128.size a ≤ S2x1x128.size a)
theorem k0_off37_inb : ∀ (arg12_r0 : BitVec 32) (k0_hw3 : k0_chk3 arg12_r0), ∀ a, (k0_off37 arg12_r0) a + S1x1x128.size a ≤ S2x1x128.size a := fun arg12_r0 k0_hw3 => k0_hw3

def k0_off38 (arg14_r0 : BitVec 32) : Fin 3 → Nat :=
  let c2_i32_151_r0 : BitVec 32 := 2#32
  let v201_r0 : BitVec 32 := Scalar.remui arg14_r0 c2_i32_151_r0
  let c0_i32_193_r2 : BitVec 32 := 0#32
  let c0_i32_194_r2 : BitVec 32 := 0#32
  ![v201_r0.toNat, 0, 0]

def k0_chk4 (arg14_r0 : BitVec 32) : Prop :=
  (∀ a, (k0_off38 arg14_r0) a + S1x1x128.size a ≤ S2x1x128.size a)
theorem k0_off38_inb : ∀ (arg14_r0 : BitVec 32) (k0_hw4 : k0_chk4 arg14_r0), ∀ a, (k0_off38 arg14_r0) a + S1x1x128.size a ≤ S2x1x128.size a := fun arg14_r0 k0_hw4 => k0_hw4

def k0_off39 (arg16_r0 : BitVec 32) : Fin 3 → Nat :=
  let c2_i32_152_r0 : BitVec 32 := 2#32
  let v202_r0 : BitVec 32 := Scalar.remui arg16_r0 c2_i32_152_r0
  let c0_i32_193_r3 : BitVec 32 := 0#32
  let c0_i32_194_r3 : BitVec 32 := 0#32
  ![v202_r0.toNat, 0, 0]

def k0_chk5 (arg16_r0 : BitVec 32) : Prop :=
  (∀ a, (k0_off39 arg16_r0) a + S1x1x128.size a ≤ S2x1x128.size a)
theorem k0_off39_inb : ∀ (arg16_r0 : BitVec 32) (k0_hw5 : k0_chk5 arg16_r0), ∀ a, (k0_off39 arg16_r0) a + S1x1x128.size a ≤ S2x1x128.size a := fun arg16_r0 k0_hw5 => k0_hw5

def k0_off40 (arg18_r0 : BitVec 32) : Fin 3 → Nat :=
  let c2_i32_153_r0 : BitVec 32 := 2#32
  let v203_r0 : BitVec 32 := Scalar.remui arg18_r0 c2_i32_153_r0
  let c0_i32_193_r4 : BitVec 32 := 0#32
  let c0_i32_194_r4 : BitVec 32 := 0#32
  ![v203_r0.toNat, 0, 0]

def k0_chk6 (arg18_r0 : BitVec 32) : Prop :=
  (∀ a, (k0_off40 arg18_r0) a + S1x1x128.size a ≤ S2x1x128.size a)
theorem k0_off40_inb : ∀ (arg18_r0 : BitVec 32) (k0_hw6 : k0_chk6 arg18_r0), ∀ a, (k0_off40 arg18_r0) a + S1x1x128.size a ≤ S2x1x128.size a := fun arg18_r0 k0_hw6 => k0_hw6

abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== Reference.lean ====
abbrev S4x33792x128 : Shape := ⟨3, ![4, 33792, 128]⟩
abbrev S33792x4 : Shape := ⟨2, ![33792, 4]⟩
abbrev S296 : Shape := ⟨1, ![296]⟩
abbrev S33792 : Shape := ⟨1, ![33792]⟩
abbrev S135168 : Shape := ⟨1, ![135168]⟩
abbrev S_ : Shape := ⟨0, ![]⟩
abbrev S151552 : Shape := ⟨1, ![151552]⟩
abbrev S135168x1 : Shape := ⟨2, ![135168, 1]⟩
abbrev S4x1x128 : Shape := ⟨3, ![4, 1, 128]⟩
abbrev S4x33793x128 : Shape := ⟨3, ![4, 33793, 128]⟩
abbrev S151552x1 : Shape := ⟨2, ![151552, 1]⟩
abbrev S4x151552x128 : Shape := ⟨3, ![4, 151552, 128]⟩

abbrev nBuf : Space → Nat
  | .hbm => 30
  | .vmem => 0
  | .smem => 0
  | _ => 0

abbrev bufTy : (tb : Table) → Fin (tcTables nBuf tb) → BufTy
  | .hbm, ⟨0, _⟩ => ⟨S4x33792x128, .i32⟩
  | .hbm, ⟨1, _⟩ => ⟨S33792x4, .i32⟩
  | .hbm, ⟨2, _⟩ => ⟨S296, .i32⟩
  | .hbm, ⟨3, _⟩ => ⟨S33792, .i32⟩
  | .hbm, ⟨4, _⟩ => ⟨S33792x4, .i32⟩
  | .hbm, ⟨5, _⟩ => ⟨S135168, .i32⟩
  | .hbm, ⟨6, _⟩ => ⟨S_, .i32⟩
  | .hbm, ⟨7, _⟩ => ⟨S151552, .i32⟩
  | .hbm, ⟨8, _⟩ => ⟨S135168, .i32⟩
  | .hbm, ⟨9, _⟩ => ⟨S_, .i32⟩
  | .hbm, ⟨10, _⟩ => ⟨S135168, .i32⟩
  | .hbm, ⟨11, _⟩ => ⟨S135168, .i1⟩
  | .hbm, ⟨12, _⟩ => ⟨S_, .i32⟩
  | .hbm, ⟨13, _⟩ => ⟨S135168, .i32⟩
  | .hbm, ⟨14, _⟩ => ⟨S135168, .i32⟩
  | .hbm, ⟨15, _⟩ => ⟨S135168, .i32⟩
  | .hbm, ⟨16, _⟩ => ⟨S135168x1, .i32⟩
  | .hbm, ⟨17, _⟩ => ⟨S151552, .i32⟩
  | .hbm, ⟨18, _⟩ => ⟨S_, .i32⟩
  | .hbm, ⟨19, _⟩ => ⟨S4x1x128, .i32⟩
  | .hbm, ⟨20, _⟩ => ⟨S4x33793x128, .i32⟩
  | .hbm, ⟨21, _⟩ => ⟨S_, .i32⟩
  | .hbm, ⟨22, _⟩ => ⟨S151552, .i32⟩
  | .hbm, ⟨23, _⟩ => ⟨S151552, .i1⟩
  | .hbm, ⟨24, _⟩ => ⟨S_, .i32⟩
  | .hbm, ⟨25, _⟩ => ⟨S151552, .i32⟩
  | .hbm, ⟨26, _⟩ => ⟨S151552, .i32⟩
  | .hbm, ⟨27, _⟩ => ⟨S151552, .i32⟩
  | .hbm, ⟨28, _⟩ => ⟨S151552x1, .i32⟩
  | .hbm, ⟨29, _⟩ => ⟨S4x151552x128, .i32⟩
  | _, _ => ⟨S4x33792x128, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_c : Ref sig .tc := ⟨.hbm, 6, rfl⟩
abbrev main_v3 : Ref sig .tc := ⟨.hbm, 7, rfl⟩
abbrev main_v4 : Ref sig .tc := ⟨.hbm, 8, rfl⟩
abbrev main_c_0 : Ref sig .tc := ⟨.hbm, 9, rfl⟩
abbrev main_v5 : Ref sig .tc := ⟨.hbm, 10, rfl⟩
abbrev main_v6 : Ref sig .tc := ⟨.hbm, 11, rfl⟩
abbrev main_c_1 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_c_2 : Ref sig .tc := ⟨.hbm, 18, rfl⟩
abbrev main_v12 : Ref sig .tc := ⟨.hbm, 19, rfl⟩
abbrev main_v13 : Ref sig .tc := ⟨.hbm, 20, rfl⟩
abbrev main_c_3 : Ref sig .tc := ⟨.hbm, 21, rfl⟩
abbrev main_v14 : Ref sig .tc := ⟨.hbm, 22, rfl⟩
abbrev main_v15 : Ref sig .tc := ⟨.hbm, 23, rfl⟩
abbrev main_c_4 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩

abbrev nD : Nat := 1
abbrev τ : Topo := Topo.v7x

variable {F : FTy → Type} [FloatOps F]
-- ==== Kernel2.lean ====
abbrev S33792x8x96 : Shape := ⟨3, ![33792, 8, 96]⟩
abbrev S33792x8x64 : Shape := ⟨3, ![33792, 8, 64]⟩
abbrev S_ : Shape := ⟨0, ![]⟩
abbrev S33792x8x128 : Shape := ⟨3, ![33792, 8, 128]⟩
abbrev S33792x1024 : Shape := ⟨2, ![33792, 1024]⟩
abbrev S33792x512 : Shape := ⟨2, ![33792, 512]⟩
abbrev S4x64 : Shape := ⟨2, ![4, 64]⟩
abbrev S1x128 : Shape := ⟨2, ![1, 128]⟩
abbrev S32768x512 : Shape := ⟨2, ![32768, 512]⟩
abbrev S512x256 : Shape := ⟨2, ![512, 256]⟩
abbrev S8192x256 : Shape := ⟨2, ![8192, 256]⟩
abbrev S8192x128 : Shape := ⟨2, ![8192, 128]⟩
abbrev S256x256 : Shape := ⟨2, ![256, 256]⟩
abbrev S256x128 : Shape := ⟨2, ![256, 128]⟩
abbrev S512x128 : Shape := ⟨2, ![512, 128]⟩
abbrev S1024x256 : Shape := ⟨2, ![1024, 256]⟩
abbrev S1024x1 : Shape := ⟨2, ![1024, 1]⟩
abbrev S1024x128 : Shape := ⟨2, ![1024, 128]⟩
abbrev S2048x256 : Shape := ⟨2, ![2048, 256]⟩
abbrev S2048x128 : Shape := ⟨2, ![2048, 128]⟩
abbrev S1024x2048 : Shape := ⟨2, ![1024, 2048]⟩
abbrev S1024 : Shape := ⟨1, ![1024]⟩

abbrev nBuf : Space → Nat
  | .hbm => 20
  | .vmem => 14
  | .smem => 0
  | _ => 0

abbrev bufTy : (tb : Table) → Fin (tcTables nBuf tb) → BufTy
  | .hbm, ⟨0, _⟩ => ⟨S33792x8x96, .f32⟩
  | .hbm, ⟨1, _⟩ => ⟨S33792x8x96, .f32⟩
  | .hbm, ⟨2, _⟩ => ⟨S33792x8x64, .f32⟩
  | .hbm, ⟨3, _⟩ => ⟨S_, .i32⟩
  | .hbm, ⟨4, _⟩ => ⟨S_, .f32⟩
  | .hbm, ⟨5, _⟩ => ⟨S33792x8x128, .f32⟩
  | .hbm, ⟨6, _⟩ => ⟨S33792x1024, .f32⟩
  | .hbm, ⟨7, _⟩ => ⟨S33792x1024, .bf16⟩
  | .hbm, ⟨8, _⟩ => ⟨S_, .i32⟩
  | .hbm, ⟨9, _⟩ => ⟨S_, .f32⟩
  | .hbm, ⟨10, _⟩ => ⟨S33792x8x128, .f32⟩
  | .hbm, ⟨11, _⟩ => ⟨S33792x1024, .f32⟩
  | .hbm, ⟨12, _⟩ => ⟨S33792x1024, .bf16⟩
  | .hbm, ⟨13, _⟩ => ⟨S33792x512, .f32⟩
  | .hbm, ⟨14, _⟩ => ⟨S33792x512, .bf16⟩
  | .hbm, ⟨15, _⟩ => ⟨S_, .f32⟩
  | .hbm, ⟨16, _⟩ => ⟨S4x64, .f32⟩
  | .hbm, ⟨17, _⟩ => ⟨S_, .f32⟩
  | .hbm, ⟨18, _⟩ => ⟨S1x128, .f32⟩
  | .hbm, ⟨19, _⟩ => ⟨S32768x512, .bf16⟩
  | .local _ .vmem, ⟨0, _⟩ => ⟨S512x256, .bf16⟩
  | .local _ .vmem, ⟨1, _⟩ => ⟨S512x256, .bf16⟩
  | .local _ .vmem, ⟨2, _⟩ => ⟨S8192x256, .bf16⟩
  | .local _ .vmem, ⟨3, _⟩ => ⟨S8192x256, .bf16⟩
  | .local _ .vmem, ⟨4, _⟩ => ⟨S8192x128, .bf16⟩
  | .local _ .vmem, ⟨5, _⟩ => ⟨S8192x128, .bf16⟩
  | .local _ .vmem, ⟨6, _⟩ => ⟨S256x256, .bf16⟩
  | .local _ .vmem, ⟨7, _⟩ => ⟨S256x256, .bf16⟩
  | .local _ .vmem, ⟨8, _⟩ => ⟨S256x128, .bf16⟩
  | .local _ .vmem, ⟨9, _⟩ => ⟨S256x128, .bf16⟩
  | .local _ .vmem, ⟨10, _⟩ => ⟨S4x64, .f32⟩
  | .local _ .vmem, ⟨11, _⟩ => ⟨S1x128, .f32⟩
  | .local _ .vmem, ⟨12, _⟩ => ⟨S512x128, .bf16⟩
  | .local _ .vmem, ⟨13, _⟩ => ⟨S512x128, .bf16⟩
  | _, _ => ⟨S33792x8x96, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_call0_v0 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_c_0 : Ref sig .tc := ⟨.hbm, 8, rfl⟩
abbrev main_call1_v0 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst : Ref sig .tc := ⟨.hbm, 15, rfl⟩
abbrev main_v8 : Ref sig .tc := ⟨.hbm, 16, rfl⟩
abbrev main_cst_1 : Ref sig .tc := ⟨.hbm, 17, rfl⟩
abbrev main_v9 : Ref sig .tc := ⟨.hbm, 18, rfl⟩
abbrev main_v10 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg7_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem7_1 : DmaSem sig := 13

abbrev nD : Nat := 1
abbrev τ : Topo := Topo.v7x

variable {F : FTy → Type} [FloatOps F]

abbrev grid0 : Pipeline.Grid := ⟨3, ![4, 4, 16], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c16_i32 : BitVec 32 := 16#32
  let v0 : BitVec 32 := Scalar.muli arg0 c16_i32
  let v1 : BitVec 32 := Scalar.addi v0 arg2
  let c0_i32 : BitVec 32 := 0#32
  ![v1.toNat, arg1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c128_i32 : BitVec 32 := 128#32
  let v0 : BitVec 32 := Scalar.addi c128_i32 arg0
  let c0_i32 : BitVec 32 := 0#32
  ![v0.toNat, arg1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c128_i32 : BitVec 32 := 128#32
  let v0 : BitVec 32 := Scalar.addi c128_i32 arg0
  let c0_i32 : BitVec 32 := 0#32
  ![v0.toNat, arg1.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c16_i32 : BitVec 32 := 16#32
  let v0 : BitVec 32 := Scalar.muli arg0 c16_i32
  let v1 : BitVec 32 := Scalar.addi v0 arg2
  let c0_i32 : BitVec 32 := 0#32
  ![v1.toNat, arg1.toNat]

abbrev stage0_0 : Fin 2 → Memref sig .tc .vmem S512x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S8192x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S8192x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S256x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 2 → Memref sig .tc .vmem S256x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 1 → Memref sig .tc .vmem S4x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false, false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false, false]

abbrev stage0_7 : Fin 2 → Memref sig .tc .vmem S512x128 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true, true]
-- ==== Kernel2Ideal.lean ====
variable {F : FTy → Type} [FloatOps F] [Named F]
def κ : String → Option EReal := fun
  | "mask" => some ⊥
  | "scale" => some (((3424635 / 33554432) * (Real.log 2)⁻¹ : ℝ) : EReal)
  | _ => none
-- ==== Reference2Ideal.lean ====
abbrev S33792x8x96 : Shape := ⟨3, ![33792, 8, 96]⟩
abbrev S33792x8x64 : Shape := ⟨3, ![33792, 8, 64]⟩
abbrev S32768x8x96 : Shape := ⟨3, ![32768, 8, 96]⟩
abbrev S4x8192x8x96 : Shape := ⟨4, ![4, 8192, 8, 96]⟩
abbrev S1024x8x96 : Shape := ⟨3, ![1024, 8, 96]⟩
abbrev S4x256x8x96 : Shape := ⟨4, ![4, 256, 8, 96]⟩
abbrev S4x8448x8x96 : Shape := ⟨4, ![4, 8448, 8, 96]⟩
abbrev S4x8x8192x8448 : Shape := ⟨4, ![4, 8, 8192, 8448]⟩
abbrev S_ : Shape := ⟨0, ![]⟩
abbrev S4x8x8192 : Shape := ⟨3, ![4, 8, 8192]⟩
abbrev S4x8x8192x1 : Shape := ⟨4, ![4, 8, 8192, 1]⟩
abbrev S32768x8x64 : Shape := ⟨3, ![32768, 8, 64]⟩
abbrev S4x8192x8x64 : Shape := ⟨4, ![4, 8192, 8, 64]⟩
abbrev S1024x8x64 : Shape := ⟨3, ![1024, 8, 64]⟩
abbrev S4x256x8x64 : Shape := ⟨4, ![4, 256, 8, 64]⟩
abbrev S4x8448x8x64 : Shape := ⟨4, ![4, 8448, 8, 64]⟩
abbrev S4x8x64x8192 : Shape := ⟨4, ![4, 8, 64, 8192]⟩
abbrev S32768x512 : Shape := ⟨2, ![32768, 512]⟩

abbrev nBuf : Space → Nat
  | .hbm => 37
  | .vmem => 0
  | .smem => 0
  | _ => 0

abbrev bufTy : (tb : Table) → Fin (tcTables nBuf tb) → BufTy
  | .hbm, ⟨0, _⟩ => ⟨S33792x8x96, .f32⟩
  | .hbm, ⟨1, _⟩ => ⟨S33792x8x96, .f32⟩
  | .hbm, ⟨2, _⟩ => ⟨S33792x8x64, .f32⟩
  | .hbm, ⟨3, _⟩ => ⟨S32768x8x96, .f32⟩
  | .hbm, ⟨4, _⟩ => ⟨S4x8192x8x96, .f32⟩
  | .hbm, ⟨5, _⟩ => ⟨S32768x8x96, .f32⟩
  | .hbm, ⟨6, _⟩ => ⟨S4x8192x8x96, .f32⟩
  | .hbm, ⟨7, _⟩ => ⟨S1024x8x96, .f32⟩
  | .hbm, ⟨8, _⟩ => ⟨S4x256x8x96, .f32⟩
  | .hbm, ⟨9, _⟩ => ⟨S4x8448x8x96, .f32⟩
  | .hbm, ⟨10, _⟩ => ⟨S4x8x8192x8448, .f32⟩
  | .hbm, ⟨11, _⟩ => ⟨S_, .f32⟩
  | .hbm, ⟨12, _⟩ => ⟨S4x8x8192x8448, .f32⟩
  | .hbm, ⟨13, _⟩ => ⟨S4x8x8192x8448, .f32⟩
  | .hbm, ⟨14, _⟩ => ⟨S_, .f32⟩
  | .hbm, ⟨15, _⟩ => ⟨S4x8x8192, .f32⟩
  | .hbm, ⟨16, _⟩ => ⟨S_, .f32⟩
  | .hbm, ⟨17, _⟩ => ⟨S4x8x8192, .f32⟩
  | .hbm, ⟨18, _⟩ => ⟨S4x8x8192, .f32⟩
  | .hbm, ⟨19, _⟩ => ⟨S4x8x8192x1, .f32⟩
  | .hbm, ⟨20, _⟩ => ⟨S4x8x8192x8448, .f32⟩
  | .hbm, ⟨21, _⟩ => ⟨S4x8x8192x8448, .f32⟩
  | .hbm, ⟨22, _⟩ => ⟨S4x8x8192x8448, .f32⟩
  | .hbm, ⟨23, _⟩ => ⟨S_, .f32⟩
  | .hbm, ⟨24, _⟩ => ⟨S4x8x8192, .f32⟩
  | .hbm, ⟨25, _⟩ => ⟨S4x8x8192x1, .f32⟩
  | .hbm, ⟨26, _⟩ => ⟨S4x8x8192x8448, .f32⟩
  | .hbm, ⟨27, _⟩ => ⟨S4x8x8192x8448, .f32⟩
  | .hbm, ⟨28, _⟩ => ⟨S32768x8x64, .f32⟩
  | .hbm, ⟨29, _⟩ => ⟨S4x8192x8x64, .f32⟩
  | .hbm, ⟨30, _⟩ => ⟨S1024x8x64, .f32⟩
  | .hbm, ⟨31, _⟩ => ⟨S4x256x8x64, .f32⟩
  | .hbm, ⟨32, _⟩ => ⟨S4x8448x8x64, .f32⟩
  | .hbm, ⟨33, _⟩ => ⟨S4x8x64x8192, .f32⟩
  | .hbm, ⟨34, _⟩ => ⟨S4x8192x8x64, .f32⟩
  | .hbm, ⟨35, _⟩ => ⟨S32768x512, .f32⟩
  | .hbm, ⟨36, _⟩ => ⟨S32768x512, .bf16⟩
  | _, _ => ⟨S33792x8x96, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_cst : Ref sig .tc := ⟨.hbm, 11, rfl⟩
abbrev main_v8 : Ref sig .tc := ⟨.hbm, 12, rfl⟩
abbrev main_v9 : Ref sig .tc := ⟨.hbm, 13, rfl⟩
abbrev main_cst_0 : Ref sig .tc := ⟨.hbm, 14, rfl⟩
abbrev main_v10 : Ref sig .tc := ⟨.hbm, 15, rfl⟩
abbrev main_cst_1 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_cst_2 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩

abbrev nD : Nat := 1
abbrev τ : Topo := Topo.v7x

variable {F : FTy → Type} [FloatOps F]
-- ==== Kernel3.lean ====
abbrev S4x8192x1024 : Shape := ⟨3, ![4, 8192, 1024]⟩
abbrev S4x8192x4x1024 : Shape := ⟨4, ![4, 8192, 4, 1024]⟩
abbrev S4x8192x4 : Shape := ⟨3, ![4, 8192, 4]⟩
abbrev S4x1x6144 : Shape := ⟨3, ![4, 1, 6144]⟩
abbrev S1024 : Shape := ⟨1, ![1024]⟩
abbrev S32768x1024 : Shape := ⟨2, ![32768, 1024]⟩
abbrev S32768x4x4x256 : Shape := ⟨4, ![32768, 4, 4, 256]⟩
abbrev S4x4x32768x256 : Shape := ⟨4, ![4, 4, 32768, 256]⟩
abbrev S32768x4 : Shape := ⟨2, ![32768, 4]⟩
abbrev S_ : Shape := ⟨0, ![]⟩
abbrev S32768x128 : Shape := ⟨2, ![32768, 128]⟩
abbrev S4x6144 : Shape := ⟨2, ![4, 6144]⟩
abbrev S8x6144 : Shape := ⟨2, ![8, 6144]⟩
abbrev S48x1x1024 : Shape := ⟨3, ![48, 1, 1024]⟩
abbrev S1x1024 : Shape := ⟨2, ![1, 1024]⟩
abbrev S512x1024 : Shape := ⟨2, ![512, 1024]⟩
abbrev S4x4x512x256 : Shape := ⟨4, ![4, 4, 512, 256]⟩
abbrev S512x128 : Shape := ⟨2, ![512, 128]⟩
abbrev S1x1x1024 : Shape := ⟨3, ![1, 1, 1024]⟩
abbrev S1x1x512x256 : Shape := ⟨4, ![1, 1, 512, 256]⟩
abbrev S512x256 : Shape := ⟨2, ![512, 256]⟩
abbrev S512x1 : Shape := ⟨2, ![512, 1]⟩
abbrev S512 : Shape := ⟨1, ![512]⟩

abbrev nBuf : Space → Nat
  | .hbm => 19
  | .vmem => 11
  | .smem => 0
  | _ => 0

abbrev bufTy : (tb : Table) → Fin (tcTables nBuf tb) → BufTy
  | .hbm, ⟨0, _⟩ => ⟨S4x8192x1024, .f32⟩
  | .hbm, ⟨1, _⟩ => ⟨S4x8192x4x1024, .f32⟩
  | .hbm, ⟨2, _⟩ => ⟨S4x8192x4, .f32⟩
  | .hbm, ⟨3, _⟩ => ⟨S4x1x6144, .f32⟩
  | .hbm, ⟨4, _⟩ => ⟨S1024, .f32⟩
  | .hbm, ⟨5, _⟩ => ⟨S32768x1024, .f32⟩
  | .hbm, ⟨6, _⟩ => ⟨S32768x4x4x256, .f32⟩
  | .hbm, ⟨7, _⟩ => ⟨S4x4x32768x256, .f32⟩
  | .hbm, ⟨8, _⟩ => ⟨S32768x4, .f32⟩
  | .hbm, ⟨9, _⟩ => ⟨S_, .i32⟩
  | .hbm, ⟨10, _⟩ => ⟨S_, .f32⟩
  | .hbm, ⟨11, _⟩ => ⟨S32768x128, .f32⟩
  | .hbm, ⟨12, _⟩ => ⟨S4x6144, .f32⟩
  | .hbm, ⟨13, _⟩ => ⟨S_, .i32⟩
  | .hbm, ⟨14, _⟩ => ⟨S_, .f32⟩
  | .hbm, ⟨15, _⟩ => ⟨S8x6144, .f32⟩
  | .hbm, ⟨16, _⟩ => ⟨S48x1x1024, .f32⟩
  | .hbm, ⟨17, _⟩ => ⟨S1x1024, .f32⟩
  | .hbm, ⟨18, _⟩ => ⟨S32768x1024, .f32⟩
  | .local _ .vmem, ⟨0, _⟩ => ⟨S512x1024, .f32⟩
  | .local _ .vmem, ⟨1, _⟩ => ⟨S512x1024, .f32⟩
  | .local _ .vmem, ⟨2, _⟩ => ⟨S4x4x512x256, .f32⟩
  | .local _ .vmem, ⟨3, _⟩ => ⟨S4x4x512x256, .f32⟩
  | .local _ .vmem, ⟨4, _⟩ => ⟨S512x128, .f32⟩
  | .local _ .vmem, ⟨5, _⟩ => ⟨S512x128, .f32⟩
  | .local _ .vmem, ⟨6, _⟩ => ⟨S1x1x1024, .f32⟩
  | .local _ .vmem, ⟨7, _⟩ => ⟨S1x1x1024, .f32⟩
  | .local _ .vmem, ⟨8, _⟩ => ⟨S1x1024, .f32⟩
  | .local _ .vmem, ⟨9, _⟩ => ⟨S512x1024, .f32⟩
  | .local _ .vmem, ⟨10, _⟩ => ⟨S512x1024, .f32⟩
  | _, _ => ⟨S4x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_c : Ref sig .tc := ⟨.hbm, 9, rfl⟩
abbrev main_call0_v0 : Ref sig .tc := ⟨.hbm, 10, rfl⟩
abbrev main_v4 : Ref sig .tc := ⟨.hbm, 11, rfl⟩
abbrev main_v5 : Ref sig .tc := ⟨.hbm, 12, rfl⟩
abbrev main_c_0 : Ref sig .tc := ⟨.hbm, 13, rfl⟩
abbrev main_call1_v0 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg5_1 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, arg0.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let c16_i32 : BitVec 32 := 16#32
  let v0 : BitVec 32 := Scalar.divsi arg0 c16_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c16_i32 c0_i32_1
  let v7 : BitVec 32 := Scalar.extui v6
  let c0_i32_2 : BitVec 32 := 0#32
  let v8 : BitVec 1 := Scalar.cmpi .slt c16_i32 c0_i32_2
  let v9 : BitVec 32 := Scalar.extui v8
  let v10 : BitVec 32 := Scalar.subi v7 v9
  let v11 : BitVec 1 := Scalar.cmpi .ne v5 v10
  let v12 : BitVec 32 := Scalar.remsi arg0 c16_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c4_i32 : BitVec 32 := 4#32
  let v17 : BitVec 32 := Scalar.minsi v16 c4_i32
  let c6_i32 : BitVec 32 := 6#32
  let v18 : BitVec 32 := Scalar.muli v17 c6_i32
  let c5_i32 : BitVec 32 := 5#32
  let v19 : BitVec 32 := Scalar.addi v18 c5_i32
  let c0_i32_4 : BitVec 32 := 0#32
  let c0_i32_5 : BitVec 32 := 0#32
  let c0_i32_6 : BitVec 32 := 0#32
  ![v19.toNat, c0_i32_4.toNat, c0_i32_5.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4x4x512x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== Reference3Ideal.lean ====
abbrev S4x8192x1024 : Shape := ⟨3, ![4, 8192, 1024]⟩
abbrev S4x8192x4x1024 : Shape := ⟨4, ![4, 8192, 4, 1024]⟩
abbrev S4x8192x4 : Shape := ⟨3, ![4, 8192, 4]⟩
abbrev S4x1x6144 : Shape := ⟨3, ![4, 1, 6144]⟩
abbrev S1024 : Shape := ⟨1, ![1024]⟩
abbrev S4x1x1024 : Shape := ⟨3, ![4, 1, 1024]⟩
abbrev S4x8192x4x1 : Shape := ⟨4, ![4, 8192, 4, 1]⟩
abbrev S_ : Shape := ⟨0, ![]⟩
abbrev S4x8192 : Shape := ⟨2, ![4, 8192]⟩
abbrev S4x8192x1 : Shape := ⟨3, ![4, 8192, 1]⟩
abbrev S1x1x1024 : Shape := ⟨3, ![1, 1, 1024]⟩
abbrev S32768x1024 : Shape := ⟨2, ![32768, 1024]⟩

abbrev nBuf : Space → Nat
  | .hbm => 36
  | .vmem => 0
  | .smem => 0
  | _ => 0

abbrev bufTy : (tb : Table) → Fin (tcTables nBuf tb) → BufTy
  | .hbm, ⟨0, _⟩ => ⟨S4x8192x1024, .f32⟩
  | .hbm, ⟨1, _⟩ => ⟨S4x8192x4x1024, .f32⟩
  | .hbm, ⟨2, _⟩ => ⟨S4x8192x4, .f32⟩
  | .hbm, ⟨3, _⟩ => ⟨S4x1x6144, .f32⟩
  | .hbm, ⟨4, _⟩ => ⟨S1024, .f32⟩
  | .hbm, ⟨5, _⟩ => ⟨S4x1x1024, .f32⟩
  | .hbm, ⟨6, _⟩ => ⟨S4x1x1024, .f32⟩
  | .hbm, ⟨7, _⟩ => ⟨S4x1x1024, .f32⟩
  | .hbm, ⟨8, _⟩ => ⟨S4x1x1024, .f32⟩
  | .hbm, ⟨9, _⟩ => ⟨S4x1x1024, .f32⟩
  | .hbm, ⟨10, _⟩ => ⟨S4x1x1024, .f32⟩
  | .hbm, ⟨11, _⟩ => ⟨S4x8192x4x1, .f32⟩
  | .hbm, ⟨12, _⟩ => ⟨S4x8192x4x1024, .f32⟩
  | .hbm, ⟨13, _⟩ => ⟨S4x8192x4x1024, .f32⟩
  | .hbm, ⟨14, _⟩ => ⟨S_, .f32⟩
  | .hbm, ⟨15, _⟩ => ⟨S4x8192x1024, .f32⟩
  | .hbm, ⟨16, _⟩ => ⟨S4x8192x1024, .f32⟩
  | .hbm, ⟨17, _⟩ => ⟨S4x8192x1024, .f32⟩
  | .hbm, ⟨18, _⟩ => ⟨S4x8192x1024, .f32⟩
  | .hbm, ⟨19, _⟩ => ⟨S4x8192x1024, .f32⟩
  | .hbm, ⟨20, _⟩ => ⟨S_, .f32⟩
  | .hbm, ⟨21, _⟩ => ⟨S4x8192, .f32⟩
  | .hbm, ⟨22, _⟩ => ⟨S4x8192x1, .f32⟩
  | .hbm, ⟨23, _⟩ => ⟨S_, .f32⟩
  | .hbm, ⟨24, _⟩ => ⟨S4x8192x1, .f32⟩
  | .hbm, ⟨25, _⟩ => ⟨S4x8192x1, .f32⟩
  | .hbm, ⟨26, _⟩ => ⟨S_, .f32⟩
  | .hbm, ⟨27, _⟩ => ⟨S4x8192x1, .f32⟩
  | .hbm, ⟨28, _⟩ => ⟨S4x8192x1, .f32⟩
  | .hbm, ⟨29, _⟩ => ⟨S4x8192x1, .f32⟩
  | .hbm, ⟨30, _⟩ => ⟨S4x8192x1024, .f32⟩
  | .hbm, ⟨31, _⟩ => ⟨S4x8192x1024, .f32⟩
  | .hbm, ⟨32, _⟩ => ⟨S1x1x1024, .f32⟩
  | .hbm, ⟨33, _⟩ => ⟨S4x8192x1024, .f32⟩
  | .hbm, ⟨34, _⟩ => ⟨S4x8192x1024, .f32⟩
  | .hbm, ⟨35, _⟩ => ⟨S32768x1024, .f32⟩
  | _, _ => ⟨S4x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_cst : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_cst_0 : Ref sig .tc := ⟨.hbm, 20, rfl⟩
abbrev main_v14 : Ref sig .tc := ⟨.hbm, 21, rfl⟩
abbrev main_v15 : Ref sig .tc := ⟨.hbm, 22, rfl⟩
abbrev main_cst_1 : Ref sig .tc := ⟨.hbm, 23, rfl⟩
abbrev main_v16 : Ref sig .tc := ⟨.hbm, 24, rfl⟩
abbrev main_v17 : Ref sig .tc := ⟨.hbm, 25, rfl⟩
abbrev main_cst_2 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩

abbrev nD : Nat := 1
abbrev τ : Topo := Topo.v7x

variable {F : FTy → Type} [FloatOps F]
-- ==== Kernel4.lean ====
abbrev S33792x4x2x64 : Shape := ⟨4, ![33792, 4, 2, 64]⟩
abbrev S33792x4x128 : Shape := ⟨3, ![33792, 4, 128]⟩
abbrev S64 : Shape := ⟨1, ![64]⟩
abbrev S128 : Shape := ⟨1, ![128]⟩
abbrev S33792x512 : Shape := ⟨2, ![33792, 512]⟩
abbrev S1x64 : Shape := ⟨2, ![1, 64]⟩
abbrev S4x64 : Shape := ⟨2, ![4, 64]⟩
abbrev S1x128 : Shape := ⟨2, ![1, 128]⟩
abbrev S32768x512 : Shape := ⟨2, ![32768, 512]⟩
abbrev S512x128 : Shape := ⟨2, ![512, 128]⟩
abbrev S8192x128 : Shape := ⟨2, ![8192, 128]⟩
abbrev S256x128 : Shape := ⟨2, ![256, 128]⟩
abbrev S1024x128 : Shape := ⟨2, ![1024, 128]⟩
abbrev S1024x1 : Shape := ⟨2, ![1024, 1]⟩
abbrev S2048x128 : Shape := ⟨2, ![2048, 128]⟩
abbrev S1024x2048 : Shape := ⟨2, ![1024, 2048]⟩
abbrev S1024 : Shape := ⟨1, ![1024]⟩
abbrev S1024x256 : Shape := ⟨2, ![1024, 256]⟩
abbrev S1 : Shape := ⟨1, ![1]⟩
abbrev S1x1 : Shape := ⟨2, ![1, 1]⟩
abbrev S512 : Shape := ⟨1, ![512]⟩
abbrev S512x1 : Shape := ⟨2, ![512, 1]⟩

abbrev nBuf : Space → Nat
  | .hbm => 21
  | .vmem => 14
  | .smem => 0
  | _ => 0

abbrev bufTy : (tb : Table) → Fin (tcTables nBuf tb) → BufTy
  | .hbm, ⟨0, _⟩ => ⟨S33792x4x2x64, .f32⟩
  | .hbm, ⟨1, _⟩ => ⟨S33792x4x2x64, .f32⟩
  | .hbm, ⟨2, _⟩ => ⟨S33792x4x128, .f32⟩
  | .hbm, ⟨3, _⟩ => ⟨S64, .f32⟩
  | .hbm, ⟨4, _⟩ => ⟨S64, .f32⟩
  | .hbm, ⟨5, _⟩ => ⟨S64, .f32⟩
  | .hbm, ⟨6, _⟩ => ⟨S64, .f32⟩
  | .hbm, ⟨7, _⟩ => ⟨S128, .f32⟩
  | .hbm, ⟨8, _⟩ => ⟨S33792x512, .f32⟩
  | .hbm, ⟨9, _⟩ => ⟨S33792x512, .bf16⟩
  | .hbm, ⟨10, _⟩ => ⟨S33792x512, .f32⟩
  | .hbm, ⟨11, _⟩ => ⟨S33792x512, .bf16⟩
  | .hbm, ⟨12, _⟩ => ⟨S33792x512, .f32⟩
  | .hbm, ⟨13, _⟩ => ⟨S33792x512, .bf16⟩
  | .hbm, ⟨14, _⟩ => ⟨S1x64, .f32⟩
  | .hbm, ⟨15, _⟩ => ⟨S1x64, .f32⟩
  | .hbm, ⟨16, _⟩ => ⟨S1x64, .f32⟩
  | .hbm, ⟨17, _⟩ => ⟨S1x64, .f32⟩
  | .hbm, ⟨18, _⟩ => ⟨S4x64, .f32⟩
  | .hbm, ⟨19, _⟩ => ⟨S1x128, .f32⟩
  | .hbm, ⟨20, _⟩ => ⟨S32768x512, .bf16⟩
  | .local _ .vmem, ⟨0, _⟩ => ⟨S512x128, .bf16⟩
  | .local _ .vmem, ⟨1, _⟩ => ⟨S512x128, .bf16⟩
  | .local _ .vmem, ⟨2, _⟩ => ⟨S8192x128, .bf16⟩
  | .local _ .vmem, ⟨3, _⟩ => ⟨S8192x128, .bf16⟩
  | .local _ .vmem, ⟨4, _⟩ => ⟨S8192x128, .bf16⟩
  | .local _ .vmem, ⟨5, _⟩ => ⟨S8192x128, .bf16⟩
  | .local _ .vmem, ⟨6, _⟩ => ⟨S256x128, .bf16⟩
  | .local _ .vmem, ⟨7, _⟩ => ⟨S256x128, .bf16⟩
  | .local _ .vmem, ⟨8, _⟩ => ⟨S256x128, .bf16⟩
  | .local _ .vmem, ⟨9, _⟩ => ⟨S256x128, .bf16⟩
  | .local _ .vmem, ⟨10, _⟩ => ⟨S4x64, .f32⟩
  | .local _ .vmem, ⟨11, _⟩ => ⟨S1x128, .f32⟩
  | .local _ .vmem, ⟨12, _⟩ => ⟨S512x128, .bf16⟩
  | .local _ .vmem, ⟨13, _⟩ => ⟨S512x128, .bf16⟩
  | _, _ => ⟨S33792x4x2x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg7_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem7_1 : DmaSem sig := 13

abbrev nD : Nat := 1
abbrev τ : Topo := Topo.v7x

variable {F : FTy → Type} [FloatOps F]

abbrev grid0 : Pipeline.Grid := ⟨3, ![4, 4, 16], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c16_i32 : BitVec 32 := 16#32
  let v0 : BitVec 32 := Scalar.muli arg0 c16_i32
  let v1 : BitVec 32 := Scalar.addi v0 arg2
  let c0_i32 : BitVec 32 := 0#32
  ![v1.toNat, arg1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c128_i32 : BitVec 32 := 128#32
  let v0 : BitVec 32 := Scalar.addi c128_i32 arg0
  let c0_i32 : BitVec 32 := 0#32
  ![v0.toNat, arg1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c128_i32 : BitVec 32 := 128#32
  let v0 : BitVec 32 := Scalar.addi c128_i32 arg0
  let c0_i32 : BitVec 32 := 0#32
  ![v0.toNat, arg1.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c16_i32 : BitVec 32 := 16#32
  let v0 : BitVec 32 := Scalar.muli arg0 c16_i32
  let v1 : BitVec 32 := Scalar.addi v0 arg2
  let c0_i32 : BitVec 32 := 0#32
  ![v1.toNat, arg1.toNat]

abbrev stage0_0 : Fin 2 → Memref sig .tc .vmem S512x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S8192x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S8192x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S256x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 2 → Memref sig .tc .vmem S256x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 1 → Memref sig .tc .vmem S4x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false, false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false, false]

abbrev stage0_7 : Fin 2 → Memref sig .tc .vmem S512x128 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true, true]
-- ==== Kernel4Ideal.lean ====
variable {F : FTy → Type} [FloatOps F] [Named F]
def κ : String → Option EReal := fun
  | "mask" => some ⊥
  | "scale" => some (((1 / 8) * (Real.log 2)⁻¹ : ℝ) : EReal)
  | _ => none
-- ==== Reference4Ideal.lean ====
abbrev S33792x4x2x64 : Shape := ⟨4, ![33792, 4, 2, 64]⟩
abbrev S33792x4x128 : Shape := ⟨3, ![33792, 4, 128]⟩
abbrev S64 : Shape := ⟨1, ![64]⟩
abbrev S128 : Shape := ⟨1, ![128]⟩
abbrev S_ : Shape := ⟨0, ![]⟩
abbrev S32768x4x2x64 : Shape := ⟨4, ![32768, 4, 2, 64]⟩
abbrev S4x8192x4x2x64 : Shape := ⟨5, ![4, 8192, 4, 2, 64]⟩
abbrev S1024x4x2x64 : Shape := ⟨4, ![1024, 4, 2, 64]⟩
abbrev S4x256x4x2x64 : Shape := ⟨5, ![4, 256, 4, 2, 64]⟩
abbrev S4x8448x4x2x64 : Shape := ⟨5, ![4, 8448, 4, 2, 64]⟩
abbrev S4x4x2x8192x8448 : Shape := ⟨5, ![4, 4, 2, 8192, 8448]⟩
abbrev S4x4x2x8192 : Shape := ⟨4, ![4, 4, 2, 8192]⟩
abbrev S4x4x2x8192x1 : Shape := ⟨5, ![4, 4, 2, 8192, 1]⟩
abbrev S4x4x1x8192x8448 : Shape := ⟨5, ![4, 4, 1, 8192, 8448]⟩
abbrev S4x4x8192x8448 : Shape := ⟨4, ![4, 4, 8192, 8448]⟩
abbrev S32768x4x128 : Shape := ⟨3, ![32768, 4, 128]⟩
abbrev S4x8192x4x128 : Shape := ⟨4, ![4, 8192, 4, 128]⟩
abbrev S1024x4x128 : Shape := ⟨3, ![1024, 4, 128]⟩
abbrev S4x256x4x128 : Shape := ⟨4, ![4, 256, 4, 128]⟩
abbrev S4x8448x4x128 : Shape := ⟨4, ![4, 8448, 4, 128]⟩
abbrev S4x4x128x8192 : Shape := ⟨4, ![4, 4, 128, 8192]⟩
abbrev S4x8192x4 : Shape := ⟨3, ![4, 8192, 4]⟩
abbrev S4x8192x4x1 : Shape := ⟨4, ![4, 8192, 4, 1]⟩
abbrev S1x1x1x128 : Shape := ⟨4, ![1, 1, 1, 128]⟩
abbrev S32768x512 : Shape := ⟨2, ![32768, 512]⟩

abbrev nBuf : Space → Nat
  | .hbm => 79
  | .vmem => 0
  | .smem => 0
  | _ => 0

abbrev bufTy : (tb : Table) → Fin (tcTables nBuf tb) → BufTy
  | .hbm, ⟨0, _⟩ => ⟨S33792x4x2x64, .f32⟩
  | .hbm, ⟨1, _⟩ => ⟨S33792x4x2x64, .f32⟩
  | .hbm, ⟨2, _⟩ => ⟨S33792x4x128, .f32⟩
  | .hbm, ⟨3, _⟩ => ⟨S64, .f32⟩
  | .hbm, ⟨4, _⟩ => ⟨S64, .f32⟩
  | .hbm, ⟨5, _⟩ => ⟨S64, .f32⟩
  | .hbm, ⟨6, _⟩ => ⟨S64, .f32⟩
  | .hbm, ⟨7, _⟩ => ⟨S128, .f32⟩
  | .hbm, ⟨8, _⟩ => ⟨S64, .f32⟩
  | .hbm, ⟨9, _⟩ => ⟨S_, .f32⟩
  | .hbm, ⟨10, _⟩ => ⟨S_, .f32⟩
  | .hbm, ⟨11, _⟩ => ⟨S_, .f32⟩
  | .hbm, ⟨12, _⟩ => ⟨S64, .f32⟩
  | .hbm, ⟨13, _⟩ => ⟨S_, .f32⟩
  | .hbm, ⟨14, _⟩ => ⟨S_, .f32⟩
  | .hbm, ⟨15, _⟩ => ⟨S_, .f32⟩
  | .hbm, ⟨16, _⟩ => ⟨S_, .f32⟩
  | .hbm, ⟨17, _⟩ => ⟨S_, .f32⟩
  | .hbm, ⟨18, _⟩ => ⟨S_, .f32⟩
  | .hbm, ⟨19, _⟩ => ⟨S32768x4x2x64, .f32⟩
  | .hbm, ⟨20, _⟩ => ⟨S4x8192x4x2x64, .f32⟩
  | .hbm, ⟨21, _⟩ => ⟨S32768x4x2x64, .f32⟩
  | .hbm, ⟨22, _⟩ => ⟨S4x8192x4x2x64, .f32⟩
  | .hbm, ⟨23, _⟩ => ⟨S1024x4x2x64, .f32⟩
  | .hbm, ⟨24, _⟩ => ⟨S4x256x4x2x64, .f32⟩
  | .hbm, ⟨25, _⟩ => ⟨S4x8448x4x2x64, .f32⟩
  | .hbm, ⟨26, _⟩ => ⟨S4x4x2x8192x8448, .f32⟩
  | .hbm, ⟨27, _⟩ => ⟨S_, .f32⟩
  | .hbm, ⟨28, _⟩ => ⟨S4x4x2x8192x8448, .f32⟩
  | .hbm, ⟨29, _⟩ => ⟨S4x4x2x8192x8448, .f32⟩
  | .hbm, ⟨30, _⟩ => ⟨S_, .f32⟩
  | .hbm, ⟨31, _⟩ => ⟨S4x4x2x8192, .f32⟩
  | .hbm, ⟨32, _⟩ => ⟨S_, .f32⟩
  | .hbm, ⟨33, _⟩ => ⟨S4x4x2x8192, .f32⟩
  | .hbm, ⟨34, _⟩ => ⟨S4x4x2x8192, .f32⟩
  | .hbm, ⟨35, _⟩ => ⟨S4x4x2x8192x1, .f32⟩
  | .hbm, ⟨36, _⟩ => ⟨S4x4x2x8192x8448, .f32⟩
  | .hbm, ⟨37, _⟩ => ⟨S4x4x2x8192x8448, .f32⟩
  | .hbm, ⟨38, _⟩ => ⟨S4x4x2x8192x8448, .f32⟩
  | .hbm, ⟨39, _⟩ => ⟨S_, .f32⟩
  | .hbm, ⟨40, _⟩ => ⟨S4x4x2x8192, .f32⟩
  | .hbm, ⟨41, _⟩ => ⟨S4x4x2x8192x1, .f32⟩
  | .hbm, ⟨42, _⟩ => ⟨S4x4x2x8192x8448, .f32⟩
  | .hbm, ⟨43, _⟩ => ⟨S4x4x2x8192x8448, .f32⟩
  | .hbm, ⟨44, _⟩ => ⟨S4x4x1x8192x8448, .f32⟩
  | .hbm, ⟨45, _⟩ => ⟨S4x4x8192x8448, .f32⟩
  | .hbm, ⟨46, _⟩ => ⟨S4x4x1x8192x8448, .f32⟩
  | .hbm, ⟨47, _⟩ => ⟨S4x4x8192x8448, .f32⟩
  | .hbm, ⟨48, _⟩ => ⟨S4x4x8192x8448, .f32⟩
  | .hbm, ⟨49, _⟩ => ⟨S4x4x8192x8448, .f32⟩
  | .hbm, ⟨50, _⟩ => ⟨S4x4x8192x8448, .f32⟩
  | .hbm, ⟨51, _⟩ => ⟨S32768x4x128, .f32⟩
  | .hbm, ⟨52, _⟩ => ⟨S4x8192x4x128, .f32⟩
  | .hbm, ⟨53, _⟩ => ⟨S1024x4x128, .f32⟩
  | .hbm, ⟨54, _⟩ => ⟨S4x256x4x128, .f32⟩
  | .hbm, ⟨55, _⟩ => ⟨S4x8448x4x128, .f32⟩
  | .hbm, ⟨56, _⟩ => ⟨S4x4x128x8192, .f32⟩
  | .hbm, ⟨57, _⟩ => ⟨S4x8192x4x128, .f32⟩
  | .hbm, ⟨58, _⟩ => ⟨S4x8192x4x128, .f32⟩
  | .hbm, ⟨59, _⟩ => ⟨S_, .f32⟩
  | .hbm, ⟨60, _⟩ => ⟨S4x8192x4, .f32⟩
  | .hbm, ⟨61, _⟩ => ⟨S4x8192x4x1, .f32⟩
  | .hbm, ⟨62, _⟩ => ⟨S_, .f32⟩
  | .hbm, ⟨63, _⟩ => ⟨S4x8192x4x1, .f32⟩
  | .hbm, ⟨64, _⟩ => ⟨S4x8192x4x1, .f32⟩
  | .hbm, ⟨65, _⟩ => ⟨S_, .f32⟩
  | .hbm, ⟨66, _⟩ => ⟨S4x8192x4x1, .f32⟩
  | .hbm, ⟨67, _⟩ => ⟨S4x8192x4x1, .f32⟩
  | .hbm, ⟨68, _⟩ => ⟨S4x8192x4x1, .f32⟩
  | .hbm, ⟨69, _⟩ => ⟨S4x8192x4x128, .f32⟩
  | .hbm, ⟨70, _⟩ => ⟨S4x8192x4x128, .f32⟩
  | .hbm, ⟨71, _⟩ => ⟨S1x1x1x128, .f32⟩
  | .hbm, ⟨72, _⟩ => ⟨S4x8192x4x128, .f32⟩
  | .hbm, ⟨73, _⟩ => ⟨S4x8192x4x128, .f32⟩
  | .hbm, ⟨74, _⟩ => ⟨S_, .f32⟩
  | .hbm, ⟨75, _⟩ => ⟨S4x8192x4x128, .f32⟩
  | .hbm, ⟨76, _⟩ => ⟨S4x8192x4x128, .f32⟩
  | .hbm, ⟨77, _⟩ => ⟨S32768x512, .f32⟩
  | .hbm, ⟨78, _⟩ => ⟨S32768x512, .bf16⟩
  | _, _ => ⟨S33792x4x2x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_cst : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_cst_0 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_cst_1 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_cst_2 : Ref sig .tc := ⟨.hbm, 27, rfl⟩
abbrev main_v16 : Ref sig .tc := ⟨.hbm, 28, rfl⟩
abbrev main_v17 : Ref sig .tc := ⟨.hbm, 29, rfl⟩
abbrev main_cst_3 : Ref sig .tc := ⟨.hbm, 30, rfl⟩
abbrev main_v18 : Ref sig .tc := ⟨.hbm, 31, rfl⟩
abbrev main_cst_4 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_cst_5 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_cst_6 : Ref sig .tc := ⟨.hbm, 59, rfl⟩
abbrev main_v44 : Ref sig .tc := ⟨.hbm, 60, rfl⟩
abbrev main_v45 : Ref sig .tc := ⟨.hbm, 61, rfl⟩
abbrev main_cst_7 : Ref sig .tc := ⟨.hbm, 62, rfl⟩
abbrev main_v46 : Ref sig .tc := ⟨.hbm, 63, rfl⟩
abbrev main_v47 : Ref sig .tc := ⟨.hbm, 64, rfl⟩
abbrev main_cst_8 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩
abbrev main_v54 : Ref sig .tc := ⟨.hbm, 72, rfl⟩
abbrev main_v55 : Ref sig .tc := ⟨.hbm, 73, rfl⟩
abbrev main_cst_9 : Ref sig .tc := ⟨.hbm, 74, rfl⟩
abbrev main_v56 : Ref sig .tc := ⟨.hbm, 75, rfl⟩
abbrev main_v57 : Ref sig .tc := ⟨.hbm, 76, rfl⟩
abbrev main_v58 : Ref sig .tc := ⟨.hbm, 77, rfl⟩
abbrev main_v59 : Ref sig .tc := ⟨.hbm, 78, rfl⟩

abbrev nD : Nat := 1
abbrev τ : Topo := Topo.v7x

variable {F : FTy → Type} [FloatOps F]
-- ==== Kernel5.lean ====
abbrev S33792x4x2x64 : Shape := ⟨4, ![33792, 4, 2, 64]⟩
abbrev S33792x4x128 : Shape := ⟨3, ![33792, 4, 128]⟩
abbrev S64 : Shape := ⟨1, ![64]⟩
abbrev S128 : Shape := ⟨1, ![128]⟩
abbrev S33792x512 : Shape := ⟨2, ![33792, 512]⟩
abbrev S1x64 : Shape := ⟨2, ![1, 64]⟩
abbrev S4x64 : Shape := ⟨2, ![4, 64]⟩
abbrev S1x128 : Shape := ⟨2, ![1, 128]⟩
abbrev S32768x512 : Shape := ⟨2, ![32768, 512]⟩
abbrev S512x128 : Shape := ⟨2, ![512, 128]⟩
abbrev S8192x128 : Shape := ⟨2, ![8192, 128]⟩
abbrev S256x128 : Shape := ⟨2, ![256, 128]⟩
abbrev S1024x128 : Shape := ⟨2, ![1024, 128]⟩
abbrev S1024x1 : Shape := ⟨2, ![1024, 1]⟩
abbrev S2048x128 : Shape := ⟨2, ![2048, 128]⟩
abbrev S1024x2048 : Shape := ⟨2, ![1024, 2048]⟩
abbrev S1024 : Shape := ⟨1, ![1024]⟩
abbrev S1024x256 : Shape := ⟨2, ![1024, 256]⟩
abbrev S1 : Shape := ⟨1, ![1]⟩
abbrev S1x1 : Shape := ⟨2, ![1, 1]⟩
abbrev S512 : Shape := ⟨1, ![512]⟩
abbrev S512x1 : Shape := ⟨2, ![512, 1]⟩

abbrev nBuf : Space → Nat
  | .hbm => 21
  | .vmem => 14
  | .smem => 0
  | _ => 0

abbrev bufTy : (tb : Table) → Fin (tcTables nBuf tb) → BufTy
  | .hbm, ⟨0, _⟩ => ⟨S33792x4x2x64, .f32⟩
  | .hbm, ⟨1, _⟩ => ⟨S33792x4x2x64, .f32⟩
  | .hbm, ⟨2, _⟩ => ⟨S33792x4x128, .f32⟩
  | .hbm, ⟨3, _⟩ => ⟨S64, .f32⟩
  | .hbm, ⟨4, _⟩ => ⟨S64, .f32⟩
  | .hbm, ⟨5, _⟩ => ⟨S64, .f32⟩
  | .hbm, ⟨6, _⟩ => ⟨S64, .f32⟩
  | .hbm, ⟨7, _⟩ => ⟨S128, .f32⟩
  | .hbm, ⟨8, _⟩ => ⟨S33792x512, .f32⟩
  | .hbm, ⟨9, _⟩ => ⟨S33792x512, .bf16⟩
  | .hbm, ⟨10, _⟩ => ⟨S33792x512, .f32⟩
  | .hbm, ⟨11, _⟩ => ⟨S33792x512, .bf16⟩
  | .hbm, ⟨12, _⟩ => ⟨S33792x512, .f32⟩
  | .hbm, ⟨13, _⟩ => ⟨S33792x512, .bf16⟩
  | .hbm, ⟨14, _⟩ => ⟨S1x64, .f32⟩
  | .hbm, ⟨15, _⟩ => ⟨S1x64, .f32⟩
  | .hbm, ⟨16, _⟩ => ⟨S1x64, .f32⟩
  | .hbm, ⟨17, _⟩ => ⟨S1x64, .f32⟩
  | .hbm, ⟨18, _⟩ => ⟨S4x64, .f32⟩
  | .hbm, ⟨19, _⟩ => ⟨S1x128, .f32⟩
  | .hbm, ⟨20, _⟩ => ⟨S32768x512, .bf16⟩
  | .local _ .vmem, ⟨0, _⟩ => ⟨S512x128, .bf16⟩
  | .local _ .vmem, ⟨1, _⟩ => ⟨S512x128, .bf16⟩
  | .local _ .vmem, ⟨2, _⟩ => ⟨S8192x128, .bf16⟩
  | .local _ .vmem, ⟨3, _⟩ => ⟨S8192x128, .bf16⟩
  | .local _ .vmem, ⟨4, _⟩ => ⟨S8192x128, .bf16⟩
  | .local _ .vmem, ⟨5, _⟩ => ⟨S8192x128, .bf16⟩
  | .local _ .vmem, ⟨6, _⟩ => ⟨S256x128, .bf16⟩
  | .local _ .vmem, ⟨7, _⟩ => ⟨S256x128, .bf16⟩
  | .local _ .vmem, ⟨8, _⟩ => ⟨S256x128, .bf16⟩
  | .local _ .vmem, ⟨9, _⟩ => ⟨S256x128, .bf16⟩
  | .local _ .vmem, ⟨10, _⟩ => ⟨S4x64, .f32⟩
  | .local _ .vmem, ⟨11, _⟩ => ⟨S1x128, .f32⟩
  | .local _ .vmem, ⟨12, _⟩ => ⟨S512x128, .bf16⟩
  | .local _ .vmem, ⟨13, _⟩ => ⟨S512x128, .bf16⟩
  | _, _ => ⟨S33792x4x2x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg7_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem7_1 : DmaSem sig := 13

abbrev nD : Nat := 1
abbrev τ : Topo := Topo.v7x

variable {F : FTy → Type} [FloatOps F]

abbrev grid0 : Pipeline.Grid := ⟨3, ![4, 4, 16], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c16_i32 : BitVec 32 := 16#32
  let v0 : BitVec 32 := Scalar.muli arg0 c16_i32
  let v1 : BitVec 32 := Scalar.addi v0 arg2
  let c0_i32 : BitVec 32 := 0#32
  ![v1.toNat, arg1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c128_i32 : BitVec 32 := 128#32
  let v0 : BitVec 32 := Scalar.addi c128_i32 arg0
  let c0_i32 : BitVec 32 := 0#32
  ![v0.toNat, arg1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c128_i32 : BitVec 32 := 128#32
  let v0 : BitVec 32 := Scalar.addi c128_i32 arg0
  let c0_i32 : BitVec 32 := 0#32
  ![v0.toNat, arg1.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c16_i32 : BitVec 32 := 16#32
  let v0 : BitVec 32 := Scalar.muli arg0 c16_i32
  let v1 : BitVec 32 := Scalar.addi v0 arg2
  let c0_i32 : BitVec 32 := 0#32
  ![v1.toNat, arg1.toNat]

abbrev stage0_0 : Fin 2 → Memref sig .tc .vmem S512x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S8192x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S8192x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S256x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 2 → Memref sig .tc .vmem S256x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 1 → Memref sig .tc .vmem S4x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false, false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false, false]

abbrev stage0_7 : Fin 2 → Memref sig .tc .vmem S512x128 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true, true]
-- ==== Kernel5Ideal.lean ====
variable {F : FTy → Type} [FloatOps F] [Named F]
def κ : String → Option EReal := fun
  | "mask" => some ⊥
  | "scale" => some (((1 / 8) * (Real.log 2)⁻¹ : ℝ) : EReal)
  | _ => none
-- ==== Reference5Ideal.lean ====
abbrev S33792x4x2x64 : Shape := ⟨4, ![33792, 4, 2, 64]⟩
abbrev S33792x4x128 : Shape := ⟨3, ![33792, 4, 128]⟩
abbrev S64 : Shape := ⟨1, ![64]⟩
abbrev S128 : Shape := ⟨1, ![128]⟩
abbrev S_ : Shape := ⟨0, ![]⟩
abbrev S32768x4x2x64 : Shape := ⟨4, ![32768, 4, 2, 64]⟩
abbrev S4x8192x4x2x64 : Shape := ⟨5, ![4, 8192, 4, 2, 64]⟩
abbrev S1024x4x2x64 : Shape := ⟨4, ![1024, 4, 2, 64]⟩
abbrev S4x256x4x2x64 : Shape := ⟨5, ![4, 256, 4, 2, 64]⟩
abbrev S4x8448x4x2x64 : Shape := ⟨5, ![4, 8448, 4, 2, 64]⟩
abbrev S4x4x2x8192x8448 : Shape := ⟨5, ![4, 4, 2, 8192, 8448]⟩
abbrev S4x4x2x8192 : Shape := ⟨4, ![4, 4, 2, 8192]⟩
abbrev S4x4x2x8192x1 : Shape := ⟨5, ![4, 4, 2, 8192, 1]⟩
abbrev S4x4x1x8192x8448 : Shape := ⟨5, ![4, 4, 1, 8192, 8448]⟩
abbrev S4x4x8192x8448 : Shape := ⟨4, ![4, 4, 8192, 8448]⟩
abbrev S32768x4x128 : Shape := ⟨3, ![32768, 4, 128]⟩
abbrev S4x8192x4x128 : Shape := ⟨4, ![4, 8192, 4, 128]⟩
abbrev S1024x4x128 : Shape := ⟨3, ![1024, 4, 128]⟩
abbrev S4x256x4x128 : Shape := ⟨4, ![4, 256, 4, 128]⟩
abbrev S4x8448x4x128 : Shape := ⟨4, ![4, 8448, 4, 128]⟩
abbrev S4x4x128x8192 : Shape := ⟨4, ![4, 4, 128, 8192]⟩
abbrev S4x8192x4 : Shape := ⟨3, ![4, 8192, 4]⟩
abbrev S4x8192x4x1 : Shape := ⟨4, ![4, 8192, 4, 1]⟩
abbrev S1x1x1x128 : Shape := ⟨4, ![1, 1, 1, 128]⟩
abbrev S32768x512 : Shape := ⟨2, ![32768, 512]⟩

abbrev nBuf : Space → Nat
  | .hbm => 79
  | .vmem => 0
  | .smem => 0
  | _ => 0

abbrev bufTy : (tb : Table) → Fin (tcTables nBuf tb) → BufTy
  | .hbm, ⟨0, _⟩ => ⟨S33792x4x2x64, .f32⟩
  | .hbm, ⟨1, _⟩ => ⟨S33792x4x2x64, .f32⟩
  | .hbm, ⟨2, _⟩ => ⟨S33792x4x128, .f32⟩
  | .hbm, ⟨3, _⟩ => ⟨S64, .f32⟩
  | .hbm, ⟨4, _⟩ => ⟨S64, .f32⟩
  | .hbm, ⟨5, _⟩ => ⟨S64, .f32⟩
  | .hbm, ⟨6, _⟩ => ⟨S64, .f32⟩
  | .hbm, ⟨7, _⟩ => ⟨S128, .f32⟩
  | .hbm, ⟨8, _⟩ => ⟨S64, .f32⟩
  | .hbm, ⟨9, _⟩ => ⟨S_, .f32⟩
  | .hbm, ⟨10, _⟩ => ⟨S_, .f32⟩
  | .hbm, ⟨11, _⟩ => ⟨S_, .f32⟩
  | .hbm, ⟨12, _⟩ => ⟨S64, .f32⟩
  | .hbm, ⟨13, _⟩ => ⟨S_, .f32⟩
  | .hbm, ⟨14, _⟩ => ⟨S_, .f32⟩
  | .hbm, ⟨15, _⟩ => ⟨S_, .f32⟩
  | .hbm, ⟨16, _⟩ => ⟨S_, .f32⟩
  | .hbm, ⟨17, _⟩ => ⟨S_, .f32⟩
  | .hbm, ⟨18, _⟩ => ⟨S_, .f32⟩
  | .hbm, ⟨19, _⟩ => ⟨S32768x4x2x64, .f32⟩
  | .hbm, ⟨20, _⟩ => ⟨S4x8192x4x2x64, .f32⟩
  | .hbm, ⟨21, _⟩ => ⟨S32768x4x2x64, .f32⟩
  | .hbm, ⟨22, _⟩ => ⟨S4x8192x4x2x64, .f32⟩
  | .hbm, ⟨23, _⟩ => ⟨S1024x4x2x64, .f32⟩
  | .hbm, ⟨24, _⟩ => ⟨S4x256x4x2x64, .f32⟩
  | .hbm, ⟨25, _⟩ => ⟨S4x8448x4x2x64, .f32⟩
  | .hbm, ⟨26, _⟩ => ⟨S4x4x2x8192x8448, .f32⟩
  | .hbm, ⟨27, _⟩ => ⟨S_, .f32⟩
  | .hbm, ⟨28, _⟩ => ⟨S4x4x2x8192x8448, .f32⟩
  | .hbm, ⟨29, _⟩ => ⟨S4x4x2x8192x8448, .f32⟩
  | .hbm, ⟨30, _⟩ => ⟨S_, .f32⟩
  | .hbm, ⟨31, _⟩ => ⟨S4x4x2x8192, .f32⟩
  | .hbm, ⟨32, _⟩ => ⟨S_, .f32⟩
  | .hbm, ⟨33, _⟩ => ⟨S4x4x2x8192, .f32⟩
  | .hbm, ⟨34, _⟩ => ⟨S4x4x2x8192, .f32⟩
  | .hbm, ⟨35, _⟩ => ⟨S4x4x2x8192x1, .f32⟩
  | .hbm, ⟨36, _⟩ => ⟨S4x4x2x8192x8448, .f32⟩
  | .hbm, ⟨37, _⟩ => ⟨S4x4x2x8192x8448, .f32⟩
  | .hbm, ⟨38, _⟩ => ⟨S4x4x2x8192x8448, .f32⟩
  | .hbm, ⟨39, _⟩ => ⟨S_, .f32⟩
  | .hbm, ⟨40, _⟩ => ⟨S4x4x2x8192, .f32⟩
  | .hbm, ⟨41, _⟩ => ⟨S4x4x2x8192x1, .f32⟩
  | .hbm, ⟨42, _⟩ => ⟨S4x4x2x8192x8448, .f32⟩
  | .hbm, ⟨43, _⟩ => ⟨S4x4x2x8192x8448, .f32⟩
  | .hbm, ⟨44, _⟩ => ⟨S4x4x1x8192x8448, .f32⟩
  | .hbm, ⟨45, _⟩ => ⟨S4x4x8192x8448, .f32⟩
  | .hbm, ⟨46, _⟩ => ⟨S4x4x1x8192x8448, .f32⟩
  | .hbm, ⟨47, _⟩ => ⟨S4x4x8192x8448, .f32⟩
  | .hbm, ⟨48, _⟩ => ⟨S4x4x8192x8448, .f32⟩
  | .hbm, ⟨49, _⟩ => ⟨S4x4x8192x8448, .f32⟩
  | .hbm, ⟨50, _⟩ => ⟨S4x4x8192x8448, .f32⟩
  | .hbm, ⟨51, _⟩ => ⟨S32768x4x128, .f32⟩
  | .hbm, ⟨52, _⟩ => ⟨S4x8192x4x128, .f32⟩
  | .hbm, ⟨53, _⟩ => ⟨S1024x4x128, .f32⟩
  | .hbm, ⟨54, _⟩ => ⟨S4x256x4x128, .f32⟩
  | .hbm, ⟨55, _⟩ => ⟨S4x8448x4x128, .f32⟩
  | .hbm, ⟨56, _⟩ => ⟨S4x4x128x8192, .f32⟩
  | .hbm, ⟨57, _⟩ => ⟨S4x8192x4x128, .f32⟩
  | .hbm, ⟨58, _⟩ => ⟨S4x8192x4x128, .f32⟩
  | .hbm, ⟨59, _⟩ => ⟨S_, .f32⟩
  | .hbm, ⟨60, _⟩ => ⟨S4x8192x4, .f32⟩
  | .hbm, ⟨61, _⟩ => ⟨S4x8192x4x1, .f32⟩
  | .hbm, ⟨62, _⟩ => ⟨S_, .f32⟩
  | .hbm, ⟨63, _⟩ => ⟨S4x8192x4x1, .f32⟩
  | .hbm, ⟨64, _⟩ => ⟨S4x8192x4x1, .f32⟩
  | .hbm, ⟨65, _⟩ => ⟨S_, .f32⟩
  | .hbm, ⟨66, _⟩ => ⟨S4x8192x4x1, .f32⟩
  | .hbm, ⟨67, _⟩ => ⟨S4x8192x4x1, .f32⟩
  | .hbm, ⟨68, _⟩ => ⟨S4x8192x4x1, .f32⟩
  | .hbm, ⟨69, _⟩ => ⟨S4x8192x4x128, .f32⟩
  | .hbm, ⟨70, _⟩ => ⟨S4x8192x4x128, .f32⟩
  | .hbm, ⟨71, _⟩ => ⟨S1x1x1x128, .f32⟩
  | .hbm, ⟨72, _⟩ => ⟨S4x8192x4x128, .f32⟩
  | .hbm, ⟨73, _⟩ => ⟨S4x8192x4x128, .f32⟩
  | .hbm, ⟨74, _⟩ => ⟨S_, .f32⟩
  | .hbm, ⟨75, _⟩ => ⟨S4x8192x4x128, .f32⟩
  | .hbm, ⟨76, _⟩ => ⟨S4x8192x4x128, .f32⟩
  | .hbm, ⟨77, _⟩ => ⟨S32768x512, .f32⟩
  | .hbm, ⟨78, _⟩ => ⟨S32768x512, .bf16⟩
  | _, _ => ⟨S33792x4x2x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_cst : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_cst_0 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_cst_1 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_cst_2 : Ref sig .tc := ⟨.hbm, 27, rfl⟩
abbrev main_v16 : Ref sig .tc := ⟨.hbm, 28, rfl⟩
abbrev main_v17 : Ref sig .tc := ⟨.hbm, 29, rfl⟩
abbrev main_cst_3 : Ref sig .tc := ⟨.hbm, 30, rfl⟩
abbrev main_v18 : Ref sig .tc := ⟨.hbm, 31, rfl⟩
abbrev main_cst_4 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_cst_5 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_cst_6 : Ref sig .tc := ⟨.hbm, 59, rfl⟩
abbrev main_v44 : Ref sig .tc := ⟨.hbm, 60, rfl⟩
abbrev main_v45 : Ref sig .tc := ⟨.hbm, 61, rfl⟩
abbrev main_cst_7 : Ref sig .tc := ⟨.hbm, 62, rfl⟩
abbrev main_v46 : Ref sig .tc := ⟨.hbm, 63, rfl⟩
abbrev main_v47 : Ref sig .tc := ⟨.hbm, 64, rfl⟩
abbrev main_cst_8 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩
abbrev main_v54 : Ref sig .tc := ⟨.hbm, 72, rfl⟩
abbrev main_v55 : Ref sig .tc := ⟨.hbm, 73, rfl⟩
abbrev main_cst_9 : Ref sig .tc := ⟨.hbm, 74, rfl⟩
abbrev main_v56 : Ref sig .tc := ⟨.hbm, 75, rfl⟩
abbrev main_v57 : Ref sig .tc := ⟨.hbm, 76, rfl⟩
abbrev main_v58 : Ref sig .tc := ⟨.hbm, 77, rfl⟩
abbrev main_v59 : Ref sig .tc := ⟨.hbm, 78, rfl⟩

abbrev nD : Nat := 1
abbrev τ : Topo := Topo.v7x

variable {F : FTy → Type} [FloatOps F]
-- ==== Kernel6.lean ====
abbrev S4x8192x1024 : Shape := ⟨3, ![4, 8192, 1024]⟩
abbrev S4x256x1024 : Shape := ⟨3, ![4, 256, 1024]⟩
abbrev S1024 : Shape := ⟨1, ![1024]⟩
abbrev S4x1x6144 : Shape := ⟨3, ![4, 1, 6144]⟩
abbrev S6144 : Shape := ⟨1, ![6144]⟩
abbrev S1024x6816 : Shape := ⟨2, ![1024, 6816]⟩
abbrev S32768x1024 : Shape := ⟨2, ![32768, 1024]⟩
abbrev S1024x1024 : Shape := ⟨2, ![1024, 1024]⟩
abbrev S33792x1024 : Shape := ⟨2, ![33792, 1024]⟩
abbrev S4x6144 : Shape := ⟨2, ![4, 6144]⟩
abbrev S1x6144 : Shape := ⟨2, ![1, 6144]⟩
abbrev S_ : Shape := ⟨0, ![]⟩
abbrev S3x6144 : Shape := ⟨2, ![3, 6144]⟩
abbrev S8x6144 : Shape := ⟨2, ![8, 6144]⟩
abbrev S48x1x1024 : Shape := ⟨3, ![48, 1, 1024]⟩
abbrev S1x1024 : Shape := ⟨2, ![1, 1024]⟩
abbrev S1024x3072 : Shape := ⟨2, ![1024, 3072]⟩
abbrev S33792x3072 : Shape := ⟨2, ![33792, 3072]⟩
abbrev S512x1024 : Shape := ⟨2, ![512, 1024]⟩
abbrev S1x1x1024 : Shape := ⟨3, ![1, 1, 1024]⟩
abbrev S512x3072 : Shape := ⟨2, ![512, 3072]⟩
abbrev S512 : Shape := ⟨1, ![512]⟩
abbrev S512x1 : Shape := ⟨2, ![512, 1]⟩

abbrev nBuf : Space → Nat
  | .hbm => 19
  | .vmem => 10
  | .smem => 0
  | _ => 0

abbrev bufTy : (tb : Table) → Fin (tcTables nBuf tb) → BufTy
  | .hbm, ⟨0, _⟩ => ⟨S4x8192x1024, .f32⟩
  | .hbm, ⟨1, _⟩ => ⟨S4x256x1024, .f32⟩
  | .hbm, ⟨2, _⟩ => ⟨S1024, .f32⟩
  | .hbm, ⟨3, _⟩ => ⟨S4x1x6144, .f32⟩
  | .hbm, ⟨4, _⟩ => ⟨S6144, .f32⟩
  | .hbm, ⟨5, _⟩ => ⟨S1024x6816, .f32⟩
  | .hbm, ⟨6, _⟩ => ⟨S32768x1024, .f32⟩
  | .hbm, ⟨7, _⟩ => ⟨S1024x1024, .f32⟩
  | .hbm, ⟨8, _⟩ => ⟨S33792x1024, .f32⟩
  | .hbm, ⟨9, _⟩ => ⟨S4x6144, .f32⟩
  | .hbm, ⟨10, _⟩ => ⟨S1x6144, .f32⟩
  | .hbm, ⟨11, _⟩ => ⟨S_, .f32⟩
  | .hbm, ⟨12, _⟩ => ⟨S3x6144, .f32⟩
  | .hbm, ⟨13, _⟩ => ⟨S8x6144, .f32⟩
  | .hbm, ⟨14, _⟩ => ⟨S48x1x1024, .f32⟩
  | .hbm, ⟨15, _⟩ => ⟨S1x1024, .f32⟩
  | .hbm, ⟨16, _⟩ => ⟨S1024x3072, .f32⟩
  | .hbm, ⟨17, _⟩ => ⟨S1024x3072, .bf16⟩
  | .hbm, ⟨18, _⟩ => ⟨S33792x3072, .bf16⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1x1x1024, .f32⟩
  | .local _ .vmem, ⟨4, _⟩ => ⟨S1x1x1024, .f32⟩
  | .local _ .vmem, ⟨5, _⟩ => ⟨S1x1x1024, .f32⟩
  | .local _ .vmem, ⟨6, _⟩ => ⟨S1x1x1024, .f32⟩
  | .local _ .vmem, ⟨7, _⟩ => ⟨S1024x3072, .bf16⟩
  | .local _ .vmem, ⟨8, _⟩ => ⟨S512x3072, .bf16⟩
  | .local _ .vmem, ⟨9, _⟩ => ⟨S512x3072, .bf16⟩
  | _, _ => ⟨S4x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![66], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c16_i32 : BitVec 32 := 16#32
  let v0 : BitVec 32 := Scalar.divsi arg0 c16_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c16_i32 c0_i32_1
  let v7 : BitVec 32 := Scalar.extui v6
  let c0_i32_2 : BitVec 32 := 0#32
  let v8 : BitVec 1 := Scalar.cmpi .slt c16_i32 c0_i32_2
  let v9 : BitVec 32 := Scalar.extui v8
  let v10 : BitVec 32 := Scalar.subi v7 v9
  let v11 : BitVec 1 := Scalar.cmpi .ne v5 v10
  let v12 : BitVec 32 := Scalar.remsi arg0 c16_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c4_i32 : BitVec 32 := 4#32
  let v17 : BitVec 32 := Scalar.minsi v16 c4_i32
  let c6_i32 : BitVec 32 := 6#32
  let v18 : BitVec 32 := Scalar.muli v17 c6_i32
  let c0_i32_4 : BitVec 32 := 0#32
  let v19 : BitVec 32 := Scalar.addi v18 c0_i32_4
  let c0_i32_5 : BitVec 32 := 0#32
  let c0_i32_6 : BitVec 32 := 0#32
  let c0_i32_7 : BitVec 32 := 0#32
  ![v19.toNat, c0_i32_5.toNat, c0_i32_6.toNat]

def cc0_transform_3 (i : grid0.Coords) : Fin 3 → Nat :=
  let arg0 : BitVec 32 := BitVec.ofNat 32 (i 0).val
  let c16_i32 : BitVec 32 := 16#32
  let v0 : BitVec 32 := Scalar.divsi arg0 c16_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c16_i32 c0_i32_1
  let v7 : BitVec 32 := Scalar.extui v6
  let c0_i32_2 : BitVec 32 := 0#32
  let v8 : BitVec 1 := Scalar.cmpi .slt c16_i32 c0_i32_2
  let v9 : BitVec 32 := Scalar.extui v8
  let v10 : BitVec 32 := Scalar.subi v7 v9
  let v11 : BitVec 1 := Scalar.cmpi .ne v5 v10
  let v12 : BitVec 32 := Scalar.remsi arg0 c16_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c4_i32 : BitVec 32 := 4#32
  let v17 : BitVec 32 := Scalar.minsi v16 c4_i32
  let c6_i32 : BitVec 32 := 6#32
  let v18 : BitVec 32 := Scalar.muli v17 c6_i32
  let c1_i32_4 : BitVec 32 := 1#32
  let v19 : BitVec 32 := Scalar.addi v18 c1_i32_4
  let c0_i32_5 : BitVec 32 := 0#32
  let c0_i32_6 : BitVec 32 := 0#32
  let c0_i32_7 : BitVec 32 := 0#32
  ![v19.toNat, c0_i32_5.toNat, c0_i32_6.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1024x3072 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x3072 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== Reference6Ideal.lean ====
abbrev S4x8192x1024 : Shape := ⟨3, ![4, 8192, 1024]⟩
abbrev S4x256x1024 : Shape := ⟨3, ![4, 256, 1024]⟩
abbrev S1024 : Shape := ⟨1, ![1024]⟩
abbrev S4x1x6144 : Shape := ⟨3, ![4, 1, 6144]⟩
abbrev S6144 : Shape := ⟨1, ![6144]⟩
abbrev S1024x6816 : Shape := ⟨2, ![1024, 6816]⟩
abbrev S4x1x1024 : Shape := ⟨3, ![4, 1, 1024]⟩
abbrev S_ : Shape := ⟨0, ![]⟩
abbrev S4x8192 : Shape := ⟨2, ![4, 8192]⟩
abbrev S4x8192x1 : Shape := ⟨3, ![4, 8192, 1]⟩
abbrev S1x1x1024 : Shape := ⟨3, ![1, 1, 1024]⟩
abbrev S4x256 : Shape := ⟨2, ![4, 256]⟩
abbrev S4x256x1 : Shape := ⟨3, ![4, 256, 1]⟩
abbrev S4x8192x6816 : Shape := ⟨3, ![4, 8192, 6816]⟩
abbrev S4x8192x3072 : Shape := ⟨3, ![4, 8192, 3072]⟩
abbrev S32768x3072 : Shape := ⟨2, ![32768, 3072]⟩
abbrev S4x256x6816 : Shape := ⟨3, ![4, 256, 6816]⟩
abbrev S4x256x3072 : Shape := ⟨3, ![4, 256, 3072]⟩
abbrev S1024x3072 : Shape := ⟨2, ![1024, 3072]⟩
abbrev S33792x3072 : Shape := ⟨2, ![33792, 3072]⟩

abbrev nBuf : Space → Nat
  | .hbm => 90
  | .vmem => 0
  | .smem => 0
  | _ => 0

abbrev bufTy : (tb : Table) → Fin (tcTables nBuf tb) → BufTy
  | .hbm, ⟨0, _⟩ => ⟨S4x8192x1024, .f32⟩
  | .hbm, ⟨1, _⟩ => ⟨S4x256x1024, .f32⟩
  | .hbm, ⟨2, _⟩ => ⟨S1024, .f32⟩
  | .hbm, ⟨3, _⟩ => ⟨S4x1x6144, .f32⟩
  | .hbm, ⟨4, _⟩ => ⟨S6144, .f32⟩
  | .hbm, ⟨5, _⟩ => ⟨S1024x6816, .f32⟩
  | .hbm, ⟨6, _⟩ => ⟨S4x1x1024, .f32⟩
  | .hbm, ⟨7, _⟩ => ⟨S4x1x1024, .f32⟩
  | .hbm, ⟨8, _⟩ => ⟨S4x1x1024, .f32⟩
  | .hbm, ⟨9, _⟩ => ⟨S4x1x1024, .f32⟩
  | .hbm, ⟨10, _⟩ => ⟨S4x1x1024, .f32⟩
  | .hbm, ⟨11, _⟩ => ⟨S4x1x1024, .f32⟩
  | .hbm, ⟨12, _⟩ => ⟨S1024, .f32⟩
  | .hbm, ⟨13, _⟩ => ⟨S1024, .f32⟩
  | .hbm, ⟨14, _⟩ => ⟨S1024, .f32⟩
  | .hbm, ⟨15, _⟩ => ⟨S1024, .f32⟩
  | .hbm, ⟨16, _⟩ => ⟨S1024, .f32⟩
  | .hbm, ⟨17, _⟩ => ⟨S1024, .f32⟩
  | .hbm, ⟨18, _⟩ => ⟨S4x8192x1024, .f32⟩
  | .hbm, ⟨19, _⟩ => ⟨S_, .f32⟩
  | .hbm, ⟨20, _⟩ => ⟨S4x8192, .f32⟩
  | .hbm, ⟨21, _⟩ => ⟨S4x8192x1, .f32⟩
  | .hbm, ⟨22, _⟩ => ⟨S_, .f32⟩
  | .hbm, ⟨23, _⟩ => ⟨S4x8192x1, .f32⟩
  | .hbm, ⟨24, _⟩ => ⟨S4x8192x1, .f32⟩
  | .hbm, ⟨25, _⟩ => ⟨S_, .f32⟩
  | .hbm, ⟨26, _⟩ => ⟨S4x8192x1, .f32⟩
  | .hbm, ⟨27, _⟩ => ⟨S4x8192x1, .f32⟩
  | .hbm, ⟨28, _⟩ => ⟨S4x8192x1, .f32⟩
  | .hbm, ⟨29, _⟩ => ⟨S4x8192x1024, .f32⟩
  | .hbm, ⟨30, _⟩ => ⟨S4x8192x1024, .f32⟩
  | .hbm, ⟨31, _⟩ => ⟨S1x1x1024, .f32⟩
  | .hbm, ⟨32, _⟩ => ⟨S4x8192x1024, .f32⟩
  | .hbm, ⟨33, _⟩ => ⟨S4x8192x1024, .f32⟩
  | .hbm, ⟨34, _⟩ => ⟨S_, .f32⟩
  | .hbm, ⟨35, _⟩ => ⟨S4x1x1024, .f32⟩
  | .hbm, ⟨36, _⟩ => ⟨S4x1x1024, .f32⟩
  | .hbm, ⟨37, _⟩ => ⟨S4x8192x1024, .f32⟩
  | .hbm, ⟨38, _⟩ => ⟨S4x8192x1024, .f32⟩
  | .hbm, ⟨39, _⟩ => ⟨S4x8192x1024, .f32⟩
  | .hbm, ⟨40, _⟩ => ⟨S4x8192x1024, .f32⟩
  | .hbm, ⟨41, _⟩ => ⟨S4x256x1024, .f32⟩
  | .hbm, ⟨42, _⟩ => ⟨S_, .f32⟩
  | .hbm, ⟨43, _⟩ => ⟨S4x256, .f32⟩
  | .hbm, ⟨44, _⟩ => ⟨S4x256x1, .f32⟩
  | .hbm, ⟨45, _⟩ => ⟨S_, .f32⟩
  | .hbm, ⟨46, _⟩ => ⟨S4x256x1, .f32⟩
  | .hbm, ⟨47, _⟩ => ⟨S4x256x1, .f32⟩
  | .hbm, ⟨48, _⟩ => ⟨S_, .f32⟩
  | .hbm, ⟨49, _⟩ => ⟨S4x256x1, .f32⟩
  | .hbm, ⟨50, _⟩ => ⟨S4x256x1, .f32⟩
  | .hbm, ⟨51, _⟩ => ⟨S4x256x1, .f32⟩
  | .hbm, ⟨52, _⟩ => ⟨S4x256x1024, .f32⟩
  | .hbm, ⟨53, _⟩ => ⟨S4x256x1024, .f32⟩
  | .hbm, ⟨54, _⟩ => ⟨S1x1x1024, .f32⟩
  | .hbm, ⟨55, _⟩ => ⟨S4x256x1024, .f32⟩
  | .hbm, ⟨56, _⟩ => ⟨S4x256x1024, .f32⟩
  | .hbm, ⟨57, _⟩ => ⟨S_, .f32⟩
  | .hbm, ⟨58, _⟩ => ⟨S1024, .f32⟩
  | .hbm, ⟨59, _⟩ => ⟨S1024, .f32⟩
  | .hbm, ⟨60, _⟩ => ⟨S1x1x1024, .f32⟩
  | .hbm, ⟨61, _⟩ => ⟨S4x256x1024, .f32⟩
  | .hbm, ⟨62, _⟩ => ⟨S4x256x1024, .f32⟩
  | .hbm, ⟨63, _⟩ => ⟨S1x1x1024, .f32⟩
  | .hbm, ⟨64, _⟩ => ⟨S4x256x1024, .f32⟩
  | .hbm, ⟨65, _⟩ => ⟨S4x256x1024, .f32⟩
  | .hbm, ⟨66, _⟩ => ⟨S4x8192x6816, .f32⟩
  | .hbm, ⟨67, _⟩ => ⟨S4x8192x3072, .f32⟩
  | .hbm, ⟨68, _⟩ => ⟨S4x8192x3072, .f32⟩
  | .hbm, ⟨69, _⟩ => ⟨S4x8192x3072, .f32⟩
  | .hbm, ⟨70, _⟩ => ⟨S_, .f32⟩
  | .hbm, ⟨71, _⟩ => ⟨S4x8192x3072, .f32⟩
  | .hbm, ⟨72, _⟩ => ⟨S4x8192x3072, .f32⟩
  | .hbm, ⟨73, _⟩ => ⟨S_, .f32⟩
  | .hbm, ⟨74, _⟩ => ⟨S4x8192x3072, .f32⟩
  | .hbm, ⟨75, _⟩ => ⟨S4x8192x3072, .f32⟩
  | .hbm, ⟨76, _⟩ => ⟨S32768x3072, .f32⟩
  | .hbm, ⟨77, _⟩ => ⟨S4x256x6816, .f32⟩
  | .hbm, ⟨78, _⟩ => ⟨S4x256x3072, .f32⟩
  | .hbm, ⟨79, _⟩ => ⟨S4x256x3072, .f32⟩
  | .hbm, ⟨80, _⟩ => ⟨S4x256x3072, .f32⟩
  | .hbm, ⟨81, _⟩ => ⟨S_, .f32⟩
  | .hbm, ⟨82, _⟩ => ⟨S4x256x3072, .f32⟩
  | .hbm, ⟨83, _⟩ => ⟨S4x256x3072, .f32⟩
  | .hbm, ⟨84, _⟩ => ⟨S_, .f32⟩
  | .hbm, ⟨85, _⟩ => ⟨S4x256x3072, .f32⟩
  | .hbm, ⟨86, _⟩ => ⟨S4x256x3072, .f32⟩
  | .hbm, ⟨87, _⟩ => ⟨S1024x3072, .f32⟩
  | .hbm, ⟨88, _⟩ => ⟨S33792x3072, .f32⟩
  | .hbm, ⟨89, _⟩ => ⟨S33792x3072, .bf16⟩
  | _, _ => ⟨S4x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_cst : Ref sig .tc := ⟨.hbm, 19, rfl⟩
abbrev main_v13 : Ref sig .tc := ⟨.hbm, 20, rfl⟩
abbrev main_v14 : Ref sig .tc := ⟨.hbm, 21, rfl⟩
abbrev main_cst_0 : Ref sig .tc := ⟨.hbm, 22, rfl⟩
abbrev main_v15 : Ref sig .tc := ⟨.hbm, 23, rfl⟩
abbrev main_v16 : Ref sig .tc := ⟨.hbm, 24, rfl⟩
abbrev main_cst_1 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_cst_2 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_cst_3 : Ref sig .tc := ⟨.hbm, 42, rfl⟩
abbrev main_v32 : Ref sig .tc := ⟨.hbm, 43, rfl⟩
abbrev main_v33 : Ref sig .tc := ⟨.hbm, 44, rfl⟩
abbrev main_cst_4 : Ref sig .tc := ⟨.hbm, 45, rfl⟩
abbrev main_v34 : Ref sig .tc := ⟨.hbm, 46, rfl⟩
abbrev main_v35 : Ref sig .tc := ⟨.hbm, 47, rfl⟩
abbrev main_cst_5 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_cst_6 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_v50 : Ref sig .tc := ⟨.hbm, 64, rfl⟩
abbrev main_v51 : Ref sig .tc := ⟨.hbm, 65, rfl⟩
abbrev main_v52 : Ref sig .tc := ⟨.hbm, 66, rfl⟩
abbrev main_v53 : Ref sig .tc := ⟨.hbm, 67, rfl⟩
abbrev main_v54 : Ref sig .tc := ⟨.hbm, 68, rfl⟩
abbrev main_v55 : Ref sig .tc := ⟨.hbm, 69, rfl⟩
abbrev main_cst_7 : Ref sig .tc := ⟨.hbm, 70, rfl⟩
abbrev main_v56 : Ref sig .tc := ⟨.hbm, 71, rfl⟩
abbrev main_v57 : Ref sig .tc := ⟨.hbm, 72, rfl⟩
abbrev main_cst_8 : Ref sig .tc := ⟨.hbm, 73, rfl⟩
abbrev main_v58 : Ref sig .tc := ⟨.hbm, 74, rfl⟩
abbrev main_v59 : Ref sig .tc := ⟨.hbm, 75, rfl⟩
abbrev main_v60 : Ref sig .tc := ⟨.hbm, 76, rfl⟩
abbrev main_v61 : Ref sig .tc := ⟨.hbm, 77, rfl⟩
abbrev main_v62 : Ref sig .tc := ⟨.hbm, 78, rfl⟩
abbrev main_v63 : Ref sig .tc := ⟨.hbm, 79, rfl⟩
abbrev main_v64 : Ref sig .tc := ⟨.hbm, 80, rfl⟩
abbrev main_cst_9 : Ref sig .tc := ⟨.hbm, 81, rfl⟩
abbrev main_v65 : Ref sig .tc := ⟨.hbm, 82, rfl⟩
abbrev main_v66 : Ref sig .tc := ⟨.hbm, 83, rfl⟩
abbrev main_cst_10 : Ref sig .tc := ⟨.hbm, 84, rfl⟩
abbrev main_v67 : Ref sig .tc := ⟨.hbm, 85, rfl⟩
abbrev main_v68 : Ref sig .tc := ⟨.hbm, 86, rfl⟩
abbrev main_v69 : Ref sig .tc := ⟨.hbm, 87, rfl⟩
abbrev main_v70 : Ref sig .tc := ⟨.hbm, 88, rfl⟩
abbrev main_v71 : Ref sig .tc := ⟨.hbm, 89, rfl⟩

abbrev nD : Nat := 1
abbrev τ : Topo := Topo.v7x

variable {F : FTy → Type} [FloatOps F]
-- ==== Proof.Words.lean ====
/-
  The words of the scatter's loop, as numbers.

  A tile with coordinates `(c, s)` walks 33 windows of 128 rows, the first of them window `(s + 16 c) · 33`. Trip `t` starts
  fetching window `t + 1` into slot `(t + 1) mod 2` (but on the last trip) and scatters window `t` out of slot `t mod 2`. The
  loop carries counters as 32-bit words; this file says what they and the offsets computed from them are.
-/
module

public import proofs.«01_k».proof.Defs
public import proofs.«01_k».proof.Proof.Gen.KernelIdeal
public import proofs.«01_k».proof.Proof.Gen.KernelIdeal.Skeleton

@[expose] public section

noncomputable section

namespace Cert.Proof.Scatter

open Cert.KernelIdeal Cert.KernelIdeal.Gen
open Idealize.ShloMosaic

/-- The coordinates of a tile. -/
def coordsV (c : Fin (grid0.bound 0)) (s : Fin (grid0.bound 1)) : grid0.Coords := fun
  | 0 => c
  | 1 => s
  | ⟨_ + 2, h⟩ => absurd h (Nat.not_lt.2 (Nat.le_add_left _ _))

/-- The first window of a tile. -/
abbrev base (c : Fin (grid0.bound 0)) (s : Fin (grid0.bound 1)) : ℕ := (s.val + 16 * c.val) * 33

/-- The count of windows whose fetch has begun before trip `t`. -/
abbrev wF (t : ℕ) : BitVec 32 := BitVec.ofNat 32 (min (t + 1) 33)
/-- The count of windows waited for before trip `t`. -/
abbrev wW (t : ℕ) : BitVec 32 := BitVec.ofNat 32 t
/-- The window index within the tile before trip `t`. -/
abbrev wP (t : ℕ) : BitVec 32 := BitVec.ofNat 32 (t % 33)

/-- The words the loop carries before trip `t`. -/
abbrev Acc : Type := BitVec 32 × BitVec 32 × BitVec 32 × BitVec 32 × BitVec 32 × BitVec 32 × BitVec 32 × BitVec 32 × BitVec 32 × BitVec 32 × BitVec 32
def acc (t : ℕ) : Acc := (wF t, wW t, wF t, wW t, wF t, wW t, wF t, wW t, wF t, wW t, wP t)

theorem trips_eq : k0_t1_loop.trips = 33 := by decide

set_option maxRecDepth 100000 in
theorem chk1_ok : ∀ (c : Fin (grid0.bound 0)) (s : Fin (grid0.bound 1)) (t : Fin k0_t1_loop.trips),
    k0_chk1 (coordsV c s) t (wF t) (wW t) (wF t) (wW t) (wF t) (wW t) (wF t) (wW t) (wF t) (wW t) (wP t) := by decide +kernel

theorem chk2_ok : ∀ t : Fin k0_t1_loop.trips, k0_chk2 (wW t) := by decide +kernel
theorem chk3_ok : ∀ t : Fin k0_t1_loop.trips, k0_chk3 (wW t) := by decide +kernel
theorem chk4_ok : ∀ t : Fin k0_t1_loop.trips, k0_chk4 (wW t) := by decide +kernel
theorem chk5_ok : ∀ t : Fin k0_t1_loop.trips, k0_chk5 (wW t) := by decide +kernel
theorem chk6_ok : ∀ t : Fin k0_t1_loop.trips, k0_chk6 (wW t) := by decide +kernel

theorem slot3 : ∀ n : Fin 34, k0_off6 (BitVec.ofNat 32 n) = ![n.val % 2, 0, 0] := by decide +kernel
theorem slot1 : ∀ n : Fin 34, k0_off8 (BitVec.ofNat 32 n) = ![n.val % 2] := by decide +kernel

theorem rows_next : ∀ (c : Fin (grid0.bound 0)) (s : Fin (grid0.bound 1)) (t : Fin k0_t1_loop.trips), t.val < 32 →
    k0_off7 (coordsV c s) (wP t) = ![128 * (base c s + (t + 1)), 0] := by decide +kernel
theorem cols_next : ∀ (c : Fin (grid0.bound 0)) (s : Fin (grid0.bound 1)) (t : Fin k0_t1_loop.trips), t.val < 32 →
    k0_off10 (coordsV c s) (wP t) = ![0, 128 * (base c s + (t + 1))] := by decide +kernel

theorem rows_first : ∀ (c : Fin (grid0.bound 0)) (s : Fin (grid0.bound 1)), k0_off2 (coordsV c s) = ![128 * (base c s + 0), 0] := by decide +kernel
theorem cols_first : ∀ (c : Fin (grid0.bound 0)) (s : Fin (grid0.bound 1)), k0_off5 (coordsV c s) = ![0, 128 * (base c s + 0)] := by decide +kernel

/-- A fetch is begun on every trip but the last. -/
theorem cond_fetch : ∀ (c : Fin (grid0.bound 0)) (s : Fin (grid0.bound 1)) (t : Fin k0_t1_loop.trips),
    k0_cond1 (coordsV c s) t (wP t) = 1#1 ↔ t.val < 32 := by decide +kernel
/-- A fetched window is waited for on every trip. -/
theorem cond_wait : ∀ (c : Fin (grid0.bound 0)) (s : Fin (grid0.bound 1)) (t : Fin k0_t1_loop.trips),
    k0_cond6 (coordsV c s) t (wP t) = 1#1 := by decide +kernel

end Cert.Proof.Scatter

end
-- ==== Proof.Base.lean ====
/-
  The scatter's launch, its buffers, and the steps a tile's program is made of.

  Every step of a tile is one of four: begin fetching a window into a slot (a transfer from an array in HBM), wait for it,
  begin scattering a slot's rows (an indirect transfer into the result), wait for that. Each is stated once here, over any
  slot and any array, together with what a slot's buffer holds.
-/
module

public import proofs.«01_k».proof.Proof.Words
public import Idealize.ShloMosaic.Lib.SparseCore.Quiescent
public import Idealize.ShloMosaic.Lib.SparseCore.Ops
public import Idealize.ShloMosaic.Lib.SparseCore.Stream
public import Idealize.ShloMosaic.Lib.SparseCore.Scatter
public import Idealize.ShloMosaic.Lib.SparseCore.FromWhole
public import Idealize.ShloMosaic.Lib.StableHlo.Run
public import Idealize.ShloMosaic.Lib.Pipeline.Kit
public import Idealize.ShloMosaic.Lib.Tactic

@[expose] public section

noncomputable section

namespace Cert.Proof.Scatter

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

/-! ## The program as the launch theorem reads it -/

abbrev ΛP : Labels := Pipeline.Sig Λ₀ (Fin 0) fun p => (pcfgs (F := F) p).Adm
abbrev K : SparseCore.Cfg τ sig (ΛP (F := F)) 1 := sc (F := F)
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

abbrev UH : Type := URounds (GSem nD τ sig) ℕ
abbrev UU : Type := UH × Counters

local notation "𝕄" => MT nD τ sig (HIx 1) (Elt F) ℕ UU ℕ

abbrev EH : Emb UH (MT nD τ sig (HIx 1) (Elt F) ℕ UU ℕ) := embL

/-! ## What the call is given -/

/-- The contents of the call's operands: the source rows, the four lists of target rows, the result's array before the call. -/
structure Inp (F : FTy → Type) where
  x : S135168x128.Idx → Elt F .i32
  ix : Fin 4 → S1x135168.Idx → Elt F .i32
  o : S606208x128.Idx → Elt F .i32

/-- Position `n` of a list. -/
def pos (n : Fin 135168) : S1x135168.Idx := fun
  | ⟨0, _⟩ => (⟨0, Nat.one_pos⟩ : Fin 1)
  | ⟨1, _⟩ => n
  | ⟨_ + 2, h⟩ => absurd h (Nat.not_lt.2 (Nat.le_add_left _ _))

/-- Element `(n, l)` of the source rows. -/
def elt (n : Fin 135168) (l : Fin 128) : S135168x128.Idx := fun
  | ⟨0, _⟩ => n
  | ⟨1, _⟩ => l
  | ⟨_ + 2, h⟩ => absurd h (Nat.not_lt.2 (Nat.le_add_left _ _))

/-- The row and the column of an element of the result. -/
def oRow (p : S606208x128.Idx) : ℕ := (p 0).val
def oCol (p : S606208x128.Idx) : Fin 128 := p 1

namespace Inp
variable (I : Inp F)

/-- The row of the result that entry `n` of list `j` names. -/
def row (j : Fin 4) (n : Fin 135168) : ℕ := BitVec.toNat (w := 32) (I.ix j (pos n))

/-- The lists name rows of the result, and no row twice. -/
structure Ok : Prop where
  lt : ∀ j n, I.row j n < 606208
  inj : ∀ j n j' n', I.row j n = I.row j' n' → j = j' ∧ n = n'

open scoped Classical in
/-- The result: a row that entry `n` of some list names holds row `n` of the source, every other row what it held. -/
def out : S606208x128.Idx → Elt F .i32 := fun p =>
  if h : ∃ (n : Fin 135168) (j : Fin 4), I.row j n = oRow p then I.x (elt h.choose (oCol p)) else I.o p

theorem out_hit (hI : I.Ok) (j : Fin 4) (n : Fin 135168) (p : S606208x128.Idx) (h : I.row j n = oRow p) :
    I.out p = I.x (elt n (oCol p)) := by
  classical
  have hex : ∃ (n : Fin 135168) (j : Fin 4), I.row j n = oRow p := ⟨n, j, h⟩
  have hn : hex.choose = n := by
    obtain ⟨j', hj'⟩ := hex.choose_spec
    exact (hI.inj _ _ _ _ (hj'.trans h.symm)).2
  unfold out
  rw [dif_pos hex, hn]

theorem out_miss (p : S606208x128.Idx) (h : ∀ (n : Fin 135168) (j : Fin 4), I.row j n ≠ oRow p) : I.out p = I.o p := by
  classical
  unfold out
  rw [dif_neg]
  rintro ⟨n, j, e⟩
  exact h n j e

end Inp

/-- Entry `k` of window `w`, as a position of a list (and as a row of the source). -/
def ent (w : Fin 1056) (k : Fin 128) : Fin 135168 := ⟨128 * w.val + k.val, by omega⟩

/-- The elements of the result's rows that `g` names. -/
def named (g : Fin 128 → ℕ) : Finset S606208x128.Idx :=
  open scoped Classical in Finset.univ.filter fun p => ∃ k, oRow p = g k

theorem mem_named {g : Fin 128 → ℕ} {p : S606208x128.Idx} : p ∈ named g ↔ ∃ k, oRow p = g k := by
  classical
  unfold named
  simp only [Finset.mem_filter, Finset.mem_univ, true_and]

/-- The part of the result list `j` names in window `w`. -/
def piece (I : Inp F) (w : Fin 1056) (j : Fin 4) : Finset S606208x128.Idx := named fun k => I.row j (ent w k)

/-! ## The buffers -/

abbrev xRef : Ref sig .scVector := main_v4_scv
abbrev oRef : Ref sig .scVector := main_v33_scv

/-- A slot of the row buffer, of an index buffer, and of a semaphore array. -/
def slotA (a : Memref sig .scVector .vmem S2x128x128 .i32) (s : Fin 2) : Memref sig .scVector .vmem S128x128 .i32 :=
  (a.slice (Rect.unit (s := S2x128x128) ![s.val, 0, 0] S1x128x128.size (by revert s; decide)) (fun _ => rfl)).squeeze S128x128 squeezes_S1x128x128_S128x128
def slotI (a : Memref sig .scVector .vmem S2x1x128 .i32) (s : Fin 2) : Memref sig .scVector .vmem S1x128 .i32 :=
  (a.slice (Rect.unit (s := S2x1x128) ![s.val, 0, 0] S1x1x128.size (by revert s; decide)) (fun _ => rfl)).squeeze S1x128 squeezes_S1x1x128_S1x128
def slotS (v : DmaSems sig S2) (s : Fin 2) : DmaSem sig :=
  ((v.slice (Rect.unit (s := S2) ![s.val] S1.size (by revert s; decide))).squeeze S_ squeezes_S1_S_).sem
/-- Window `w` of the source rows and of a list. -/
def blkA (a : Memref sig .scVector .hbm S135168x128 .i32) (w : Fin 1056) : Memref sig .scVector .hbm S128x128 .i32 :=
  a.slice (Rect.unit (s := S135168x128) ![128 * w.val, 0] S128x128.size (by
    intro b
    match b with
    | ⟨0, _⟩ => show 128 * w.val + 128 ≤ 135168; omega
    | ⟨1, _⟩ => exact Nat.le_refl 128)) (fun _ => rfl)
def blkI (a : Memref sig .scVector .hbm S1x135168 .i32) (w : Fin 1056) : Memref sig .scVector .hbm S1x128 .i32 :=
  a.slice (Rect.unit (s := S1x135168) ![0, 128 * w.val] S1x128.size (by
    intro b
    match b with
    | ⟨0, _⟩ => exact Nat.le_refl 1
    | ⟨1, _⟩ => show 128 * w.val + 128 ≤ 135168; omega)) (fun _ => rfl)

theorem slotA_eq (a : Memref sig .scVector .vmem S2x128x128 .i32) (s : Fin 2) (o : Fin 3 → ℕ) (h) (h') (e : o = ![s.val, 0, 0]) :
    (a.slice (Rect.unit (s := S2x128x128) o S1x128x128.size h) h').squeeze S128x128 squeezes_S1x128x128_S128x128 = slotA a s := by subst e; rfl
theorem slotI_eq (a : Memref sig .scVector .vmem S2x1x128 .i32) (s : Fin 2) (o : Fin 3 → ℕ) (h) (h') (e : o = ![s.val, 0, 0]) :
    (a.slice (Rect.unit (s := S2x1x128) o S1x1x128.size h) h').squeeze S1x128 squeezes_S1x1x128_S1x128 = slotI a s := by subst e; rfl
theorem slotS_eq (v : DmaSems sig S2) (s : Fin 2) (o : Fin 1 → ℕ) (h) (e : o = ![s.val]) :
    ((v.slice (Rect.unit (s := S2) o S1.size h)).squeeze S_ squeezes_S1_S_).sem = slotS v s := by subst e; rfl
theorem blkA_eq (a : Memref sig .scVector .hbm S135168x128 .i32) (w : Fin 1056) (o : Fin 2 → ℕ) (h) (h') (e : o = ![128 * w.val, 0]) :
    a.slice (Rect.unit (s := S135168x128) o S128x128.size h) h' = blkA a w := by subst e; rfl
theorem blkI_eq (a : Memref sig .scVector .hbm S1x135168 .i32) (w : Fin 1056) (o : Fin 2 → ℕ) (h) (h') (e : o = ![0, 128 * w.val]) :
    a.slice (Rect.unit (s := S1x135168) o S1x128.size h) h' = blkI a w := by subst e; rfl

/-! ## A slot's state -/

section Slot

variable {S₀ : Shape} (thr : Thread nD τ)

/-- A slot that is free: its buffer at some contents, its semaphore at zero, the slot's share of the array it is fetched from. -/
def Idle (src : Memref sig thr.2.kind .hbm S₀ .i32) (dst : Memref sig thr.2.kind .vmem S₀ .i32) (sm : DmaSem sig) (q : PosShare TreeShare)
    (fs : Buf (Elt F) (src.view.loc thr)) : sProp 𝕄 :=
  iprop((∃ f, dst.view.loc thr ↦[dst.view.set]{fullShare} f) ∗ semVal (thr, SemLoc.dma sm) 0 ∗ (src.view.loc thr ↦{q} fs))

/-- A slot whose window has landed: its buffer reads as the window does. -/
def Landed (src : Memref sig thr.2.kind .hbm S₀ .i32) (dst : Memref sig thr.2.kind .vmem S₀ .i32)
    (fs : Buf (Elt F) (src.view.loc thr)) : sProp 𝕄 :=
  iprop(∃ f, ⌜dst.view.read (Elt F) f = src.view.read (Elt F) fs⌝ ∗ dst.view.loc thr ↦[dst.view.set]{fullShare} f)

/-- A slot whose window is on its way. -/
def Busy (src : Memref sig thr.2.kind .hbm S₀ .i32) (dst : Memref sig thr.2.kind .vmem S₀ .i32) (sm : DmaSem sig) (q : PosShare TreeShare)
    (fs : Buf (Elt F) (src.view.loc thr)) : sProp 𝕄 :=
  Transfers.Flight countersEmb thr (.dma sm) (default : HIx 1) dst.view.dmaCredit
    iprop(Landed thr src dst fs ∗ (src.view.loc thr ↦{q} fs))

end Slot

/-- A conditional step at the head of a program. -/
theorem dite_step {E : Type → Type} {α β : Type} {c : Prop} [Decidable c] (e : c → E PUnit) (p : Prog E α) (k : α → Prog E β) :
    ((if h : c then Prog.op (e h) (fun _ => p) else p) >>= k)
      = ((if h : c then Prog.op (e h) .ret else .ret ⟨⟩) >>= fun _ => p >>= k) := by
  split <;> rfl

section Steps

variable [FloatOps F] {S₀ : Shape} (d : Dev nD) (cc : Fin τ.nSC) (ss : Fin τ.nSub)
variable {α : Type} {Q : α → sProp (MT nD τ sig (HIx 1) (Elt F) ℕ UU ℕ)}

/-- Beginning a fetch. -/
theorem wp_fetch {src src' : Memref sig .scVector .hbm S₀ .i32} {dst dst' : Memref sig .scVector .vmem S₀ .i32} {sm sm' : DmaSem sig}
    {q : PosShare TreeShare} {fs : Buf (Elt F) (src.view.loc (V d cc ss))}
    {h₁ h₂ h₃} {k : PUnit → Prog (TpuEff nD τ sig (Elt F) Λ₀ (.scVector cc ss)) α}
    (e₁ : src' = src) (e₂ : dst' = dst) (e₃ : sm' = sm) (hS : 0 < S₀.numel) :
    Idle (V d cc ss) src dst sm q fs
      ⊢ iprop((Busy (V d cc ss) src dst sm q fs -∗ wp frame (wpE (defs₀ (F := F)) 𝒱₀ (V d cc ss) none) Set.univ (k ⟨⟩) Q)
          -∗ wp frame (wpE (defs₀ (F := F)) 𝒱₀ (V d cc ss) none) Set.univ
              (.op (TpuEff.enqueueDmaAs src' (.here dst') .same (.dma sm') h₁ h₂ h₃) k) Q) := by
  subst e₁ e₂ e₃
  unfold Idle Busy
  iintro ⟨⟨%f, Hd⟩, Hv, Hs⟩ Hk
  iapply (Transfers.wp_dmaFromWhole countersEmb 𝒱₀ (V d cc ss) none (default : HIx 1) _ rfl (View.dmaCredit_pos _ hS) (Finset.Subset.refl _)) $$ [Hs Hd Hv]
  · isplitl [Hs]; · iexact Hs
    isplitl [Hd] <;> iassumption
  iintro Hf
  iapply Hk
  iapply (Transfers.Flight_mono countersEmb (V d cc ss) ?_) $$ Hf
  iintro ⟨Hd, Hs⟩
  isplitl [Hd]
  · unfold Landed
    iexists _
    isplitr
    swap; · iexact Hd
    ipureintro
    exact View.read_write_univ _ _
  iexact Hs

/-- Beginning a fetch under a condition. -/
theorem wp_fetchIf {cd : BitVec 1} {src : Memref sig .scVector .hbm S₀ .i32} {dst : Memref sig .scVector .vmem S₀ .i32} {sm : DmaSem sig}
    {src' : cd = 1#1 → Memref sig .scVector .hbm S₀ .i32} {dst' : cd = 1#1 → Memref sig .scVector .vmem S₀ .i32} {sm' : cd = 1#1 → DmaSem sig}
    {q : PosShare TreeShare} {fs : Buf (Elt F) (src.view.loc (V d cc ss))}
    {h₁ : ∀ h, (src' h).view.WordExact} {h₂ : ∀ h, (dst' h).view.WordExact}
    {h₃ : ∀ h, DmaTarget.Typed (nD := nD) .hbm (.dma (sm' h)) (DmaTarget.here (p := .scVector cc ss) (dst' h))}
    {k : PUnit → Prog (TpuEff nD τ sig (Elt F) Λ₀ (.scVector cc ss)) α}
    (p : Prop) [Decidable p] (hp : cd = 1#1 ↔ p)
    (e₁ : ∀ h, src' h = src) (e₂ : ∀ h, dst' h = dst) (e₃ : ∀ h, sm' h = sm) (hS : 0 < S₀.numel) :
    Idle (V d cc ss) src dst sm q fs
      ⊢ iprop(((if p then Busy (V d cc ss) src dst sm q fs else Idle (V d cc ss) src dst sm q fs)
            -∗ wp frame (wpE (defs₀ (F := F)) 𝒱₀ (V d cc ss) none) Set.univ (k ⟨⟩) Q)
          -∗ wp frame (wpE (defs₀ (F := F)) 𝒱₀ (V d cc ss) none) Set.univ
              ((if h : cd = 1#1 then .op (TpuEff.enqueueDmaAs (src' h) (.here (dst' h)) .same (.dma (sm' h)) (h₁ h) (h₂ h) (h₃ h)) .ret
                else .ret ⟨⟩) >>= k) Q) := by
  by_cases h : cd = 1#1
  · rw [dif_pos h, if_pos (hp.mp h)]
    exact wp_fetch d cc ss (e₁ h) (e₂ h) (e₃ h) hS
  · rw [dif_neg h, if_neg fun hp' => h (hp.mpr hp')]
    iintro H Hk
    iapply Hk
    iexact H

/-- Beginning a fetch under a condition, the program going on alike. -/
theorem wp_fetchIf' {β : Type} {cd : BitVec 1} {src : Memref sig .scVector .hbm S₀ .i32} {dst : Memref sig .scVector .vmem S₀ .i32} {sm : DmaSem sig}
    {src' : cd = 1#1 → Memref sig .scVector .hbm S₀ .i32} {dst' : cd = 1#1 → Memref sig .scVector .vmem S₀ .i32} {sm' : cd = 1#1 → DmaSem sig}
    {q : PosShare TreeShare} {fs : Buf (Elt F) (src.view.loc (V d cc ss))}
    {h₁ : ∀ h, (src' h).view.WordExact} {h₂ : ∀ h, (dst' h).view.WordExact}
    {h₃ : ∀ h, DmaTarget.Typed (nD := nD) .hbm (.dma (sm' h)) (DmaTarget.here (p := .scVector cc ss) (dst' h))}
    {r : Prog (TpuEff nD τ sig (Elt F) Λ₀ (.scVector cc ss)) β}
    {k : β → Prog (TpuEff nD τ sig (Elt F) Λ₀ (.scVector cc ss)) α}
    (p : Prop) [Decidable p] (hp : cd = 1#1 ↔ p)
    (e₁ : ∀ h, src' h = src) (e₂ : ∀ h, dst' h = dst) (e₃ : ∀ h, sm' h = sm) (hS : 0 < S₀.numel) :
    Idle (V d cc ss) src dst sm q fs
      ⊢ iprop(((if p then Busy (V d cc ss) src dst sm q fs else Idle (V d cc ss) src dst sm q fs)
            -∗ wp frame (wpE (defs₀ (F := F)) 𝒱₀ (V d cc ss) none) Set.univ (r >>= k) Q)
          -∗ wp frame (wpE (defs₀ (F := F)) 𝒱₀ (V d cc ss) none) Set.univ
              ((if h : cd = 1#1 then .op (TpuEff.enqueueDmaAs (src' h) (.here (dst' h)) .same (.dma (sm' h)) (h₁ h) (h₂ h) (h₃ h)) (fun _ => r)
                else r) >>= k) Q) := by
  rw [dite_step]
  exact wp_fetchIf (F := F) d cc ss p hp e₁ e₂ e₃ hS (k := fun _ => r >>= k)

/-- Waiting for a fetch. -/
theorem wp_wait {src : Memref sig .scVector .hbm S₀ .i32} {dst : Memref sig .scVector .vmem S₀ .i32} {sm : DmaSem sig}
    {cd : BitVec 1} {S₁ : cd = 1#1 → Shape} {src' : (h : cd = 1#1) → Memref sig .scVector .hbm (S₁ h) .i32}
    {dst' : cd = 1#1 → Memref sig .scVector .vmem S₀ .i32} {sm' : cd = 1#1 → DmaSem sig}
    {q : PosShare TreeShare} {fs : Buf (Elt F) (src.view.loc (V d cc ss))}
    {h₁ : ∀ h, (src' h).view.WordExact} {h₂ : ∀ h, (dst' h).view.WordExact}
    {k : PUnit → Prog (TpuEff nD τ sig (Elt F) Λ₀ (.scVector cc ss)) α} {O : CellTallies nD τ sig (HIx 1)} {W : Waits sig (HIx 1)}
    (hc : cd = 1#1) (e₂ : ∀ h, dst' h = dst) (e₃ : ∀ h, sm' h = sm) :
    iprop(Busy (V d cc ss) src dst sm q fs ∗ owes (V d cc ss) O W ∗ Transfers.MayWaits (V d cc ss) (default : HIx 1) O)
      ⊢ iprop((iprop(Landed (V d cc ss) src dst fs ∗ (src.view.loc (V d cc ss) ↦{q} fs) ∗ semVal (V d cc ss, SemLoc.dma sm) 0
              ∗ owes (V d cc ss) O (insert (SemLoc.dma sm, (default : HIx 1)) W))
            -∗ wp frame (wpE (defs₀ (F := F)) 𝒱₀ (V d cc ss) none) Set.univ (k ⟨⟩) Q)
          -∗ wp frame (wpE (defs₀ (F := F)) 𝒱₀ (V d cc ss) none) Set.univ
              ((if h : cd = 1#1 then .op (TpuEff.waitDma2 (sm' h) (src' h) (dst' h) (h₁ h) (h₂ h)) .ret else .ret ⟨⟩) >>= k) Q) := by
  rw [dif_pos hc]
  obtain rfl := e₂ hc
  obtain rfl := e₃ hc
  unfold Busy
  iintro ⟨Hf, HO, Hm⟩ Hk
  iapply (Transfers.wp_waitLocalO countersEmb 𝒱₀ (V d cc ss) none (default : HIx 1) (rfl : _ = (dst' hc).view.dmaCredit)) $$ [Hf HO Hm]
  · isplitl [Hf]; · iexact Hf
    isplitl [HO]; · iexact HO
    iapply (Transfers.MayWaits.elim (SemLoc.dma (sm' hc))) $$ Hm
  iintro ⟨⟨HL, Hs⟩, Hv, HO⟩
  iapply Hk
  isplitl [HL]; · iexact HL
  isplitl [Hs]; · iexact Hs
  isplitl [Hv] <;> iassumption

/-- Waiting for a fetch, the program going on alike. -/
theorem wp_wait' {β : Type} {src : Memref sig .scVector .hbm S₀ .i32} {dst : Memref sig .scVector .vmem S₀ .i32} {sm : DmaSem sig}
    {cd : BitVec 1} {S₁ : cd = 1#1 → Shape} {src' : (h : cd = 1#1) → Memref sig .scVector .hbm (S₁ h) .i32}
    {dst' : cd = 1#1 → Memref sig .scVector .vmem S₀ .i32} {sm' : cd = 1#1 → DmaSem sig}
    {q : PosShare TreeShare} {fs : Buf (Elt F) (src.view.loc (V d cc ss))}
    {h₁ : ∀ h, (src' h).view.WordExact} {h₂ : ∀ h, (dst' h).view.WordExact}
    {r : Prog (TpuEff nD τ sig (Elt F) Λ₀ (.scVector cc ss)) β}
    {k : β → Prog (TpuEff nD τ sig (Elt F) Λ₀ (.scVector cc ss)) α} {O : CellTallies nD τ sig (HIx 1)} {W : Waits sig (HIx 1)}
    (hc : cd = 1#1) (e₂ : ∀ h, dst' h = dst) (e₃ : ∀ h, sm' h = sm) :
    iprop(Busy (V d cc ss) src dst sm q fs ∗ owes (V d cc ss) O W ∗ Transfers.MayWaits (V d cc ss) (default : HIx 1) O)
      ⊢ iprop((iprop(Landed (V d cc ss) src dst fs ∗ (src.view.loc (V d cc ss) ↦{q} fs) ∗ semVal (V d cc ss, SemLoc.dma sm) 0
              ∗ owes (V d cc ss) O (insert (SemLoc.dma sm, (default : HIx 1)) W))
            -∗ wp frame (wpE (defs₀ (F := F)) 𝒱₀ (V d cc ss) none) Set.univ (r >>= k) Q)
          -∗ wp frame (wpE (defs₀ (F := F)) 𝒱₀ (V d cc ss) none) Set.univ
              ((if h : cd = 1#1 then .op (TpuEff.waitDma2 (sm' h) (src' h) (dst' h) (h₁ h) (h₂ h)) (fun _ => r) else r) >>= k) Q) := by
  rw [dite_step]
  exact wp_wait (F := F) d cc ss hc e₂ e₃ (k := fun _ => r >>= k)

/-- A slot waited for is free. -/
theorem landed_idle (src : Memref sig .scVector .hbm S₀ .i32) (dst : Memref sig .scVector .vmem S₀ .i32) (sm : DmaSem sig)
    (q : PosShare TreeShare) (fs : Buf (Elt F) (src.view.loc (V d cc ss))) :
    iprop(Landed (V d cc ss) src dst fs ∗ (src.view.loc (V d cc ss) ↦{q} fs) ∗ semVal (V d cc ss, SemLoc.dma sm) 0)
      ⊢ Idle (V d cc ss) src dst sm q fs := by
  unfold Landed Idle
  iintro ⟨⟨%f, %_, Hd⟩, Hs, Hv⟩
  isplitl [Hd]; · iexists f; iexact Hd
  isplitl [Hv] <;> iassumption

end Steps

end Cert.Proof.Scatter

end
-- ==== Proof.Scat.lean ====
/-
  One scatter of a slot's rows into the result.

  A slot's 128 rows go to the 128 rows of the result its list names; the result's elements the list names (`piece`) are
  lent to the transfer and come back at the values of `Inp.out`.
-/
module

public import proofs.«01_k».proof.Proof.Base

@[expose] public section

noncomputable section

namespace Cert.Proof.Scatter

open Cert.KernelIdeal Cert.KernelIdeal.Gen

open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Tactic

variable {F : FTy → Type}

local notation "𝕄" => MT nD τ sig (HIx 1) (Elt F) ℕ UU ℕ

/-- The result as the scatter's target. -/
abbrev oDst : Memref sig .scVector .hbm S606208x128 .i32 :=
  (Memref.whole oRef).slice (Rect.unit (s := S606208x128) ![0, 0] S606208x128.size inb_S606208x128_S606208x128_0_0) (fun _ => rfl)

/-- A slot's list as the scatter takes it: the one row, without its unit axis. -/
abbrev offs (l : Memref sig .scVector .vmem S1x128 .i32) : Memref sig .scVector .vmem S128 .i32 :=
  (l.slice (Rect.unit (s := S1x128) ![0, 0] S1x128.size inb_S1x128_S1x128_0_0) (fun _ => rfl)).squeeze S128 squeezes_S1x128_S128

/-- Entry `k` of a slot's list. -/
def e1 (k : Fin 128) : S1x128.Idx := fun
  | ⟨0, _⟩ => (⟨0, Nat.one_pos⟩ : Fin 1)
  | ⟨1, _⟩ => k
  | ⟨_ + 2, h⟩ => absurd h (Nat.not_lt.2 (Nat.le_add_left _ _))
def e0 (k : Fin 128) : S128.Idx := fun
  | ⟨0, _⟩ => k
  | ⟨_ + 1, h⟩ => absurd h (Nat.not_lt.2 (Nat.le_add_left _ _))

theorem rect_full (x : S1x128.Idx) : (Rect.unit (s := S1x128) ![0, 0] S1x128.size inb_S1x128_S1x128_0_0).emb x = x := by
  funext b
  apply Fin.ext
  rw [Rect.emb_apply]
  fin_cases b
  · show 0 + 1 * (x 0).val = (x 0).val; omega
  · show 0 + 1 * (x 1).val = (x 1).val; omega

theorem offs_emb (l : Memref sig .scVector .vmem S1x128 .i32) (x : S128.Idx) : (offs l).view.emb x = l.view.emb (e1 (x 0)) := by
  show l.view.emb ((Rect.unit (s := S1x128) ![0, 0] S1x128.size inb_S1x128_S1x128_0_0).emb (Shape.reshapeEquiv _ x)) = _
  rw [rect_full]
  congr 1
  refine (Shape.reshapeEquiv_cons_one (d := ![128]) _ x).trans ?_
  funext b
  match b with
  | ⟨0, _⟩ => rfl
  | ⟨1, _⟩ => rfl

theorem offs_set (l : Memref sig .scVector .vmem S1x128 .i32) : (offs l).view.set = l.view.set := by
  ext i
  constructor
  · intro h
    obtain ⟨x, -, rfl⟩ := Finset.mem_map.mp h
    rw [offs_emb]
    exact View.emb_mem_set _ _
  · intro h
    obtain ⟨x, -, rfl⟩ := Finset.mem_map.mp h
    have : l.view.emb x = (offs l).view.emb (e0 (x 1)) := by
      rw [offs_emb]
      congr 1
      funext b
      match b with
      | ⟨0, _⟩ => exact Fin.ext (by have h : (x 0).val < 1 := (x 0).isLt; show (x 0).val = 0; omega)
      | ⟨1, _⟩ => rfl
    rw [this]
    exact View.emb_mem_set _ _

theorem offs_read (l : Memref sig .scVector .vmem S1x128 .i32) (fo : l.view.ty.Contents (Elt F)) (x : S128.Idx) :
    (offs l).view.read (Elt F) fo x = l.view.read (Elt F) fo (e1 (x 0)) := by
  rw [View.read_apply, View.read_apply, offs_emb]

theorem row_at (k : Fin 128) : (S128.rowMajor.symm (k.cast (rfl : S128.numel = 128).symm) : S128.Idx) = e0 k := by
  rw [Equiv.symm_apply_eq]
  apply Fin.ext
  exact (Shape.rowMajor_val_one (d := ![128]) (e0 k)).symm

/-! ## The target's rows -/

theorem oDst_emb (x : S606208x128.Idx) : oDst.view.emb x = x := by
  funext b
  apply Fin.ext
  show ((Rect.unit (s := S606208x128) ![0, 0] S606208x128.size inb_S606208x128_S606208x128_0_0).emb x b : ℕ) = _
  rw [Rect.emb_apply]
  fin_cases b
  · show 0 + 1 * (x 0).val = (x 0).val; omega
  · show 0 + 1 * (x 1).val = (x 1).val; omega

abbrev hg : S606208x128.Gathers 0 S128x128 := gathers_S606208x128_S128x128

/-- Row `r` of the target at column `l`. -/
def rowAt (l : Fin 128) : (S606208x128.rowShape hg.axis).Idx := fun
  | ⟨0, _⟩ => (⟨0, Nat.one_pos⟩ : Fin 1)
  | ⟨1, _⟩ => l
  | ⟨_ + 2, h⟩ => absurd h (Nat.not_lt.2 (Nat.le_add_left _ _))

theorem row_emb (r : Fin (S606208x128.size hg.axis)) (y : (S606208x128.rowShape hg.axis).Idx) :
    oRow ((oDst.view.slice (S606208x128.rowRect hg.axis r)).emb y) = r.val := by
  show oRow (oDst.view.emb ((S606208x128.rowRect hg.axis r).emb y)) = _
  rw [oDst_emb]
  show (((S606208x128.rowRect hg.axis r).emb y 0 : Fin _) : ℕ) = _
  refine (Rect.emb_apply (S606208x128.rowRect hg.axis r) y (0 : Fin 2)).trans ?_
  have h : (y (⟨0, Nat.two_pos⟩ : Fin 2)).val < 1 := (y (⟨0, Nat.two_pos⟩ : Fin 2)).isLt
  show r.val + 1 * (y (⟨0, Nat.two_pos⟩ : Fin 2)).val = r.val
  omega

theorem mem_row (r : Fin (S606208x128.size hg.axis)) (p : S606208x128.Idx) :
    p ∈ (oDst.view.slice (S606208x128.rowRect hg.axis r)).set ↔ oRow p = r.val := by
  constructor
  · intro h
    obtain ⟨y, -, rfl⟩ := Finset.mem_map.mp h
    exact row_emb r y
  · intro h
    have : p = (oDst.view.slice (S606208x128.rowRect hg.axis r)).emb (rowAt (oCol p)) := by
      show p = oDst.view.emb ((S606208x128.rowRect hg.axis r).emb (rowAt (oCol p)))
      rw [oDst_emb]
      funext b
      apply Fin.ext
      refine Eq.trans ?_ (Rect.emb_apply (S606208x128.rowRect hg.axis r) (rowAt (oCol p)) b).symm
      fin_cases b
      · show (p 0).val = r.val + 1 * 0
        have : (p 0).val = r.val := h
        omega
      · show (p 1).val = 0 + 1 * (p 1).val
        omega
    rw [this]
    exact View.emb_mem_set _ _

/-- Element `(k, l)` of a slot's rows. -/
def e2 (k l : Fin 128) : S128x128.Idx := fun
  | ⟨0, _⟩ => k
  | ⟨1, _⟩ => l
  | ⟨_ + 2, h⟩ => absurd h (Nat.not_lt.2 (Nat.le_add_left _ _))

theorem payload_at (a : Memref sig .scVector .vmem S128x128 .i32) (fa : a.view.ty.Contents (Elt F)) (d : Dev nD) (cc : Fin τ.nSC) (ss : Fin τ.nSub)
    (k : Fin (S128x128.size hg.axis')) (y : (S606208x128.rowShape hg.axis).Idx) (l : Fin 128) (hl : (y (⟨1, Nat.one_lt_two⟩ : Fin 2)).val = l.val) :
    SparseCore.scatterRowPayload (V d cc ss) a hg fa k y = a.view.read (Elt F) fa (e2 k l) := by
  show a.view.read (Elt F) fa ((S128x128.rowRect hg.axis' k).emb ((Shape.idxEquiv hg.rowShape_eq).symm y)) = _
  congr 1
  funext b
  apply Fin.ext
  refine (Rect.emb_apply (S128x128.rowRect hg.axis' k) _ b).trans ?_
  have hz : (((Shape.idxEquiv hg.rowShape_eq).symm y) b).val = (y (b.cast (rfl : 2 = 2))).val := Shape.idxEquiv_symm_apply_val hg.rowShape_eq y b
  match b with
  | ⟨0, _⟩ =>
    have h0 : (y (⟨0, Nat.two_pos⟩ : Fin 2)).val < 1 := (y (⟨0, Nat.two_pos⟩ : Fin 2)).isLt
    have hz' : (((Shape.idxEquiv hg.rowShape_eq).symm y) (⟨0, Nat.two_pos⟩ : Fin 2)).val = (y (⟨0, Nat.two_pos⟩ : Fin 2)).val := hz
    show k.val + 1 * (((Shape.idxEquiv hg.rowShape_eq).symm y) (⟨0, Nat.two_pos⟩ : Fin 2)).val = k.val
    omega
  | ⟨1, _⟩ =>
    have hz' : (((Shape.idxEquiv hg.rowShape_eq).symm y) (⟨1, Nat.one_lt_two⟩ : Fin 2)).val = (y (⟨1, Nat.one_lt_two⟩ : Fin 2)).val := hz
    show 0 + 1 * (((Shape.idxEquiv hg.rowShape_eq).symm y) (⟨1, Nat.one_lt_two⟩ : Fin 2)).val = l.val
    omega

theorem scatter_at (a : Memref sig .scVector .vmem S128x128 .i32) (fa : a.view.ty.Contents (Elt F)) (d : Dev nD) (cc : Fin τ.nSC) (ss : Fin τ.nSub)
    (r : Fin (S128x128.size hg.axis') → Fin (S606208x128.size hg.axis)) (hinj : Function.Injective r) (fd : S606208x128.Idx → Elt F .i32)
    (k : Fin (S128x128.size hg.axis')) (p : S606208x128.Idx) (hk : oRow p = (r k).val) :
    SparseCore.scatterBuf (V d cc ss) oDst.view hg.axis r (SparseCore.scatterRowPayload (V d cc ss) a hg fa) fd p
      = a.view.read (Elt F) fa (e2 k (oCol p)) := by
  have hm := (mem_row (r k) p).mpr hk
  refine (SparseCore.scatterBuf_of_mem (V d cc ss) oDst.view hg.axis r hinj _ fd hm).trans ?_
  obtain ⟨y, -, rfl⟩ := Finset.mem_map.mp hm
  refine (View.write_emb_of_mem (v := oDst.view.slice (S606208x128.rowRect hg.axis (r k))) _ _ (Finset.mem_univ y)).trans ?_
  refine (payload_at a fa d cc ss k y _ ?_)
  have e : (oDst.view.slice (S606208x128.rowRect hg.axis (r k))).emb y = (S606208x128.rowRect hg.axis (r k)).emb y := oDst_emb _
  rw [e]
  have h1 := Rect.emb_apply (S606208x128.rowRect hg.axis (r k)) y (1 : Fin 2)
  refine Eq.symm (h1.trans ?_)
  show 0 + 1 * (y (⟨1, Nat.one_lt_two⟩ : Fin 2)).val = _
  omega

/-! ## One scatter -/

theorem credit (tb : Table) (b : Fin (sig.nBuf tb)) (s : Shape) : sig.dmaCredit .scVector tb b s .i32 = s.numel * EltTy.i32.bits := rfl

theorem numel_pos : 0 < S128x128.numel := S128x128.numel_pos (by decide)

/-- What a scatter's transfer carries while it runs. -/
def Flying (d : Dev nD) (cc : Fin τ.nSC) (ss : Fin τ.nSub) (I : Inp F) (w : Fin 1056) (j : Fin 4)
    (srcA : Memref sig .scVector .hbm S128x128 .i32) (a : Memref sig .scVector .vmem S128x128 .i32) (fA : Buf (Elt F) (srcA.view.loc (V d cc ss)))
    (srcL : Memref sig .scVector .hbm S1x128 .i32) (l : Memref sig .scVector .vmem S1x128 .i32) (fL : Buf (Elt F) (srcL.view.loc (V d cc ss)))
    (sm : DmaSem sig) : sProp 𝕄 :=
  Transfers.Flight countersEmb (V d cc ss) (.dma sm) (default : HIx 1) a.view.dmaCredit
    iprop((oDst.view.loc (V d cc ss) ↦[piece I w j]{fullShare} I.out) ∗ Landed (V d cc ss) srcA a fA ∗ Landed (V d cc ss) srcL l fL)

section

variable [FloatOps F] (d : Dev nD) (cc : Fin τ.nSC) (ss : Fin τ.nSub)
variable {α : Type} {Q : α → sProp (MT nD τ sig (HIx 1) (Elt F) ℕ UU ℕ)}

/-- Beginning a scatter of list `j`'s window `w`. -/
theorem wp_scatter (I : Inp F) (hI : I.Ok) (w : Fin 1056) (j : Fin 4)
    {srcA : Memref sig .scVector .hbm S128x128 .i32} {a a' : Memref sig .scVector .vmem S128x128 .i32} {fA : Buf (Elt F) (srcA.view.loc (V d cc ss))}
    {srcL : Memref sig .scVector .hbm S1x128 .i32} {l l' : Memref sig .scVector .vmem S1x128 .i32} {fL : Buf (Elt F) (srcL.view.loc (V d cc ss))}
    {sm : DmaSem sig} {hp hn he hsp hr}
    {k : PUnit → Prog (TpuEff nD τ sig (Elt F) Λ₀ (.scVector cc ss)) α}
    (ea : a' = a) (el : l' = l)
    (hA : ∀ y, srcA.view.read (Elt F) fA y = I.x (elt (ent w (y 0)) (y 1)))
    (hL : ∀ k, srcL.view.read (Elt F) fL (e1 k) = I.ix j (pos (ent w k))) :
    iprop((oDst.view.loc (V d cc ss) ↦[piece I w j]{fullShare} I.o) ∗ Landed (V d cc ss) srcA a fA ∗ Landed (V d cc ss) srcL l fL
        ∗ semVal (V d cc ss, SemLoc.dma sm) 0)
      ⊢ iprop((Flying d cc ss I w j srcA a fA srcL l fL sm -∗ wp frame (wpE (defs₀ (F := F)) 𝒱₀ (V d cc ss) none) Set.univ (k ⟨⟩) Q)
          -∗ wp frame (wpE (defs₀ (F := F)) 𝒱₀ (V d cc ss) none) Set.univ
              (SparseCore.enqueueIndirectScatter hp a' oDst hg (offs l') hn sm he hsp hr >>= k) Q) := by
  subst ea el
  unfold Landed
  iintro ⟨Ho, ⟨%fa, %ha, Ha⟩, ⟨%fl, %hl, Hl⟩, Hv⟩ Hk
  have hw : ∀ x : S128.Idx, (offs l').view.read (Elt F) fl x = I.ix j (pos (ent w (x 0))) := by
    exact fun x => (offs_read l' fl x).trans ((congrFun hl _).trans (hL (x 0)))
  have hin : ∀ x, BitVec.toNat (w := 32) ((offs l').view.read (Elt F) fl x) < S606208x128.size hg.axis := by
    intro x
    rw [hw]
    exact hI.lt j _
  have hrow : ∀ k : Fin 128, (SparseCore.rows ((offs l').view.read (Elt F) fl) hn hin k).val = I.row j (ent w k) := by
    intro k
    show BitVec.toNat (w := 32) ((offs l').view.read (Elt F) fl (S128.rowMajor.symm (k.cast hn.symm))) = _
    rw [show (S128.rowMajor.symm (k.cast hn.symm) : S128.Idx) = e0 k from row_at k, hw]
    rfl
  have hinj : Function.Injective (SparseCore.rows ((offs l').view.read (Elt F) fl) hn hin) := by
    intro k k' h
    have h2 := congrArg Fin.val h
    have h3 := congrArg Fin.val (hI.inj _ _ _ _ ((hrow k).symm.trans (h2.trans (hrow k')))).2
    apply Fin.ext
    have : 128 * w.val + k.val = 128 * w.val + k'.val := h3
    omega
  have hset : SparseCore.namedRows (V d cc ss) oDst.view hg.axis (SparseCore.rows ((offs l').view.read (Elt F) fl) hn hin) = piece I w j := by
    ext p
    rw [SparseCore.namedRows_eq, Finset.mem_biUnion]
    unfold piece
    rw [mem_named]
    constructor
    · rintro ⟨k, -, hk⟩
      exact ⟨k, ((mem_row _ p).mp hk).trans (hrow k)⟩
    · rintro ⟨k, hk⟩
      exact ⟨k, Finset.mem_univ _, (mem_row _ p).mpr (hk.trans (hrow k).symm)⟩
  have hval : ∀ p ∈ piece I w j,
      SparseCore.scatterBuf (V d cc ss) oDst.view hg.axis (SparseCore.rows ((offs l').view.read (Elt F) fl) hn hin)
        (SparseCore.scatterRowPayload (V d cc ss) a' hg fa) I.o p = I.out p := by
    intro p hp
    unfold piece at hp
    rw [mem_named] at hp
    obtain ⟨k, hk⟩ := hp
    rw [I.out_hit hI j (ent w k) p hk.symm]
    refine (scatter_at a' fa d cc ss _ hinj I.o k p (hk.trans (hrow k).symm)).trans ?_
    rw [ha]
    exact hA _
  iapply (SparseCore.wp_indirectScatterLocal countersEmb 𝒱₀ (V d cc ss) none (default : HIx 1) a'.view.dmaCredit numel_pos hin hinj
    (SparseCore.sum_scatterCredit_eq_srcCredit (V d cc ss) a' oDst hg rfl _ (fun s => credit _ _ s) (fun s => credit _ _ s))) $$ [Ho Ha Hl Hv]
  · isplitl [Ha]; · iexact Ha
    isplitl [Ho]; · rw [hset]; iexact Ho
    isplitl [Hl]; · rw [offs_set]; iexact Hl
    iexact Hv
  iintro Hf
  iapply Hk
  unfold Flying
  iapply (Transfers.Flight_mono countersEmb (V d cc ss) ?_) $$ Hf
  rw [hset, offs_set, pointsTo_congr hval]
  iintro ⟨Ho, Ha, Hl⟩
  isplitl [Ho]; · iexact Ho
  unfold Landed
  isplitl [Ha]
  · iexists fa
    isplitr; · ipureintro; exact ha
    iexact Ha
  iexists fl
  isplitr; · ipureintro; exact hl
  iexact Hl

/-- Waiting for a scatter. -/
theorem wp_scattered {I : Inp F} {w : Fin 1056} {j : Fin 4}
    {srcA : Memref sig .scVector .hbm S128x128 .i32} {a a' : Memref sig .scVector .vmem S128x128 .i32} {fA : Buf (Elt F) (srcA.view.loc (V d cc ss))}
    {srcL : Memref sig .scVector .hbm S1x128 .i32} {l : Memref sig .scVector .vmem S1x128 .i32} {fL : Buf (Elt F) (srcL.view.loc (V d cc ss))}
    {sm : DmaSem sig} {s₁ : Shape} {dst : Memref sig .scVector .hbm s₁ .i32} {h₁ : a'.view.WordExact} {h₂ : dst.view.WordExact}
    {k : PUnit → Prog (TpuEff nD τ sig (Elt F) Λ₀ (.scVector cc ss)) α} {O : CellTallies nD τ sig (HIx 1)} {W : Waits sig (HIx 1)}
    (ea : a' = a) :
    iprop(Flying d cc ss I w j srcA a fA srcL l fL sm ∗ owes (V d cc ss) O W ∗ Transfers.MayWaits (V d cc ss) (default : HIx 1) O)
      ⊢ iprop((iprop((oDst.view.loc (V d cc ss) ↦[piece I w j]{fullShare} I.out) ∗ Landed (V d cc ss) srcA a fA ∗ Landed (V d cc ss) srcL l fL
              ∗ semVal (V d cc ss, SemLoc.dma sm) 0 ∗ owes (V d cc ss) O (insert (SemLoc.dma sm, (default : HIx 1)) W))
            -∗ wp frame (wpE (defs₀ (F := F)) 𝒱₀ (V d cc ss) none) Set.univ (k ⟨⟩) Q)
          -∗ wp frame (wpE (defs₀ (F := F)) 𝒱₀ (V d cc ss) none) Set.univ
              (SparseCore.waitIndirectScatter (p := .scVector cc ss) sm a' dst h₁ h₂ >>= k) Q) := by
  subst ea
  unfold Flying
  iintro ⟨Hf, HO, Hm⟩ Hk
  iapply (Transfers.wp_waitLocalO countersEmb 𝒱₀ (V d cc ss) none (default : HIx 1) (rfl : _ = a'.view.dmaCredit)) $$ [Hf HO Hm]
  · isplitl [Hf]; · iexact Hf
    isplitl [HO]; · iexact HO
    iapply (Transfers.MayWaits.elim (SemLoc.dma sm)) $$ Hm
  iintro ⟨⟨Ho, Ha, Hl⟩, Hv, HO⟩
  iapply Hk
  isplitl [Ho]; · iexact Ho
  isplitl [Ha]; · iexact Ha
  isplitl [Hl]; · iexact Hl
  isplitl [Hv] <;> iassumption

end

end Cert.Proof.Scatter

end
-- ==== Proof.Body.lean ====
/-
  One tile's program.

  Before trip `t` the window `base + t` is on its way into slot `t % 2` of every ring, the other slot is free, and the
  rows of the windows before `t` have been scattered. A trip begins the next window's fetch, waits for its own, and
  scatters the slot's rows along each of the four lists, one after another.
-/
module

public import proofs.«01_k».proof.Proof.Scat
public import proofs.«01_k».proof.Proof.Gen.KernelIdeal.Skeleton

@[expose] public section

noncomputable section

namespace Cert.Proof.Scatter

open Cert.KernelIdeal Cert.KernelIdeal.Gen

open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Tactic

variable {F : FTy → Type}

local notation "𝕄" => MT nD τ sig (HIx 1) (Elt F) ℕ UU ℕ

/-! ## Slots and windows by number -/

/-- The slot window `n` of a tile goes through. -/
def par (n : ℕ) : Fin 2 := ⟨n % 2, Nat.mod_lt _ Nat.two_pos⟩

/-- Window `n` of a tile. -/
def win (c : Fin (grid0.bound 0)) (s : Fin (grid0.bound 1)) (n : ℕ) : Fin 1056 :=
  ⟨base c s + min n 32, by
    have h0 : c.val < 2 := c.isLt
    have h1 : s.val < 16 := s.isLt
    have : min n 32 ≤ 32 := Nat.min_le_right _ _
    show (s.val + 16 * c.val) * 33 + min n 32 < 1056
    omega⟩

theorem win_val (c : Fin (grid0.bound 0)) (s : Fin (grid0.bound 1)) {n : ℕ} (h : n < 33) : (win c s n).val = base c s + n := by
  show base c s + min n 32 = base c s + n
  omega

theorem par_add_two (n : ℕ) : par (n + 2) = par n := Fin.ext (by show (n + 2) % 2 = n % 2; omega)

theorem slotF3 {t : ℕ} (h : t < 32) : k0_off6 (wF t) = ![(par (t + 1)).val, 0, 0] := by
  have e := slot3 ⟨t + 1, by omega⟩
  have hm : min (t + 1) 33 = t + 1 := by omega
  unfold wF
  rw [hm]
  exact e
theorem slotF1 {t : ℕ} (h : t < 32) : k0_off8 (wF t) = ![(par (t + 1)).val] := by
  have e := slot1 ⟨t + 1, by omega⟩
  have hm : min (t + 1) 33 = t + 1 := by omega
  unfold wF
  rw [hm]
  exact e
theorem slotW3 {t : ℕ} (h : t < 33) : k0_off21 (wW t) = ![(par t).val, 0, 0] := slot3 ⟨t, by omega⟩
theorem slotW1 {t : ℕ} (h : t < 33) : k0_off23 (wW t) = ![(par t).val] := slot1 ⟨t, by omega⟩

theorem rowsF (c : Fin (grid0.bound 0)) (s : Fin (grid0.bound 1)) (t : Fin k0_t1_loop.trips) (h : t.val < 32) :
    k0_off7 (coordsV c s) (wP t) = ![128 * (win c s (t + 1)).val, 0] := by
  rw [win_val c s (by omega)]; exact rows_next c s t h
theorem colsF (c : Fin (grid0.bound 0)) (s : Fin (grid0.bound 1)) (t : Fin k0_t1_loop.trips) (h : t.val < 32) :
    k0_off10 (coordsV c s) (wP t) = ![0, 128 * (win c s (t + 1)).val] := by
  rw [win_val c s (by omega)]; exact cols_next c s t h

/-! ## What a tile holds -/

/-- A slot's half of a share. -/
def half (q : PosShare TreeShare) (s : Fin 2) : PosShare TreeShare := if s = 0 then q.left else q.right

section Ring

variable {S₀ : Shape} (thr : Thread nD τ)

/-- A ring of two slots before trip `n`: window `n` on its way (if there is one), the other slot free. -/
def Ring (blk : ℕ → Memref sig thr.2.kind .hbm S₀ .i32) (slot : Fin 2 → Memref sig thr.2.kind .vmem S₀ .i32) (sm : Fin 2 → DmaSem sig)
    (q : PosShare TreeShare) (fs : ∀ n, Buf (Elt F) ((blk n).view.loc thr)) (n : ℕ) : sProp 𝕄 :=
  iprop((if n < 33 then Busy thr (blk n) (slot (par n)) (sm (par n)) (half q (par n)) (fs n)
      else Idle thr (blk n) (slot (par n)) (sm (par n)) (half q (par n)) (fs n))
    ∗ Idle thr (blk (n + 1)) (slot (par (n + 1))) (sm (par (n + 1))) (half q (par (n + 1))) (fs (n + 1)))

end Ring

section Step

variable {S₀ : Shape} (thr : Thread nD τ)
variable (blk : ℕ → Memref sig thr.2.kind .hbm S₀ .i32) (slot : Fin 2 → Memref sig thr.2.kind .vmem S₀ .i32) (sm : Fin 2 → DmaSem sig)
variable (q : PosShare TreeShare) (fs : ∀ n, Buf (Elt F) ((blk n).view.loc thr)) (n : ℕ)

theorem ring_open (h : n < 33) :
    Ring thr blk slot sm q fs n
      ⊢ iprop(Busy thr (blk n) (slot (par n)) (sm (par n)) (half q (par n)) (fs n)
          ∗ Idle thr (blk (n + 1)) (slot (par (n + 1))) (sm (par (n + 1))) (half q (par (n + 1))) (fs (n + 1))) := by
  unfold Ring
  rw [if_pos h]

theorem ring_close (hb : ∀ sl s' q', Idle thr (blk n) sl s' q' (fs n) ⊢ Idle thr (blk (n + 2)) sl s' q' (fs (n + 2))) :
    iprop((if n + 1 < 33 then Busy thr (blk (n + 1)) (slot (par (n + 1))) (sm (par (n + 1))) (half q (par (n + 1))) (fs (n + 1))
        else Idle thr (blk (n + 1)) (slot (par (n + 1))) (sm (par (n + 1))) (half q (par (n + 1))) (fs (n + 1)))
      ∗ Idle thr (blk n) (slot (par n)) (sm (par n)) (half q (par n)) (fs n)) ⊢ Ring thr blk slot sm q fs (n + 1) := by
  unfold Ring
  rw [show par (n + 1 + 1) = par n from par_add_two n]
  iintro ⟨H, H'⟩
  isplitl [H]; · iexact H
  iapply (hb _ _ _) $$ H'

end Step

/-! ## A window read -/

theorem blkA_at (w : Fin 1056) (y : S128x128.Idx) (h) :
    (Rect.unit (s := S135168x128) ![128 * w.val, 0] S128x128.size h).emb y = elt (ent w (y 0)) (y 1) := by
  funext b
  apply Fin.ext
  rw [Rect.emb_apply]
  match b with
  | ⟨0, _⟩ => show 128 * w.val + 1 * (y 0).val = 128 * w.val + (y 0).val; omega
  | ⟨1, _⟩ => show 0 + 1 * (y 1).val = (y 1).val; omega

theorem blkA_read (w : Fin 1056) (f : S135168x128.Idx → Elt F .i32) (y : S128x128.Idx) :
    View.read (Elt F) (blkA (Memref.whole main_v4_scv) w).view f y = f (elt (ent w (y 0)) (y 1)) :=
  congrArg f (blkA_at w y _)

theorem blkI_at (w : Fin 1056) (k : Fin 128) (h) :
    (Rect.unit (s := S1x135168) ![0, 128 * w.val] S1x128.size h).emb (e1 k) = pos (ent w k) := by
  funext b
  apply Fin.ext
  rw [Rect.emb_apply]
  match b with
  | ⟨0, _⟩ => show 0 + 1 * 0 = 0; omega
  | ⟨1, _⟩ => show 128 * w.val + 1 * k.val = 128 * w.val + k.val; omega

section Tile

variable [FloatOps F] (I : Inp F) (d : Dev nD) (c : Fin (grid0.bound 0)) (s : Fin (grid0.bound 1))

/-- The tile. -/
abbrev tile : Thread nD τ := V d ((coordsV c s 0).castLE hcore0) ((coordsV c s 1).castLE hsub0)

/-- The four lists' parts of the result in window `w`, at contents `g`. -/
def Four (w : Fin 1056) (g : S606208x128.Idx → Elt F .i32) : sProp 𝕄 :=
  iprop((oDst.view.loc (tile d c s) ↦[piece I w 0]{fullShare} g) ∗ (oDst.view.loc (tile d c s) ↦[piece I w 1]{fullShare} g)
    ∗ (oDst.view.loc (tile d c s) ↦[piece I w 2]{fullShare} g) ∗ (oDst.view.loc (tile d c s) ↦[piece I w 3]{fullShare} g))

/-- The tile's parts of the result before trip `t`. -/
def Parts (t : ℕ) : sProp 𝕄 :=
  bigSep (Finset.univ : Finset (Fin 33)) fun n => Four I d c s (win c s n) (if n.val < t then I.out else I.o)

abbrev RA (q : PosShare TreeShare) (n : ℕ) : sProp 𝕄 :=
  Ring (F := F) (tile d c s) (fun n => blkA (Memref.whole main_v4_scv) (win c s n)) (slotA (Memref.whole cc0_scoped0)) (slotS cc0_scoped1) q (fun _ => I.x) n
abbrev R0 (q : PosShare TreeShare) (n : ℕ) : sProp 𝕄 :=
  Ring (F := F) (tile d c s) (fun n => blkI (Memref.whole main_v11_scv) (win c s n)) (slotI (Memref.whole cc0_scoped2)) (slotS cc0_scoped3) q (fun _ => I.ix 0) n
abbrev R1 (q : PosShare TreeShare) (n : ℕ) : sProp 𝕄 :=
  Ring (F := F) (tile d c s) (fun n => blkI (Memref.whole main_v18_scv) (win c s n)) (slotI (Memref.whole cc0_scoped4)) (slotS cc0_scoped5) q (fun _ => I.ix 1) n
abbrev R2 (q : PosShare TreeShare) (n : ℕ) : sProp 𝕄 :=
  Ring (F := F) (tile d c s) (fun n => blkI (Memref.whole main_v25_scv) (win c s n)) (slotI (Memref.whole cc0_scoped6)) (slotS cc0_scoped7) q (fun _ => I.ix 2) n
abbrev R3 (q : PosShare TreeShare) (n : ℕ) : sProp 𝕄 :=
  Ring (F := F) (tile d c s) (fun n => blkI (Memref.whole main_v32_scv) (win c s n)) (slotI (Memref.whole cc0_scoped8)) (slotS cc0_scoped9) q (fun _ => I.ix 3) n

theorem openA (q : PosShare TreeShare) (n : ℕ) (h : n < 33) : RA I d c s q n
    ⊢ iprop(Busy (F := F) (tile d c s) (blkA (Memref.whole main_v4_scv) (win c s n)) (slotA (Memref.whole cc0_scoped0) (par n)) (slotS cc0_scoped1 (par n)) (half q (par n)) (I.x)
      ∗ Idle (F := F) (tile d c s) (blkA (Memref.whole main_v4_scv) (win c s (n + 1))) (slotA (Memref.whole cc0_scoped0) (par (n + 1))) (slotS cc0_scoped1 (par (n + 1))) (half q (par (n + 1))) (I.x)) :=
  ring_open (tile d c s) (fun n => blkA (Memref.whole main_v4_scv) (win c s n)) (slotA (Memref.whole cc0_scoped0)) (slotS cc0_scoped1) q (fun _ => I.x) n h
theorem closeA (q : PosShare TreeShare) (n : ℕ) :
    iprop((if n + 1 < 33 then Busy (F := F) (tile d c s) (blkA (Memref.whole main_v4_scv) (win c s (n + 1))) (slotA (Memref.whole cc0_scoped0) (par (n + 1))) (slotS cc0_scoped1 (par (n + 1))) (half q (par (n + 1))) (I.x)
        else Idle (F := F) (tile d c s) (blkA (Memref.whole main_v4_scv) (win c s (n + 1))) (slotA (Memref.whole cc0_scoped0) (par (n + 1))) (slotS cc0_scoped1 (par (n + 1))) (half q (par (n + 1))) (I.x))
      ∗ Idle (F := F) (tile d c s) (blkA (Memref.whole main_v4_scv) (win c s n)) (slotA (Memref.whole cc0_scoped0) (par n)) (slotS cc0_scoped1 (par n)) (half q (par n)) (I.x)) ⊢ RA I d c s q (n + 1) :=
  ring_close (tile d c s) (fun n => blkA (Memref.whole main_v4_scv) (win c s n)) (slotA (Memref.whole cc0_scoped0)) (slotS cc0_scoped1) q (fun _ => I.x) n fun _ _ _ => .rfl
theorem open0 (q : PosShare TreeShare) (n : ℕ) (h : n < 33) : R0 I d c s q n
    ⊢ iprop(Busy (F := F) (tile d c s) (blkI (Memref.whole main_v11_scv) (win c s n)) (slotI (Memref.whole cc0_scoped2) (par n)) (slotS cc0_scoped3 (par n)) (half q (par n)) (I.ix 0)
      ∗ Idle (F := F) (tile d c s) (blkI (Memref.whole main_v11_scv) (win c s (n + 1))) (slotI (Memref.whole cc0_scoped2) (par (n + 1))) (slotS cc0_scoped3 (par (n + 1))) (half q (par (n + 1))) (I.ix 0)) :=
  ring_open (tile d c s) (fun n => blkI (Memref.whole main_v11_scv) (win c s n)) (slotI (Memref.whole cc0_scoped2)) (slotS cc0_scoped3) q (fun _ => I.ix 0) n h
theorem close0 (q : PosShare TreeShare) (n : ℕ) :
    iprop((if n + 1 < 33 then Busy (F := F) (tile d c s) (blkI (Memref.whole main_v11_scv) (win c s (n + 1))) (slotI (Memref.whole cc0_scoped2) (par (n + 1))) (slotS cc0_scoped3 (par (n + 1))) (half q (par (n + 1))) (I.ix 0)
        else Idle (F := F) (tile d c s) (blkI (Memref.whole main_v11_scv) (win c s (n + 1))) (slotI (Memref.whole cc0_scoped2) (par (n + 1))) (slotS cc0_scoped3 (par (n + 1))) (half q (par (n + 1))) (I.ix 0))
      ∗ Idle (F := F) (tile d c s) (blkI (Memref.whole main_v11_scv) (win c s n)) (slotI (Memref.whole cc0_scoped2) (par n)) (slotS cc0_scoped3 (par n)) (half q (par n)) (I.ix 0)) ⊢ R0 I d c s q (n + 1) :=
  ring_close (tile d c s) (fun n => blkI (Memref.whole main_v11_scv) (win c s n)) (slotI (Memref.whole cc0_scoped2)) (slotS cc0_scoped3) q (fun _ => I.ix 0) n fun _ _ _ => .rfl
theorem open1 (q : PosShare TreeShare) (n : ℕ) (h : n < 33) : R1 I d c s q n
    ⊢ iprop(Busy (F := F) (tile d c s) (blkI (Memref.whole main_v18_scv) (win c s n)) (slotI (Memref.whole cc0_scoped4) (par n)) (slotS cc0_scoped5 (par n)) (half q (par n)) (I.ix 1)
      ∗ Idle (F := F) (tile d c s) (blkI (Memref.whole main_v18_scv) (win c s (n + 1))) (slotI (Memref.whole cc0_scoped4) (par (n + 1))) (slotS cc0_scoped5 (par (n + 1))) (half q (par (n + 1))) (I.ix 1)) :=
  ring_open (tile d c s) (fun n => blkI (Memref.whole main_v18_scv) (win c s n)) (slotI (Memref.whole cc0_scoped4)) (slotS cc0_scoped5) q (fun _ => I.ix 1) n h
theorem close1 (q : PosShare TreeShare) (n : ℕ) :
    iprop((if n + 1 < 33 then Busy (F := F) (tile d c s) (blkI (Memref.whole main_v18_scv) (win c s (n + 1))) (slotI (Memref.whole cc0_scoped4) (par (n + 1))) (slotS cc0_scoped5 (par (n + 1))) (half q (par (n + 1))) (I.ix 1)
        else Idle (F := F) (tile d c s) (blkI (Memref.whole main_v18_scv) (win c s (n + 1))) (slotI (Memref.whole cc0_scoped4) (par (n + 1))) (slotS cc0_scoped5 (par (n + 1))) (half q (par (n + 1))) (I.ix 1))
      ∗ Idle (F := F) (tile d c s) (blkI (Memref.whole main_v18_scv) (win c s n)) (slotI (Memref.whole cc0_scoped4) (par n)) (slotS cc0_scoped5 (par n)) (half q (par n)) (I.ix 1)) ⊢ R1 I d c s q (n + 1) :=
  ring_close (tile d c s) (fun n => blkI (Memref.whole main_v18_scv) (win c s n)) (slotI (Memref.whole cc0_scoped4)) (slotS cc0_scoped5) q (fun _ => I.ix 1) n fun _ _ _ => .rfl
theorem open2 (q : PosShare TreeShare) (n : ℕ) (h : n < 33) : R2 I d c s q n
    ⊢ iprop(Busy (F := F) (tile d c s) (blkI (Memref.whole main_v25_scv) (win c s n)) (slotI (Memref.whole cc0_scoped6) (par n)) (slotS cc0_scoped7 (par n)) (half q (par n)) (I.ix 2)
      ∗ Idle (F := F) (tile d c s) (blkI (Memref.whole main_v25_scv) (win c s (n + 1))) (slotI (Memref.whole cc0_scoped6) (par (n + 1))) (slotS cc0_scoped7 (par (n + 1))) (half q (par (n + 1))) (I.ix 2)) :=
  ring_open (tile d c s) (fun n => blkI (Memref.whole main_v25_scv) (win c s n)) (slotI (Memref.whole cc0_scoped6)) (slotS cc0_scoped7) q (fun _ => I.ix 2) n h
theorem close2 (q : PosShare TreeShare) (n : ℕ) :
    iprop((if n + 1 < 33 then Busy (F := F) (tile d c s) (blkI (Memref.whole main_v25_scv) (win c s (n + 1))) (slotI (Memref.whole cc0_scoped6) (par (n + 1))) (slotS cc0_scoped7 (par (n + 1))) (half q (par (n + 1))) (I.ix 2)
        else Idle (F := F) (tile d c s) (blkI (Memref.whole main_v25_scv) (win c s (n + 1))) (slotI (Memref.whole cc0_scoped6) (par (n + 1))) (slotS cc0_scoped7 (par (n + 1))) (half q (par (n + 1))) (I.ix 2))
      ∗ Idle (F := F) (tile d c s) (blkI (Memref.whole main_v25_scv) (win c s n)) (slotI (Memref.whole cc0_scoped6) (par n)) (slotS cc0_scoped7 (par n)) (half q (par n)) (I.ix 2)) ⊢ R2 I d c s q (n + 1) :=
  ring_close (tile d c s) (fun n => blkI (Memref.whole main_v25_scv) (win c s n)) (slotI (Memref.whole cc0_scoped6)) (slotS cc0_scoped7) q (fun _ => I.ix 2) n fun _ _ _ => .rfl
theorem open3 (q : PosShare TreeShare) (n : ℕ) (h : n < 33) : R3 I d c s q n
    ⊢ iprop(Busy (F := F) (tile d c s) (blkI (Memref.whole main_v32_scv) (win c s n)) (slotI (Memref.whole cc0_scoped8) (par n)) (slotS cc0_scoped9 (par n)) (half q (par n)) (I.ix 3)
      ∗ Idle (F := F) (tile d c s) (blkI (Memref.whole main_v32_scv) (win c s (n + 1))) (slotI (Memref.whole cc0_scoped8) (par (n + 1))) (slotS cc0_scoped9 (par (n + 1))) (half q (par (n + 1))) (I.ix 3)) :=
  ring_open (tile d c s) (fun n => blkI (Memref.whole main_v32_scv) (win c s n)) (slotI (Memref.whole cc0_scoped8)) (slotS cc0_scoped9) q (fun _ => I.ix 3) n h
theorem close3 (q : PosShare TreeShare) (n : ℕ) :
    iprop((if n + 1 < 33 then Busy (F := F) (tile d c s) (blkI (Memref.whole main_v32_scv) (win c s (n + 1))) (slotI (Memref.whole cc0_scoped8) (par (n + 1))) (slotS cc0_scoped9 (par (n + 1))) (half q (par (n + 1))) (I.ix 3)
        else Idle (F := F) (tile d c s) (blkI (Memref.whole main_v32_scv) (win c s (n + 1))) (slotI (Memref.whole cc0_scoped8) (par (n + 1))) (slotS cc0_scoped9 (par (n + 1))) (half q (par (n + 1))) (I.ix 3))
      ∗ Idle (F := F) (tile d c s) (blkI (Memref.whole main_v32_scv) (win c s n)) (slotI (Memref.whole cc0_scoped8) (par n)) (slotS cc0_scoped9 (par n)) (half q (par n)) (I.ix 3)) ⊢ R3 I d c s q (n + 1) :=
  ring_close (tile d c s) (fun n => blkI (Memref.whole main_v32_scv) (win c s n)) (slotI (Memref.whole cc0_scoped8)) (slotS cc0_scoped9) q (fun _ => I.ix 3) n fun _ _ _ => .rfl

/-- Before trip `t`. -/
def inv (O : CellTallies nD τ sig (HIx 1)) (W : Waits sig (HIx 1)) (q : PosShare TreeShare) (t : ℕ) (a : Acc) : sProp 𝕄 :=
  iprop(⌜a = acc t⌝ ∗ Transfers.MayWaits (tile d c s) (default : HIx 1) O
    ∗ RA I d c s q t ∗ R0 I d c s q t ∗ R1 I d c s q t ∗ R2 I d c s q t ∗ R3 I d c s q t
    ∗ Parts I d c s t
    ∗ semVal (tile d c s, SemLoc.dma cc0_scoped10.sem) 0 ∗ semVal (tile d c s, SemLoc.dma cc0_scoped11.sem) 0
    ∗ semVal (tile d c s, SemLoc.dma cc0_scoped12.sem) 0 ∗ semVal (tile d c s, SemLoc.dma cc0_scoped13.sem) 0
    ∗ ∃ W', ⌜∀ p ∈ W', p ∈ W ∨ p.2 = none⌝ ∗ owes (tile d c s) O W')

abbrev body1 : Fin k0_t1_loop.trips → Acc → Prog (TpuEff nD τ sig (Elt F) Λ₀ (.scVector ((coordsV c s 0).castLE hcore0) ((coordsV c s 1).castLE hsub0))) Acc :=
  k0_t1_body (F := F) (coordsV c s) (Memref.whole main_v4_scv) (Memref.isWhole_whole _) (Memref.whole main_v11_scv) (Memref.isWhole_whole _)
    (Memref.whole main_v18_scv) (Memref.isWhole_whole _) (Memref.whole main_v25_scv) (Memref.isWhole_whole _)
    (Memref.whole main_v32_scv) (Memref.isWhole_whole _) (Memref.whole main_v33_scv) (Memref.isWhole_whole _)
    (Memref.whole cc0_scoped0) (Memref.isWhole_whole _) cc0_scoped1 (Memref.whole cc0_scoped2) (Memref.isWhole_whole _) cc0_scoped3
    (Memref.whole cc0_scoped4) (Memref.isWhole_whole _) cc0_scoped5 (Memref.whole cc0_scoped6) (Memref.isWhole_whole _) cc0_scoped7
    (Memref.whole cc0_scoped8) (Memref.isWhole_whole _) cc0_scoped9 cc0_scoped10 cc0_scoped11 cc0_scoped12 cc0_scoped13
    (BitVec.ofNat 32 (base c s)) (BitVec.ofNat 32 (base c s)) (Scalar.addi 0#32 1#32) (Scalar.addi 0#32 1#32) (Scalar.addi 0#32 1#32)

/-- The tile's parts at trip `t`: window `t`'s four, and the rest, which the trip leaves as they are. -/
theorem parts_take (t : ℕ) (ht : t < 33) : ∃ R : sProp 𝕄,
    Parts I d c s t = iprop(Four I d c s (win c s t) I.o ∗ R) ∧ Parts I d c s (t + 1) = iprop(Four I d c s (win c s t) I.out ∗ R) := by
  refine ⟨bigSep ((Finset.univ : Finset (Fin 33)).erase ⟨t, ht⟩) fun n => Four I d c s (win c s n) (if n.val < t then I.out else I.o), ?_, ?_⟩
  · unfold Parts
    rw [SparseCore.bigSep_erase' (Finset.mem_univ (⟨t, ht⟩ : Fin 33)), if_neg (Nat.lt_irrefl t)]
  · unfold Parts
    rw [SparseCore.bigSep_erase' (Finset.mem_univ (⟨t, ht⟩ : Fin 33)), if_pos (Nat.lt_succ_self t)]
    refine congrArg (fun X => iprop(_ ∗ X)) (bigSep_congr fun n hn => ?_)
    have hne : n.val ≠ t := fun e => (Finset.mem_erase.mp hn).1 (Fin.ext e)
    exact congrArg (Four I d c s (win c s n)) (if_congr (by omega) rfl rfl)

theorem ins_ok {W W' : Waits sig (HIx 1)} (h : ∀ p ∈ W', p ∈ W ∨ p.2 = none) (g : SemLoc sig) :
    ∀ p ∈ insert (g, (default : HIx 1)) W', p ∈ W ∨ p.2 = none := fun p hp =>
  (Finset.mem_insert.mp hp).elim (fun e => .inr (e ▸ rfl)) (h p)

/-! The words a trip carries on. -/

theorem next_fetch : ∀ (c : Fin (grid0.bound 0)) (s : Fin (grid0.bound 1)) (t : Fin k0_t1_loop.trips),
    Scalar.select (Scalar.andi (Scalar.andi (Scalar.cmpi .ne (Scalar.addi (wP t) (BitVec.ofNat 32 (base c s))) (Scalar.addi (Scalar.select (Scalar.cmpi .eq (Scalar.select 1#1 (Scalar.addi (wP t) 1#32) (wP t)) 33#32) 0#32 (Scalar.select 1#1 (Scalar.addi (wP t) 1#32) (wP t))) (BitVec.ofNat 32 (base c s)))) (Scalar.xori (Scalar.cmpi .sge (Scf.iv 0#32 1#32 t) 32#32) 1#1)) 1#1) (Scalar.addi (wF t) 1#32) (wF t)
      = wF (t + 1) := by decide +kernel
theorem next_wait : ∀ (c : Fin (grid0.bound 0)) (s : Fin (grid0.bound 1)) (t : Fin k0_t1_loop.trips),
    Scalar.select (Scalar.ori (Scalar.cmpi .ne (Scalar.addi (wP t) (BitVec.ofNat 32 (base c s))) (Scalar.addi (Scalar.select (Scalar.cmpi .eq (Scalar.select 1#1 (Scalar.addi (wP t) 1#32) (wP t)) 33#32) 0#32 (Scalar.select 1#1 (Scalar.addi (wP t) 1#32) (wP t))) (BitVec.ofNat 32 (base c s)))) (Scalar.cmpi .eq (Scf.iv 0#32 1#32 t) 32#32)) (Scalar.addi (wW t) 1#32) (wW t)
      = wW (t + 1) := by decide +kernel
theorem next_pos : ∀ t : Fin k0_t1_loop.trips,
    (Scalar.select (Scalar.cmpi .eq (Scalar.select 1#1 (Scalar.addi (wP t) 1#32) (wP t)) 33#32) 0#32 (Scalar.select 1#1 (Scalar.addi (wP t) 1#32) (wP t))) = wP (t + 1) := by decide +kernel

set_option maxHeartbeats 4000000 in
theorem trip (hI : I.Ok) (O : CellTallies nD τ sig (HIx 1)) (W : Waits sig (HIx 1)) (q : PosShare TreeShare) (t : Fin k0_t1_loop.trips) (a : Acc) :
    inv I d c s O W q t a
      ⊢ wp frame (wpE (defs₀ (F := F)) 𝒱₀ (tile d c s) none) Set.univ (body1 c s t a) (inv I d c s O W q (t + 1)) := by
  have ht : t.val < 33 := trips_eq ▸ t.isLt
  have hf : k0_cond1 (coordsV c s) t (wP t) = 1#1 ↔ t.val + 1 < 33 := (cond_fetch c s t).trans (by omega)
  have lt : k0_cond1 (coordsV c s) t (wP t) = 1#1 → t.val < 32 := (cond_fetch c s t).1
  have hw := cond_wait c s t
  have h128 : 0 < S128x128.numel := Shape.numel_pos (by decide)
  have h1 : 0 < S1x128.numel := Shape.numel_pos (by decide)
  obtain ⟨R, hR, hR'⟩ := parts_take I d c s t ht
  unfold inv
  rw [hR]
  unfold Four
  iintro ⟨%ha, #Hmw, HA, H0, H1, H2, H3, ⟨⟨HP0, HP1, HP2, HP3⟩, HR⟩, Hs0, Hs1, Hs2, Hs3, %W₀, %hW₀, HO⟩
  subst ha
  icases (openA I d c s q t ht) $$ HA with ⟨HA, HA'⟩
  icases (open0 I d c s q t ht) $$ H0 with ⟨H0, H0'⟩
  icases (open1 I d c s q t ht) $$ H1 with ⟨H1, H1'⟩
  icases (open2 I d c s q t ht) $$ H2 with ⟨H2, H2'⟩
  icases (open3 I d c s q t ht) $$ H3 with ⟨H3, H3'⟩
  unfold body1 k0_t1_body acc
  simp only [k0_part1_eq_skeleton, k0_part2_eq_skeleton, k0_part3_eq_skeleton, k0_part4_eq_skeleton, k0_part5_eq_skeleton, k0_part6_eq_skeleton, k0_part7_eq_skeleton]
  unfold k0_part1_skel
  simp only [Prog.lift, Prog.bind_op, Prog.bind_ret, Prog.pure_eq_ret, Prog.bind_assoc]
  rw [wp_assume_of _ _ _ _ (chk6_ok t), wp_assume_of _ _ _ _ (chk5_ok t), wp_assume_of _ _ _ _ (chk4_ok t), wp_assume_of _ _ _ _ (chk3_ok t), wp_assume_of _ _ _ _ (chk2_ok t), wp_assume_of _ _ _ _ (chk1_ok c s t)]
  iapply (wp_fetchIf' d ((coordsV c s 0).castLE hcore0) ((coordsV c s 1).castLE hsub0) (F := F) (src := blkA (Memref.whole main_v4_scv) (win c s (t + 1))) (fs := I.x) (q := half q (par (t + 1))) (t.val + 1 < 33) hf
    (fun h => blkA_eq (Memref.whole main_v4_scv) (win c s (t + 1)) _ _ _ (rowsF c s t (lt h)))
    (fun h => slotA_eq (Memref.whole cc0_scoped0) (par (t + 1)) _ _ _ (slotF3 (lt h))) (fun h => slotS_eq cc0_scoped1 (par (t + 1)) _ _ (slotF1 (lt h))) h128) $$ HA'
  iintro HA'
  unfold k0_part2_skel
  simp only [Prog.lift, Prog.bind_op, Prog.bind_ret, Prog.pure_eq_ret, Prog.bind_assoc]
  iapply (wp_fetchIf' d ((coordsV c s 0).castLE hcore0) ((coordsV c s 1).castLE hsub0) (F := F) (src := blkI (Memref.whole main_v11_scv) (win c s (t + 1))) (fs := I.ix 0) (q := half q (par (t + 1))) (t.val + 1 < 33) hf
    (fun h => blkI_eq (Memref.whole main_v11_scv) (win c s (t + 1)) _ _ _ (colsF c s t (lt h)))
    (fun h => slotI_eq (Memref.whole cc0_scoped2) (par (t + 1)) _ _ _ (slotF3 (lt h))) (fun h => slotS_eq cc0_scoped3 (par (t + 1)) _ _ (slotF1 (lt h))) h1) $$ H0'
  iintro H0'
  iapply (wp_fetchIf' d ((coordsV c s 0).castLE hcore0) ((coordsV c s 1).castLE hsub0) (F := F) (src := blkI (Memref.whole main_v18_scv) (win c s (t + 1))) (fs := I.ix 1) (q := half q (par (t + 1))) (t.val + 1 < 33) hf
    (fun h => blkI_eq (Memref.whole main_v18_scv) (win c s (t + 1)) _ _ _ (colsF c s t (lt h)))
    (fun h => slotI_eq (Memref.whole cc0_scoped4) (par (t + 1)) _ _ _ (slotF3 (lt h))) (fun h => slotS_eq cc0_scoped5 (par (t + 1)) _ _ (slotF1 (lt h))) h1) $$ H1'
  iintro H1'
  iapply (wp_fetchIf' d ((coordsV c s 0).castLE hcore0) ((coordsV c s 1).castLE hsub0) (F := F) (src := blkI (Memref.whole main_v25_scv) (win c s (t + 1))) (fs := I.ix 2) (q := half q (par (t + 1))) (t.val + 1 < 33) hf
    (fun h => blkI_eq (Memref.whole main_v25_scv) (win c s (t + 1)) _ _ _ (colsF c s t (lt h)))
    (fun h => slotI_eq (Memref.whole cc0_scoped6) (par (t + 1)) _ _ _ (slotF3 (lt h))) (fun h => slotS_eq cc0_scoped7 (par (t + 1)) _ _ (slotF1 (lt h))) h1) $$ H2'
  iintro H2'
  iapply (wp_fetchIf' d ((coordsV c s 0).castLE hcore0) ((coordsV c s 1).castLE hsub0) (F := F) (src := blkI (Memref.whole main_v32_scv) (win c s (t + 1))) (fs := I.ix 3) (q := half q (par (t + 1))) (t.val + 1 < 33) hf
    (fun h => blkI_eq (Memref.whole main_v32_scv) (win c s (t + 1)) _ _ _ (colsF c s t (lt h)))
    (fun h => slotI_eq (Memref.whole cc0_scoped8) (par (t + 1)) _ _ _ (slotF3 (lt h))) (fun h => slotS_eq cc0_scoped9 (par (t + 1)) _ _ (slotF1 (lt h))) h1) $$ H3'
  iintro H3'
  unfold k0_part3_skel
  simp only [Prog.lift, Prog.bind_op, Prog.bind_ret, Prog.pure_eq_ret, Prog.bind_assoc]
  iapply (wp_wait' d ((coordsV c s 0).castLE hcore0) ((coordsV c s 1).castLE hsub0) (F := F) (src := blkA (Memref.whole main_v4_scv) (win c s t)) (fs := I.x) (q := half q (par t)) hw
    (fun _ => slotA_eq (Memref.whole cc0_scoped0) (par t) _ _ _ (slotW3 ht)) (fun _ => slotS_eq cc0_scoped1 (par t) _ _ (slotW1 ht))) $$ [HA HO]
  · isplitl [HA]; · iexact HA
    isplitl [HO]; · iexact HO
    iexact Hmw
  iintro ⟨LA, SA, VA, HO⟩
  iapply (wp_wait' d ((coordsV c s 0).castLE hcore0) ((coordsV c s 1).castLE hsub0) (F := F) (src := blkI (Memref.whole main_v11_scv) (win c s t)) (fs := I.ix 0) (q := half q (par t)) hw
    (fun _ => slotI_eq (Memref.whole cc0_scoped2) (par t) _ _ _ (slotW3 ht)) (fun _ => slotS_eq cc0_scoped3 (par t) _ _ (slotW1 ht))) $$ [H0 HO]
  · isplitl [H0]; · iexact H0
    isplitl [HO]; · iexact HO
    iexact Hmw
  iintro ⟨L0, S0, V0, HO⟩
  iapply (wp_wait' d ((coordsV c s 0).castLE hcore0) ((coordsV c s 1).castLE hsub0) (F := F) (src := blkI (Memref.whole main_v18_scv) (win c s t)) (fs := I.ix 1) (q := half q (par t)) hw
    (fun _ => slotI_eq (Memref.whole cc0_scoped4) (par t) _ _ _ (slotW3 ht)) (fun _ => slotS_eq cc0_scoped5 (par t) _ _ (slotW1 ht))) $$ [H1 HO]
  · isplitl [H1]; · iexact H1
    isplitl [HO]; · iexact HO
    iexact Hmw
  iintro ⟨L1, S1, V1, HO⟩
  iapply (wp_wait' d ((coordsV c s 0).castLE hcore0) ((coordsV c s 1).castLE hsub0) (F := F) (src := blkI (Memref.whole main_v25_scv) (win c s t)) (fs := I.ix 2) (q := half q (par t)) hw
    (fun _ => slotI_eq (Memref.whole cc0_scoped6) (par t) _ _ _ (slotW3 ht)) (fun _ => slotS_eq cc0_scoped7 (par t) _ _ (slotW1 ht))) $$ [H2 HO]
  · isplitl [H2]; · iexact H2
    isplitl [HO]; · iexact HO
    iexact Hmw
  iintro ⟨L2, S2, V2, HO⟩
  iapply (wp_wait' d ((coordsV c s 0).castLE hcore0) ((coordsV c s 1).castLE hsub0) (F := F) (src := blkI (Memref.whole main_v32_scv) (win c s t)) (fs := I.ix 3) (q := half q (par t)) hw
    (fun _ => slotI_eq (Memref.whole cc0_scoped8) (par t) _ _ _ (slotW3 ht)) (fun _ => slotS_eq cc0_scoped9 (par t) _ _ (slotW1 ht))) $$ [H3 HO]
  · isplitl [H3]; · iexact H3
    isplitl [HO]; · iexact HO
    iexact Hmw
  iintro ⟨L3, S3, V3, HO⟩
  unfold k0_part4_skel
  simp only [Prog.lift, Prog.bind_op, Prog.bind_ret, Prog.pure_eq_ret, Prog.bind_assoc]
  iapply (wp_scatter d ((coordsV c s 0).castLE hcore0) ((coordsV c s 1).castLE hsub0) I hI (win c s t) 0 (srcA := blkA (Memref.whole main_v4_scv) (win c s t)) (fA := I.x)
    (srcL := blkI (Memref.whole main_v11_scv) (win c s t)) (fL := I.ix 0) (slotA_eq (Memref.whole cc0_scoped0) (par t) _ _ _ (slotW3 ht))
    (slotI_eq (Memref.whole cc0_scoped2) (par t) _ _ _ (slotW3 ht)) (blkA_read (win c s t) I.x) (fun k => congrArg (I.ix 0) (blkI_at (win c s t) k _))) $$ [HP0 LA L0 Hs0]
  · isplitl [HP0]; · iexact HP0
    isplitl [LA]; · iexact LA
    isplitl [L0] <;> iassumption
  iintro HF
  iapply (wp_scattered d ((coordsV c s 0).castLE hcore0) ((coordsV c s 1).castLE hsub0) (F := F) (slotA_eq (Memref.whole cc0_scoped0) (par t) _ _ _ (slotW3 ht))) $$ [HF HO]
  · isplitl [HF]; · iexact HF
    isplitl [HO]; · iexact HO
    iexact Hmw
  iintro ⟨HP0, LA, L0, Hs0, HO⟩
  iapply (wp_scatter d ((coordsV c s 0).castLE hcore0) ((coordsV c s 1).castLE hsub0) I hI (win c s t) 1 (srcA := blkA (Memref.whole main_v4_scv) (win c s t)) (fA := I.x)
    (srcL := blkI (Memref.whole main_v18_scv) (win c s t)) (fL := I.ix 1) (slotA_eq (Memref.whole cc0_scoped0) (par t) _ _ _ (slotW3 ht))
    (slotI_eq (Memref.whole cc0_scoped4) (par t) _ _ _ (slotW3 ht)) (blkA_read (win c s t) I.x) (fun k => congrArg (I.ix 1) (blkI_at (win c s t) k _))) $$ [HP1 LA L1 Hs1]
  · isplitl [HP1]; · iexact HP1
    isplitl [LA]; · iexact LA
    isplitl [L1] <;> iassumption
  iintro HF
  unfold k0_part5_skel
  simp only [Prog.lift, Prog.bind_op, Prog.bind_ret, Prog.pure_eq_ret, Prog.bind_assoc]
  iapply (wp_scattered d ((coordsV c s 0).castLE hcore0) ((coordsV c s 1).castLE hsub0) (F := F) (slotA_eq (Memref.whole cc0_scoped0) (par t) _ _ _ (slotW3 ht))) $$ [HF HO]
  · isplitl [HF]; · iexact HF
    isplitl [HO]; · iexact HO
    iexact Hmw
  iintro ⟨HP1, LA, L1, Hs1, HO⟩
  iapply (wp_scatter d ((coordsV c s 0).castLE hcore0) ((coordsV c s 1).castLE hsub0) I hI (win c s t) 2 (srcA := blkA (Memref.whole main_v4_scv) (win c s t)) (fA := I.x)
    (srcL := blkI (Memref.whole main_v25_scv) (win c s t)) (fL := I.ix 2) (slotA_eq (Memref.whole cc0_scoped0) (par t) _ _ _ (slotW3 ht))
    (slotI_eq (Memref.whole cc0_scoped6) (par t) _ _ _ (slotW3 ht)) (blkA_read (win c s t) I.x) (fun k => congrArg (I.ix 2) (blkI_at (win c s t) k _))) $$ [HP2 LA L2 Hs2]
  · isplitl [HP2]; · iexact HP2
    isplitl [LA]; · iexact LA
    isplitl [L2] <;> iassumption
  iintro HF
  iapply (wp_scattered d ((coordsV c s 0).castLE hcore0) ((coordsV c s 1).castLE hsub0) (F := F) (slotA_eq (Memref.whole cc0_scoped0) (par t) _ _ _ (slotW3 ht))) $$ [HF HO]
  · isplitl [HF]; · iexact HF
    isplitl [HO]; · iexact HO
    iexact Hmw
  iintro ⟨HP2, LA, L2, Hs2, HO⟩
  iapply (wp_scatter d ((coordsV c s 0).castLE hcore0) ((coordsV c s 1).castLE hsub0) I hI (win c s t) 3 (srcA := blkA (Memref.whole main_v4_scv) (win c s t)) (fA := I.x)
    (srcL := blkI (Memref.whole main_v32_scv) (win c s t)) (fL := I.ix 3) (slotA_eq (Memref.whole cc0_scoped0) (par t) _ _ _ (slotW3 ht))
    (slotI_eq (Memref.whole cc0_scoped8) (par t) _ _ _ (slotW3 ht)) (blkA_read (win c s t) I.x) (fun k => congrArg (I.ix 3) (blkI_at (win c s t) k _))) $$ [HP3 LA L3 Hs3]
  · isplitl [HP3]; · iexact HP3
    isplitl [LA]; · iexact LA
    isplitl [L3] <;> iassumption
  iintro HF
  unfold k0_part6_skel
  simp only [Prog.lift, Prog.bind_op, Prog.bind_ret, Prog.pure_eq_ret, Prog.bind_assoc]
  iapply (wp_scattered d ((coordsV c s 0).castLE hcore0) ((coordsV c s 1).castLE hsub0) (F := F) (slotA_eq (Memref.whole cc0_scoped0) (par t) _ _ _ (slotW3 ht))) $$ [HF HO]
  · isplitl [HF]; · iexact HF
    isplitl [HO]; · iexact HO
    iexact Hmw
  iintro ⟨HP3, LA, L3, Hs3, HO⟩
  unfold k0_part7_skel
  simp only [Prog.lift, Prog.bind_op, Prog.bind_ret, Prog.pure_eq_ret, Prog.bind_assoc, ite_self]
  rw [hR']
  rw [wp_ret]
  imodintro
  isplitr
  · ipureintro
    rw [next_fetch, next_wait, next_pos]
  isplitr; · iexact Hmw
  isplitl [HA' LA SA VA]
  · iapply (closeA I d c s q t)
    isplitl [HA']; · iexact HA'
    iapply (landed_idle d _ _ _ _ _ _ _)
    isplitl [LA]; · iexact LA
    isplitl [SA] <;> iassumption
  isplitl [H0' L0 S0 V0]
  · iapply (close0 I d c s q t)
    isplitl [H0']; · iexact H0'
    iapply (landed_idle d _ _ _ _ _ _ _)
    isplitl [L0]; · iexact L0
    isplitl [S0] <;> iassumption
  isplitl [H1' L1 S1 V1]
  · iapply (close1 I d c s q t)
    isplitl [H1']; · iexact H1'
    iapply (landed_idle d _ _ _ _ _ _ _)
    isplitl [L1]; · iexact L1
    isplitl [S1] <;> iassumption
  isplitl [H2' L2 S2 V2]
  · iapply (close2 I d c s q t)
    isplitl [H2']; · iexact H2'
    iapply (landed_idle d _ _ _ _ _ _ _)
    isplitl [L2]; · iexact L2
    isplitl [S2] <;> iassumption
  isplitl [H3' L3 S3 V3]
  · iapply (close3 I d c s q t)
    isplitl [H3']; · iexact H3'
    iapply (landed_idle d _ _ _ _ _ _ _)
    isplitl [L3]; · iexact L3
    isplitl [S3] <;> iassumption
  isplitl [HP0 HP1 HP2 HP3 HR]
  · isplitl [HP0 HP1 HP2 HP3]
    · unfold Four
      isplitl [HP0]; · iexact HP0
      isplitl [HP1]; · iexact HP1
      isplitl [HP2] <;> iassumption
    iexact HR
  isplitl [Hs0]; · iexact Hs0
  isplitl [Hs1]; · iexact Hs1
  isplitl [Hs2]; · iexact Hs2
  isplitl [Hs3]; · iexact Hs3
  iexists _
  isplitr
  swap; · iexact HO
  ipureintro
  exact ins_ok (ins_ok (ins_ok (ins_ok (ins_ok (ins_ok (ins_ok (ins_ok (ins_ok hW₀ _) _) _) _) _) _) _) _) _

end Tile

end Cert.Proof.Scatter

end
-- ==== Proof.Tile.lean ====
/-
  One tile's task: its shares of the source and of the lists, and its parts of the result, go in; the parts come back
  holding the scattered rows.
-/
module

public import proofs.«01_k».proof.Proof.Body

@[expose] public section

noncomputable section

namespace Cert.Proof.Scatter

open Cert.KernelIdeal Cert.KernelIdeal.Gen

open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Tactic

variable {F : FTy → Type}

local notation "𝕄" => MT nD τ sig (HIx 1) (Elt F) ℕ UU ℕ

/-! ## Taking a list of parts out of a separating family -/

theorem bigSep_take {ι : Type} [DecidableEq ι] {Φ : ι → sProp 𝕄} : ∀ (l : List ι) (s : Finset ι), l.Nodup → (∀ i ∈ l, i ∈ s) →
    bigSep s Φ = l.foldr (fun i P => iprop(Φ i ∗ P)) (bigSep (s \ l.toFinset) Φ)
  | [], s, _, _ => by simp
  | i :: l, s, hn, hs => by
    obtain ⟨hi, hl⟩ := List.nodup_cons.mp hn
    rw [SparseCore.bigSep_erase' (hs i List.mem_cons_self),
      bigSep_take l (s.erase i) hl fun k hk => Finset.mem_erase.mpr ⟨fun e => hi (e ▸ hk), hs k (List.mem_cons_of_mem _ hk)⟩,
      List.foldr_cons]
    have e : s.erase i \ l.toFinset = s \ (i :: l).toFinset := by
      ext k
      simp only [Finset.mem_sdiff, Finset.mem_erase, List.mem_toFinset, List.mem_cons, not_or]
      tauto
    rw [e]

/-! ## A ring's scratch as its two slots -/

theorem map_sets {ι κ : Type} [Fintype κ] [DecidableEq ι] [DecidableEq κ] (e : κ ↪ ι) {A B : Finset ι} {R S : Finset κ} (hA : A = R.map e) (hB : B = S.map e)
    (h : Disjoint R S ∧ R ∪ S = Finset.univ) : Disjoint A B ∧ A ∪ B = Finset.univ.map e := by
  subst hA hB
  exact ⟨(Finset.disjoint_map e).mpr h.1, by rw [← Finset.map_union, h.2]⟩

/-- The two rows of an array whose first axis has two. -/
theorem rows_two {n m : ℕ} (h₀ h₁) :
    Disjoint (Rect.unit (s := ⟨3, ![2, n, m]⟩) ![0, 0, 0] ![1, n, m] h₀).set (Rect.unit (s := ⟨3, ![2, n, m]⟩) ![1, 0, 0] ![1, n, m] h₁).set
      ∧ (Rect.unit (s := ⟨3, ![2, n, m]⟩) ![0, 0, 0] ![1, n, m] h₀).set ∪ (Rect.unit (s := ⟨3, ![2, n, m]⟩) ![1, 0, 0] ![1, n, m] h₁).set = Finset.univ := by
  constructor
  · refine Finset.disjoint_left.mpr fun x h h' => ?_
    have h := (Rect.mem_set_unit.mp h) (0 : Fin 3)
    have h' := (Rect.mem_set_unit.mp h') (0 : Fin 3)
    have h1 : (x 0).val < 0 + 1 := h.2
    have h2 : 1 ≤ (x 0).val := h'.1
    omega
  · refine Finset.eq_univ_iff_forall.mpr fun x => Finset.mem_union.mpr ?_
    have h0 : (x 0).val < 2 := (x 0).isLt
    have h1 : (x 1).val < n := (x 1).isLt
    have h2 : (x 2).val < m := (x 2).isLt
    rcases (show (x 0).val = 0 ∨ (x 0).val = 1 by omega) with h | h
    · refine .inl (Rect.mem_set_unit.mpr fun
        | ⟨0, _⟩ => ⟨Nat.zero_le _, by show (x 0).val < 0 + 1; omega⟩
        | ⟨1, _⟩ => ⟨Nat.zero_le _, by show (x 1).val < 0 + n; omega⟩
        | ⟨2, _⟩ => ⟨Nat.zero_le _, by show (x 2).val < 0 + m; omega⟩)
    · refine .inr (Rect.mem_set_unit.mpr fun
        | ⟨0, _⟩ => ⟨by show 1 ≤ (x 0).val; omega, by show (x 0).val < 1 + 1; omega⟩
        | ⟨1, _⟩ => ⟨Nat.zero_le _, by show (x 1).val < 0 + n; omega⟩
        | ⟨2, _⟩ => ⟨Nat.zero_le _, by show (x 2).val < 0 + m; omega⟩)

theorem slotA_sets (a : Memref sig .scVector .vmem S2x128x128 .i32) :
    Disjoint (slotA a 0).view.set (slotA a 1).view.set ∧ (slotA a 0).view.set ∪ (slotA a 1).view.set = a.view.set :=
  map_sets a.view.emb ((View.set_reshape _ _).trans (View.set_slice _ _)) ((View.set_reshape _ _).trans (View.set_slice _ _))
    (rows_two (n := 128) (m := 128) _ _)
theorem slotI_sets (a : Memref sig .scVector .vmem S2x1x128 .i32) :
    Disjoint (slotI a 0).view.set (slotI a 1).view.set ∧ (slotI a 0).view.set ∪ (slotI a 1).view.set = a.view.set :=
  map_sets a.view.emb ((View.set_reshape _ _).trans (View.set_slice _ _)) ((View.set_reshape _ _).trans (View.set_slice _ _))
    (rows_two (n := 1) (m := 128) _ _)

/-- Two disjoint parts that make up a buffer, each at some contents, are the buffer at some contents. -/
theorem halves {ℓ : Loc nD τ sig} {A B : Finset (Idx ℓ)} (hd : Disjoint A B) (hu : A ∪ B = Finset.univ) :
    (iprop(∃ f, ℓ ↦{fullShare} f) : sProp 𝕄) ⊣⊢ iprop((∃ f, ℓ ↦[A]{fullShare} f) ∗ ∃ f, ℓ ↦[B]{fullShare} f) := by
  classical
  constructor
  · iintro ⟨%f, H⟩
    ihave H := (Entails.of_eq (show (ℓ ↦{fullShare} f : sProp 𝕄) = (ℓ ↦[A ∪ B]{fullShare} f) by rw [hu])) $$ H
    icases (pointsTo_union hd).1 $$ H with ⟨H1, H2⟩
    isplitl [H1]; · iexists f; iexact H1
    iexists f; iexact H2
  · iintro ⟨⟨%f, H1⟩, %g, H2⟩
    ihave H := (pointsTo_join hd) $$ [H1 H2]
    · isplitl [H1] <;> iassumption
    iexists _
    rw [hu]
    iexact H

theorem rest_parts {A B C D' E' S : sProp 𝕄} (hh : A ⊣⊢ iprop(B ∗ C)) : iprop(A ∗ D' ∗ E' ∗ S) ⊣⊢ iprop(B ∗ C ∗ D' ∗ E' ∗ S) := by
  constructor
  · iintro ⟨Hb, V0, V1, Hs⟩
    icases hh.1 $$ Hb with ⟨H0, H1⟩
    isplitl [H0]; · iexact H0
    isplitl [H1]; · iexact H1
    isplitl [V0]; · iexact V0
    isplitl [V1]; · iexact V1
    iexact Hs
  · iintro ⟨H0, H1, V0, V1, Hs⟩
    isplitl [H0 H1]
    · iapply hh.2
      isplitl [H0]; · iexact H0
      iexact H1
    isplitl [V0]; · iexact V0
    isplitl [V1]; · iexact V1
    iexact Hs

section RingEnds

variable {S₀ : Shape} (thr : Thread nD τ)
variable (blk : ℕ → Memref sig thr.2.kind .hbm S₀ .i32) (slot : Fin 2 → Memref sig thr.2.kind .vmem S₀ .i32) (sm : Fin 2 → DmaSem sig)
variable (q : PosShare TreeShare) (fs : ∀ n, Buf (Elt F) ((blk n).view.loc thr))

/-- A ring at rest, with its share of the array it fetches from. -/
def Rest : sProp 𝕄 :=
  iprop((∃ f, (slot 0).view.loc thr ↦[(slot 0).view.set]{fullShare} f) ∗ (∃ f, (slot 1).view.loc thr ↦[(slot 1).view.set]{fullShare} f)
    ∗ semVal (thr, SemLoc.dma (sm 0)) 0 ∗ semVal (thr, SemLoc.dma (sm 1)) 0 ∗ ((blk 0).view.loc thr ↦{q} fs 0))

theorem rest_open (hb : ∀ sl s' q', Idle thr (blk 0) sl s' q' (fs 0) ⊢ Idle thr (blk 1) sl s' q' (fs 1)) :
    Rest thr blk slot sm q fs ⊢ iprop(Idle thr (blk 0) (slot (par 0)) (sm (par 0)) (half q (par 0)) (fs 0)
      ∗ Idle thr (blk 1) (slot (par 1)) (sm (par 1)) (half q (par 1)) (fs 1)) := by
  unfold Rest
  iintro ⟨H0, H1, V0, V1, Hs⟩
  icases (pointsTo_share (PosShare.mem_left_op_right q)).1 $$ Hs with ⟨S0, S1⟩
  isplitl [H0 V0 S0]
  · unfold Idle
    isplitl [H0]; · iexact H0
    isplitl [V0]; · iexact V0
    iexact S0
  iapply (hb _ _ _)
  unfold Idle
  isplitl [H1]; · iexact H1
  isplitl [V1]; · iexact V1
  iexact S1

theorem rest_close (hb : ∀ sl s' q', Idle thr (blk 33) sl s' q' (fs 33) ⊢ Idle thr (blk 0) sl s' q' (fs 0))
    (hb' : ∀ sl s' q', Idle thr (blk 34) sl s' q' (fs 34) ⊢ Idle thr (blk 0) sl s' q' (fs 0)) {n : ℕ} (hn : n = 33) :
    Ring thr blk slot sm q fs n ⊢ Rest thr blk slot sm q fs := by
  subst hn
  unfold Ring
  rw [if_neg (by decide)]
  iintro ⟨H1, H0⟩
  ihave H1 := (hb _ _ _) $$ H1
  ihave H0 := (hb' _ _ _) $$ H0
  unfold Idle
  icases H1 with ⟨H1, V1, S1⟩
  icases H0 with ⟨H0, V0, S0⟩
  unfold Rest
  isplitl [H0]; · iexact H0
  isplitl [H1]; · iexact H1
  isplitl [V0]; · iexact V0
  isplitl [V1]; · iexact V1
  iapply (pointsTo_share (PosShare.mem_left_op_right q)).2
  isplitl [S0]; · iexact S0
  iexact S1

end RingEnds

section Tile

variable [FloatOps F] (I : Inp F) (d : Dev nD) (c : Fin (grid0.bound 0)) (s : Fin (grid0.bound 1)) (q : PosShare TreeShare)

/-- What a tile is handed, and hands back: its shares of the source and the lists, and its parts of the result. -/
def Hand (g : S606208x128.Idx → Elt F .i32) : sProp 𝕄 :=
  iprop(((tile d c s).loc main_v4_scv ↦{q} I.x) ∗ ((tile d c s).loc main_v11_scv ↦{q} I.ix 0) ∗ ((tile d c s).loc main_v18_scv ↦{q} I.ix 1)
    ∗ ((tile d c s).loc main_v25_scv ↦{q} I.ix 2) ∗ ((tile d c s).loc main_v32_scv ↦{q} I.ix 3)
    ∗ bigSep (Finset.univ : Finset (Fin 33)) fun n => Four I d c s (win c s n) g)

theorem parts_zero : Parts I d c s 0 = bigSep (Finset.univ : Finset (Fin 33)) fun n => Four I d c s (win c s n) I.o :=
  bigSep_congr fun n _ => congrArg (Four I d c s (win c s n)) (if_neg (Nat.not_lt_zero _))
theorem parts_all : Parts I d c s 33 = bigSep (Finset.univ : Finset (Fin 33)) fun n => Four I d c s (win c s n) I.out :=
  bigSep_congr fun n _ => congrArg (Four I d c s (win c s n)) (if_pos n.isLt)

/-- The tile's own semaphores and buffers. -/
abbrev sems : List (DmaSem sig) :=
  [slotS cc0_scoped1 0, slotS cc0_scoped1 1, slotS cc0_scoped3 0, slotS cc0_scoped3 1, slotS cc0_scoped5 0, slotS cc0_scoped5 1,
    slotS cc0_scoped7 0, slotS cc0_scoped7 1, slotS cc0_scoped9 0, slotS cc0_scoped9 1,
    cc0_scoped10.sem, cc0_scoped11.sem, cc0_scoped12.sem, cc0_scoped13.sem]
abbrev bufs : List (Ref sig .scVector) := [cc0_scoped0, cc0_scoped2, cc0_scoped4, cc0_scoped6, cc0_scoped8]

theorem sems_nodup : sems.Nodup := by decide +kernel
theorem sems_scoped : ∀ k ∈ sems, (SemLoc.dma k : SemLoc sig).isScoped .scVector = true := by decide +kernel
theorem bufs_nodup : bufs.Nodup := by decide +kernel

theorem ownSems0_tile :
    (SparseCore.Cfg.ownSems0 (tile d c s) : sProp 𝕄)
      = (sems.map fun k => ((tile d c s, SemLoc.dma k) : GSem nD τ sig)).foldr (fun g P => iprop(semVal g 0 ∗ P))
          (bigSep (SparseCore.Cfg.ownCells (tile d c s) \ (sems.map fun k => ((tile d c s, SemLoc.dma k) : GSem nD τ sig)).toFinset) fun g => semVal g 0) := by
  unfold SparseCore.Cfg.ownSems0
  refine bigSep_take _ _ (sems_nodup.map fun a b e => ?_) fun g hg => ?_
  · exact SemLoc.dma.inj (Prod.mk.inj e).2
  · obtain ⟨k, hk, rfl⟩ := List.mem_map.mp hg
    exact SparseCore.Cfg.mem_ownCells.mpr ⟨rfl, sems_scoped k hk⟩

theorem ownBufs_tile :
    (SparseCore.Cfg.ownBufs (tile d c s) : sProp 𝕄)
      = (bufs.map fun r => (tile d c s).2.devRef r).foldr (fun b P => iprop((∃ f, ((d, b) : Loc nD τ sig) ↦{fullShare} f) ∗ P))
          (bigSep (SparseCore.Cfg.ownRefs (τ := τ) (tile d c s).2 \ (bufs.map fun r => (tile d c s).2.devRef r).toFinset)
            fun b => iprop(∃ f, ((d, b) : Loc nD τ sig) ↦{fullShare} f)) := by
  unfold SparseCore.Cfg.ownBufs
  refine bigSep_take _ _ (bufs_nodup.map (Proc.devRef_injective _)) fun g hg => ?_
  obtain ⟨k, hk, rfl⟩ := List.mem_map.mp hg
  refine SparseCore.Cfg.mem_ownRefs_of_owner ?_
  fin_cases hk <;> rfl

theorem inA :
    iprop((∃ f, ((d, (tile d c s).2.devRef cc0_scoped0) : Loc nD τ sig) ↦{fullShare} f) ∗ semVal (tile d c s, SemLoc.dma (slotS cc0_scoped1 0)) 0
      ∗ semVal (tile d c s, SemLoc.dma (slotS cc0_scoped1 1)) 0 ∗ ((tile d c s).loc main_v4_scv ↦{q} I.x))
    ⊣⊢ Rest (F := F) (tile d c s) (fun n => blkA (Memref.whole main_v4_scv) (win c s n)) (slotA (Memref.whole cc0_scoped0)) (slotS cc0_scoped1) q (fun _ => I.x) := by
  have hs := slotA_sets (Memref.whole cc0_scoped0)
  exact rest_parts (halves (F := F) (ℓ := (d, (tile d c s).2.devRef cc0_scoped0)) hs.1 (hs.2.trans (View.set_whole _)))

/-- The ring of one index list: its scratch, its two semaphores and its share of the list. -/
theorem inI (a : Memref sig .scVector .vmem S2x1x128 .i32) (ha : a.view.set = Finset.univ) (sa : SemArray (DmaSem sig) S2) (l : Memref sig .scVector .hbm S1x135168 .i32)
    (f : Buf (Elt F) (l.view.loc (tile d c s))) :
    iprop((∃ f, a.view.loc (tile d c s) ↦{fullShare} f) ∗ semVal (tile d c s, SemLoc.dma (slotS sa 0)) 0
      ∗ semVal (tile d c s, SemLoc.dma (slotS sa 1)) 0 ∗ (l.view.loc (tile d c s) ↦{q} f))
    ⊣⊢ Rest (F := F) (tile d c s) (fun n => blkI l (win c s n)) (slotI a) (slotS sa) q (fun _ => f) := by
  have hs := slotI_sets a
  exact rest_parts (halves (F := F) (ℓ := a.view.loc (tile d c s)) hs.1 (hs.2.trans ha))

abbrev in0 := inI (F := F) d c s q (Memref.whole cc0_scoped2) (View.set_whole _) cc0_scoped3 (Memref.whole main_v11_scv) (I.ix 0)
abbrev in1 := inI (F := F) d c s q (Memref.whole cc0_scoped4) (View.set_whole _) cc0_scoped5 (Memref.whole main_v18_scv) (I.ix 1)
abbrev in2 := inI (F := F) d c s q (Memref.whole cc0_scoped6) (View.set_whole _) cc0_scoped7 (Memref.whole main_v25_scv) (I.ix 2)
abbrev in3 := inI (F := F) d c s q (Memref.whole cc0_scoped8) (View.set_whole _) cc0_scoped9 (Memref.whole main_v32_scv) (I.ix 3)

theorem word_base : ∀ (c : Fin (grid0.bound 0)) (s : Fin (grid0.bound 1)),
    Scalar.muli (Scalar.addi (Scalar.addi 0#32 (Scalar.muli (BitVec.ofNat 32 (coordsV c s 1).val) 1#32)) (Scalar.muli (BitVec.ofNat 32 (coordsV c s 0).val) 16#32)) 33#32
      = BitVec.ofNat 32 (base c s) := by decide +kernel
theorem word_base' : ∀ (c : Fin (grid0.bound 0)) (s : Fin (grid0.bound 1)),
    Scalar.addi 0#32 (BitVec.ofNat 32 (base c s)) = BitVec.ofNat 32 (base c s) := by decide +kernel

set_option maxHeartbeats 4000000 in
theorem tile_body (hI : I.Ok) (hF : (K (F := F)).Facts) (O : CellTallies nD τ sig (HIx 1)) (W : Waits sig (HIx 1)) (hO : ∀ g, O g none = 0) :
    iprop(levAts (K (F := F)).L (K (F := F)).lev ∗ emp ∗ Hand I d c s q I.o
        ∗ scopedBufs (tile d c s) ∗ scopedSems0 (tile d c s) ∗ owes (tile d c s) O W)
      ⊢ wp frame (wpE (defs₀ (F := F)) 𝒱₀ (tile d c s) none) Set.univ
          (cc0_scatter (coordsV c s) (Memref.whole main_v4_scv) (Memref.isWhole_whole _) (Memref.whole main_v11_scv) (Memref.isWhole_whole _)
            (Memref.whole main_v18_scv) (Memref.isWhole_whole _) (Memref.whole main_v25_scv) (Memref.isWhole_whole _)
            (Memref.whole main_v32_scv) (Memref.isWhole_whole _) (Memref.whole main_v33_scv) (Memref.isWhole_whole _)
            (Memref.whole cc0_scoped0) (Memref.isWhole_whole _) cc0_scoped1 (Memref.whole cc0_scoped2) (Memref.isWhole_whole _) cc0_scoped3
            (Memref.whole cc0_scoped4) (Memref.isWhole_whole _) cc0_scoped5 (Memref.whole cc0_scoped6) (Memref.isWhole_whole _) cc0_scoped7
            (Memref.whole cc0_scoped8) (Memref.isWhole_whole _) cc0_scoped9 cc0_scoped10 cc0_scoped11 cc0_scoped12 cc0_scoped13)
          fun _ => iprop(Hand I d c s q I.out ∗ scopedBufs (tile d c s) ∗ scopedSems0 (tile d c s)
            ∗ ∃ W', ⌜∀ p ∈ W', p ∈ W ∨ p.2 = none⌝ ∗ owes (tile d c s) O W') := by
  have h128 : 0 < S128x128.numel := Shape.numel_pos (by decide)
  have h1 : 0 < S1x128.numel := Shape.numel_pos (by decide)
  rw [(K (F := F)).scopedBufs_V hF d _ _, SparseCore.Cfg.scopedSems0_V (Val := Elt F) d _ _, ownSems0_tile, ownBufs_tile]
  simp only [sems, bufs, List.map_cons, List.map_nil, List.foldr_cons, List.foldr_nil]
  unfold Hand
  iintro ⟨#Hlv, -, ⟨SA, S0, S1, S2, S3, HP⟩, ⟨BA, B0, B1, B2, B3, Hbufs⟩,
    ⟨VA, VA', V0, V0', V1, V1', V2, V2', V3, V3', Hs0, Hs1, Hs2, Hs3, Hsems⟩, HO⟩
  ihave #Hmw := (show levAts (K (F := F)).L (K (F := F)).lev ⊢ Transfers.MayWaits (tile d c s) (default : HIx 1) O from
    (K (F := F)).mayWaits_none (thr := tile d c s) hO) $$ Hlv
  ihave HA := (inA I d c s q).1 $$ [BA VA VA' SA]
  · isplitl [BA]; · iexact BA
    isplitl [VA]; · iexact VA
    isplitl [VA']; · iexact VA'
    iexact SA
  icases (rest_open (tile d c s) (fun n => blkA (Memref.whole main_v4_scv) (win c s n)) (slotA (Memref.whole cc0_scoped0)) (slotS cc0_scoped1) q (fun _ => I.x) fun _ _ _ => .rfl) $$ HA with ⟨HA, HA'⟩
  ihave H0 := (in0 I d c s q).1 $$ [B0 V0 V0' S0]
  · isplitl [B0]; · iexact B0
    isplitl [V0]; · iexact V0
    isplitl [V0']; · iexact V0'
    iexact S0
  icases (rest_open (tile d c s) (fun n => blkI (Memref.whole main_v11_scv) (win c s n)) (slotI (Memref.whole cc0_scoped2)) (slotS cc0_scoped3) q (fun _ => I.ix 0) fun _ _ _ => .rfl) $$ H0 with ⟨H0, H0'⟩
  ihave H1 := (in1 I d c s q).1 $$ [B1 V1 V1' S1]
  · isplitl [B1]; · iexact B1
    isplitl [V1]; · iexact V1
    isplitl [V1']; · iexact V1'
    iexact S1
  icases (rest_open (tile d c s) (fun n => blkI (Memref.whole main_v18_scv) (win c s n)) (slotI (Memref.whole cc0_scoped4)) (slotS cc0_scoped5) q (fun _ => I.ix 1) fun _ _ _ => .rfl) $$ H1 with ⟨H1, H1'⟩
  ihave H2 := (in2 I d c s q).1 $$ [B2 V2 V2' S2]
  · isplitl [B2]; · iexact B2
    isplitl [V2]; · iexact V2
    isplitl [V2']; · iexact V2'
    iexact S2
  icases (rest_open (tile d c s) (fun n => blkI (Memref.whole main_v25_scv) (win c s n)) (slotI (Memref.whole cc0_scoped6)) (slotS cc0_scoped7) q (fun _ => I.ix 2) fun _ _ _ => .rfl) $$ H2 with ⟨H2, H2'⟩
  ihave H3 := (in3 I d c s q).1 $$ [B3 V3 V3' S3]
  · isplitl [B3]; · iexact B3
    isplitl [V3]; · iexact V3
    isplitl [V3']; · iexact V3'
    iexact S3
  icases (rest_open (tile d c s) (fun n => blkI (Memref.whole main_v32_scv) (win c s n)) (slotI (Memref.whole cc0_scoped8)) (slotS cc0_scoped9) q (fun _ => I.ix 3) fun _ _ _ => .rfl) $$ H3 with ⟨H3, H3'⟩
  simp only [cc0_scatter_eq_skeleton]
  unfold cc0_scatter_skel
  simp only [k0_part8_eq_skeleton, k0_part9_eq_skeleton, k0_part10_eq_skeleton]
  unfold k0_part8_skel k0_part9_skel k0_part10_skel
  simp only [Prog.lift, Prog.bind_op, Prog.bind_ret, Prog.pure_eq_ret, Prog.bind_assoc, word_base, word_base']
  iapply (wp_fetch d ((coordsV c s 0).castLE hcore0) ((coordsV c s 1).castLE hsub0) (F := F) (src := blkA (Memref.whole main_v4_scv) (win c s 0)) (fs := I.x) (q := half q (par 0))
    (blkA_eq (Memref.whole main_v4_scv) (win c s 0) _ _ _ (rows_first c s))
    (slotA_eq (Memref.whole cc0_scoped0) (par 0) _ _ _ rfl) (slotS_eq cc0_scoped1 (par 0) _ _ rfl) h128) $$ HA
  iintro HA
  iapply (wp_fetch d ((coordsV c s 0).castLE hcore0) ((coordsV c s 1).castLE hsub0) (F := F) (src := blkI (Memref.whole main_v11_scv) (win c s 0)) (fs := I.ix 0) (q := half q (par 0))
    (blkI_eq (Memref.whole main_v11_scv) (win c s 0) _ _ _ (cols_first c s))
    (slotI_eq (Memref.whole cc0_scoped2) (par 0) _ _ _ rfl) (slotS_eq cc0_scoped3 (par 0) _ _ rfl) h1) $$ H0
  iintro H0
  iapply (wp_fetch d ((coordsV c s 0).castLE hcore0) ((coordsV c s 1).castLE hsub0) (F := F) (src := blkI (Memref.whole main_v18_scv) (win c s 0)) (fs := I.ix 1) (q := half q (par 0))
    (blkI_eq (Memref.whole main_v18_scv) (win c s 0) _ _ _ (cols_first c s))
    (slotI_eq (Memref.whole cc0_scoped4) (par 0) _ _ _ rfl) (slotS_eq cc0_scoped5 (par 0) _ _ rfl) h1) $$ H1
  iintro H1
  iapply (wp_fetch d ((coordsV c s 0).castLE hcore0) ((coordsV c s 1).castLE hsub0) (F := F) (src := blkI (Memref.whole main_v25_scv) (win c s 0)) (fs := I.ix 2) (q := half q (par 0))
    (blkI_eq (Memref.whole main_v25_scv) (win c s 0) _ _ _ (cols_first c s))
    (slotI_eq (Memref.whole cc0_scoped6) (par 0) _ _ _ rfl) (slotS_eq cc0_scoped7 (par 0) _ _ rfl) h1) $$ H2
  iintro H2
  iapply (wp_fetch d ((coordsV c s 0).castLE hcore0) ((coordsV c s 1).castLE hsub0) (F := F) (src := blkI (Memref.whole main_v32_scv) (win c s 0)) (fs := I.ix 3) (q := half q (par 0))
    (blkI_eq (Memref.whole main_v32_scv) (win c s 0) _ _ _ (cols_first c s))
    (slotI_eq (Memref.whole cc0_scoped8) (par 0) _ _ _ rfl) (slotS_eq cc0_scoped9 (par 0) _ _ rfl) h1) $$ H3
  iintro H3
  sl_for (inv I d c s O W q) $$ [HA HA' H0 H0' H1 H1' H2 H2' H3 H3' HP Hs0 Hs1 Hs2 Hs3 HO]
  · intro k acc
    exact trip I d c s hI O W q k acc
  · unfold inv
    rw [parts_zero]
    isplitr; · ipureintro; rfl
    isplitr; · iexact Hmw
    isplitl [HA HA']
    · unfold RA Ring
      rw [if_pos (by decide)]
      isplitl [HA]; · iexact HA
      iexact HA'
    isplitl [H0 H0']
    · unfold R0 Ring
      rw [if_pos (by decide)]
      isplitl [H0]; · iexact H0
      iexact H0'
    isplitl [H1 H1']
    · unfold R1 Ring
      rw [if_pos (by decide)]
      isplitl [H1]; · iexact H1
      iexact H1'
    isplitl [H2 H2']
    · unfold R2 Ring
      rw [if_pos (by decide)]
      isplitl [H2]; · iexact H2
      iexact H2'
    isplitl [H3 H3']
    · unfold R3 Ring
      rw [if_pos (by decide)]
      isplitl [H3]; · iexact H3
      iexact H3'
    isplitl [HP]; · iexact HP
    isplitl [Hs0]; · iexact Hs0
    isplitl [Hs1]; · iexact Hs1
    isplitl [Hs2]; · iexact Hs2
    isplitl [Hs3]; · iexact Hs3
    iexists W
    isplitr
    · ipureintro; exact fun p hp => .inl hp
    iexact HO
  iintro %acc HI
  unfold inv
  icases HI with ⟨%_, -, HA, H0, H1, H2, H3, HP, Hs0, Hs1, Hs2, Hs3, %W₁, %hW₁, HO⟩
  unfold tile_body.sl.prog.cont_1
  rw [wp_ret]
  imodintro
  ihave HP := (Entails.of_eq ((congrArg (Parts I d c s) trips_eq).trans (parts_all I d c s))) $$ HP
  ihave HA := (rest_close (tile d c s) (fun n => blkA (Memref.whole main_v4_scv) (win c s n)) (slotA (Memref.whole cc0_scoped0)) (slotS cc0_scoped1) q (fun _ => I.x) (fun _ _ _ => .rfl) (fun _ _ _ => .rfl) trips_eq) $$ HA
  icases (inA I d c s q).2 $$ HA with ⟨BA, VA, VA', SA⟩
  ihave H0 := (rest_close (tile d c s) (fun n => blkI (Memref.whole main_v11_scv) (win c s n)) (slotI (Memref.whole cc0_scoped2)) (slotS cc0_scoped3) q (fun _ => I.ix 0) (fun _ _ _ => .rfl) (fun _ _ _ => .rfl) trips_eq) $$ H0
  icases (in0 I d c s q).2 $$ H0 with ⟨B0, V0, V0', S0⟩
  ihave H1 := (rest_close (tile d c s) (fun n => blkI (Memref.whole main_v18_scv) (win c s n)) (slotI (Memref.whole cc0_scoped4)) (slotS cc0_scoped5) q (fun _ => I.ix 1) (fun _ _ _ => .rfl) (fun _ _ _ => .rfl) trips_eq) $$ H1
  icases (in1 I d c s q).2 $$ H1 with ⟨B1, V1, V1', S1⟩
  ihave H2 := (rest_close (tile d c s) (fun n => blkI (Memref.whole main_v25_scv) (win c s n)) (slotI (Memref.whole cc0_scoped6)) (slotS cc0_scoped7) q (fun _ => I.ix 2) (fun _ _ _ => .rfl) (fun _ _ _ => .rfl) trips_eq) $$ H2
  icases (in2 I d c s q).2 $$ H2 with ⟨B2, V2, V2', S2⟩
  ihave H3 := (rest_close (tile d c s) (fun n => blkI (Memref.whole main_v32_scv) (win c s n)) (slotI (Memref.whole cc0_scoped8)) (slotS cc0_scoped9) q (fun _ => I.ix 3) (fun _ _ _ => .rfl) (fun _ _ _ => .rfl) trips_eq) $$ H3
  icases (in3 I d c s q).2 $$ H3 with ⟨B3, V3, V3', S3⟩
  isplitl [SA S0 S1 S2 S3 HP]
  · isplitl [SA]; · iexact SA
    isplitl [S0]; · iexact S0
    isplitl [S1]; · iexact S1
    isplitl [S2]; · iexact S2
    isplitl [S3]; · iexact S3
    iexact HP
  isplitl [BA B0 B1 B2 B3 Hbufs]
  · isplitl [BA]; · iexact BA
    isplitl [B0]; · iexact B0
    isplitl [B1]; · iexact B1
    isplitl [B2]; · iexact B2
    isplitl [B3]; · iexact B3
    iexact Hbufs
  isplitl [VA VA' V0 V0' V1 V1' V2 V2' V3 V3' Hs0 Hs1 Hs2 Hs3 Hsems]
  · isplitl [VA]; · iexact VA
    isplitl [VA']; · iexact VA'
    isplitl [V0]; · iexact V0
    isplitl [V0']; · iexact V0'
    isplitl [V1]; · iexact V1
    isplitl [V1']; · iexact V1'
    isplitl [V2]; · iexact V2
    isplitl [V2']; · iexact V2'
    isplitl [V3]; · iexact V3
    isplitl [V3']; · iexact V3'
    isplitl [Hs0]; · iexact Hs0
    isplitl [Hs1]; · iexact Hs1
    isplitl [Hs2]; · iexact Hs2
    isplitl [Hs3]; · iexact Hs3
    iexact Hsems
  iexists W₁
  isplitr; · ipureintro; exact hW₁
  iexact HO

end Tile

end Cert.Proof.Scatter

end
-- ==== Proof.Deal.lean ====
/-
  The call's operands, dealt to the tiles: each tile a share of the source and of every list, and the rows of the result
  that its windows' entries name. The rows no entry names stay behind.
-/
module

public import proofs.«01_k».proof.Proof.Tile
public import Idealize.ShloMosaic.Lib.ShareLeaves

@[expose] public section

noncomputable section

namespace Cert.Proof.Scatter

open Cert.KernelIdeal Cert.KernelIdeal.Gen

open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Tactic

variable {F : FTy → Type}

local notation "𝕄" => MT nD τ sig (HIx 1) (Elt F) ℕ UU ℕ

/-- The share of an array that tile `(c, s)` reads. -/
abbrev qs (c : Fin (grid0.bound 0)) (s : Fin (grid0.bound 1)) : PosShare TreeShare := ShareLeaves.leaf 4 (ShareLeaves.leaf 1 fullShare c) s

theorem share_deal {ℓ : Loc nD τ sig} (f : Buf (Elt F) ℓ) :
    (ℓ ↦{fullShare} f : sProp 𝕄)
      = bigSep (Finset.univ : Finset (Fin (grid0.bound 0))) fun c => bigSep (Finset.univ : Finset (Fin (grid0.bound 1))) fun s => ℓ ↦{qs c s} f :=
  (ShareLeaves.pointsTo_leaves Finset.univ f 1 fullShare).trans (bigSep_congr fun c _ => ShareLeaves.pointsTo_leaves Finset.univ f 4 (ShareLeaves.leaf 1 fullShare c))

/-! ## The windows are the tiles' trips -/

/-- Core, subcore and trip of a window. -/
def winEquiv : (Fin (grid0.bound 0) × Fin (grid0.bound 1)) × Fin 33 ≃ Fin 1056 :=
  Equiv.ofBijective (fun x => win x.1.1 x.1.2 x.2) <| by
    rw [Fintype.bijective_iff_injective_and_card]
    refine ⟨?_, by simp only [Fintype.card_prod, Fintype.card_fin]; decide⟩
    rintro ⟨⟨c, s⟩, n⟩ ⟨⟨c', s'⟩, n'⟩ h
    have h : (win c s n).val = (win c' s' n').val := congrArg Fin.val h
    rw [win_val c s n.isLt, win_val c' s' n'.isLt] at h
    have hs : s.val < 16 := s.isLt
    have hs' : s'.val < 16 := s'.isLt
    have hn := n.isLt
    have hn' := n'.isLt
    change (s.val + 16 * c.val) * 33 + n.val = (s'.val + 16 * c'.val) * 33 + n'.val at h
    have e1 : c = c' := Fin.ext (by omega)
    have e2 : s = s' := Fin.ext (by omega)
    have e3 : n = n' := Fin.ext (by omega)
    rw [e1, e2, e3]

theorem pieces_disjoint (I : Inp F) (hI : I.Ok) : ∀ t ∈ (Finset.univ : Finset (Fin 1056 × Fin 4)), ∀ t' ∈ (Finset.univ : Finset (Fin 1056 × Fin 4)),
    t ≠ t' → Disjoint (piece I t.1 t.2) (piece I t'.1 t'.2) := by
  rintro ⟨w, j⟩ - ⟨w', j'⟩ - hne
  rw [Finset.disjoint_left]
  intro p hp hp'
  obtain ⟨k, hk⟩ := mem_named.mp hp
  obtain ⟨k', hk'⟩ := mem_named.mp hp'
  obtain ⟨ej, en⟩ := hI.inj _ _ _ _ (hk.symm.trans hk')
  have en : 128 * w.val + k.val = 128 * w'.val + k'.val := congrArg Fin.val en
  exact hne (Prod.ext (Fin.ext (by show w.val = w'.val; omega)) ej)

/-- The rows some entry names. -/
def hits (I : Inp F) : Finset S606208x128.Idx :=
  (Finset.univ : Finset (Fin 1056 × Fin 4)).biUnion fun t => piece I t.1 t.2

/-- The rows no entry names. -/
def rest (I : Inp F) : Finset S606208x128.Idx := Finset.univ \ hits I

theorem mem_hits (I : Inp F) (p : S606208x128.Idx) : p ∈ hits I ↔ ∃ t : Fin 1056 × Fin 4, p ∈ piece I t.1 t.2 := by
  unfold hits
  simp only [Finset.mem_biUnion, Finset.mem_univ, true_and]

theorem not_hit (I : Inp F) (p : S606208x128.Idx) (hp : p ∈ rest I) : I.o p = I.out p := by
  symm
  rw [rest, Finset.mem_sdiff, mem_hits] at hp
  refine I.out_miss p fun n j e => hp.2 ⟨(⟨n.val / 128, by omega⟩, j), mem_named.mpr ⟨⟨n.val % 128, by omega⟩, ?_⟩⟩
  rw [← e]
  exact congrArg (I.row j) (Fin.ext (by show n.val = 128 * (n.val / 128) + n.val % 128; omega))

section Deal

variable [FloatOps F] (I : Inp F) (d : Dev nD)

abbrev xL : Loc nD τ sig := (T d : Thread nD τ).loc main_v4
abbrev lL0 : Loc nD τ sig := (T d : Thread nD τ).loc main_v11
abbrev lL1 : Loc nD τ sig := (T d : Thread nD τ).loc main_v18
abbrev lL2 : Loc nD τ sig := (T d : Thread nD τ).loc main_v25
abbrev lL3 : Loc nD τ sig := (T d : Thread nD τ).loc main_v32
abbrev oL : Loc nD τ sig := (T d : Thread nD τ).loc main_v33

theorem four_eq (c : Fin (grid0.bound 0)) (s : Fin (grid0.bound 1)) (w : Fin 1056) (g : S606208x128.Idx → Elt F .i32) :
    (bigSep (Finset.univ : Finset (Fin 4)) fun j => (oL d ↦[piece I w j]{fullShare} g : sProp 𝕄)) = Four I d c s w g := by
  rw [show (Finset.univ : Finset (Fin 4)) = {0, 1, 2, 3} by decide, SparseCore.bigSep_insert' (by decide), SparseCore.bigSep_insert' (by decide), SparseCore.bigSep_insert' (by decide),
    bigSep_singleton]
  rfl

theorem out_deal (hI : I.Ok) (g : S606208x128.Idx → Elt F .i32) :
    (oL d ↦{fullShare} g : sProp 𝕄)
      = iprop((oL d ↦[rest I]{fullShare} g)
          ∗ bigSep (Finset.univ : Finset (Fin (grid0.bound 0))) fun c => bigSep (Finset.univ : Finset (Fin (grid0.bound 1))) fun s =>
              bigSep (Finset.univ : Finset (Fin 33)) fun n => Four I d c s (win c s n) g) := by
  have h := pointsTo_split_subset (ℓ := oL d) (q := fullShare) (f := g) (Val := Elt F) (Ix := HIx 1) (Name := ℕ) (U := UU) (Lvl := ℕ) (Finset.subset_univ (hits I))
  rw [BI.Entails.antisymm h.1 h.2]
  unfold rest hits
  rw [pointsTo_biUnion (ℓ := oL d) _ (fun t : Fin 1056 × Fin 4 => piece I t.1 t.2) (pieces_disjoint I hI), ← Finset.univ_product_univ, SparseCore.bigSep_product,
    bigSep_univ_equiv winEquiv, ← Finset.univ_product_univ, SparseCore.bigSep_product, ← Finset.univ_product_univ, SparseCore.bigSep_product]
  refine (BI.Entails.antisymm sep_comm sep_comm).trans (congrArg (fun X => iprop(_ ∗ X)) ?_)
  exact bigSep_congr fun c _ => bigSep_congr fun s _ => bigSep_congr fun n _ => four_eq I d c s _ g

theorem hand_eq (g : S606208x128.Idx → Elt F .i32) :
    (bigSep (Finset.univ : Finset (Fin (grid0.bound 0))) fun c => bigSep (Finset.univ : Finset (Fin (grid0.bound 1))) fun s => (Hand I d c s (qs c s) g : sProp 𝕄))
      = iprop((xL d ↦{fullShare} I.x) ∗ (lL0 d ↦{fullShare} I.ix 0) ∗ (lL1 d ↦{fullShare} I.ix 1) ∗ (lL2 d ↦{fullShare} I.ix 2) ∗ (lL3 d ↦{fullShare} I.ix 3)
        ∗ bigSep (Finset.univ : Finset (Fin (grid0.bound 0))) fun c => bigSep (Finset.univ : Finset (Fin (grid0.bound 1))) fun s =>
            bigSep (Finset.univ : Finset (Fin 33)) fun n => Four I d c s (win c s n) g) := by
  rw [share_deal (ℓ := xL d), share_deal (ℓ := lL0 d), share_deal (ℓ := lL1 d), share_deal (ℓ := lL2 d), share_deal (ℓ := lL3 d)]
  simp only [← bigSep_sep']
  rfl

theorem to_front {A B C D E R H : sProp 𝕄} : iprop(A ∗ B ∗ C ∗ D ∗ E ∗ R ∗ H) = iprop(R ∗ A ∗ B ∗ C ∗ D ∗ E ∗ H) := by
  have h : iprop(A ∗ B ∗ C ∗ D ∗ E ∗ R ∗ H) ⊢ iprop(R ∗ A ∗ B ∗ C ∗ D ∗ E ∗ H) := by
    iintro ⟨A, B, C, D, E, R, H⟩
    isplitl [R]; · iexact R
    isplitl [A]; · iexact A
    isplitl [B]; · iexact B
    isplitl [C]; · iexact C
    isplitl [D]; · iexact D
    isplitl [E]; · iexact E
    iexact H
  have h' : iprop(R ∗ A ∗ B ∗ C ∗ D ∗ E ∗ H) ⊢ iprop(A ∗ B ∗ C ∗ D ∗ E ∗ R ∗ H) := by
    iintro ⟨R, A, B, C, D, E, H⟩
    isplitl [A]; · iexact A
    isplitl [B]; · iexact B
    isplitl [C]; · iexact C
    isplitl [D]; · iexact D
    isplitl [E]; · iexact E
    isplitl [R]; · iexact R
    iexact H
  exact BI.Entails.antisymm h h'

/-- The operands whole are what the tiles are handed, and the rows of the result nobody names. -/
theorem deal (hI : I.Ok) (g : S606208x128.Idx → Elt F .i32) :
    (iprop((xL d ↦{fullShare} I.x) ∗ (lL0 d ↦{fullShare} I.ix 0) ∗ (lL1 d ↦{fullShare} I.ix 1) ∗ (lL2 d ↦{fullShare} I.ix 2) ∗ (lL3 d ↦{fullShare} I.ix 3)
        ∗ (oL d ↦{fullShare} g)) : sProp 𝕄)
      = iprop((oL d ↦[rest I]{fullShare} g)
          ∗ bigSep (Finset.univ : Finset (Fin (grid0.bound 0))) fun c => bigSep (Finset.univ : Finset (Fin (grid0.bound 1))) fun s => Hand I d c s (qs c s) g) := by
  rw [out_deal I d hI g, to_front, hand_eq]

theorem rest_same (g : S606208x128.Idx → Elt F .i32) (hg : g = I.out) :
    (oL d ↦[rest I]{fullShare} I.o : sProp 𝕄) = (oL d ↦[rest I]{fullShare} g) := by
  subst hg
  exact pointsTo_congr (not_hit I)

end Deal

end Cert.Proof.Scatter

end
-- ==== Proof.Launch.lean ====
/-
  The launch: the operations before the call, the call from its operands whole, the operations after it; what every
  buffer of the host's holds at the end.
-/
module

public import proofs.«01_k».proof.Proof.Deal
public import Idealize.ShloMosaic.Lib.SparseCore.Quiescent
public import Idealize.ShloMosaic.Lib.StableHlo.Run
public import Idealize.ShloMosaic.Lib.Pipeline.Frame

@[expose] public section

noncomputable section

namespace Cert.Proof.Scatter

open Cert.KernelIdeal Cert.KernelIdeal.Gen

open Idealize.ShloMosaic
open Idealize.ShloMosaic.SparseCore (S V T)
open Idealize.ShloMosaic.SparseCore.Cfg (HIx Pay)
open Idealize.ShloMosaic.StableHlo (seq after held launchContents)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide,
    show ∀ (b : DevRef τ sig) (c : Fin τ.nSC), b.owner = .sc c → sig.taskShared b.table b.idx = false by decide, fun _ => rfl⟩

variable [FloatOps F]

/-! ## The host's operations -/

/-- The operations before the call: the source's rows, the four lists. -/
abbrev ops1 : List (HloOp τ sig (Elt F)) :=
  [ StableHlo.nullary main_v0 (iotaInDim S4 32 0),
    StableHlo.nullary main_c (constantI S_ 32 151552#32),
    StableHlo.unary main_c main_v1 (broadcastInDim S4 ![] bcast_S_S4 : (⟨S_, .i32⟩ : BufTy).Contents (Elt F) → (⟨S4, .i32⟩ : BufTy).Contents (Elt F)),
    StableHlo.binary main_v0 main_v1 main_v2 (muli : (⟨S4, .i32⟩ : BufTy).Contents (Elt F) → (⟨S4, .i32⟩ : BufTy).Contents (Elt F) → (⟨S4, .i32⟩ : BufTy).Contents (Elt F)),
    StableHlo.unary main_v2 main_v3 (broadcastInDim S4x1 ![0] bcast_S4_S4x1_0 : (⟨S4, .i32⟩ : BufTy).Contents (Elt F) → (⟨S4x1, .i32⟩ : BufTy).Contents (Elt F)),
    StableHlo.reshape main_arg0 main_v4 (rfl : (.i32 : EltTy) = .i32) shapeCasts_S4x33792x128_S135168x128,
    StableHlo.unary main_arg1 main_v5 ((extractStridedSlice S33792x1 ![0, 0] · slices_S33792x4_S33792x1_0_0) : (⟨S33792x4, .i32⟩ : BufTy).Contents (Elt F) → (⟨S33792x1, .i32⟩ : BufTy).Contents (Elt F)),
    StableHlo.reshape main_v5 main_v6 (rfl : (.i32 : EltTy) = .i32) shapeCasts_S33792x1_S33792,
    StableHlo.unary main_v6 main_v7 (broadcastInDim S1x33792 ![1] bcast_S33792_S1x33792_1 : (⟨S33792, .i32⟩ : BufTy).Contents (Elt F) → (⟨S1x33792, .i32⟩ : BufTy).Contents (Elt F)),
    StableHlo.unary main_v3 main_v8 (broadcastInDim S4x33792 ![0, 1] bcast_S4x1_S4x33792_0_1 : (⟨S4x1, .i32⟩ : BufTy).Contents (Elt F) → (⟨S4x33792, .i32⟩ : BufTy).Contents (Elt F)),
    StableHlo.unary main_v7 main_v9 (broadcastInDim S4x33792 ![0, 1] bcast_S1x33792_S4x33792_0_1 : (⟨S1x33792, .i32⟩ : BufTy).Contents (Elt F) → (⟨S4x33792, .i32⟩ : BufTy).Contents (Elt F)),
    StableHlo.binary main_v8 main_v9 main_v10 (addi : (⟨S4x33792, .i32⟩ : BufTy).Contents (Elt F) → (⟨S4x33792, .i32⟩ : BufTy).Contents (Elt F) → (⟨S4x33792, .i32⟩ : BufTy).Contents (Elt F)),
    StableHlo.reshape main_v10 main_v11 (rfl : (.i32 : EltTy) = .i32) shapeCasts_S4x33792_S1x135168,
    StableHlo.unary main_arg1 main_v12 ((extractStridedSlice S33792x1 ![0, 1] · slices_S33792x4_S33792x1_0_1) : (⟨S33792x4, .i32⟩ : BufTy).Contents (Elt F) → (⟨S33792x1, .i32⟩ : BufTy).Contents (Elt F)),
    StableHlo.reshape main_v12 main_v13 (rfl : (.i32 : EltTy) = .i32) shapeCasts_S33792x1_S33792,
    StableHlo.unary main_v13 main_v14 (broadcastInDim S1x33792 ![1] bcast_S33792_S1x33792_1 : (⟨S33792, .i32⟩ : BufTy).Contents (Elt F) → (⟨S1x33792, .i32⟩ : BufTy).Contents (Elt F)),
    StableHlo.unary main_v3 main_v15 (broadcastInDim S4x33792 ![0, 1] bcast_S4x1_S4x33792_0_1 : (⟨S4x1, .i32⟩ : BufTy).Contents (Elt F) → (⟨S4x33792, .i32⟩ : BufTy).Contents (Elt F)),
    StableHlo.unary main_v14 main_v16 (broadcastInDim S4x33792 ![0, 1] bcast_S1x33792_S4x33792_0_1 : (⟨S1x33792, .i32⟩ : BufTy).Contents (Elt F) → (⟨S4x33792, .i32⟩ : BufTy).Contents (Elt F)),
    StableHlo.binary main_v15 main_v16 main_v17 (addi : (⟨S4x33792, .i32⟩ : BufTy).Contents (Elt F) → (⟨S4x33792, .i32⟩ : BufTy).Contents (Elt F) → (⟨S4x33792, .i32⟩ : BufTy).Contents (Elt F)),
    StableHlo.reshape main_v17 main_v18 (rfl : (.i32 : EltTy) = .i32) shapeCasts_S4x33792_S1x135168,
    StableHlo.unary main_arg1 main_v19 ((extractStridedSlice S33792x1 ![0, 2] · slices_S33792x4_S33792x1_0_2) : (⟨S33792x4, .i32⟩ : BufTy).Contents (Elt F) → (⟨S33792x1, .i32⟩ : BufTy).Contents (Elt F)),
    StableHlo.reshape main_v19 main_v20 (rfl : (.i32 : EltTy) = .i32) shapeCasts_S33792x1_S33792,
    StableHlo.unary main_v20 main_v21 (broadcastInDim S1x33792 ![1] bcast_S33792_S1x33792_1 : (⟨S33792, .i32⟩ : BufTy).Contents (Elt F) → (⟨S1x33792, .i32⟩ : BufTy).Contents (Elt F)),
    StableHlo.unary main_v3 main_v22 (broadcastInDim S4x33792 ![0, 1] bcast_S4x1_S4x33792_0_1 : (⟨S4x1, .i32⟩ : BufTy).Contents (Elt F) → (⟨S4x33792, .i32⟩ : BufTy).Contents (Elt F)),
    StableHlo.unary main_v21 main_v23 (broadcastInDim S4x33792 ![0, 1] bcast_S1x33792_S4x33792_0_1 : (⟨S1x33792, .i32⟩ : BufTy).Contents (Elt F) → (⟨S4x33792, .i32⟩ : BufTy).Contents (Elt F)),
    StableHlo.binary main_v22 main_v23 main_v24 (addi : (⟨S4x33792, .i32⟩ : BufTy).Contents (Elt F) → (⟨S4x33792, .i32⟩ : BufTy).Contents (Elt F) → (⟨S4x33792, .i32⟩ : BufTy).Contents (Elt F)),
    StableHlo.reshape main_v24 main_v25 (rfl : (.i32 : EltTy) = .i32) shapeCasts_S4x33792_S1x135168,
    StableHlo.unary main_arg1 main_v26 ((extractStridedSlice S33792x1 ![0, 3] · slices_S33792x4_S33792x1_0_3) : (⟨S33792x4, .i32⟩ : BufTy).Contents (Elt F) → (⟨S33792x1, .i32⟩ : BufTy).Contents (Elt F)),
    StableHlo.reshape main_v26 main_v27 (rfl : (.i32 : EltTy) = .i32) shapeCasts_S33792x1_S33792,
    StableHlo.unary main_v27 main_v28 (broadcastInDim S1x33792 ![1] bcast_S33792_S1x33792_1 : (⟨S33792, .i32⟩ : BufTy).Contents (Elt F) → (⟨S1x33792, .i32⟩ : BufTy).Contents (Elt F)),
    StableHlo.unary main_v3 main_v29 (broadcastInDim S4x33792 ![0, 1] bcast_S4x1_S4x33792_0_1 : (⟨S4x1, .i32⟩ : BufTy).Contents (Elt F) → (⟨S4x33792, .i32⟩ : BufTy).Contents (Elt F)),
    StableHlo.unary main_v28 main_v30 (broadcastInDim S4x33792 ![0, 1] bcast_S1x33792_S4x33792_0_1 : (⟨S1x33792, .i32⟩ : BufTy).Contents (Elt F) → (⟨S4x33792, .i32⟩ : BufTy).Contents (Elt F)),
    StableHlo.binary main_v29 main_v30 main_v31 (addi : (⟨S4x33792, .i32⟩ : BufTy).Contents (Elt F) → (⟨S4x33792, .i32⟩ : BufTy).Contents (Elt F) → (⟨S4x33792, .i32⟩ : BufTy).Contents (Elt F)),
    StableHlo.reshape main_v31 main_v32 (rfl : (.i32 : EltTy) = .i32) shapeCasts_S4x33792_S1x135168 ]

/-- The operations after it: the rows of each chunk, the rows no token stands in set to zero. -/
abbrev ops2 : List (HloOp τ sig (Elt F)) :=
  [ StableHlo.reshape main_v33 main_v34 (rfl : (.i32 : EltTy) = .i32) shapeCasts_S606208x128_S4x151552x128,
    StableHlo.nullary main_v35 (iotaInDim S296x512 32 1),
    StableHlo.unary main_arg2 main_v36 (broadcastInDim S296x1 ![0] bcast_S296_S296x1_0 : (⟨S296, .i32⟩ : BufTy).Contents (Elt F) → (⟨S296x1, .i32⟩ : BufTy).Contents (Elt F)),
    StableHlo.unary main_v36 main_v37 (broadcastInDim S296x512 ![0, 1] bcast_S296x1_S296x512_0_1 : (⟨S296x1, .i32⟩ : BufTy).Contents (Elt F) → (⟨S296x512, .i32⟩ : BufTy).Contents (Elt F)),
    StableHlo.binary main_v35 main_v37 main_v38 (cmpi .slt : (⟨S296x512, .i32⟩ : BufTy).Contents (Elt F) → (⟨S296x512, .i32⟩ : BufTy).Contents (Elt F) → (⟨S296x512, .i1⟩ : BufTy).Contents (Elt F)),
    StableHlo.reshape main_v38 main_v39 (rfl : (.i1 : EltTy) = .i1) shapeCasts_S296x512_S151552,
    StableHlo.unary main_v39 main_v40 (broadcastInDim S1x151552x1 ![1] bcast_S151552_S1x151552x1_1 : (⟨S151552, .i1⟩ : BufTy).Contents (Elt F) → (⟨S1x151552x1, .i1⟩ : BufTy).Contents (Elt F)),
    StableHlo.nullary main_c_0 (constantI S_ 32 0#32),
    StableHlo.TRef.unary (.of main_v40 : StableHlo.TRef sig ⟨S1x151552x1, .i1⟩) main_call0.v0 (broadcastInDim S4x151552x128 ![0, 1, 2] bcast_S1x151552x1_S4x151552x128_0_1_2),
    StableHlo.TRef.unary (.of main_c_0 : StableHlo.TRef sig ⟨S_, .i32⟩) main_call0.v1 (broadcastInDim S4x151552x128 ![] bcast_S_S4x151552x128),
    StableHlo.TRef.ternary main_call0.v0 (.of main_v34) main_call0.v1 main_call0.v2 select ]

theorem main_eq (d : Dev nD) : main (F := F) d = seq ops1 >>= fun _ => (sc (F := F)).run d 0 >>= fun _ => seq ops2 >>= fun _ => pure ⟨⟩ := rfl

theorem sub1 : (ops1 : List (HloOp τ sig (Elt F))).Forall fun op => op.bufs ⊆ StableHlo.tcRefs τ sig :=
  ⟨StableHlo.nullary_bufs_sub .., StableHlo.nullary_bufs_sub .., StableHlo.unary_bufs_sub .., StableHlo.binary_bufs_sub .., StableHlo.unary_bufs_sub .., StableHlo.reshape_bufs_sub .., StableHlo.unary_bufs_sub .., StableHlo.reshape_bufs_sub .., StableHlo.unary_bufs_sub .., StableHlo.unary_bufs_sub .., StableHlo.unary_bufs_sub .., StableHlo.binary_bufs_sub .., StableHlo.reshape_bufs_sub .., StableHlo.unary_bufs_sub .., StableHlo.reshape_bufs_sub .., StableHlo.unary_bufs_sub .., StableHlo.unary_bufs_sub .., StableHlo.unary_bufs_sub .., StableHlo.binary_bufs_sub .., StableHlo.reshape_bufs_sub .., StableHlo.unary_bufs_sub .., StableHlo.reshape_bufs_sub .., StableHlo.unary_bufs_sub .., StableHlo.unary_bufs_sub .., StableHlo.unary_bufs_sub .., StableHlo.binary_bufs_sub .., StableHlo.reshape_bufs_sub .., StableHlo.unary_bufs_sub .., StableHlo.reshape_bufs_sub .., StableHlo.unary_bufs_sub .., StableHlo.unary_bufs_sub .., StableHlo.unary_bufs_sub .., StableHlo.binary_bufs_sub .., StableHlo.reshape_bufs_sub ..⟩
theorem sub2 : (ops2 : List (HloOp τ sig (Elt F))).Forall fun op => op.bufs ⊆ StableHlo.tcRefs τ sig :=
  ⟨StableHlo.reshape_bufs_sub .., StableHlo.nullary_bufs_sub .., StableHlo.unary_bufs_sub .., StableHlo.unary_bufs_sub .., StableHlo.binary_bufs_sub .., StableHlo.reshape_bufs_sub .., StableHlo.unary_bufs_sub .., StableHlo.nullary_bufs_sub .., StableHlo.unary_bufs_sub .., StableHlo.unary_bufs_sub .., StableHlo.ternary_bufs_sub ..⟩

theorem uc1 : ∀ op ∈ (ops1 : List (HloOp τ sig (Elt F))), op.bufs ⊆ Pipeline.ucRefs τ sig := fun op h =>
  Pipeline.sub_ucRefs op ((List.forall_iff_forall_mem.mp sub1) op h)
theorem uc2 : ∀ op ∈ (ops2 : List (HloOp τ sig (Elt F))), op.bufs ⊆ Pipeline.ucRefs τ sig := fun op h =>
  Pipeline.sub_ucRefs op ((List.forall_iff_forall_mem.mp sub2) op h)
theorem fresh1 : ∀ op ∈ (ops1 : List (HloOp τ sig (Elt F))), op.fresh = ∅ := List.forall_iff_forall_mem.mp (StableHlo.forall_fresh_of_map (by rfl))
theorem fresh2 : ∀ op ∈ (ops2 : List (HloOp τ sig (Elt F))), op.fresh = ∅ := List.forall_iff_forall_mem.mp (StableHlo.forall_fresh_of_map (by rfl))

/-- A buffer no operation before the call writes. -/
theorem keep1 (W : Valuation τ sig (Elt F)) (r : Ref sig .tc)
    (hr : r ∉ ([main_v0, main_c, main_v1, main_v2, main_v3, main_v4, main_v5, main_v6, main_v7, main_v8, main_v9, main_v10, main_v11, main_v12, main_v13, main_v14, main_v15, main_v16, main_v17, main_v18, main_v19, main_v20, main_v21, main_v22, main_v23, main_v24, main_v25, main_v26, main_v27, main_v28, main_v29, main_v30, main_v31, main_v32] : List (Ref sig .tc))) :
    after ops1 W (Proc.devRef .tc r) = W (Proc.devRef .tc r) :=
  StableHlo.after_of_writes_sub ops1 W (StableHlo.forall_writes_sub_of_map (by rfl)) hr
/-- A buffer no operation after the call writes. -/
theorem keep2 (W : Valuation τ sig (Elt F)) (r : Ref sig .tc)
    (hr : r ∉ ([main_v34, main_v35, main_v36, main_v37, main_v38, main_v39, main_v40, main_c_0, main_call0_v0, main_call0_v1, main_v41] : List (Ref sig .tc))) :
    after ops2 W (Proc.devRef .tc r) = W (Proc.devRef .tc r) :=
  StableHlo.after_of_writes_sub ops2 W (StableHlo.forall_writes_sub_of_map (by rfl)) hr

/-! ## What the buffers hold -/

abbrev at_ (r : Ref sig .tc) : DevRef τ sig := Proc.devRef .tc r

variable (m : (ℓ : Loc nD τ sig) → Buf (Elt F) ℓ) (ρ : Dev nD → PrngReg)

/-- Before the call. -/
def V1 (d : Dev nD) : Valuation τ sig (Elt F) := after ops1 (launchContents m d)

/-- The call's operands. -/
def inp (d : Dev nD) : Inp F where
  x := V1 m d (at_ main_v4)
  ix := fun | 0 => V1 m d (at_ main_v11) | 1 => V1 m d (at_ main_v18) | 2 => V1 m d (at_ main_v25) | 3 => V1 m d (at_ main_v32)
  o := V1 m d (at_ main_v33)

/-- After the call. -/
def V2 (d : Dev nD) : Valuation τ sig (Elt F) := Function.update (V1 m d) (at_ main_v33) (inp m d).out

/-- At the end. -/
def V3 (d : Dev nD) : Valuation τ sig (Elt F) := after ops2 (V2 m d)

/-! ## The operands among the host's buffers -/

abbrev T6 : Finset (DevRef τ sig) := {at_ main_v4, at_ main_v11, at_ main_v18, at_ main_v25, at_ main_v32, at_ main_v33}

theorem T6_sub : T6 ⊆ Pipeline.ucRefs τ sig := by decide

omit [FloatOps F] in
theorem held_T6 (d : Dev nD) (W : Valuation τ sig (Elt F)) :
    (held (T d) T6 W : sProp 𝕄)
      = iprop((xL d ↦{fullShare} W (at_ main_v4)) ∗ (lL0 d ↦{fullShare} W (at_ main_v11)) ∗ (lL1 d ↦{fullShare} W (at_ main_v18))
          ∗ (lL2 d ↦{fullShare} W (at_ main_v25)) ∗ (lL3 d ↦{fullShare} W (at_ main_v32)) ∗ (oL d ↦{fullShare} W (at_ main_v33))) := by
  unfold held T6
  rw [SparseCore.bigSep_insert' (by decide), SparseCore.bigSep_insert' (by decide), SparseCore.bigSep_insert' (by decide),
    SparseCore.bigSep_insert' (by decide), SparseCore.bigSep_insert' (by decide), bigSep_singleton]

theorem V2_ne (d : Dev nD) (b : DevRef τ sig) (h : b ≠ at_ main_v33) : V2 m d b = V1 m d b := Function.update_of_ne h _ _

theorem held_V1 (d : Dev nD) (hI : (inp m d).Ok) :
    (held (T d) (Pipeline.ucRefs τ sig) (V1 m d) : sProp 𝕄)
      = iprop(((oL d ↦[rest (inp m d)]{fullShare} (inp m d).o)
          ∗ bigSep (Finset.univ : Finset (Fin (grid0.bound 0))) fun c => bigSep (Finset.univ : Finset (Fin (grid0.bound 1))) fun s => Hand (inp m d) d c s (qs c s) (inp m d).o)
          ∗ held (T d) (Pipeline.ucRefs τ sig \ T6) (V1 m d)) := by
  rw [StableHlo.held_sub_split (T d) T6_sub, ← deal (inp m d) d hI (inp m d).o, held_T6]
  rfl

theorem held_V2 (d : Dev nD) (hI : (inp m d).Ok) :
    (held (T d) (Pipeline.ucRefs τ sig) (V2 m d) : sProp 𝕄)
      = iprop(((oL d ↦[rest (inp m d)]{fullShare} (inp m d).out)
          ∗ bigSep (Finset.univ : Finset (Fin (grid0.bound 0))) fun c => bigSep (Finset.univ : Finset (Fin (grid0.bound 1))) fun s => Hand (inp m d) d c s (qs c s) (inp m d).out)
          ∗ held (T d) (Pipeline.ucRefs τ sig \ T6) (V1 m d)) := by
  rw [StableHlo.held_sub_split (T d) T6_sub, ← deal (inp m d) d hI (inp m d).out, held_T6,
    V2_ne m d _ (by decide), V2_ne m d _ (by decide), V2_ne m d _ (by decide), V2_ne m d _ (by decide), V2_ne m d _ (by decide),
    show V2 m d (at_ main_v33) = (inp m d).out from Function.update_self _ _ _,
    StableHlo.held_congr (T d) (S := Pipeline.ucRefs τ sig \ T6) (V := V2 m d) (V' := V1 m d)
      fun b hb => V2_ne m d b fun e => (Finset.mem_sdiff.mp hb).2 (e ▸ by decide)]
  rfl

/-! ## What the call takes and brings back -/

/-- A tile's hand, the rows of the result as they stand at `g`. -/
def tileH (d : Dev nD) (g : Inp F → S606208x128.Idx → Elt F .i32) (c : Fin (grid0.bound 0)) (s : Fin (grid0.bound 1)) : sProp 𝕄 :=
  Hand (inp m d) d c s (qs c s) (g (inp m d))

/-- A core's: its tiles'. -/
def coreH (d : Dev nD) (g : Inp F → S606208x128.Idx → Elt F .i32) (c : Fin (grid0.bound 0)) : sProp 𝕄 :=
  bigSep (Finset.univ : Finset (Fin (grid0.bound 1))) fun s => tileH m d g c s

instance tileH_storable (d : Dev nD) (g : Inp F → S606208x128.Idx → Elt F .i32) (c : Fin (grid0.bound 0)) (s : Fin (grid0.bound 1)) :
    BI.Storable (upEmb : UEmb _ 𝕄) (tileH m d g c s) := by
  unfold tileH Hand Four
  infer_instance

instance coreH_storable (d : Dev nD) (g : Inp F → S606208x128.Idx → Elt F .i32) (c : Fin (grid0.bound 0)) :
    BI.Storable (upEmb : UEmb _ 𝕄) (coreH m d g c) := by
  unfold coreH
  infer_instance

/-- Each tile is handed its shares and its rows, and brings them back; each core its tiles'. -/
def P : (K (F := F)).Pay (nD := nD) (Val := Elt F) (Name := ℕ) (U := UU) where
  st := fun q d c => match q with | 0 => coreH m d Inp.o c
  dn := fun q d c => match q with | 0 => coreH m d Inp.out c
  go := fun q d c s => match q with | 0 => tileH m d Inp.o c s
  td := fun q d c s => match q with | 0 => tileH m d Inp.out c s
  x := fun _ _ => iprop(emp)

instance P_storable : (P (F := F) m).IsStorable where
  st q d c := match q with | 0 => coreH_storable m d Inp.o c
  dn q d c := match q with | 0 => coreH_storable m d Inp.out c
  go q d c s := match q with | 0 => tileH_storable m d Inp.o c s
  td q d c s := match q with | 0 => tileH_storable m d Inp.out c s

theorem vecSplit : (K (F := F)).VecSplit' (P m) 0 := by
  intro d c
  show coreH m d Inp.o c ⊢ |={Set.univ}=> iprop((bigSep (Finset.univ : Finset (Fin (grid0.bound 1))) fun s => tileH m d Inp.o c s)
      ∗ ((bigSep (Finset.univ : Finset (Fin (grid0.bound 1))) fun s => tileH m d Inp.out c s) -∗ coreH m d Inp.out c))
  unfold coreH
  iintro H; imodintro
  isplitl [H]; · iexact H
  iintro H; iexact H

/-! ## Each tile's task -/

theorem defs₀_vector (c : Fin τ.nSC) (s : Fin τ.nSub) :
    defs₀ (F := F) (.scVector c s) 0 ()
      = SparseCore.onTile hcore0 hsub0 (fun c s => cc0_scatter (coordsV c s)
          (Memref.whole main_v4_scv) (Memref.isWhole_whole _) (Memref.whole main_v11_scv) (Memref.isWhole_whole _)
          (Memref.whole main_v18_scv) (Memref.isWhole_whole _) (Memref.whole main_v25_scv) (Memref.isWhole_whole _)
          (Memref.whole main_v32_scv) (Memref.isWhole_whole _) (Memref.whole main_v33_scv) (Memref.isWhole_whole _)
          (Memref.whole cc0_scoped0) (Memref.isWhole_whole _) cc0_scoped1 (Memref.whole cc0_scoped2) (Memref.isWhole_whole _) cc0_scoped3
          (Memref.whole cc0_scoped4) (Memref.isWhole_whole _) cc0_scoped5 (Memref.whole cc0_scoped6) (Memref.isWhole_whole _) cc0_scoped7
          (Memref.whole cc0_scoped8) (Memref.isWhole_whole _) cc0_scoped9 cc0_scoped10 cc0_scoped11 cc0_scoped12 cc0_scoped13) ⟨⟩ c s := rfl

omit [FloatOps F] in
theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

set_option maxRecDepth 16384 in
theorem tileObl (hok : ∀ d, (inp m d).Ok) : (K (F := F)).TileObl (D (F := F)) 𝒱 (P m) v₀ 0 := by
  intro d c i O W hO _ _
  simp only [show (P m).ox = fun _ _ => 0 from rfl, add_zero]
  have hci : ((K (F := F)).core 0 c).val < grid0.bound 0 ∧ ((K (F := F)).sub 0 i).val < grid0.bound 1 := ⟨c.isLt, i.isLt⟩
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  exact (tile_body (inp m d) d ⟨_, hci.1⟩ ⟨_, hci.2⟩ (qs c i) (hok d) facts O W hO).trans (wp_mono frame _ _ fun _ => obl_post)

/-! ## The ghost state at the launch -/

def u₀ : UU := (initOf (K (F := F)).hsCells (K (F := F)).hsToks, 1)

theorem hu₀ : (ownU (u₀ (F := F)) : sProp 𝕄)
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun q : Fin 1 => (P m).x q thr) := by
  unfold u₀
  iintro Hu
  ihave H := (ownU_pair (initOf (K (F := F)).hsCells (K (F := F)).hsToks) (1 : Counters)) $$ Hu
  icases H with ⟨HH, -⟩
  imodintro
  isplitl [HH]; · iexact HH
  isplitr; · rw [show (bigSep Finset.univ fun _ : Dev nD => iprop(emp)) = (iprop(emp) : sProp 𝕄) from bigSep_emp_const _]; iempintro
  rw [show (bigSep Finset.univ fun thr : Thread nD τ => bigSep Finset.univ fun q : Fin 1 => (P (F := F) m).x q thr) = bigSep Finset.univ fun _ => iprop(emp) from
    bigSep_congr fun _ _ => bigSep_univ_of_subsingleton (0 : Fin 1),
    show (bigSep Finset.univ fun _ : Thread nD τ => iprop(emp)) = (iprop(emp) : sProp 𝕄) from bigSep_emp_const _]
  iempintro

/-! ## The host's program -/

abbrev FIN (d : Dev nD) : sProp 𝕄 := held (T d) (Pipeline.ucRefs τ sig) (V3 m d)

theorem launch_held (d : Dev nD) :
    (unscopedBufs d (fun b => m ((T d : Thread nD τ).loc b)) : sProp 𝕄) = held (T d) (Pipeline.ucRefs τ sig) (launchContents m d) :=
  Pipeline.unscopedBufs_held d (launchContents m d)

theorem st_eq (d : Dev nD) : (bigSep Finset.univ fun c : Fin ((K (F := F)).nCore 0) => (P m).st 0 d c)
    = bigSep (Finset.univ : Finset (Fin (grid0.bound 0))) fun c => coreH m d Inp.o c := rfl
theorem dn_eq (d : Dev nD) : (bigSep Finset.univ fun c : Fin ((K (F := F)).nCore 0) => (P m).dn 0 d c)
    = bigSep (Finset.univ : Finset (Fin (grid0.bound 0))) fun c => coreH m d Inp.out c := rfl

/-- The host's buffers before the call: what the cores are given, and the rest. -/
theorem held_V1' (d : Dev nD) (hI : (inp m d).Ok) :
    (held (T d) (Pipeline.ucRefs τ sig) (V1 m d) : sProp 𝕄)
      = iprop(((oL d ↦[rest (inp m d)]{fullShare} (inp m d).o) ∗ bigSep (Finset.univ : Finset (Fin (grid0.bound 0))) fun c => coreH m d Inp.o c)
          ∗ held (T d) (Pipeline.ucRefs τ sig \ T6) (V1 m d)) := held_V1 m d hI
theorem V1_eq (d : Dev nD) :
    (held (d.tc : Thread nD τ) (Pipeline.ucRefs τ sig) (after ops1 (launchContents m d)) : sProp 𝕄) = held (T d) (Pipeline.ucRefs τ sig) (V1 m d) := rfl
theorem V3_eq (d : Dev nD) :
    (held (d.tc : Thread nD τ) (Pipeline.ucRefs τ sig) (after ops2 (V2 m d)) : sProp 𝕄) = held (T d) (Pipeline.ucRefs τ sig) (V3 m d) := rfl
/-- After it. -/
theorem held_V2' (d : Dev nD) (hI : (inp m d).Ok) :
    (held (T d) (Pipeline.ucRefs τ sig) (V2 m d) : sProp 𝕄)
      = iprop(((oL d ↦[rest (inp m d)]{fullShare} (inp m d).out) ∗ bigSep (Finset.univ : Finset (Fin (grid0.bound 0))) fun c => coreH m d Inp.out c)
          ∗ held (T d) (Pipeline.ucRefs τ sig \ T6) (V1 m d)) := held_V2 m d hI

set_option backward.isDefEq.respectTransparency.types false in
theorem hmain (hok : ∀ d, (inp m d).Ok) (κ : GSem nD τ sig → ℕ) (d : Dev nD) :
    iprop((K (F := F)).ctx EH (P m) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ FIN m d ∗ (K (F := F)).tcEnd d) := by
  unfold SparseCore.Cfg.tcRes SparseCore.Cfg.tcEnd
  rw [launch_held, main_eq]
  iintro ⟨#Hctx, Hst, ⟨Hb, Hheld, Hts, -⟩, -⟩
  iapply (StableHlo.wp_seq 𝒱 none Set.univ d (Pipeline.ucRefs τ sig) _ ops1 uc1 fresh1 (launchContents m d)) $$ [Hb Hheld]
  · isplitl [Hb]; · iexact Hb
    iexact Hheld
  iintro ⟨Hb, Hheld⟩
  ihave Hheld := (Entails.of_eq (V1_eq m d)) $$ Hheld
  ihave Hh := (Entails.of_eq (held_V1' m d (hok d))) $$ Hheld
  icases Hh with ⟨⟨Hrest, Hhand⟩, Hoth⟩
  rw [wp_bind]
  iapply ((K (F := F)).wp_run (D (F := F)) 𝒱 (EH := EH) (P := P m) κ d 0) $$ [Hst Hhand Hrest Hoth Hb Hts]
  isplitr; · iexact Hctx
  isplitl [Hst]; · iexact Hst
  isplitl [Hhand]
  · iapply (Entails.of_eq (st_eq m d).symm); iexact Hhand
  iintro ⟨Hst, Hdn⟩
  ihave Hdn := (Entails.of_eq (dn_eq m d)) $$ Hdn
  ihave Hrest := (Entails.of_eq (rest_same (inp m d) d (inp m d).out rfl)) $$ Hrest
  ihave Hheld := (Entails.of_eq (held_V2' m d (hok d)).symm) $$ [Hrest Hdn Hoth]
  · isplitl [Hrest Hdn]
    · isplitl [Hrest]; · iexact Hrest
      iexact Hdn
    iexact Hoth
  iapply (StableHlo.wp_seq 𝒱 none Set.univ d (Pipeline.ucRefs τ sig) _ ops2 uc2 fresh2 (V2 m d)) $$ [Hb Hheld]
  · isplitl [Hb]; · iexact Hb
    iexact Hheld
  iintro ⟨Hb, Hheld⟩
  rw [wp_pure]; imodintro
  isplitl [Hst]; · iexact Hst
  isplitl [Hheld]; · iapply (Entails.of_eq (V3_eq m d)); iexact Hheld
  isplitl [Hb]; · iexact Hb
  iexact Hts

def fq (d : Dev nD) (s' : Phys nD τ sig (Elt F)) : Prop := ∀ b ∈ Pipeline.ucRefs τ sig, s'.mem.mem (d, b) = V3 m d b

theorem hfin (d : Dev nD) (s' : Phys nD τ sig (Elt F)) : iprop(FIN m d ∗ SI s') ⊢ (⌜fq m d s'⌝ : sProp 𝕄) := by
  unfold FIN held
  iintro ⟨H, HSI⟩
  ihave %h := (SI_pointsTo_bufs_agree (qs := fun _ => fullShare) (Pipeline.ucRefs τ sig)) $$ [HSI H]
  · isplitl [HSI]; · iexact HSI
    iexact H
  ipureintro
  exact fun b hb => h b hb

/-! ## The run -/

def QC : PUnit × MemSt nD τ sig (Elt F) → Prop := fun r => (∀ d : Dev nD, ∀ b ∈ Pipeline.ucRefs τ sig, r.2.mem (d, b) = V3 m d b) ∧ r.2.sem = fun _ => 0

theorem run_all [∀ e, Nonempty (Elt F e)] (hok : ∀ d, (inp m d).Ok) :
    θ_run (Cert.KernelIdeal.defs (F := F)) (Cert.KernelIdeal.threads (F := F)) ⟨m, fun _ => 0, ρ⟩ (QC m) :=
  SparseCore.Cfg.θ_run_sc_quiescent (K := K (F := F)) (D := D (F := F)) (𝒱 := 𝒱) (EH := EH) (P := P m) (A := ∅) facts v₀
    (fun q hq => match q with | 0 => nomatch hq)
    (fun q _ => match q with | 0 => tileObl m hok)
    (fun q _ => match q with | 0 => SparseCore.Cfg.VecSplit.of_plain (vecSplit m))
    m ρ main (fun _ => iprop(emp)) (FIN m) (u₀ (F := F)) (sep_elim_left.trans (hu₀ m)) (hmain m ρ hok) (fq m) (hfin m) (QC m) (fun _ h hz => ⟨h, hz⟩)

end Cert.Proof.Scatter

end
-- ==== Proof.Plan.lean ====
/-
  What the precondition says of the routing: every destination is a row of the dispatch buffer, no two entries share
  one, and the live rows of the buffer are exactly the destinations.
-/
module

public import Idealize.ShloMosaic.Lib.Routing.OpsSet
public import Idealize.ShloMosaic.Lib.ReduceAll
public import Idealize.ShloMosaic.Lib.Pipeline.Value
public import Idealize.ShloMosaic.Lib.Affine
public import proofs.«01_k».proof.Pre_dispatch

@[expose] public section

noncomputable section

namespace Cert.Proof.Scatter

open Idealize.ShloMosaic Idealize.ShloMosaic.ValueIdx Idealize.ShloMosaic.Routing

/-- The destinations: for each token, the rows of its four entries. -/
abbrev Dests : Type := (shape2 33792 4).Idx → BitVec 32
/-- For each block of the buffer, how many of its rows are in use. -/
abbrev Counts : Type := (shape1 296).Idx → BitVec 32

/-- The token of an entry. -/
def tok (n : Fin 135168) : Fin 33792 := ⟨n.val / 4, by omega⟩
/-- Which of its token's four an entry is. -/
def way (n : Fin 135168) : Fin 4 := ⟨n.val % 4, by omega⟩
/-- The block of a row of the buffer. -/
def blkOf (r : Fin 151552) : Fin 296 := ⟨r.val / 512, by omega⟩
/-- A row's place in its block. -/
def inBlk (r : Fin 151552) : Fin 512 := ⟨r.val % 512, by omega⟩

/-- An entry's destination, as the word given. -/
def dstW (D : Dests) (n : Fin 135168) : BitVec 32 := D (ix2 (tok n) (way n))
/-- Whether a row is in use, as the comparison the programs make. -/
def liveW (B : Counts) (r : Fin 151552) : BitVec 1 := IntOp.cmpi .slt (BitVec.ofNat 32 (inBlk r).val) (B (ix1 (blkOf r)))

/-- The routing's agreement. -/
structure Plan (D : Dests) (B : Counts) : Prop where
  /-- A destination is a row of the buffer. -/
  lt : ∀ n, (dstW D n).toNat < 151552
  /-- No two entries share a destination. -/
  inj : ∀ n n', (dstW D n).toNat = (dstW D n').toNat → n = n'
  /-- A destination is in use. -/
  live : ∀ n (r : Fin 151552), (dstW D n).toNat = r.val → liveW B r = 1#1
  /-- A row in use is a destination. -/
  named : ∀ r, liveW B r = 1#1 → ∃ n, (dstW D n).toNat = r.val

/-- The destinations laid flat, read at an entry. -/
theorem flat_at (D : Dests) (h : (shape2 33792 4).ShapeCasts (shape1 135168)) (n : Fin 135168) :
    shapeCast (shape1 135168) D h (ix1 n) = dstW D n :=
  cast21 D h (tok n) (way n) n (by show n.val = n.val / 4 * 4 + n.val % 4; omega)

/-- An index word that is not negative is not moved by the wrap of negative indices. -/
theorem wrap_at {N : ℕ} (x : (shape1 N).Idx → BitVec 32) (a : BitVec 32)
    (h₁ : (shape1 N).BroadcastsInDim (shape2 N 1) (![0] : Fin 1 → Fin (shape2 N 1).rank))
    (h0 h0' : shape0.BroadcastsInDim (shape1 N) (![] : Fin 0 → Fin (shape1 N).rank)) (n : Fin N) (hx : (x (ix1 n)).toNat < 2 ^ 31) :
    broadcastInDim (shape2 N 1) ![0] h₁ (select (cmpi .slt x (broadcastInDim (shape1 N) ![] h0 (constantI shape0 32 0#32)))
      (addi x (broadcastInDim (shape1 N) ![] h0' (constantI shape0 32 a))) x) (ix2 n (0 : Fin 1)) = x (ix1 n) := by
  rw [bcCol]
  exact wrap_of_lt _ _ hx

/-- The mask of the rows in use, laid flat, read at a row. -/
theorem live_at (B : Counts) (h₁ : (shape1 296).BroadcastsInDim (shape2 296 1) (![0] : Fin 1 → Fin (shape2 296 1).rank))
    (h₂ : (shape2 296 1).BroadcastsInDim (shape2 296 512) (![0, 1] : Fin 2 → Fin (shape2 296 512).rank))
    (h : (shape2 296 512).ShapeCasts (shape1 151552)) (r : Fin 151552) :
    shapeCast (shape1 151552) (cmpi .slt (iotaInDim (shape2 296 512) 32 1) (broadcastInDim (shape2 296 512) ![0, 1] h₂
      (broadcastInDim (shape2 296 1) ![0] h₁ B))) h (ix1 r) = liveW B r := by
  rw [cast21 _ _ (blkOf r) (inBlk r) r (by show r.val = r.val / 512 * 512 + r.val % 512; omega)]
  exact congrArg (IntOp.cmpi .slt _) (bcRows h₁ h₂ B _ _)

variable {F : FTy → Type} [FloatOps F]

/-- The precondition, read. -/
theorem plan_of_pre [Cert.Pre_dispatch.Facts] (h2 : Cert.Pre_dispatch.S4x33792x128.Idx → BitVec 32) (D : Dests) (B : Counts)
    (e : Cert.Pre_dispatch.fn (F := F) h2 D B = fun _ => 1#1) : Plan D B := by
  have e0 := congrFun e (fun a => a.elim0)
  haveI : Subsingleton Cert.Pre_dispatch.S_.Idx := ⟨fun a b => funext fun k => k.elim0⟩
  obtain ⟨e1, e2⟩ := IntOp.andi_eq_one.1 e0
  have k1 := Host.reduce_andi_all _ _ _ _ _ e1
  have k2 := Host.reduce_andi_all _ _ _ _ _ e2
  have hlt : ∀ n : Fin 135168, (dstW D n).toNat < 151552 := fun n => by
    obtain ⟨a, _⟩ := IntOp.andi_eq_one.1 (k1 (ix1 n))
    obtain ⟨a1, a2⟩ := IntOp.andi_eq_one.1 a
    have b1 := IntOp.cmpi_sge.1 a1
    have b2 := IntOp.cmpi_slt.1 a2
    rw [flat_at] at b1 b2
    change (0#32).toInt ≤ _ at b1
    change _ < (151552#32).toInt at b2
    simp only [BitVec.toInt_eq_toNat_cond, BitVec.toNat_ofNat, Nat.reducePow, Nat.reduceMod] at b1 b2
    omega
  have hfl : ∀ n : Fin 135168, (shapeCast (shape1 135168) D Cert.Pre_dispatch.Facts.shapeCasts_S33792x4_S135168 (ix1 n)).toNat < 2 ^ 31 := fun n => by
    rw [flat_at]
    have := hlt n
    omega
  -- what the two takes at the destinations read
  have htake : ∀ {α : Type} (x : (shape1 151552).Idx → α) (idx : IVec (shape2 135168 1) 32) (n : Fin 135168) (r : Fin 151552),
      idx (ix2 n (0 : Fin 1)) = dstW D n → (dstW D n).toNat = r.val →
      Host.gather Cert.Pre_dispatch.gather_S151552_S135168x1_S135168_n_0_n_n_0_1_1 x idx (ix1 n) = x (ix1 r) := fun x idx n r hi hr =>
    gather_take1 _ rfl rfl rfl rfl x idx n r (by rw [hi, ← hr]; simp) (by norm_num)
  have hi : ∀ n, _ = dstW D n := fun n => (wrap_at _ 151552#32 Cert.Pre_dispatch.Facts.bcast_S135168_S135168x1_0
    Cert.Pre_dispatch.Facts.bcast_S_S135168 Cert.Pre_dispatch.Facts.bcast_S_S135168 n (hfl n)).trans (flat_at D _ n)
  have hinv := fun n (r : Fin 151552) (hr : (dstW D n).toNat = r.val) =>
    (htake _ _ n r (hi n) hr).symm.trans (IntOp.cmpi_eq.1 (IntOp.andi_eq_one.1 (IntOp.andi_eq_one.1 (k1 (ix1 n))).2).1)
  have hlive := fun n (r : Fin 151552) (hr : (dstW D n).toNat = r.val) =>
    (htake _ _ n r (hi n) hr).symm.trans (IntOp.andi_eq_one.1 (IntOp.andi_eq_one.1 (k1 (ix1 n))).2).2
  refine ⟨hlt, fun n n' h => ?_, fun n r h => (live_at B _ _ _ r).symm.trans (hlive n r h), fun r hr => ?_⟩
  · have a := hinv n ⟨_, hlt n⟩ rfl
    have b := hinv n' ⟨_, hlt n⟩ h.symm
    have := congrArg BitVec.toNat (a.symm.trans b)
    change (BitVec.ofNat 32 n.val).toNat = (BitVec.ofNat 32 n'.val).toNat at this
    simp only [BitVec.toNat_ofNat] at this
    exact Fin.ext (by omega)
  · have a := k2 (ix1 r)
    rcases IntOp.ori_eq_one.1 a with h | h
    · exfalso
      refine IntOp.not_eq_one.1 h ?_
      exact (live_at B _ _ _ r).trans hr
    · have c := IntOp.cmpi_eq.1 h
      rw [← ofFin_eq_ix1] at c
      have t := (StableHlo.Predicate.gather_take _ rfl rfl rfl rfl _ _ r (by norm_num)).symm.trans c
      rw [ofFin_eq_ix1, flat_at] at t
      refine ⟨_, (congrArg BitVec.toNat t).trans ?_⟩
      show (BitVec.ofNat 32 r.val).toNat = r.val
      simp only [BitVec.toNat_ofNat]
      omega

end Cert.Proof.Scatter

end
-- ==== Proof.Wanted.lean ====
/-
  What both programs compute: row `r` of the dispatch buffer is the hidden state of the token with an entry sent to
  `r`, and zero where no entry is sent. The reference's operations read so.
-/
module

public import proofs.«01_k».proof.Proof.Plan
public import proofs.«01_k».proof.Proof.Gen.ReferenceIdeal.Run

@[expose] public section

noncomputable section

namespace Cert.Proof.Scatter

open Idealize.ShloMosaic Idealize.ShloMosaic.ValueIdx Idealize.ShloMosaic.Routing
open Cert.ReferenceIdeal Cert.ReferenceIdeal.Gen Cert.ReferenceIdeal.Facts

/-- The hidden states, by column group, token and column. -/
abbrev Hidden : Type := (shape3 4 33792 128).Idx → BitVec 32

open Classical in
/-- The dispatch buffer at a column group, a row and a column. -/
def moved (h2 : Hidden) (D : Dests) (c : Fin 4) (r : Fin 151552) (k : Fin 128) : BitVec 32 :=
  if h : ∃ n, (dstW D n).toNat = r.val then h2 (ix3 c (tok h.choose) k) else 0#32

theorem moved_hit {h2 : Hidden} {D : Dests} {B : Counts} (P : Plan D B) (c : Fin 4) (r : Fin 151552) (k : Fin 128)
    (n : Fin 135168) (h : (dstW D n).toNat = r.val) : moved h2 D c r k = h2 (ix3 c (tok n) k) := by
  have e : ∃ n, (dstW D n).toNat = r.val := ⟨n, h⟩
  rw [moved, dif_pos e, P.inj _ n (e.choose_spec.trans h.symm)]

theorem moved_miss {h2 : Hidden} {D : Dests} (c : Fin 4) (r : Fin 151552) (k : Fin 128)
    (h : ∀ n, (dstW D n).toNat ≠ r.val) : moved h2 D c r k = 0#32 := by
  rw [moved, dif_neg fun e => h _ e.choose_spec]

/-- An entry of the reference's scatter lands at a row exactly when its index word is the row. -/
theorem lands (idx : IVec S135168x1 32) (n : Fin 135168) (r : Fin 151552) :
    scatter_S151552_S135168x1_S135168_n_0_0_1.resultIdx? (ix1 n) idx = some (ix1 r) ↔ (idx (ix2 n (0 : Fin 1))).toInt = (r.val : ℤ) := by
  rw [resultIdx?_ix1]
  have hs : scatter_S151552_S135168x1_S135168_n_0_0_1.siIdx (ix1 n) ⟨0, by decide⟩ = ix2 n (0 : Fin 1) := by
    funext a
    match a with
    | ⟨0, _⟩ => rfl
    | ⟨1, _⟩ => rfl
  have h1 : scatter_S151552_S135168x1_S135168_n_0_0_1.start (ix1 n) idx 0 = (idx (ix2 n (0 : Fin 1))).toInt := by
    rw [← hs]
    rfl
  have h2 : scatter_S151552_S135168x1_S135168_n_0_0_1.window (ix1 n) 0 = 0 := rfl
  rw [h1, h2]
  simp

/-- The reference's gather reads, at a column group, a row and a column, the token its index word names. -/
theorem picks (x : S4x33793x128.Idx → BitVec 32) (idx : IVec S151552x1 32) (c : Fin 4) (r : Fin 151552) (k : Fin 128) (t : Fin 33793)
    (h : idx (ix2 r (0 : Fin 1)) = BitVec.ofNat 32 t.val) :
    Host.gather gather_S4x33793x128_S151552x1_S4x151552x128_02_1_n_n_1_1_41128 x idx (ix3 c r k) = x (ix3 c t k) := by
  have hs : gather_S4x33793x128_S151552x1_S4x151552x128_02_1_n_n_1_1_41128.siIdx (ix3 c r k) ⟨0, by decide⟩ = ix2 r (0 : Fin 1) := by
    funext a
    match a with
    | ⟨0, _⟩ => rfl
    | ⟨1, _⟩ => rfl
  unfold Host.gather
  refine congrArg x (funext fun a => Fin.ext ?_)
  match a with
  | ⟨0, _⟩ =>
    show 0 + 0 + c.val = c.val
    omega
  | ⟨1, _⟩ =>
    show min (idx (gather_S4x33793x128_S151552x1_S4x151552x128_02_1_n_n_1_1_41128.siIdx (ix3 c r k) ⟨0, _⟩)).toInt.toNat (33793 - 1) + 0 + 0 = t.val
    have ht := t.isLt
    rw [hs, h, StableHlo.Predicate.toInt_ofNat_small _ (by omega)]
    omega
  | ⟨2, _⟩ =>
    show 0 + 0 + k.val = k.val
    omega

/-- Which token each row of the buffer takes, as the reference scatters it. -/
def bufT (D : Dests) : IVec S151552 32 :=
  Host.scatter scatter_S151552_S135168x1_S135168_n_0_0_1 (fun _ b => b) (broadcastInDim S151552 ![] bcast_S_S151552 (constantI S_ 32 33792#32)) (broadcastInDim S135168x1 ![0] bcast_S135168_S135168x1_0 (select (cmpi .slt (shapeCast _ D shapeCasts_S33792x4_S135168) (broadcastInDim S135168 ![] bcast_S_S135168 (constantI S_ 32 0#32))) (addi (shapeCast _ D shapeCasts_S33792x4_S135168) (broadcastInDim S135168 ![] bcast_S_S135168 (constantI S_ 32 151552#32))) (shapeCast _ D shapeCasts_S33792x4_S135168))) (shapeCast _ (broadcastInDim S33792x4 ![0] bcast_S33792_S33792x4_0 (iotaInDim S33792 32 0)) shapeCasts_S33792x4_S135168)

/-- The hidden states with a row of zeros after the last token. -/
def padded (h2 : Hidden) : S4x33793x128.Idx → BitVec 32 :=
  concatenate S4x33793x128 1 [⟨S4x33792x128, h2⟩, ⟨S4x1x128, (broadcastInDim S4x1x128 ![] bcast_S_S4x1x128 (constantI S_ 32 0#32))⟩] concatenates_S4x33792x128_S4x1x128_S4x33793x128_d1

/-- The reference's result from its arguments. -/
def refOut (h2 : Hidden) (D : Dests) : S4x151552x128.Idx → BitVec 32 :=
  Host.gather gather_S4x33793x128_S151552x1_S4x151552x128_02_1_n_n_1_1_41128 (padded h2) (broadcastInDim S151552x1 ![0] bcast_S151552_S151552x1_0 (select (cmpi .slt (bufT D) (broadcastInDim S151552 ![] bcast_S_S151552 (constantI S_ 32 0#32))) (addi (bufT D) (broadcastInDim S151552 ![] bcast_S_S151552 (constantI S_ 32 33793#32))) (bufT D)))

/-- The tokens' numbers, each four times, read at an entry. -/
theorem toks_at (n : Fin 135168) :
    shapeCast S135168 (broadcastInDim S33792x4 ![0] bcast_S33792_S33792x4_0 (iotaInDim S33792 32 0)) shapeCasts_S33792x4_S135168 (ix1 n)
      = BitVec.ofNat 32 (tok n).val := by
  rw [cast21 _ _ (tok n) (way n) n (by show n.val = n.val / 4 * 4 + n.val % 4; omega)]
  refine (broadcastInDim_apply _ _ _ _ (ix1 (tok n)) fun a => ?_).trans rfl
  match a with
  | ⟨0, _⟩ => rfl

/-- The index words of the reference's scatter. -/
theorem dst_at {D : Dests} {B : Counts} (P : Plan D B) (n : Fin 135168) :
    broadcastInDim S135168x1 ![0] bcast_S135168_S135168x1_0 (select (cmpi .slt (shapeCast _ D shapeCasts_S33792x4_S135168) (broadcastInDim S135168 ![] bcast_S_S135168 (constantI S_ 32 0#32))) (addi (shapeCast _ D shapeCasts_S33792x4_S135168) (broadcastInDim S135168 ![] bcast_S_S135168 (constantI S_ 32 151552#32))) (shapeCast _ D shapeCasts_S33792x4_S135168)) (ix2 n (0 : Fin 1)) = dstW D n :=
  (wrap_at (shapeCast S135168 D shapeCasts_S33792x4_S135168) 151552#32 bcast_S135168_S135168x1_0 bcast_S_S135168 bcast_S_S135168 n
    (by rw [flat_at]; have := P.lt n; omega)).trans (flat_at D _ n)

theorem toInt_dst {D : Dests} {B : Counts} (P : Plan D B) (n : Fin 135168) : (dstW D n).toInt = ((dstW D n).toNat : ℤ) := by
  have := P.lt n
  rw [BitVec.toInt_eq_toNat_cond]
  split <;> omega

theorem bufT_hit {D : Dests} {B : Counts} (P : Plan D B) (r : Fin 151552) (n : Fin 135168) (h : (dstW D n).toNat = r.val) :
    bufT D (ix1 r) = BitVec.ofNat 32 (tok n).val := by
  refine scatter_set_hit _ _ _ _ _ _ (fun k hk => ?_) (ix1 n) ((lands _ n r).2 ?_)
  · obtain ⟨n', rfl⟩ : ∃ n' : Fin 135168, k = ix1 n' := ⟨k 0, funext fun a => match a with | ⟨0, _⟩ => rfl⟩
    have e := (lands _ n' r).1 hk
    rw [dst_at P, toInt_dst P] at e
    rw [P.inj n' n (by omega)]
    exact toks_at n
  · rw [dst_at P, toInt_dst P, h]

theorem bufT_miss {D : Dests} {B : Counts} (P : Plan D B) (r : Fin 151552) (h : ∀ n, (dstW D n).toNat ≠ r.val) :
    bufT D (ix1 r) = BitVec.ofNat 32 33792 := by
  refine (scatter_set_miss _ _ _ _ _ fun k hk => ?_).trans rfl
  obtain ⟨n', rfl⟩ : ∃ n' : Fin 135168, k = ix1 n' := ⟨k 0, funext fun a => match a with | ⟨0, _⟩ => rfl⟩
  have e := (lands _ n' r).1 hk
  rw [dst_at P, toInt_dst P] at e
  exact h n' (by omega)

theorem padded_tok (h2 : Hidden) (c : Fin 4) (t : Fin 33792) (k : Fin 128) :
    padded h2 (ix3 c ⟨t.val, by omega⟩ k) = h2 (ix3 c t k) :=
  concatenate_pair_apply_left (t := S4x33793x128) (s₁ := S4x33792x128) (s₂ := S4x1x128) (1 : Fin 3) h2 _ concatenates_S4x33792x128_S4x1x128_S4x33793x128_d1 _ rfl (ix3 c t k)
    fun | ⟨0, _⟩ => rfl | ⟨1, _⟩ => rfl | ⟨2, _⟩ => rfl

theorem padded_end (h2 : Hidden) (c : Fin 4) (k : Fin 128) : padded h2 (ix3 c ⟨33792, by omega⟩ k) = 0#32 :=
  (concatenate_pair_apply_right (t := S4x33793x128) (s₁ := S4x33792x128) (s₂ := S4x1x128) (1 : Fin 3) h2 _ concatenates_S4x33792x128_S4x1x128_S4x33793x128_d1 _ rfl rfl (ix3 c (0 : Fin 1) k)
    (fun | ⟨0, _⟩, _ => rfl | ⟨1, _⟩, h => absurd rfl h | ⟨2, _⟩, _ => rfl) rfl).trans rfl

/-- The reference's result. -/
theorem refOut_at {h2 : Hidden} {D : Dests} {B : Counts} (P : Plan D B) (c : Fin 4) (r : Fin 151552) (k : Fin 128) :
    refOut h2 D (ix3 c r k) = moved h2 D c r k := by
  have hw : (bufT D (ix1 r)).toNat < 2 ^ 31 → _ = bufT D (ix1 r) :=
    wrap_at (bufT D) 33793#32 bcast_S151552_S151552x1_0 bcast_S_S151552 bcast_S_S151552 r
  by_cases h : ∃ n, (dstW D n).toNat = r.val
  · obtain ⟨n, h⟩ := h
    have e := bufT_hit P r n h
    have ht := (tok n).isLt
    rw [moved_hit P c r k n h, ← padded_tok h2 c (tok n) k]
    exact picks _ _ c r k ⟨(tok n).val, by omega⟩ ((hw (by rw [e, BitVec.toNat_ofNat]; omega)).trans e)
  · have h' : ∀ n, (dstW D n).toNat ≠ r.val := fun n e => h ⟨n, e⟩
    have e := bufT_miss P r h'
    rw [moved_miss c r k h', ← padded_end h2 c k]
    exact picks _ _ c r k ⟨33792, by omega⟩ ((hw (by rw [e]; decide)).trans e)

end Cert.Proof.Scatter

end
-- ==== Proof.Value.lean ====
/-
  What the host's operations hand the call, what they make of its result, and that the result is the dispatch buffer.
-/
module

public import proofs.«01_k».proof.Proof.Launch
public import proofs.«01_k».proof.Proof.Wanted

@[expose] public section

noncomputable section

namespace Cert.Proof.Scatter

open Cert.KernelIdeal Cert.KernelIdeal.Gen Cert.KernelIdeal.Facts
open Idealize.ShloMosaic Idealize.ShloMosaic.ValueIdx Idealize.ShloMosaic.Routing
open Idealize.ShloMosaic.StableHlo (after launchContents)
open Idealize.ShloMosaic.Tactic

/-! ## An index list -/

/-- The column group and the token of a position of a list. -/
def grp (n : Fin 135168) : Fin 4 := ⟨n.val / 33792, by omega⟩
def itok (n : Fin 135168) : Fin 33792 := ⟨n.val % 33792, by omega⟩
/-- The entry of token `t` that is its `j`-th. -/
def entryOf (t : Fin 33792) (j : Fin 4) : Fin 135168 := ⟨t.val * 4 + j.val, by omega⟩

theorem tok_ent (t : Fin 33792) (j : Fin 4) : tok (entryOf t j) = t := Fin.ext (by show (t.val * 4 + j.val) / 4 = t.val; omega)
theorem way_ent (t : Fin 33792) (j : Fin 4) : way (entryOf t j) = j := Fin.ext (by show (t.val * 4 + j.val) % 4 = j.val; omega)
theorem ent_tok (n : Fin 135168) : entryOf (tok n) (way n) = n := Fin.ext (by show n.val / 4 * 4 + n.val % 4 = n.val; omega)

/-- List `j` from the destinations: at column group `c`, token `t`, the destination of the token's `j`-th entry in
    group `c`'s rows. -/
abbrev listOf (D : Dests) (j : ℕ) (hs : S33792x4.Slices ![0, j] S33792x1) : S1x135168.Idx → BitVec 32 :=
  shapeCast S1x135168 (addi (broadcastInDim S4x33792 ![0, 1] bcast_S4x1_S4x33792_0_1 (broadcastInDim S4x1 ![0] bcast_S4_S4x1_0
      (muli (iotaInDim S4 32 0) (broadcastInDim S4 ![] bcast_S_S4 (constantI S_ 32 151552#32)))))
    (broadcastInDim S4x33792 ![0, 1] bcast_S1x33792_S4x33792_0_1 (broadcastInDim S1x33792 ![1] bcast_S33792_S1x33792_1
      (shapeCast S33792 (extractStridedSlice S33792x1 ![0, j] D hs) shapeCasts_S33792x1_S33792)))) shapeCasts_S4x33792_S1x135168

theorem listOf_at (D : Dests) (j : Fin 4) (hs : S33792x4.Slices ![0, j.val] S33792x1) (n : Fin 135168) :
    listOf D j.val hs (pos n) = BitVec.ofNat 32 (grp n).val * 151552#32 + dstW D (entryOf (itok n) j) := by
  unfold listOf
  rw [shapeCast_apply _ _ (pos n) (ix2 (grp n) (itok n)) (by
    rw [Shape.rowMajor_val_two, Shape.rowMajor_val_two]
    show n.val / 33792 * 33792 + n.val % 33792 = 0 * 135168 + n.val
    omega)]
  refine congrArg₂ (· + ·) ?_ ?_
  · refine (bcRows bcast_S4_S4x1_0 bcast_S4x1_S4x33792_0_1 _ _ _).trans rfl
  · refine (bcCols bcast_S33792_S1x33792_1 bcast_S1x33792_S4x33792_0_1 _ _ _).trans ?_
    rw [cast21 _ _ (itok n) (0 : Fin 1) (itok n) (by simp)]
    unfold dstW
    rw [tok_ent, way_ent]
    refine congrArg D (funext fun a => Fin.ext ?_)
    match a with
    | ⟨0, _⟩ => exact Nat.zero_add _
    | ⟨1, _⟩ => rfl

variable {F : FTy → Type} [FloatOps F]
variable (m : (ℓ : Loc nD τ sig) → Buf (Elt F) ℓ)

/-- The arguments. -/
abbrev argH (d : Dev nD) : Hidden := m ((d.tc : Thread nD τ).loc main_arg0)
abbrev argD (d : Dev nD) : Dests := m ((d.tc : Thread nD τ).loc main_arg1)
abbrev argB (d : Dev nD) : Counts := m ((d.tc : Thread nD τ).loc main_arg2)

theorem inp_x (d : Dev nD) : (inp m d).x = shapeCast S135168x128 (argH m d) shapeCasts_S4x33792x128_S135168x128 := by
  show after ops1 (launchContents m d) (at_ main_v4) = _
  after_results <;> rfl

theorem inp_ix0 (d : Dev nD) : (inp m d).ix 0 = listOf (argD m d) 0 slices_S33792x4_S33792x1_0_0 := by
  show after ops1 (launchContents m d) (at_ main_v11) = _
  after_results <;> rfl
theorem inp_ix1 (d : Dev nD) : (inp m d).ix 1 = listOf (argD m d) 1 slices_S33792x4_S33792x1_0_1 := by
  show after ops1 (launchContents m d) (at_ main_v18) = _
  after_results <;> rfl
theorem inp_ix2 (d : Dev nD) : (inp m d).ix 2 = listOf (argD m d) 2 slices_S33792x4_S33792x1_0_2 := by
  show after ops1 (launchContents m d) (at_ main_v25) = _
  after_results <;> rfl
theorem inp_ix3 (d : Dev nD) : (inp m d).ix 3 = listOf (argD m d) 3 slices_S33792x4_S33792x1_0_3 := by
  show after ops1 (launchContents m d) (at_ main_v32) = _
  after_results <;> rfl

theorem x_at (d : Dev nD) (n : Fin 135168) (l : Fin 128) : (inp m d).x (elt n l) = argH m d (ix3 (grp n) (itok n) l) := by
  rw [inp_x]
  refine shapeCast_apply _ _ (elt n l) (ix3 (grp n) (itok n) l) ?_
  rw [Shape.rowMajor_val_two, Shape.rowMajor_val_three]
  show (n.val / 33792 * 33792 + n.val % 33792) * 128 + l.val = n.val * 128 + l.val
  omega

theorem ix_at (d : Dev nD) (j : Fin 4) (n : Fin 135168) :
    (inp m d).ix j (pos n) = BitVec.ofNat 32 (grp n).val * 151552#32 + dstW (argD m d) (entryOf (itok n) j) := by
  match j with
  | ⟨0, _⟩ => exact (congrFun (inp_ix0 m d) _).trans (listOf_at _ 0 _ n)
  | ⟨1, _⟩ => exact (congrFun (inp_ix1 m d) _).trans (listOf_at _ 1 _ n)
  | ⟨2, _⟩ => exact (congrFun (inp_ix2 m d) _).trans (listOf_at _ 2 _ n)
  | ⟨3, _⟩ => exact (congrFun (inp_ix3 m d) _).trans (listOf_at _ 3 _ n)

variable {m}

theorem named_row {d : Dev nD} (P : Plan (argD m d) (argB m d)) (j : Fin 4) (n : Fin 135168) :
    (inp m d).row j n = (grp n).val * 151552 + (dstW (argD m d) (entryOf (itok n) j)).toNat := by
  have h1 := P.lt (entryOf (itok n) j)
  have h2 := (grp n).isLt
  refine (congrArg BitVec.toNat (ix_at m d j n)).trans ?_
  rw [BitVec.toNat_add, BitVec.toNat_mul, BitVec.toNat_ofNat, BitVec.toNat_ofNat]
  omega

/-- Every index is a row of the result, and no two entries name one row. -/
theorem ok_of_plan {d : Dev nD} (P : Plan (argD m d) (argB m d)) : (inp m d).Ok where
  lt j n := by
    rw [named_row P]
    have h1 := P.lt (entryOf (itok n) j)
    have h2 := (grp n).isLt
    omega
  inj j n j' n' h := by
    rw [named_row P, named_row P] at h
    have h1 := P.lt (entryOf (itok n) j)
    have h2 := P.lt (entryOf (itok n') j')
    have h3 := congrArg Fin.val (P.inj (entryOf (itok n) j) (entryOf (itok n') j') (by omega))
    have h4 : (grp n).val = (grp n').val := by omega
    change n.val % 33792 * 4 + j.val = n'.val % 33792 * 4 + j'.val at h3
    change n.val / 33792 = n'.val / 33792 at h4
    exact ⟨Fin.ext (by omega), Fin.ext (by omega)⟩

/-- Element `(q, k)` of the call's result. -/
def oel (q : Fin 606208) (k : Fin 128) : S606208x128.Idx := ix2 q k

/-- The call's result at a row an entry is sent to. -/
theorem out_at {d : Dev nD} (P : Plan (argD m d) (argB m d)) (c : Fin 4) (r : Fin 151552) (k : Fin 128) (n : Fin 135168)
    (h : (dstW (argD m d) n).toNat = r.val) :
    (inp m d).out (oel ⟨c.val * 151552 + r.val, by omega⟩ k) = argH m d (ix3 c (tok n) k) := by
  have ht := (tok n).isLt
  have hg : grp ⟨c.val * 33792 + (tok n).val, by omega⟩ = c := Fin.ext (by show (c.val * 33792 + (tok n).val) / 33792 = c.val; omega)
  have hi : itok ⟨c.val * 33792 + (tok n).val, by omega⟩ = tok n := Fin.ext (by show (c.val * 33792 + (tok n).val) % 33792 = (tok n).val; omega)
  rw [(inp m d).out_hit (ok_of_plan P) (way n) ⟨c.val * 33792 + (tok n).val, by omega⟩ _ (by
    rw [named_row P, hg, hi, ent_tok, h]; rfl), x_at, hg, hi]
  rfl

theorem after_ops2 (W : Valuation τ sig (Elt F)) : after ops2 W (at_ main_v41) =
    select (broadcastInDim S4x151552x128 ![0, 1, 2] bcast_S1x151552x1_S4x151552x128_0_1_2 (broadcastInDim S1x151552x1 ![1] bcast_S151552_S1x151552x1_1
      (shapeCast S151552 (cmpi .slt (iotaInDim S296x512 32 1) (broadcastInDim S296x512 ![0, 1] bcast_S296x1_S296x512_0_1
        (broadcastInDim S296x1 ![0] bcast_S296_S296x1_0 (W (at_ main_arg2))))) shapeCasts_S296x512_S151552)))
      (shapeCast S4x151552x128 (W (at_ main_v33)) shapeCasts_S606208x128_S4x151552x128)
      (broadcastInDim S4x151552x128 ![] bcast_S_S4x151552x128 (constantI S_ 32 0#32)) := by
  after_results <;> rfl

/-- The program's result, as the operations after the call make it from the call's. -/
theorem V3_out (d : Dev nD) : V3 m d (at_ main_v41) =
    select (broadcastInDim S4x151552x128 ![0, 1, 2] bcast_S1x151552x1_S4x151552x128_0_1_2 (broadcastInDim S1x151552x1 ![1] bcast_S151552_S1x151552x1_1
      (shapeCast S151552 (cmpi .slt (iotaInDim S296x512 32 1) (broadcastInDim S296x512 ![0, 1] bcast_S296x1_S296x512_0_1
        (broadcastInDim S296x1 ![0] bcast_S296_S296x1_0 (argB m d)))) shapeCasts_S296x512_S151552)))
      (shapeCast S4x151552x128 (inp m d).out shapeCasts_S606208x128_S4x151552x128)
      (broadcastInDim S4x151552x128 ![] bcast_S_S4x151552x128 (constantI S_ 32 0#32)) := by
  have hB : V2 m d (at_ main_arg2) = argB m d := (V2_ne m d _ (by decide)).trans (keep1 _ _ (by decide))
  have hO : V2 m d (at_ main_v33) = (inp m d).out := Function.update_self _ _ _
  refine (after_ops2 (V2 m d)).trans ?_
  rw [hB, hO]

theorem V3_at {d : Dev nD} (P : Plan (argD m d) (argB m d)) (c : Fin 4) (r : Fin 151552) (k : Fin 128) :
    V3 m d (at_ main_v41) (ix3 c r k) = moved (argH m d) (argD m d) c r k := by
  rw [V3_out]
  have hl : broadcastInDim S4x151552x128 ![0, 1, 2] bcast_S1x151552x1_S4x151552x128_0_1_2 (broadcastInDim S1x151552x1 ![1] bcast_S151552_S1x151552x1_1
      (shapeCast S151552 (cmpi .slt (iotaInDim S296x512 32 1) (broadcastInDim S296x512 ![0, 1] bcast_S296x1_S296x512_0_1
        (broadcastInDim S296x1 ![0] bcast_S296_S296x1_0 (argB m d)))) shapeCasts_S296x512_S151552)) (ix3 c r k) = liveW (argB m d) r := by
    refine (broadcastInDim_apply _ _ _ _ (ix3 (0 : Fin 1) r (0 : Fin 1)) fun a => ?_).trans
      ((broadcastInDim_apply _ _ _ _ (ix1 r) fun a => ?_).trans (live_at _ _ _ _ r))
    · match a with
      | ⟨0, _⟩ => rfl
      | ⟨1, _⟩ => rfl
      | ⟨2, _⟩ => rfl
    · match a with
      | ⟨0, _⟩ => rfl
  have ho : shapeCast S4x151552x128 (inp m d).out shapeCasts_S606208x128_S4x151552x128 (ix3 c r k)
      = (inp m d).out (oel ⟨c.val * 151552 + r.val, by omega⟩ k) :=
    shapeCast_apply _ _ (ix3 c r k) _ (by rw [Shape.rowMajor_val_two, Shape.rowMajor_val_three]; rfl)
  show Scalar.select _ _ _ = _
  rw [hl, ho]
  by_cases h : liveW (argB m d) r = 1#1
  · obtain ⟨n, hn⟩ := P.named r h
    rw [moved_hit P c r k n hn, ← out_at P c r k n hn]
    exact if_pos h
  · rw [moved_miss c r k fun n e => h (P.live n r e)]
    exact if_neg h

/-- The program's result is the reference's. -/
theorem value {d : Dev nD} (P : Plan (argD m d) (argB m d)) : V3 m d (at_ main_v41) = refOut (argH m d) (argD m d) := by
  funext p
  obtain ⟨c, r, k, rfl⟩ : ∃ (c : Fin 4) (r : Fin 151552) (k : Fin 128), p = ix3 c r k :=
    ⟨p 0, p 1, p 2, funext fun a => match a with | ⟨0, _⟩ => rfl | ⟨1, _⟩ => rfl | ⟨2, _⟩ => rfl⟩
  rw [V3_at P, refOut_at P]

theorem V3_arg (d : Dev nD) (r : Ref sig .tc) (h : r = main_arg0 ∨ r = main_arg1 ∨ r = main_arg2) :
    V3 m d (at_ r) = m ((d.tc : Thread nD τ).loc r) := by
  rcases h with rfl | rfl | rfl <;>
    exact (keep2 _ _ (by decide)).trans ((V2_ne m d _ (by decide)).trans (keep1 _ _ (by decide)))

end Cert.Proof.Scatter

end
-- ==== Proof.Ends.lean ====
/-
  How the program ends, in the words of the claims, at any reading of the floats; the same of the references.
-/
module

public import proofs.«01_k».proof.Proof.Value
public import proofs.«01_k».proof.Proof.Gen.Reference.Run

@[expose] public section

noncomputable section

namespace Cert.Proof.Scatter

open Cert.KernelIdeal Cert.KernelIdeal.Gen
open Idealize.ShloMosaic Idealize.SL.Sem

variable {F : FTy → Type} [FloatOps F] [∀ e, Nonempty (Elt F e)]

/-- Under a plan the program ends with the dispatch buffer in its result, its arguments as they were and its
    semaphores at zero. -/
theorem ends (m : (ℓ : Loc nD τ sig) → Buf (Elt F) ℓ) (ρ : Dev nD → PrngReg) (P : ∀ d, Plan (argD m d) (argB m d)) :
    θ_run (Cert.KernelIdeal.defs (F := F)) (Cert.KernelIdeal.threads (F := F)) ⟨m, fun _ => 0, ρ⟩ (fun r => (∀ c : Dev nD,
      r.2.mem ((c.tc : Thread nD τ).loc main_v41) = refOut (argH m c) (argD m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  (θ_run _ _ _).mono (fun r h => ⟨fun c =>
    ⟨(h.1 c (at_ main_v41) (by decide)).trans (value (P c)),
      (h.1 c (at_ main_arg0) (by decide)).trans (V3_arg c _ (.inl rfl)),
      (h.1 c (at_ main_arg1) (by decide)).trans (V3_arg c _ (.inr (.inl rfl))),
      (h.1 c (at_ main_arg2) (by decide)).trans (V3_arg c _ (.inr (.inr rfl)))⟩, h.2⟩)
    (run_all m ρ fun d => ok_of_plan (P d))

end Cert.Proof.Scatter

end
-- ==== Proof.Combine.lean ====
/-
  The expert combine with the final norm: what each grid point writes is the reference's row block.

  Every point of the pipeline handles 512 token rows.  It adds the four experts' rows, weighted, scales the sum by the
  modulation row of the batch, adds the residual and normalizes.  Read at an index, the stored value and the reference's
  composed term are the same arithmetic over the argument arrays.
-/
module

public import proofs.«01_k».proof.Proof.Gen.Kernel3Ideal.Value
public import proofs.«01_k».proof.Proof.Gen.Reference3Ideal.Run
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.Proof.Combine

section Ref

open Cert.Reference3Ideal Cert.Reference3Ideal.Gen

/-- The residual stream after the experts' weighted sum is added, gated. -/
def resid (x : FVec Ideal S4x8192x1024 .f32) (y : FVec Ideal S4x8192x4x1024 .f32) (w : FVec Ideal S4x8192x4 .f32)
    (mod : FVec Ideal S4x1x6144 .f32) : FVec Ideal S4x8192x1024 .f32 :=
  addf x (mulf (broadcastInDim S4x8192x1024 ![0, 1, 2] bcast_S4x1x1024_S4x8192x1024_0_1_2 (extractStridedSlice S4x1x1024 ![0, 0, 5120] mod slices_S4x1x6144_S4x1x1024_0_0_5120)) (Host.reduceAdd (mulf y (broadcastInDim S4x8192x4x1024 ![0, 1, 2, 3] bcast_S4x8192x4x1_S4x8192x4x1024_0_1_2_3 (broadcastInDim S4x8192x4x1 ![0, 1, 2] bcast_S4x8192x4_S4x8192x4x1_0_1_2 w))) (constant S_ .f32 0x00000000#32) reducesTo_S4x8192x4x1024_S4x8192x1024_d2 h_S_))

theorem resid_at (x : FVec Ideal S4x8192x1024 .f32) (y : FVec Ideal S4x8192x4x1024 .f32) (w : FVec Ideal S4x8192x4 .f32)
    (mod : FVec Ideal S4x1x6144 .f32) (b : Fin 4) (n : Fin 8192) (d : Fin 1024) :
    resid x y w mod (ix3 b n d) = x (ix3 b n d) + mod (ix3 b 0 ⟨5120 + d.val, by omega⟩)
      * (y (ix4 b n 0 d) * w (ix3 b n 0) + y (ix4 b n 1 d) * w (ix3 b n 1) + y (ix4 b n 2 d) * w (ix3 b n 2)
        + y (ix4 b n 3 d) * w (ix3 b n 3)) := by
  pointwise [resid]
  rw [Fin.sum_univ_four]

/-- The reference's result over the argument arrays. -/
abbrev want (x : FVec Ideal S4x8192x1024 .f32) (y : FVec Ideal S4x8192x4x1024 .f32) (w : FVec Ideal S4x8192x4 .f32)
    (mod : FVec Ideal S4x1x6144 .f32) (g : FVec Ideal S1024 .f32) : FVec Ideal S32768x1024 .f32 :=
  shapeCast _ (mulf (mulf (resid x y w mod) (broadcastInDim S4x8192x1024 ![0, 1, 2] bcast_S4x8192x1_S4x8192x1024_0_1_2 (Host.rsqrt (addf (Host.divf (broadcastInDim S4x8192x1 ![0, 1] bcast_S4x8192_S4x8192x1_0_1 (Host.reduceAdd (mulf (resid x y w mod) (resid x y w mod)) (constant S_ .f32 0x00000000#32) reducesTo_S4x8192x1024_S4x8192_d2 h_S_)) (broadcastInDim S4x8192x1 ![] bcast_S_S4x8192x1 (constant S_ .f32 0x44800000#32))) (broadcastInDim S4x8192x1 ![] bcast_S_S4x8192x1 (constant S_ .f32 0x358637BD#32)))))) (broadcastInDim S4x8192x1024 ![0, 1, 2] bcast_S1x1x1024_S4x8192x1024_0_1_2 (broadcastInDim S1x1x1024 ![2] bcast_S1024_S1x1x1024_2 g))) shapeCasts_S4x8192x1024_S32768x1024

end Ref

open Cert.Kernel3Ideal Cert.Kernel3Ideal.Gen

variable (m : (ℓ : Loc nD τ sig) → Buf (Elt Ideal) ℓ)

theorem flat0 (x : FVec Ideal S4x8192x1024 .f32) (r : Fin 32768) (d : Fin 1024) :
    shapeCast S32768x1024 x shapeCasts_S4x8192x1024_S32768x1024 (ix2 r d)
      = x (ix3 ⟨r.val / 8192, by omega⟩ ⟨r.val % 8192, by omega⟩ d) := by
  pointwise

theorem flat1 (x : FVec Ideal S4x8192x4x1024 .f32) (q e : Fin 4) (r : Fin 32768) (d : Fin 256) :
    transpose S4x4x32768x256 [2, 1, 0, 3] (shapeCast S32768x4x4x256 x shapeCasts_S4x8192x4x1024_S32768x4x4x256)
        transposes_S32768x4x4x256_S4x4x32768x256_2_1_0_3 (ix4 q e r d)
      = x (ix4 ⟨r.val / 8192, by omega⟩ ⟨r.val % 8192, by omega⟩ e ⟨q.val * 256 + d.val, by omega⟩) := by
  pointwise
  blk_ext []

theorem flat2 (x : FVec Ideal S4x8192x4 .f32) (r : Fin 32768) (e : Fin 4) :
    pad S32768x128 ![0, 0] ![0, 124] ![0, 0] (shapeCast S32768x4 x shapeCasts_S4x8192x4_S32768x4)
        (sitofp (F := Ideal) .f32 (constantI S_ 32 0#32)) pads_S32768x4_S32768x128_000_01240 h_S_ (ix2 r ⟨e.val, by omega⟩)
      = x (ix3 ⟨r.val / 8192, by omega⟩ ⟨r.val % 8192, by omega⟩ e) := by
  pointwise
  try blk_ext []

theorem flat3 (x : FVec Ideal S4x1x6144 .f32) (b : Fin 4) (d : Fin 1024) :
    shapeCast S48x1x1024 (pad S8x6144 ![0, 0] ![4, 0] ![0, 0] (shapeCast S4x6144 x shapeCasts_S4x1x6144_S4x6144)
        (sitofp (F := Ideal) .f32 (constantI S_ 32 0#32)) pads_S4x6144_S8x6144_040_000 h_S_)
        shapeCasts_S8x6144_S48x1x1024 (ix3 ⟨b.val * 6 + 5, by omega⟩ 0 d)
      = x (ix3 b 0 ⟨5120 + d.val, by omega⟩) := by
  pointwise
  rw [dif_pos ⟨by omega, by omega⟩]
  blk_ext []

theorem flat4 (x : FVec Ideal S1024 .f32) (d : Fin 1024) :
    broadcastInDim S1x1024 ![1] bcast_S1024_S1x1024_1 x (ix2 0 d) = x (ix1 d) := by
  pointwise

/-- Where each window's block sits at every point. -/
theorem idx : ∀ t : Fin cfg0.N, win0_0.index t = ![(t : ℕ), 0] ∧ win0_1.index t = ![0, 0, (t : ℕ), 0]
    ∧ win0_2.index t = ![(t : ℕ), 0] ∧ win0_3.index t = ![(t : ℕ) / 16 * 6 + 5, 0, 0] ∧ win0_4.index t = ![0, 0]
    ∧ win0_5.index t = ![(t : ℕ), 0] :=
  (by decide +kernel : ∀ t : Fin grid0.N, _)

theorem lt_points (t : Fin cfg0.N) : (t : ℕ) < 64 := by
  have h : cfg0.N = 64 := by decide +kernel
  omega

/-- The batch of row `ρ` of point `t`'s block. -/
abbrev bat (t : Fin cfg0.N) (ρ : Fin 512) : Fin 4 := ⟨(t.val * 512 + ρ.val) / 8192, by have := lt_points t; omega⟩

/-- Its token within the batch. -/
abbrev tok (t : Fin cfg0.N) (ρ : Fin 512) : Fin 8192 := ⟨(t.val * 512 + ρ.val) % 8192, by omega⟩

theorem entry_v0 (c : Dev nD) : V m c main_v0 = (shapeCast S32768x1024 (m ((c : Thread nD τ).loc main_arg0)) shapeCasts_S4x8192x1024_S32768x1024 : FVec Ideal S32768x1024 .f32) := by
  simp only [V, List.flatten_cons, List.flatten_nil, List.append_nil, List.cons_append, List.nil_append]
  after_results_simp <;> rfl

theorem entry_v2 (c : Dev nD) : V m c main_v2 = (transpose S4x4x32768x256 [2, 1, 0, 3] (shapeCast S32768x4x4x256 (m ((c : Thread nD τ).loc main_arg1)) shapeCasts_S4x8192x4x1024_S32768x4x4x256) transposes_S32768x4x4x256_S4x4x32768x256_2_1_0_3 : FVec Ideal S4x4x32768x256 .f32) := by
  simp only [V, List.flatten_cons, List.flatten_nil, List.append_nil, List.cons_append, List.nil_append]
  after_results_simp <;> rfl

theorem entry_v4 (c : Dev nD) : V m c main_v4 = (pad S32768x128 ![0, 0] ![0, 124] ![0, 0] (shapeCast S32768x4 (m ((c : Thread nD τ).loc main_arg2)) shapeCasts_S4x8192x4_S32768x4) (sitofp (F := Ideal) .f32 (constantI S_ 32 0#32)) pads_S32768x4_S32768x128_000_01240 h_S_ : FVec Ideal S32768x128 .f32) := by
  simp only [V, List.flatten_cons, List.flatten_nil, List.append_nil, List.cons_append, List.nil_append]
  after_results_simp <;> rfl

theorem entry_v7 (c : Dev nD) : V m c main_v7 = (shapeCast S48x1x1024 (pad S8x6144 ![0, 0] ![4, 0] ![0, 0] (shapeCast S4x6144 (m ((c : Thread nD τ).loc main_arg3)) shapeCasts_S4x1x6144_S4x6144) (sitofp (F := Ideal) .f32 (constantI S_ 32 0#32)) pads_S4x6144_S8x6144_040_000 h_S_) shapeCasts_S8x6144_S48x1x1024 : FVec Ideal S48x1x1024 .f32) := by
  simp only [V, List.flatten_cons, List.flatten_nil, List.append_nil, List.cons_append, List.nil_append]
  after_results_simp <;> rfl

theorem entry_v8 (c : Dev nD) : V m c main_v8 = (broadcastInDim S1x1024 ![1] bcast_S1024_S1x1024_1 (m ((c : Thread nD τ).loc main_arg4)) : FVec Ideal S1x1024 .f32) := by
  simp only [V, List.flatten_cons, List.flatten_nil, List.append_nil, List.cons_append, List.nil_append]
  after_results_simp <;> rfl

theorem place0 (t : Fin cfg0.N) (ρ : Fin 512) (d : Fin 1024) :
    ((cfg0.win 0).blk t).view.emb (ix2 ρ d) = ix2 ⟨t.val * 512 + ρ.val, by have := lt_points t; omega⟩ d := by
  blk_ext [idx t]

theorem place1 (t : Fin cfg0.N) (q e : Fin 4) (ρ : Fin 512) (d : Fin 256) :
    ((cfg0.win 1).blk t).view.emb (ix4 q e ρ d) = ix4 q e ⟨t.val * 512 + ρ.val, by have := lt_points t; omega⟩ d := by
  blk_ext [idx t]

theorem place2 (t : Fin cfg0.N) (ρ : Fin 512) (d : Fin 128) :
    ((cfg0.win 2).blk t).view.emb (ix2 ρ d) = ix2 ⟨t.val * 512 + ρ.val, by have := lt_points t; omega⟩ d := by
  blk_ext [idx t]

theorem place3 (t : Fin cfg0.N) (d : Fin 1024) :
    ((cfg0.win 3).blk t).view.emb (ix3 0 0 d) = ix3 ⟨t.val / 16 * 6 + 5, by have := lt_points t; omega⟩ 0 d := by
  blk_ext [idx t]

theorem place4 (t : Fin cfg0.N) (d : Fin 1024) :
    ((cfg0.win 4).blk t).view.emb (ix2 0 d) = ix2 0 d := by
  blk_ext [idx t]

theorem read0 (c : Dev nD) (t : Fin cfg0.N) (ρ : Fin 512) (d : Fin 1024) :
    iblk m c 0 t (ix2 ρ d) = m ((c : Thread nD τ).loc main_arg0) (ix3 (bat t ρ) (tok t ρ) d) := by
  unfold iblk
  change V m c main_v0 (((cfg0.win 0).blk t).view.emb _) = _
  rw [entry_v0, place0]
  refine (flat0 _ _ _).trans ?_
  try blk_ext []

theorem read1 (c : Dev nD) (t : Fin cfg0.N) (q e : Fin 4) (ρ : Fin 512) (d : Fin 256) :
    iblk m c 1 t (ix4 q e ρ d) = m ((c : Thread nD τ).loc main_arg1)
      (ix4 (bat t ρ) (tok t ρ) e ⟨q.val * 256 + d.val, by omega⟩) := by
  unfold iblk
  change V m c main_v2 (((cfg0.win 1).blk t).view.emb _) = _
  rw [entry_v2, place1]
  refine (flat1 _ q e _ d).trans ?_
  try blk_ext []

theorem read2 (c : Dev nD) (t : Fin cfg0.N) (ρ : Fin 512) (e : Fin 4) :
    iblk m c 2 t (ix2 ρ ⟨e.val, by omega⟩) = m ((c : Thread nD τ).loc main_arg2) (ix3 (bat t ρ) (tok t ρ) e) := by
  unfold iblk
  change V m c main_v4 (((cfg0.win 2).blk t).view.emb _) = _
  rw [entry_v4, place2]
  refine (flat2 _ _ e).trans ?_
  try blk_ext []

theorem read3 (c : Dev nD) (t : Fin cfg0.N) (ρ : Fin 512) (d : Fin 1024) :
    iblk m c 3 t (ix3 0 0 d) = m ((c : Thread nD τ).loc main_arg3) (ix3 (bat t ρ) 0 ⟨5120 + d.val, by omega⟩) := by
  unfold iblk
  change V m c main_v7 (((cfg0.win 3).blk t).view.emb _) = _
  rw [entry_v7, place3]
  refine (flat3 _ ⟨t.val / 16, by have := lt_points t; omega⟩ d).trans ?_
  try blk_ext []

theorem read4 (c : Dev nD) (t : Fin cfg0.N) (d : Fin 1024) :
    iblk m c 4 t (ix2 0 d) = m ((c : Thread nD τ).loc main_arg4) (ix1 d) := by
  unfold iblk
  change V m c main_v8 (((cfg0.win 4).blk t).view.emb _) = _
  rw [entry_v8, place4]
  refine (flat4 _ d).trans ?_
  try blk_ext []

theorem place (t : Fin cfg0.N) (ρ : Fin 512) (d : Fin 1024) :
    ((cfg0.win 5).blk t).view.emb (ix2 ρ d) = ix2 ⟨t.val * 512 + ρ.val, by have := lt_points t; omega⟩ d := by
  blk_ext [idx t]

/-- What a point stores at a block index is the reference at the index it sits at. -/
theorem point (c : Dev nD) (t : Fin cfg0.N) (ρ : Fin 512) (d : Fin 1024) :
    out0_5 (iblk m c 0 t) (iblk m c 1 t) (iblk m c 2 t) (iblk m c 3 t) (iblk m c 4 t) (ix2 ρ d)
      = want (m ((c : Thread nD τ).loc main_arg0)) (m ((c : Thread nD τ).loc main_arg1))
          (m ((c : Thread nD τ).loc main_arg2)) (m ((c : Thread nD τ).loc main_arg3))
          (m ((c : Thread nD τ).loc main_arg4)) (((cfg0.win 5).blk t).view.emb (ix2 ρ d)) := by
  rw [place]
  frame_out
  pointwise [k0_pay1, k0_pay2, k0_pay3, k0_pay4, k0_pay5, k0_pay6, want]
  have hl : ∀ (e : Fin 4) (d : Fin 1024),
      (if h : d.val < 256 then iblk m c 1 t (ix4 0 e ρ ⟨d.val, h⟩)
        else if h' : d.val - 256 < 256 then iblk m c 1 t (ix4 1 e ρ ⟨d.val - 256, h'⟩)
        else if h'' : d.val - 256 - 256 < 256 then iblk m c 1 t (ix4 2 e ρ ⟨d.val - 256 - 256, h''⟩)
        else iblk m c 1 t (ix4 3 e ρ ⟨d.val - 256 - 256 - 256, by omega⟩))
      = m ((c : Thread nD τ).loc main_arg1) (ix4 (bat t ρ) (tok t ρ) e d) := by
    intro e d
    split
    · rw [read1]; congr 2; apply Fin.ext; simp
    · split
      · rw [read1]; congr 2; apply Fin.ext; simp; omega
      · split
        · rw [read1]; congr 2; apply Fin.ext; simp; omega
        · rw [read1]; congr 2; apply Fin.ext; simp; omega
  have h3 := fun d => read3 m c t ρ d
  have e0 : iblk m c 2 t (ix2 ρ (0 : Fin 128)) = m ((c : Thread nD τ).loc main_arg2) (ix3 (bat t ρ) (tok t ρ) 0) :=
    read2 m c t ρ 0
  have e1 : iblk m c 2 t (ix2 ρ (1 : Fin 128)) = m ((c : Thread nD τ).loc main_arg2) (ix3 (bat t ρ) (tok t ρ) 1) :=
    read2 m c t ρ 1
  have e2 : iblk m c 2 t (ix2 ρ (2 : Fin 128)) = m ((c : Thread nD τ).loc main_arg2) (ix3 (bat t ρ) (tok t ρ) 2) :=
    read2 m c t ρ 2
  have e3 : iblk m c 2 t (ix2 ρ (3 : Fin 128)) = m ((c : Thread nD τ).loc main_arg2) (ix3 (bat t ρ) (tok t ρ) 3) :=
    read2 m c t ρ 3
  have h4 := read4 m c t d
  simp only [resid_at, hl, read0, h3, h4, e0, e1, e2, e3]

/-- The result array after the run. -/
theorem final (c : Dev nD) : (dats m 0 c).arrAt 5 cfg0.N
    = want (m ((c : Thread nD τ).loc main_arg0)) (m ((c : Thread nD τ).loc main_arg1))
        (m ((c : Thread nD τ).loc main_arg2)) (m ((c : Thread nD τ).loc main_arg3))
        (m ((c : Thread nD τ).loc main_arg4)) := by
  refine (dats m 0 c).arrAt_eq_of_covers 5 _ (by decide +kernel) fun t _ y => ?_
  blk_simp
  rw [after0_5]
  idx_vars y
  exact point m c t _ _

end Cert.Proof.Combine

end
-- ==== Proof.Gates.lean ====
/-
  The branch gates: the logistic function of a modulated token times the gates' columns of the input projection.

  The kernel takes a block of 512 tokens at a time, latent tokens first, and the modulation of the block's batch, or the
  context's; the reference treats the latent and the context tokens apart and slices the gates out of the whole product.
-/
module

public import proofs.«01_k».proof.Proof.Gen.Kernel6Ideal.Value
public import proofs.«01_k».proof.Proof.Gen.Kernel6Ideal.Skeleton
public import proofs.«01_k».proof.Proof.Gen.Reference6Ideal.Run
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.Proof.Gates

/-- A token's normed and modulated hidden vector. -/
def hid (x g sc sh : Fin 1024 → EReal) (d : Fin 1024) : EReal :=
  x d * Ideal.rsqrt (Ideal.div (∑ e, x e * x e) (Ideal.ofBits .f32 0x44800000#32) + Ideal.ofBits .f32 0x358637BD#32) * g d
    * (1 + sc d) + sh d

/-- One of its gates. -/
def gate (x g sc sh w : Fin 1024 → EReal) : EReal := Ideal.logistic (∑ d, hid x g sc sh d * w d)

theorem ix1_eq {a : ℕ} {i i' : Fin a} (h : i.val = i'.val) : ix1 i = ix1 i' := by rw [Fin.ext h]

theorem ix2_eq {a b : ℕ} {i i' : Fin a} {j j' : Fin b} (h : i.val = i'.val) (k : j.val = j'.val) : ix2 i j = ix2 i' j' := by
  rw [Fin.ext h, Fin.ext k]

theorem ix3_eq {a b c : ℕ} {i i' : Fin a} {j j' : Fin b} {l l' : Fin c} (h : i.val = i'.val) (k : j.val = j'.val) (q : l.val = l'.val) :
    ix3 i j l = ix3 i' j' l' := by
  rw [Fin.ext h, Fin.ext k, Fin.ext q]

section Ref
open Cert.Reference6Ideal Cert.Reference6Ideal.Gen

/-- The latent tokens' hidden vectors. -/
def latH (x : FVec Ideal S4x8192x1024 .f32) (g : FVec Ideal S1024 .f32) (mod : FVec Ideal S4x1x6144 .f32) : FVec Ideal S4x8192x1024 .f32 :=
  addf (mulf (mulf (mulf x (broadcastInDim S4x8192x1024 ![0, 1, 2] bcast_S4x8192x1_S4x8192x1024_0_1_2 (Host.rsqrt (addf (Host.divf (broadcastInDim S4x8192x1 ![0, 1] bcast_S4x8192_S4x8192x1_0_1 (Host.reduceAdd (mulf x x) (constant S_ .f32 0x00000000#32) reducesTo_S4x8192x1024_S4x8192_d2 h_S_)) (broadcastInDim S4x8192x1 ![] bcast_S_S4x8192x1 (constant S_ .f32 0x44800000#32))) (broadcastInDim S4x8192x1 ![] bcast_S_S4x8192x1 (constant S_ .f32 0x358637BD#32)))))) (broadcastInDim S4x8192x1024 ![0, 1, 2] bcast_S1x1x1024_S4x8192x1024_0_1_2 (broadcastInDim S1x1x1024 ![2] bcast_S1024_S1x1x1024_2 g))) (broadcastInDim S4x8192x1024 ![0, 1, 2] bcast_S4x1x1024_S4x8192x1024_0_1_2 (addf (broadcastInDim S4x1x1024 ![] bcast_S_S4x1x1024 (constant S_ .f32 0x3F800000#32)) (extractStridedSlice S4x1x1024 ![0, 0, 1024] mod slices_S4x1x6144_S4x1x1024_0_0_1024)))) (broadcastInDim S4x8192x1024 ![0, 1, 2] bcast_S4x1x1024_S4x8192x1024_0_1_2 (extractStridedSlice S4x1x1024 ![0, 0, 0] mod slices_S4x1x6144_S4x1x1024_0_0_0))

/-- The context tokens'. -/
def ctxH (x : FVec Ideal S4x256x1024 .f32) (g : FVec Ideal S1024 .f32) (mod : FVec Ideal S6144 .f32) : FVec Ideal S4x256x1024 .f32 :=
  addf (mulf (mulf (mulf x (broadcastInDim S4x256x1024 ![0, 1, 2] bcast_S4x256x1_S4x256x1024_0_1_2 (Host.rsqrt (addf (Host.divf (broadcastInDim S4x256x1 ![0, 1] bcast_S4x256_S4x256x1_0_1 (Host.reduceAdd (mulf x x) (constant S_ .f32 0x00000000#32) reducesTo_S4x256x1024_S4x256_d2 h_S_)) (broadcastInDim S4x256x1 ![] bcast_S_S4x256x1 (constant S_ .f32 0x44800000#32))) (broadcastInDim S4x256x1 ![] bcast_S_S4x256x1 (constant S_ .f32 0x358637BD#32)))))) (broadcastInDim S4x256x1024 ![0, 1, 2] bcast_S1x1x1024_S4x256x1024_0_1_2 (broadcastInDim S1x1x1024 ![2] bcast_S1024_S1x1x1024_2 g))) (broadcastInDim S4x256x1024 ![0, 1, 2] bcast_S1x1x1024_S4x256x1024_0_1_2 (broadcastInDim S1x1x1024 ![2] bcast_S1024_S1x1x1024_2 (addf (broadcastInDim S1024 ![] bcast_S_S1024 (constant S_ .f32 0x3F800000#32)) (extractStridedSlice S1024 ![1024] mod slices_S6144_S1024_1024))))) (broadcastInDim S4x256x1024 ![0, 1, 2] bcast_S1x1x1024_S4x256x1024_0_1_2 (broadcastInDim S1x1x1024 ![2] bcast_S1024_S1x1x1024_2 (extractStridedSlice S1024 ![0] mod slices_S6144_S1024_0)))

def latG (h : FVec Ideal S4x8192x1024 .f32) (w : FVec Ideal S1024x6816 .f32) : FVec Ideal S32768x3072 .f32 :=
  shapeCast _ (Host.divf (broadcastInDim S4x8192x3072 ![] bcast_S_S4x8192x3072 (constant S_ .f32 0x3F800000#32)) (addf (broadcastInDim S4x8192x3072 ![] bcast_S_S4x8192x3072 (constant S_ .f32 0x3F800000#32)) (Host.exp (Host.negf (extractStridedSlice S4x8192x3072 ![0, 0, 3744] (Host.dotGeneral dot_S4x8192x1024_S1024x6816_S4x8192x6816_2_0_01_1_n_n none h w) slices_S4x8192x6816_S4x8192x3072_0_0_3744))))) shapeCasts_S4x8192x3072_S32768x3072

def ctxG (h : FVec Ideal S4x256x1024 .f32) (w : FVec Ideal S1024x6816 .f32) : FVec Ideal S1024x3072 .f32 :=
  shapeCast _ (Host.divf (broadcastInDim S4x256x3072 ![] bcast_S_S4x256x3072 (constant S_ .f32 0x3F800000#32)) (addf (broadcastInDim S4x256x3072 ![] bcast_S_S4x256x3072 (constant S_ .f32 0x3F800000#32)) (Host.exp (Host.negf (extractStridedSlice S4x256x3072 ![0, 0, 3744] (Host.dotGeneral dot_S4x256x1024_S1024x6816_S4x256x6816_2_0_01_1_n_n none h w) slices_S4x256x6816_S4x256x3072_0_0_3744))))) shapeCasts_S4x256x3072_S1024x3072

/-- The reference's result over the argument arrays. -/
def want (x : FVec Ideal S4x8192x1024 .f32) (y : FVec Ideal S4x256x1024 .f32) (g : FVec Ideal S1024 .f32)
    (mod : FVec Ideal S4x1x6144 .f32) (modc : FVec Ideal S6144 .f32) (w : FVec Ideal S1024x6816 .f32) : FVec Ideal S33792x3072 .bf16 :=
  truncf .bf16 (concatenate S33792x3072 0 [⟨S32768x3072, latG (latH x g mod) w⟩, ⟨S1024x3072, ctxG (ctxH y g modc) w⟩] concatenates_S32768x3072_S1024x3072_S33792x3072_d0) bitsLt_bf16_f32

theorem latH_at (x : FVec Ideal S4x8192x1024 .f32) (g : FVec Ideal S1024 .f32) (mod : FVec Ideal S4x1x6144 .f32) (b : Fin 4) (n : Fin 8192) (d : Fin 1024) :
    latH x g mod (ix3 b n d) = hid (fun d => x (ix3 b n d)) (fun d => g (ix1 d)) (fun d => mod (ix3 b 0 ⟨1024 + d.val, by omega⟩))
      (fun d => mod (ix3 b 0 ⟨d.val, by omega⟩)) d := by
  pointwise [latH]
  rfl

theorem ctxH_at (x : FVec Ideal S4x256x1024 .f32) (g : FVec Ideal S1024 .f32) (mod : FVec Ideal S6144 .f32) (b : Fin 4) (n : Fin 256) (d : Fin 1024) :
    ctxH x g mod (ix3 b n d) = hid (fun d => x (ix3 b n d)) (fun d => g (ix1 d)) (fun d => mod (ix1 ⟨1024 + d.val, by omega⟩))
      (fun d => mod (ix1 ⟨d.val, by omega⟩)) d := by
  pointwise [ctxH]
  rfl

theorem latG_at (h : FVec Ideal S4x8192x1024 .f32) (w : FVec Ideal S1024x6816 .f32) (r : Fin 32768) (b : Fin 4) (n : Fin 8192)
    (hr : r.val = b.val * 8192 + n.val) (e : Fin 3072) :
    latG h w (ix2 r e) = Ideal.logistic (∑ d, h (ix3 b n d) * w (ix2 d ⟨3744 + e.val, by omega⟩)) := by
  have hb : (⟨r.val / 8192, by omega⟩ : Fin 4) = b := Fin.ext (by dsimp only; omega)
  have hn : (⟨r.val % 8192, by omega⟩ : Fin 8192) = n := Fin.ext (by dsimp only; omega)
  pointwise [latG]
  rw [hb, hn]
  rfl

theorem ctxG_at (h : FVec Ideal S4x256x1024 .f32) (w : FVec Ideal S1024x6816 .f32) (r : Fin 1024) (b : Fin 4) (n : Fin 256)
    (hr : r.val = b.val * 256 + n.val) (e : Fin 3072) :
    ctxG h w (ix2 r e) = Ideal.logistic (∑ d, h (ix3 b n d) * w (ix2 d ⟨3744 + e.val, by omega⟩)) := by
  have hb : (⟨r.val / 256, by omega⟩ : Fin 4) = b := Fin.ext (by dsimp only; omega)
  have hn : (⟨r.val % 256, by omega⟩ : Fin 256) = n := Fin.ext (by dsimp only; omega)
  pointwise [ctxG]
  rw [hb, hn]
  rfl

variable (x : FVec Ideal S4x8192x1024 .f32) (y : FVec Ideal S4x256x1024 .f32) (g : FVec Ideal S1024 .f32)
    (mod : FVec Ideal S4x1x6144 .f32) (modc : FVec Ideal S6144 .f32) (w : FVec Ideal S1024x6816 .f32)

theorem want_lat (r : Fin 33792) (b : Fin 4) (n : Fin 8192) (hr : r.val = b.val * 8192 + n.val) (e : Fin 3072) :
    want x y g mod modc w (ix2 r e) = gate (fun d => x (ix3 b n d)) (fun d => g (ix1 d))
      (fun d => mod (ix3 b 0 ⟨1024 + d.val, by omega⟩)) (fun d => mod (ix3 b 0 ⟨d.val, by omega⟩)) (fun d => w (ix2 d ⟨3744 + e.val, by omega⟩)) := by
  unfold gate
  simp only [← latH_at x g mod b n]
  pointwise [want]
  rw [dif_pos (by omega)]
  exact latG_at _ _ _ b n (by dsimp only; omega) e

theorem want_ctx (r : Fin 33792) (b : Fin 4) (n : Fin 256) (hr : r.val = 32768 + (b.val * 256 + n.val)) (e : Fin 3072) :
    want x y g mod modc w (ix2 r e) = gate (fun d => y (ix3 b n d)) (fun d => g (ix1 d))
      (fun d => modc (ix1 ⟨1024 + d.val, by omega⟩)) (fun d => modc (ix1 ⟨d.val, by omega⟩)) (fun d => w (ix2 d ⟨3744 + e.val, by omega⟩)) := by
  unfold gate
  simp only [← ctxH_at y g modc b n]
  pointwise [want]
  rw [dif_neg (by omega)]
  exact ctxG_at _ _ _ b n (by dsimp only; omega) e

end Ref

open Cert.Kernel6Ideal Cert.Kernel6Ideal.Gen

/-- The tokens in one axis. -/
abbrev xall (x : FVec Ideal S4x8192x1024 .f32) (y : FVec Ideal S4x256x1024 .f32) : FVec Ideal S33792x1024 .f32 :=
  concatenate S33792x1024 0 [⟨S32768x1024, shapeCast S32768x1024 x shapeCasts_S4x8192x1024_S32768x1024⟩, ⟨S1024x1024, shapeCast S1024x1024 y shapeCasts_S4x256x1024_S1024x1024⟩] concatenates_S32768x1024_S1024x1024_S33792x1024_d0

/-- The modulation as the kernel reads it: six rows for each batch, then six for the context. -/
abbrev m48 (mod : FVec Ideal S4x1x6144 .f32) (modc : FVec Ideal S6144 .f32) : FVec Ideal S48x1x1024 .f32 :=
  shapeCast S48x1x1024 (concatenate S8x6144 0 [⟨S4x6144, shapeCast S4x6144 mod shapeCasts_S4x1x6144_S4x6144⟩, ⟨S1x6144, broadcastInDim S1x6144 ![1] bcast_S6144_S1x6144_1 modc⟩, ⟨S3x6144, broadcastInDim S3x6144 ![] bcast_S_S3x6144 (constant S_ .f32 0x00000000#32)⟩] concatenates_S4x6144_S1x6144_S3x6144_S8x6144_d0) shapeCasts_S8x6144_S48x1x1024

theorem xall_lat (x : FVec Ideal S4x8192x1024 .f32) (y : FVec Ideal S4x256x1024 .f32) (r : Fin 33792) (b : Fin 4) (n : Fin 8192)
    (hr : r.val = b.val * 8192 + n.val) (d : Fin 1024) : xall x y (ix2 r d) = x (ix3 b n d) := by
  pointwise [xall]
  rw [dif_pos (by omega)]
  exact congrArg x (ix3_eq (by dsimp only; omega) (by dsimp only; omega) rfl)

theorem xall_ctx (x : FVec Ideal S4x8192x1024 .f32) (y : FVec Ideal S4x256x1024 .f32) (r : Fin 33792) (b : Fin 4) (n : Fin 256)
    (hr : r.val = 32768 + (b.val * 256 + n.val)) (d : Fin 1024) : xall x y (ix2 r d) = y (ix3 b n d) := by
  pointwise [xall]
  rw [dif_neg (by omega)]
  exact congrArg y (ix3_eq (by dsimp only; omega) (by dsimp only; omega) rfl)

theorem m48_lat (mod : FVec Ideal S4x1x6144 .f32) (modc : FVec Ideal S6144 .f32) (r : Fin 48) (b : Fin 4) (k : Fin 6)
    (hr : r.val = b.val * 6 + k.val) (d : Fin 1024) (q : Fin 6144) (hq : q.val = k.val * 1024 + d.val) :
    m48 mod modc (ix3 r 0 d) = mod (ix3 b 0 q) := by
  pointwise [m48]
  rw [dif_pos (by omega)]
  exact congrArg mod (ix3_eq (by dsimp only; omega) rfl (by dsimp only; omega))

theorem m48_ctx (mod : FVec Ideal S4x1x6144 .f32) (modc : FVec Ideal S6144 .f32) (r : Fin 48) (k : Fin 6)
    (hr : r.val = 24 + k.val) (d : Fin 1024) (q : Fin 6144) (hq : q.val = k.val * 1024 + d.val) :
    m48 mod modc (ix3 r 0 d) = modc (ix1 q) := by
  pointwise [m48]
  rw [dif_neg (by omega), dif_pos (by omega)]
  exact congrArg modc (ix1_eq (by dsimp only; omega))

variable (m : (ℓ : Loc nD τ sig) → Buf (Elt Ideal) ℓ)

theorem entry_v2 (c : Dev nD) : V m c main_v2 = xall (m ((c : Thread nD τ).loc main_arg0)) (m ((c : Thread nD τ).loc main_arg1)) := by
  simp only [V, List.flatten_cons, List.flatten_nil, List.append_nil, List.cons_append, List.nil_append]
  after_results_simp <;> rfl

theorem entry_v7 (c : Dev nD) : V m c main_v7 = m48 (m ((c : Thread nD τ).loc main_arg3)) (m ((c : Thread nD τ).loc main_arg4)) := by
  simp only [V, List.flatten_cons, List.flatten_nil, List.append_nil, List.cons_append, List.nil_append]
  after_results_simp <;> rfl

theorem entry_v8 (c : Dev nD) : V m c main_v8 = (broadcastInDim S1x1024 ![1] bcast_S1024_S1x1024_1 (m ((c : Thread nD τ).loc main_arg2)) : FVec Ideal S1x1024 .f32) := by
  simp only [V, List.flatten_cons, List.flatten_nil, List.append_nil, List.cons_append, List.nil_append]
  after_results_simp <;> rfl

theorem entry_v10 (c : Dev nD) : V m c main_v10 = (truncf .bf16 (extractStridedSlice S1024x3072 ![0, 3744] (m ((c : Thread nD τ).loc main_arg5) : FVec Ideal S1024x6816 .f32) slices_S1024x6816_S1024x3072_0_3744) bitsLt_bf16_f32 : FVec Ideal S1024x3072 .bf16) := by
  simp only [V, List.flatten_cons, List.flatten_nil, List.append_nil, List.cons_append, List.nil_append]
  after_results_simp <;> rfl

/-- Where each window's block sits at every point. -/
theorem idx : ∀ t : Fin cfg0.N, win0_0.index t = ![(t : ℕ), 0] ∧ win0_1.index t = ![0, 0]
    ∧ win0_2.index t = ![min ((t : ℕ) / 16) 4 * 6, 0, 0] ∧ win0_3.index t = ![min ((t : ℕ) / 16) 4 * 6 + 1, 0, 0]
    ∧ win0_4.index t = ![0, 0] ∧ win0_5.index t = ![(t : ℕ), 0] :=
  (by decide +kernel : ∀ t : Fin grid0.N, _)

theorem lt_points (t : Fin cfg0.N) : (t : ℕ) < 66 := by
  have h : cfg0.N = 66 := by decide +kernel
  omega

theorem place0 (t : Fin cfg0.N) (ρ : Fin 512) (d : Fin 1024) :
    ((cfg0.win 0).blk t).view.emb (ix2 ρ d) = ix2 ⟨t.val * 512 + ρ.val, by have := lt_points t; omega⟩ d := by
  blk_ext [idx t]

theorem place1 (t : Fin cfg0.N) (d : Fin 1024) : ((cfg0.win 1).blk t).view.emb (ix2 0 d) = ix2 0 d := by
  blk_ext [idx t]

theorem place2 (t : Fin cfg0.N) (d : Fin 1024) :
    ((cfg0.win 2).blk t).view.emb (ix3 0 0 d) = ix3 ⟨min (t.val / 16) 4 * 6, by omega⟩ 0 d := by
  blk_ext [idx t]

theorem place3 (t : Fin cfg0.N) (d : Fin 1024) :
    ((cfg0.win 3).blk t).view.emb (ix3 0 0 d) = ix3 ⟨min (t.val / 16) 4 * 6 + 1, by omega⟩ 0 d := by
  blk_ext [idx t]

theorem place4 (t : Fin cfg0.N) (d : Fin 1024) (e : Fin 3072) : ((cfg0.win 4).blk t).view.emb (ix2 d e) = ix2 d e := by
  blk_ext [idx t]

theorem place5 (t : Fin cfg0.N) (ρ : Fin 512) (e : Fin 3072) :
    ((cfg0.win 5).blk t).view.emb (ix2 ρ e) = ix2 ⟨t.val * 512 + ρ.val, by have := lt_points t; omega⟩ e := by
  blk_ext [idx t]

theorem read0 (c : Dev nD) (t : Fin cfg0.N) (ρ : Fin 512) (d : Fin 1024) :
    iblk m c 0 t (ix2 ρ d) = xall (m ((c : Thread nD τ).loc main_arg0)) (m ((c : Thread nD τ).loc main_arg1))
      (ix2 ⟨t.val * 512 + ρ.val, by have := lt_points t; omega⟩ d) := by
  unfold iblk
  change V m c main_v2 (((cfg0.win 0).blk t).view.emb _) = _
  rw [entry_v2, place0]

theorem gain_at (x : FVec Ideal S1024 .f32) (d : Fin 1024) :
    broadcastInDim S1x1024 ![1] bcast_S1024_S1x1024_1 x (ix2 0 d) = x (ix1 d) := by
  pointwise

theorem proj_at (x : FVec Ideal S1024x6816 .f32) (d : Fin 1024) (e : Fin 3072) :
    truncf .bf16 (extractStridedSlice S1024x3072 ![0, 3744] x slices_S1024x6816_S1024x3072_0_3744) bitsLt_bf16_f32 (ix2 d e)
      = x (ix2 d ⟨3744 + e.val, by omega⟩) := by
  pointwise
  try blk_ext []

theorem read1 (c : Dev nD) (t : Fin cfg0.N) (d : Fin 1024) :
    iblk m c 1 t (ix2 0 d) = m ((c : Thread nD τ).loc main_arg2) (ix1 d) := by
  unfold iblk
  change V m c main_v8 (((cfg0.win 1).blk t).view.emb _) = _
  rw [entry_v8, place1]
  exact gain_at _ d

theorem read2 (c : Dev nD) (t : Fin cfg0.N) (d : Fin 1024) :
    iblk m c 2 t (ix3 0 0 d) = m48 (m ((c : Thread nD τ).loc main_arg3)) (m ((c : Thread nD τ).loc main_arg4))
      (ix3 ⟨min (t.val / 16) 4 * 6, by omega⟩ 0 d) := by
  unfold iblk
  change V m c main_v7 (((cfg0.win 2).blk t).view.emb _) = _
  rw [entry_v7, place2]

theorem read3 (c : Dev nD) (t : Fin cfg0.N) (d : Fin 1024) :
    iblk m c 3 t (ix3 0 0 d) = m48 (m ((c : Thread nD τ).loc main_arg3)) (m ((c : Thread nD τ).loc main_arg4))
      (ix3 ⟨min (t.val / 16) 4 * 6 + 1, by omega⟩ 0 d) := by
  unfold iblk
  change V m c main_v7 (((cfg0.win 3).blk t).view.emb _) = _
  rw [entry_v7, place3]

theorem read4 (c : Dev nD) (t : Fin cfg0.N) (d : Fin 1024) (e : Fin 3072) :
    iblk m c 4 t (ix2 d e) = m ((c : Thread nD τ).loc main_arg5) (ix2 d ⟨3744 + e.val, by omega⟩) := by
  unfold iblk
  change V m c main_v10 (((cfg0.win 4).blk t).view.emb _) = _
  rw [entry_v10, place4]
  exact proj_at _ d e

theorem pay3_at (x : Vec Ideal S512x1024 .f32) (g : Vec Ideal S1x1024 .f32) (sc sh : Vec Ideal S1x1x1024 .f32) (ρ : Fin 512) (d : Fin 1024) :
    k0_pay3 (F := Ideal) x g sc sh (ix2 ρ d) = hid (fun d => x (ix2 ρ d)) (fun d => g (ix2 0 d)) (fun d => sc (ix3 0 0 d))
      (fun d => sh (ix3 0 0 d)) d := by
  pointwise [k0_pay3]
  rfl

theorem pay_at (x : Vec Ideal S512x1024 .f32) (g : Vec Ideal S1x1024 .f32) (sc sh : Vec Ideal S1x1x1024 .f32) (w : Vec Ideal S1024x1024 .bf16)
    (ρ : Fin 512) (e : Fin 1024) :
    k0_pay4 (F := Ideal) x g sc sh w (ix2 ρ e) = gate (fun d => x (ix2 ρ d)) (fun d => g (ix2 0 d)) (fun d => sc (ix3 0 0 d))
      (fun d => sh (ix3 0 0 d)) (fun d => w (ix2 d e)) := by
  unfold gate
  simp only [← pay3_at x g sc sh ρ]
  pointwise [k0_pay4]

theorem cols0 (w : Vec Ideal S1024x3072 .bf16) (d e : Fin 1024) : View.ld w r0_3 (ix2 d e) = w (ix2 d ⟨e.val, by omega⟩) := by
  change w (r0_3.emb (ix2 d e)) = _
  refine congrArg w ?_
  blk_ext [r0_3, Rect.emb_apply]
  · show 0 + 1 * d.val = d.val
    omega
  · show 0 + 1 * e.val = e.val
    omega

theorem cols1 (w : Vec Ideal S1024x3072 .bf16) (d e : Fin 1024) : View.ld w r0_5 (ix2 d e) = w (ix2 d ⟨1024 + e.val, by omega⟩) := by
  change w (r0_5.emb (ix2 d e)) = _
  refine congrArg w ?_
  blk_ext [r0_5, Rect.emb_apply]
  · show 0 + 1 * d.val = d.val
    omega
  · show 1024 + 1 * e.val = 1024 + e.val
    omega

theorem cols2 (w : Vec Ideal S1024x3072 .bf16) (d e : Fin 1024) : View.ld w r0_7 (ix2 d e) = w (ix2 d ⟨2048 + e.val, by omega⟩) := by
  change w (r0_7.emb (ix2 d e)) = _
  refine congrArg w ?_
  blk_ext [r0_7, Rect.emb_apply]
  · show 0 + 1 * d.val = d.val
    omega
  · show 2048 + 1 * e.val = 2048 + e.val
    omega

/-- The body's result. -/
theorem out_at (x : Vec Ideal S512x1024 .f32) (g : Vec Ideal S1x1024 .f32) (sh sc : Vec Ideal S1x1x1024 .f32) (w : Vec Ideal S1024x3072 .bf16)
    (ρ : Fin 512) (e : Fin 3072) :
    out0_5 x g sh sc w (ix2 ρ e) = gate (fun d => x (ix2 ρ d)) (fun d => g (ix2 0 d)) (fun d => sc (ix3 0 0 d))
      (fun d => sh (ix3 0 0 d)) (fun d => w (ix2 d e)) := by
  frame_out
  have h1 : ∀ v, k0_pay1 (k0_pay5 (F := Ideal) x g sc sh v) = k0_pay4 x g sc sh v := fun _ => rfl
  have h2 : ∀ v, k0_pay2 (k0_pay3 (F := Ideal) x g sc sh) v = k0_pay4 x g sc sh v := fun _ => rfl
  rw [h1, h2]
  canon_tiles y h
  · have he : e.val = 2048 + (y 1).val := h1
    have hρ : ρ.val = (y 0).val := h0
    have hy : y = ix2 ρ ⟨e.val - 2048, by omega⟩ := by
      funext a
      refine Fin.ext ?_
      fin_cases a
      · exact hρ.symm
      · show (y 1).val = e.val - 2048
        omega
    rw [hy, pay_at]
    exact congrArg (gate _ _ _ _) (funext fun d => (cols2 w d _).trans (congrArg w (ix2_eq rfl (by dsimp only; omega))))
  · have he : e.val = 1024 + (y 1).val := h1
    have hρ : ρ.val = (y 0).val := h0
    have hy : y = ix2 ρ ⟨e.val - 1024, by omega⟩ := by
      funext a
      refine Fin.ext ?_
      fin_cases a
      · exact hρ.symm
      · show (y 1).val = e.val - 1024
        omega
    rw [hy, pay_at]
    exact congrArg (gate _ _ _ _) (funext fun d => (cols1 w d _).trans (congrArg w (ix2_eq rfl (by dsimp only; omega))))
  · have he : e.val = (y 1).val := h1
    have hρ : ρ.val = (y 0).val := h0
    have hy : y = ix2 ρ ⟨e.val - 0, by omega⟩ := by
      funext a
      refine Fin.ext ?_
      fin_cases a
      · exact hρ.symm
      · show (y 1).val = e.val - 0
        omega
    rw [hy, pay_at]
    exact congrArg (gate _ _ _ _) (funext fun d => (cols0 w d _).trans (congrArg w (ix2_eq rfl (by dsimp only; omega))))

/-- What a point stores at a block index is the reference at the index it sits at. -/
theorem point (c : Dev nD) (t : Fin cfg0.N) (ρ : Fin 512) (e : Fin 3072) :
    out0_5 (iblk m c 0 t) (iblk m c 1 t) (iblk m c 2 t) (iblk m c 3 t) (iblk m c 4 t) (ix2 ρ e)
      = want (m ((c : Thread nD τ).loc main_arg0)) (m ((c : Thread nD τ).loc main_arg1))
          (m ((c : Thread nD τ).loc main_arg2)) (m ((c : Thread nD τ).loc main_arg3))
          (m ((c : Thread nD τ).loc main_arg4)) (m ((c : Thread nD τ).loc main_arg5)) (((cfg0.win 5).blk t).view.emb (ix2 ρ e)) := by
  have ht := lt_points t
  rw [place5, out_at]
  simp only [read0, read1, read2, read3, read4]
  by_cases h : t.val < 64
  · have hr : t.val * 512 + ρ.val = (⟨t.val / 16, by omega⟩ : Fin 4).val * 8192 + (⟨t.val % 16 * 512 + ρ.val, by omega⟩ : Fin 8192).val := by
      dsimp only; omega
    have h0 : min (t.val / 16) 4 * 6 = (⟨t.val / 16, by omega⟩ : Fin 4).val * 6 + (⟨0, by omega⟩ : Fin 6).val := by
      dsimp only; omega
    have h1 : min (t.val / 16) 4 * 6 + 1 = (⟨t.val / 16, by omega⟩ : Fin 4).val * 6 + (⟨1, by omega⟩ : Fin 6).val := by
      dsimp only; omega
    rw [want_lat _ _ _ _ _ _ _ _ _ hr]
    congr 1
    · exact funext fun d => xall_lat _ _ _ _ _ hr d
    · exact funext fun d => m48_lat _ _ _ _ _ h1 d _ (by first | rfl | (dsimp only; omega))
    · exact funext fun d => m48_lat _ _ _ _ _ h0 d _ (by simp)
  · have hr : t.val * 512 + ρ.val = 32768 + ((⟨(t.val - 64) * 2 + ρ.val / 256, by omega⟩ : Fin 4).val * 256 + (⟨ρ.val % 256, by omega⟩ : Fin 256).val) := by
      dsimp only; omega
    have h0 : min (t.val / 16) 4 * 6 = 24 + (⟨0, by omega⟩ : Fin 6).val := by
      dsimp only; omega
    have h1 : min (t.val / 16) 4 * 6 + 1 = 24 + (⟨1, by omega⟩ : Fin 6).val := by
      dsimp only; omega
    rw [want_ctx _ _ _ _ _ _ _ _ _ hr]
    congr 1
    · exact funext fun d => xall_ctx _ _ _ _ _ hr d
    · exact funext fun d => m48_ctx _ _ _ _ h1 d _ (by first | rfl | (dsimp only; omega))
    · exact funext fun d => m48_ctx _ _ _ _ h0 d _ (by simp)

/-- The result array after the run. -/
theorem final (c : Dev nD) : (dats m 0 c).arrAt 5 cfg0.N
    = want (m ((c : Thread nD τ).loc main_arg0)) (m ((c : Thread nD τ).loc main_arg1))
        (m ((c : Thread nD τ).loc main_arg2)) (m ((c : Thread nD τ).loc main_arg3))
        (m ((c : Thread nD τ).loc main_arg4)) (m ((c : Thread nD τ).loc main_arg5)) := by
  refine (dats m 0 c).arrAt_eq_of_covers 5 _ (by decide +kernel) fun t _ y => ?_
  blk_simp
  rw [after0_5]
  idx_vars y
  exact point m c t _ _

end Cert.Proof.Gates

end
-- ==== Proof.Softmax.lean ====
/-
  A softmax taken chunk by chunk, over the extended reals.

  The kernel keeps, for a row, a running maximum, a running sum of powers of two and a running weighted sum, and rescales
  the last two whenever the maximum moves.  Whatever real number stands in for the maximum, the quotient of the two sums
  is the same; so is the reference's, whose exponentials are natural ones.
-/
module

public import Idealize.ShloMosaic.PureOps.Ideal
public import Idealize.ShloMosaic.Lib.Pointwise

@[expose] public section

noncomputable section

open Idealize.ShloMosaic

namespace Cert.Proof.Softmax

theorem coe_mul_sum {ι : Type} (s : Finset ι) (c : ℝ) (hc : 0 ≤ c) (f : ι → EReal) :
    (c : EReal) * ∑ i ∈ s, f i = ∑ i ∈ s, (c : EReal) * f i := by
  induction s using Finset.cons_induction with
  | empty => simp
  | cons a s ha ih =>
    rw [Finset.sum_cons, Finset.sum_cons,
      EReal.left_distrib_of_nonneg_of_ne_top (by exact_mod_cast hc) (EReal.coe_ne_top c), ih]

/-- A power of two as an extended real. -/
def pw (x : ℝ) : EReal := ((Real.exp (x * Real.log 2) : ℝ) : EReal)

theorem pw_add (x y : ℝ) : pw x * pw y = pw (x + y) := by
  unfold pw
  rw [← EReal.coe_mul, ← Real.exp_add]
  congr 2
  ring

theorem exp2_eq (x : ℝ) : Ideal.exp2 (x : EReal) = pw x := by
  rw [Ideal.exp2_coe, pw, Real.rpow_eq_pow, Real.rpow_def_of_pos (by norm_num)]
  congr 2
  ring

theorem exp2_sub (x y : ℝ) : Ideal.exp2 ((x : EReal) - (y : EReal)) = pw (x - y) := by
  rw [← EReal.coe_sub, exp2_eq]

theorem pw_mul_sum {ι : Type} (s : Finset ι) (x : ℝ) (f : ι → EReal) : pw x * ∑ i ∈ s, f i = ∑ i ∈ s, pw x * f i :=
  coe_mul_sum s _ (Real.exp_pos _).le f

theorem pw_mul_add (x : ℝ) (a b : EReal) : pw x * (a + b) = pw x * a + pw x * b :=
  EReal.left_distrib_of_nonneg_of_ne_top (x := pw x) (EReal.coe_nonneg.2 (Real.exp_pos _).le) (EReal.coe_ne_top _) _ _

/-- A function of the stand-in for the maximum that scales as a sum of powers of two does. -/
def Scales (L : ℝ → EReal) : Prop := ∀ μ ν : ℝ, pw (μ - ν) * L μ = L ν

variable {ι : Type} [Fintype ι]

/-- The sum of the powers. -/
def lsum (σ : ι → ℝ) (μ : ℝ) : EReal := ∑ i, pw (σ i - μ)

/-- The weighted sum. -/
def wsum (σ : ι → ℝ) (v : ι → EReal) (μ : ℝ) : EReal := ∑ i, pw (σ i - μ) * v i

theorem scales_lsum (σ : ι → ℝ) : Scales (lsum σ) := fun μ ν => by
  unfold lsum
  rw [pw_mul_sum]
  refine Finset.sum_congr rfl fun i _ => ?_
  rw [pw_add]
  congr 1
  ring

theorem scales_wsum (σ : ι → ℝ) (v : ι → EReal) : Scales (wsum σ v) := fun μ ν => by
  unfold wsum
  rw [pw_mul_sum]
  refine Finset.sum_congr rfl fun i _ => ?_
  rw [← mul_assoc, pw_add]
  congr 2
  ring

theorem Scales.add {L L' : ℝ → EReal} (h : Scales L) (h' : Scales L') : Scales fun μ => L μ + L' μ := fun μ ν => by
  rw [pw_mul_add, h, h']

/-! ### The running maximum -/

theorem max_fold_real (x : ℝ) (σ : ι → ℝ) (s : Finset ι) :
    ∃ μ : ℝ, max (x : EReal) (s.fold max ⊥ fun i => (σ i : EReal)) = (μ : EReal) := by
  induction s using Finset.cons_induction with
  | empty => exact ⟨x, by simp⟩
  | cons a s ha ih =>
    obtain ⟨μ, hμ⟩ := ih
    refine ⟨max (σ a) μ, ?_⟩
    rw [Finset.fold_cons, max_left_comm, hμ]
    norm_cast

theorem fold_real [Nonempty ι] (σ : ι → ℝ) : ∃ μ : ℝ, (Finset.univ.fold max ⊥ fun i => (σ i : EReal)) = (μ : EReal) := by
  classical
  obtain ⟨a⟩ := ‹Nonempty ι›
  have h : (Finset.univ : Finset ι) = insert a (Finset.univ.erase a) := by
    rw [Finset.insert_erase (Finset.mem_univ a)]
  rw [h, Finset.fold_insert (Finset.notMem_erase a _)]
  exact max_fold_real (σ a) σ _

/-! ### One chunk -/

def stepM (m : EReal) (S : ι → EReal) : EReal := max m (Finset.univ.fold max ⊥ S)

def stepL (m l : EReal) (S : ι → EReal) : EReal :=
  Ideal.exp2 (m - stepM m S) * l + ∑ k, Ideal.exp2 (S k - stepM m S)

def stepA (m a : EReal) (S V : ι → EReal) : EReal :=
  Ideal.exp2 (m - stepM m S) * a + ∑ k, Ideal.exp2 (S k - stepM m S) * V k

/-- The state of a row and a column after some chunks. -/
structure Good (m l a : EReal) (L A : ℝ → EReal) : Prop where
  at_real : ∃ μ : ℝ, m = (μ : EReal) ∧ l = L μ ∧ a = A μ
  scalesL : Scales L
  scalesA : Scales A

theorem Good.first [Nonempty ι] (S V : ι → EReal) (σ : ι → ℝ) (hS : ∀ k, S k = (σ k : EReal)) :
    Good (stepM ⊥ S) (stepL ⊥ 0 S) (stepA ⊥ 0 S V) (lsum σ) (wsum σ V) := by
  obtain rfl : S = fun k => (σ k : EReal) := funext hS
  obtain ⟨μ, hμ⟩ := fold_real σ
  have hM : stepM ⊥ (fun k => (σ k : EReal)) = (μ : EReal) := by
    unfold stepM; rw [hμ]; simp
  refine ⟨⟨μ, hM, ?_, ?_⟩, scales_lsum σ, scales_wsum σ V⟩
  · unfold stepL lsum
    rw [hM]; simp only [exp2_sub, mul_zero, zero_add]
  · unfold stepA wsum
    rw [hM]; simp only [exp2_sub, mul_zero, zero_add]

theorem Good.step {m l a : EReal} {L A : ℝ → EReal} (h : Good m l a L A) (S V : ι → EReal) (σ : ι → ℝ)
    (hS : ∀ k, S k = (σ k : EReal)) :
    Good (stepM m S) (stepL m l S) (stepA m a S V) (fun μ => L μ + lsum σ μ) (fun μ => A μ + wsum σ V μ) := by
  obtain rfl : S = fun k => (σ k : EReal) := funext hS
  obtain ⟨ν, rfl, rfl, rfl⟩ := h.at_real
  obtain ⟨μ, hμ⟩ := max_fold_real ν σ Finset.univ
  have hM : stepM (ν : EReal) (fun k => (σ k : EReal)) = (μ : EReal) := hμ
  refine ⟨⟨μ, hM, ?_, ?_⟩, h.scalesL.add (scales_lsum σ), h.scalesA.add (scales_wsum σ V)⟩
  · unfold stepL lsum
    rw [hM]; simp only [exp2_sub]; rw [h.scalesL]
  · unfold stepA wsum
    rw [hM]; simp only [exp2_sub]; rw [h.scalesA]

/-- The quotient does not depend on the stand-in. -/
theorem Good.div {m l a : EReal} {L A : ℝ → EReal} (h : Good m l a L A) (t : ℝ) (ht : 0 < t) (hL : L 0 = (t : EReal)) :
    Ideal.div a l = A 0 * ((1 / t : ℝ) : EReal) := by
  obtain ⟨μ, -, rfl, rfl⟩ := h.at_real
  have e := Real.exp_pos ((0 - μ) * Real.log 2)
  rw [← h.scalesL 0 μ, ← h.scalesA 0 μ, hL, pw, ← EReal.coe_mul, Ideal.div_coe (mul_pos e ht).ne', mul_right_comm,
    ← EReal.coe_mul, mul_comm]
  congr 2
  field_simp

theorem lsum_pos [Nonempty ι] (σ : ι → ℝ) (μ : ℝ) : ∃ t : ℝ, 0 < t ∧ lsum σ μ = (t : EReal) := by
  refine ⟨∑ i, Real.exp ((σ i - μ) * Real.log 2), Finset.sum_pos (fun i _ => Real.exp_pos _) Finset.univ_nonempty, ?_⟩
  unfold lsum pw
  exact (map_sum (⟨⟨Real.toEReal, rfl⟩, EReal.coe_add⟩ : ℝ →+ EReal) _ _).symm

/-! ### The softmax in one piece -/

/-- The softmax's value: powers of two of the scores, normalized, times the values. -/
def soft (σ : ι → ℝ) (v : ι → EReal) : EReal := Ideal.div (wsum σ v 0) (lsum σ 0)

theorem Good.div_eq_soft {m l a : EReal} {L A : ℝ → EReal} [Nonempty ι] (h : Good m l a L A) (σ : ι → ℝ) (v : ι → EReal)
    (hL : L 0 = lsum σ 0) (hA : A 0 = wsum σ v 0) : Ideal.div a l = soft σ v := by
  obtain ⟨t, ht, e⟩ := lsum_pos σ 0
  rw [h.div t ht (hL.trans e), hA]
  exact (Good.div ⟨⟨0, rfl, rfl, rfl⟩, scales_lsum σ, scales_wsum σ v⟩ t ht e).symm

/-- The reference's spelling: natural exponentials of scores that are the logarithm of two times as large. -/
theorem soft_eq [Nonempty ι] (S v : ι → EReal) (σ : ι → ℝ) (hS : ∀ k, S k = ((σ k * Real.log 2 : ℝ) : EReal)) :
    ∑ k, v k * Ideal.div (Ideal.exp (S k - max ⊥ (Finset.univ.fold max ⊥ S)))
        (∑ j, Ideal.exp (S j - max ⊥ (Finset.univ.fold max ⊥ S))) = soft σ v := by
  obtain rfl : S = fun k => ((σ k * Real.log 2 : ℝ) : EReal) := funext hS
  obtain ⟨μ, hμ⟩ := fold_real fun k => σ k * Real.log 2
  have hl : Real.log 2 ≠ 0 := (Real.log_pos (by norm_num)).ne'
  have he : ∀ k, Ideal.exp (((σ k * Real.log 2 : ℝ) : EReal) - (μ : EReal)) = pw (σ k - μ / Real.log 2) := fun k => by
    rw [← EReal.coe_sub, Ideal.exp_coe, pw]
    congr 2
    field_simp
  rw [hμ]
  simp only [max_eq_right bot_le, he]
  obtain ⟨t, ht, e⟩ := lsum_pos σ (μ / Real.log 2)
  have e' : ∑ j, pw (σ j - μ / Real.log 2) = (t : EReal) := e
  rw [e', ← Good.div_eq_soft (m := ((μ / Real.log 2 : ℝ) : EReal)) (l := lsum σ (μ / Real.log 2))
      (a := wsum σ v (μ / Real.log 2)) ⟨⟨_, rfl, rfl, rfl⟩, scales_lsum σ, scales_wsum σ v⟩ σ v rfl rfl,
    e, Ideal.div_coe ht.ne', mul_comm, wsum, coe_mul_sum _ _ (by positivity)]
  refine Finset.sum_congr rfl fun k _ => ?_
  rw [Ideal.div_coe ht.ne', mul_comm (pw _) (v k), mul_left_comm ((1 / t : ℝ) : EReal) (v k), mul_comm (pw _)]

/-- Four chunks of 2048 keys and one of 256 are the 8448 keys. -/
theorem sum_chunks (f : Fin 8448 → EReal) :
    ∑ j, f j = (((∑ j : Fin 2048, f ⟨j.val, by omega⟩) + ∑ j : Fin 2048, f ⟨2048 + j.val, by omega⟩)
      + ∑ j : Fin 2048, f ⟨4096 + j.val, by omega⟩) + (∑ j : Fin 2048, f ⟨6144 + j.val, by omega⟩)
      + ∑ j : Fin 256, f ⟨8192 + j.val, by omega⟩ := by
  have split : ∀ (n a b : ℕ) (h : n = a + b) (g : Fin n → EReal),
      ∑ j, g j = (∑ j : Fin a, g ⟨j.val, by omega⟩) + ∑ j : Fin b, g ⟨a + j.val, by omega⟩ := by
    intro n a b h g
    subst h
    exact Fin.sum_univ_add g
  rw [split 8448 8192 256 rfl, split 8192 6144 2048 rfl, split 6144 4096 2048 rfl, split 4096 2048 2048 rfl]

end Cert.Proof.Softmax

end
-- ==== Proof.AttnPay.lean ====
/-
  The latent attention's payloads, read at an index: each is a step of the chunked softmax over the scores of a row.
-/
module

public import proofs.«01_k».proof.Proof.Softmax
public import proofs.«01_k».proof.Proof.Gen.Kernel2Ideal.Value
public import Idealize.ShloMosaic.Lib.Pipeline.ValueKit

@[expose] public section

set_option maxRecDepth 16384

noncomputable section

open Idealize.ShloMosaic Idealize.ShloMosaic.TcCoe Idealize.SL.Sem

namespace Cert.Proof.Attn

open Cert.Kernel2Ideal Cert.Kernel2Ideal.Gen Cert.Proof.Softmax

/-- The score of a query row against a key row. -/
def sc {n : ℕ} (Q : FVec Ideal S1024x256 .bf16) (K : Shape.Idx ⟨2, ![n, 256]⟩ → EReal) (r : Fin 1024) (j : Fin n) : EReal :=
  ∑ d : Fin 256, Q (ix2 r d) * K (ix2 j d)

theorem pay3_at (r : Fin 1024) : k0_pay3 (F := Ideal) (ix2 r 0) = ⊥ := by
  pointwise [k0_pay3]
  exact IdealRules.named_const.ideal_named_scalar _ _ _ _ rfl

theorem col1024 (x : FVec Ideal S1024 .f32) (r : Fin 1024) :
    shapeCast S1024x1 x shapeCasts_S1024_S1024x1 (ix2 r 0) = x (ix1 r) := by
  pointwise

theorem ninf : Ideal.ofBits .f32 0xFF800000#32 = ⊥ := by
  simp [Ideal.ofBits, Ideal.ieee]

theorem max2048 (x : FVec Ideal S1024x2048 .f32) (h h' h'') (r : Fin 1024) :
    multiReduction .maximumf [1] S1024 x 0xFF800000#32 h h' h'' (ix1 r)
      = Finset.univ.fold max ⊥ fun k : Fin 2048 => x (ix2 r k) := by
  pointwise
  rw [ninf]

theorem max256 (x : FVec Ideal S1024x256 .f32) (h h' h'') (r : Fin 1024) :
    multiReduction .maximumf [1] S1024 x 0xFF800000#32 h h' h'' (ix1 r)
      = Finset.univ.fold max ⊥ fun k : Fin 256 => x (ix2 r k) := by
  pointwise
  rw [ninf]

theorem colmax2048 (m : FVec Ideal S1024x1 .f32) (x : FVec Ideal S1024x2048 .f32) (h h' h'') (r : Fin 1024) :
    maximumf m (shapeCast S1024x1 (multiReduction .maximumf [1] S1024 x 0xFF800000#32 h h' h'') shapeCasts_S1024_S1024x1) (ix2 r 0)
      = stepM (m (ix2 r 0)) fun k => x (ix2 r k) := by
  have e := (col1024 (multiReduction .maximumf [1] S1024 x 0xFF800000#32 h h' h'') r).trans (max2048 x h h' h'' r)
  unfold stepM
  rw [← e]
  rfl

theorem colmax256 (m : FVec Ideal S1024x1 .f32) (x : FVec Ideal S1024x256 .f32) (h h' h'') (r : Fin 1024) :
    maximumf m (shapeCast S1024x1 (multiReduction .maximumf [1] S1024 x 0xFF800000#32 h h' h'') shapeCasts_S1024_S1024x1) (ix2 r 0)
      = stepM (m (ix2 r 0)) fun k => x (ix2 r k) := by
  have e := (col1024 (multiReduction .maximumf [1] S1024 x 0xFF800000#32 h h' h'') r).trans (max256 x h h' h'' r)
  unfold stepM
  rw [← e]
  rfl

section Chunks

variable (v0 : FVec Ideal S512x256 .bf16) (Q : FVec Ideal S1024x256 .bf16) (m l : FVec Ideal S1024x1 .f32)
  (a : FVec Ideal S1024x128 .f32) (K K2 K3 K4 : FVec Ideal S2048x256 .bf16) (V V2 V3 V4 : FVec Ideal S2048x128 .bf16)
  (KC : FVec Ideal S256x256 .bf16) (VC : FVec Ideal S256x128 .bf16) (r : Fin 1024) (e : Fin 128)

theorem pay4_at (j : Fin 2048) : k0_pay4 (F := Ideal) v0 K (ix2 r j) = sc (k0_pay2 v0) K r j := by
  pointwise [k0_pay4]
  rfl

theorem pay10_at (j : Fin 2048) : k0_pay10 (F := Ideal) Q K (ix2 r j) = sc Q K r j := by
  pointwise [k0_pay10]
  rfl

theorem pay14_at (j : Fin 2048) : k0_pay14 (F := Ideal) Q K (ix2 r j) = sc Q K r j := by
  pointwise [k0_pay14]
  rfl

theorem pay5_at : k0_pay5 (F := Ideal) v0 K (ix2 r 0) = stepM ⊥ (sc (k0_pay2 v0) K r) := by
  refine (colmax2048 (k0_pay3 (F := Ideal)) (k0_pay4 (F := Ideal) v0 K) _ _ _ r).trans ?_
  rw [pay3_at]
  exact congrArg (stepM ⊥) (funext fun j => pay4_at v0 K r j)

theorem pay11_at : k0_pay11 (F := Ideal) Q m K (ix2 r 0) = stepM (m (ix2 r 0)) (sc Q K r) := by
  refine (colmax2048 m (k0_pay10 (F := Ideal) Q K) _ _ _ r).trans ?_
  exact congrArg (stepM _) (funext fun j => pay10_at Q K r j)

theorem pay15_at : k0_pay15 (F := Ideal) Q m K K2 (ix2 r 0) = stepM (stepM (m (ix2 r 0)) (sc Q K r)) (sc Q K2 r) := by
  refine (colmax2048 (k0_pay11 (F := Ideal) Q m K) (k0_pay14 (F := Ideal) Q K2) _ _ _ r).trans ?_
  rw [pay11_at]
  exact congrArg (stepM _) (funext fun j => pay14_at Q K2 r j)

theorem pay8_at : k0_pay8 (F := Ideal) v0 K (ix2 r 0) = stepL ⊥ 0 (sc (k0_pay2 v0) K r) := by
  pointwise [k0_pay8, k0_pay7, k0_pay6]
  simp only [pay4_at, pay3_at, pay5_at]
  rfl

theorem pay9_at : k0_pay9 (F := Ideal) v0 K V (ix2 r e) = stepA ⊥ 0 (sc (k0_pay2 v0) K r) fun j => V (ix2 j e) := by
  pointwise [k0_pay9, k0_pay7, k0_pay6]
  simp only [pay4_at, pay3_at, pay5_at]
  rfl

theorem pay18_at : k0_pay18 (F := Ideal) Q m l K K2 (ix2 r 0)
    = stepL (stepM (m (ix2 r 0)) (sc Q K r)) (stepL (m (ix2 r 0)) (l (ix2 r 0)) (sc Q K r)) (sc Q K2 r) := by
  pointwise [k0_pay18, k0_pay17, k0_pay16, k0_pay13, k0_pay12]
  simp only [pay10_at, pay14_at, pay11_at, pay15_at]
  rfl

theorem pay19_at : k0_pay19 (F := Ideal) Q m a K V K2 V2 (ix2 r e)
    = stepA (stepM (m (ix2 r 0)) (sc Q K r)) (stepA (m (ix2 r 0)) (a (ix2 r e)) (sc Q K r) fun j => V (ix2 j e)) (sc Q K2 r)
        fun j => V2 (ix2 j e) := by
  pointwise [k0_pay19, k0_pay17, k0_pay16, k0_pay13, k0_pay12]
  simp only [pay10_at, pay14_at, pay11_at, pay15_at]
  rfl

/-! The last two chunks stand in one payload, with the division; it is taken apart here. -/

def l4 : FVec Ideal S1024x1 .f32 :=
  addf (mulf (k0_pay13 Q m K) l) (shapeCast S1024x1 (multiReduction .add [1] S1024 (k0_pay12 Q m K) 0x00000000#32 reduces_S1024x2048_S1024 (.inl rfl) rfl) shapeCasts_S1024_S1024x1)

def a4 : FVec Ideal S1024x128 .f32 :=
  addf (mulf (broadcastTo S1024x128 (k0_pay13 Q m K) broadcasts_S1024x1_S1024x128) a)
    (matmul dot_S1024x2048_S2048x128_S1024x128_1_0_0_1_n_n none (truncf .bf16 (k0_pay12 Q m K) bitsLt_bf16_f32)
      (shapeCast S2048x128 V shapeCasts_S2048x128_S2048x128) (constant S1024x128 .f32 0x00000000#32))

def s5 : FVec Ideal S1024x256 .f32 :=
  matmul dot_S1024x256_S256x256_S1024x256_1_1_0_0_n_n none Q (shapeCast S256x256 KC shapeCasts_S256x256_S256x256) (constant S1024x256 .f32 0x00000000#32)

def m5 : FVec Ideal S1024x1 .f32 :=
  maximumf m (shapeCast S1024x1 (multiReduction .maximumf [1] S1024 (s5 Q KC) 0xFF800000#32 reduces_S1024x256_S1024 (.inl rfl) rfl) shapeCasts_S1024_S1024x1)

def w5 : FVec Ideal S1024x256 .f32 :=
  exp2 (subf (s5 Q KC) (broadcastTo S1024x256 (m5 Q m KC) broadcasts_S1024x1_S1024x256))

def c5 : FVec Ideal S1024x1 .f32 := exp2 (subf m (m5 Q m KC))

def l5 : FVec Ideal S1024x1 .f32 :=
  addf (mulf (c5 Q m KC) l) (shapeCast S1024x1 (multiReduction .add [1] S1024 (w5 Q m KC) 0x00000000#32 reduces_S1024x256_S1024 (.inl rfl) rfl) shapeCasts_S1024_S1024x1)

def a5 : FVec Ideal S1024x128 .f32 :=
  addf (mulf (broadcastTo S1024x128 (c5 Q m KC) broadcasts_S1024x1_S1024x128) a)
    (matmul dot_S1024x256_S256x128_S1024x128_1_0_0_1_n_n none (truncf .bf16 (w5 Q m KC) bitsLt_bf16_f32)
      (shapeCast S256x128 VC shapeCasts_S256x128_S256x128) (constant S1024x128 .f32 0x00000000#32))

theorem pay20_eq : k0_pay20 (F := Ideal) Q m l a K V KC VC
    = divf (a5 Q (k0_pay11 Q m K) (a4 Q m a K V) KC VC)
        (broadcastTo S1024x128 (l5 Q (k0_pay11 Q m K) (l4 Q m l K) KC) broadcasts_S1024x1_S1024x128) := rfl

theorem l4_at : l4 Q m l K (ix2 r 0) = stepL (m (ix2 r 0)) (l (ix2 r 0)) (sc Q K r) := by
  pointwise [l4, k0_pay13, k0_pay12]
  simp only [pay10_at, pay11_at]
  rfl

theorem a4_at : a4 Q m a K V (ix2 r e) = stepA (m (ix2 r 0)) (a (ix2 r e)) (sc Q K r) fun j => V (ix2 j e) := by
  pointwise [a4, k0_pay13, k0_pay12]
  simp only [pay10_at, pay11_at]
  rfl

theorem s5_at (j : Fin 256) : s5 Q KC (ix2 r j) = sc Q KC r j := by
  pointwise [s5]
  rfl

theorem m5_at : m5 Q m KC (ix2 r 0) = stepM (m (ix2 r 0)) (sc Q KC r) := by
  refine (colmax256 m (s5 Q KC) _ _ _ r).trans ?_
  exact congrArg (stepM _) (funext fun j => s5_at Q KC r j)

theorem l5_at : l5 Q m l KC (ix2 r 0) = stepL (m (ix2 r 0)) (l (ix2 r 0)) (sc Q KC r) := by
  pointwise [l5, c5, w5]
  simp only [s5_at, m5_at]
  rfl

theorem a5_at : a5 Q m a KC VC (ix2 r e) = stepA (m (ix2 r 0)) (a (ix2 r e)) (sc Q KC r) fun j => VC (ix2 j e) := by
  pointwise [a5, c5, w5]
  simp only [s5_at, m5_at]
  rfl

theorem pay20_at : k0_pay20 (F := Ideal) Q m l a K V KC VC (ix2 r e)
    = Ideal.div (stepA (stepM (m (ix2 r 0)) (sc Q K r)) (stepA (m (ix2 r 0)) (a (ix2 r e)) (sc Q K r) fun j => V (ix2 j e))
          (sc Q KC r) fun j => VC (ix2 j e))
        (stepL (stepM (m (ix2 r 0)) (sc Q K r)) (stepL (m (ix2 r 0)) (l (ix2 r 0)) (sc Q K r)) (sc Q KC r)) := by
  rw [pay20_eq]
  pointwise
  simp only [a5_at, l5_at, a4_at, l4_at, pay11_at]
  try rfl

end Chunks

end Cert.Proof.Attn

end
-- ==== Proof.AttnRow.lean ====
/-
  A row and a column of the latent attention's block: five chunks of the chunked softmax are the softmax.
-/
module

public import proofs.«01_k».proof.Proof.AttnPay

@[expose] public section

set_option maxRecDepth 16384

noncomputable section

open Idealize.ShloMosaic Idealize.ShloMosaic.TcCoe Idealize.SL.Sem

namespace Cert.Proof.Attn

open Cert.Kernel2Ideal Cert.Kernel2Ideal.Gen Cert.Proof.Softmax

theorem row (v0 : FVec Ideal S512x256 .bf16) (K1 K2 K3 K4 : FVec Ideal S2048x256 .bf16) (V1 V2 V3 V4 : FVec Ideal S2048x128 .bf16)
    (KC : FVec Ideal S256x256 .bf16) (VC : FVec Ideal S256x128 .bf16) (r : Fin 1024) (e : Fin 128)
    (σ : Fin 8448 → ℝ) (v : Fin 8448 → EReal)
    (h1 : ∀ j : Fin 2048, sc (k0_pay2 v0) K1 r j = (σ ⟨j.val, by omega⟩ : EReal))
    (h2 : ∀ j : Fin 2048, sc (k0_pay2 v0) K2 r j = (σ ⟨2048 + j.val, by omega⟩ : EReal))
    (h3 : ∀ j : Fin 2048, sc (k0_pay2 v0) K3 r j = (σ ⟨4096 + j.val, by omega⟩ : EReal))
    (h4 : ∀ j : Fin 2048, sc (k0_pay2 v0) K4 r j = (σ ⟨6144 + j.val, by omega⟩ : EReal))
    (h5 : ∀ j : Fin 256, sc (k0_pay2 v0) KC r j = (σ ⟨8192 + j.val, by omega⟩ : EReal))
    (g1 : ∀ j : Fin 2048, V1 (ix2 j e) = v ⟨j.val, by omega⟩)
    (g2 : ∀ j : Fin 2048, V2 (ix2 j e) = v ⟨2048 + j.val, by omega⟩)
    (g3 : ∀ j : Fin 2048, V3 (ix2 j e) = v ⟨4096 + j.val, by omega⟩)
    (g4 : ∀ j : Fin 2048, V4 (ix2 j e) = v ⟨6144 + j.val, by omega⟩)
    (g5 : ∀ j : Fin 256, VC (ix2 j e) = v ⟨8192 + j.val, by omega⟩) :
    k0_pay20 (F := Ideal) (k0_pay2 v0) (k0_pay15 (k0_pay2 v0) (k0_pay5 v0 K1) K2 K3)
        (k0_pay18 (k0_pay2 v0) (k0_pay5 v0 K1) (k0_pay8 v0 K1) K2 K3)
        (k0_pay19 (k0_pay2 v0) (k0_pay5 v0 K1) (k0_pay9 v0 K1 V1) K2 V2 K3 V3) K4 V4 KC VC (ix2 r e)
      = soft σ v := by
  rw [pay20_at, pay15_at, pay18_at, pay19_at, pay5_at, pay8_at, pay9_at]
  have s1 := Good.first (sc (k0_pay2 v0) K1 r) (fun j => V1 (ix2 j e)) _ h1
  have s2 := s1.step (sc (k0_pay2 v0) K2 r) (fun j => V2 (ix2 j e)) _ h2
  have s3 := s2.step (sc (k0_pay2 v0) K3 r) (fun j => V3 (ix2 j e)) _ h3
  have s4 := s3.step (sc (k0_pay2 v0) K4 r) (fun j => V4 (ix2 j e)) _ h4
  have s5 := s4.step (sc (k0_pay2 v0) KC r) (fun j => VC (ix2 j e)) _ h5
  refine s5.div_eq_soft σ v ?_ ?_
  · exact (sum_chunks fun j => pw (σ j - 0)).symm
  · have e := sum_chunks fun j => pw (σ j - 0) * v j
    simp only [wsum, g1, g2, g3, g4, g5]
    exact e.symm

end Cert.Proof.Attn

end
-- ==== Proof.AttnIn.lean ====
/-
  The latent attention's windows: what each input block holds of the argument arrays at a grid point.

  A point is a batch, a pair of heads and a block of 512 query rows.  The host code pads a head's 96 lanes to 128 with
  zeros and lays the heads side by side.
-/
module

public import proofs.«01_k».proof.Proof.AttnRow

@[expose] public section

set_option maxRecDepth 16384

noncomputable section

open Idealize.ShloMosaic Idealize.ShloMosaic.TcCoe Idealize.SL.Sem
open Idealize.ShloMosaic.Pipeline (Dat)

namespace Cert.Proof.Attn

open Cert.Kernel2Ideal Cert.Kernel2Ideal.Gen Cert.Proof.Softmax

variable (m : (ℓ : Loc nD τ sig) → Buf (Elt Ideal) ℓ)

/-- Queries or keys as the host code lays them out. -/
abbrev laid (x : FVec Ideal S33792x8x96 .f32) : FVec Ideal S33792x1024 .bf16 :=
  truncf .bf16 (shapeCast S33792x1024 (pad S33792x8x128 ![0, 0, 0] ![0, 0, 32] ![0, 0, 0] x (sitofp (F := Ideal) .f32 (constantI S_ 32 0#32)) pads_S33792x8x96_S33792x8x128_000_000_0320 h_S_) shapeCasts_S33792x8x128_S33792x1024) bitsLt_bf16_f32

/-- Values as the host code lays them out. -/
abbrev laidV (x : FVec Ideal S33792x8x64 .f32) : FVec Ideal S33792x512 .bf16 :=
  truncf .bf16 (shapeCast S33792x512 x shapeCasts_S33792x8x64_S33792x512) bitsLt_bf16_f32

theorem laid_at (x : FVec Ideal S33792x8x96 .f32) (R : Fin 33792) (h : Fin 8) (d : Fin 128) :
    laid x (ix2 R ⟨h.val * 128 + d.val, by omega⟩) = if hd : d.val < 96 then x (ix3 R h ⟨d.val, hd⟩) else 0 := by
  pointwise [laid]
  split
  · rfl
  · show (((0#32 : BitVec 32).toInt : ℝ) : EReal) = 0
    simp

theorem laidV_at (x : FVec Ideal S33792x8x64 .f32) (R : Fin 33792) (h : Fin 8) (e : Fin 64) :
    laidV x (ix2 R ⟨h.val * 64 + e.val, by omega⟩) = x (ix3 R h e) := by
  pointwise [laidV]
  blk_ext []

theorem entry_v2 (c : Dev nD) : V m c main_v2 = laid (m ((c : Thread nD τ).loc main_arg0)) := by
  simp only [V, List.flatten_cons, List.flatten_nil, List.append_nil, List.cons_append, List.nil_append]
  after_results_simp <;> rfl

theorem entry_v5 (c : Dev nD) : V m c main_v5 = laid (m ((c : Thread nD τ).loc main_arg1)) := by
  simp only [V, List.flatten_cons, List.flatten_nil, List.append_nil, List.cons_append, List.nil_append]
  after_results_simp <;> rfl

theorem entry_v7 (c : Dev nD) : V m c main_v7 = laidV (m ((c : Thread nD τ).loc main_arg2)) := by
  simp only [V, List.flatten_cons, List.flatten_nil, List.append_nil, List.cons_append, List.nil_append]
  after_results_simp <;> rfl

/-- Where each window's block sits at every point. -/
theorem idx : ∀ t : Fin cfg0.N, win0_0.index t = ![(t : ℕ) / 64 * 16 + (t : ℕ) % 16, (t : ℕ) / 16 % 4]
    ∧ win0_1.index t = ![(t : ℕ) / 64, (t : ℕ) / 16 % 4] ∧ win0_2.index t = ![(t : ℕ) / 64, (t : ℕ) / 16 % 4]
    ∧ win0_3.index t = ![128 + (t : ℕ) / 64, (t : ℕ) / 16 % 4] ∧ win0_4.index t = ![128 + (t : ℕ) / 64, (t : ℕ) / 16 % 4]
    ∧ win0_7.index t = ![(t : ℕ) / 64 * 16 + (t : ℕ) % 16, (t : ℕ) / 16 % 4] :=
  (by decide +kernel : ∀ t : Fin grid0.N, _)

theorem lt_points (t : Fin cfg0.N) : (t : ℕ) < 256 := by
  have h : cfg0.N = 256 := by decide +kernel
  omega

theorem place0 (t : Fin cfg0.N) (ρ : Fin 512) (d : Fin 256) :
    ((cfg0.win 0).blk t).view.emb (ix2 ρ d) = ix2 ⟨(t.val / 64 * 16 + t.val % 16) * 512 + ρ.val, by have := lt_points t; omega⟩
      ⟨t.val / 16 % 4 * 256 + d.val, by omega⟩ := by
  blk_ext [idx t]

theorem place3 (t : Fin cfg0.N) (ρ : Fin 256) (d : Fin 256) :
    ((cfg0.win 3).blk t).view.emb (ix2 ρ d) = ix2 ⟨(128 + t.val / 64) * 256 + ρ.val, by have := lt_points t; omega⟩
      ⟨t.val / 16 % 4 * 256 + d.val, by omega⟩ := by
  blk_ext [idx t]

theorem place4 (t : Fin cfg0.N) (ρ : Fin 256) (d : Fin 128) :
    ((cfg0.win 4).blk t).view.emb (ix2 ρ d) = ix2 ⟨(128 + t.val / 64) * 256 + ρ.val, by have := lt_points t; omega⟩
      ⟨t.val / 16 % 4 * 128 + d.val, by omega⟩ := by
  blk_ext [idx t]

theorem place7 (t : Fin cfg0.N) (ρ : Fin 512) (d : Fin 128) :
    ((cfg0.win 7).blk t).view.emb (ix2 ρ d) = ix2 ⟨(t.val / 64 * 16 + t.val % 16) * 512 + ρ.val, by have := lt_points t; omega⟩
      ⟨t.val / 16 % 4 * 128 + d.val, by omega⟩ := by
  blk_ext [idx t]

theorem block0 (c : Dev nD) (t : Fin cfg0.N) (ρ : Fin 512) (d : Fin 256) :
    iblk m c 0 t (ix2 ρ d) = laid (m ((c : Thread nD τ).loc main_arg0))
      (ix2 ⟨(t.val / 64 * 16 + t.val % 16) * 512 + ρ.val, by have := lt_points t; omega⟩ ⟨t.val / 16 % 4 * 256 + d.val, by omega⟩) := by
  unfold iblk
  change V m c main_v2 (((cfg0.win 0).blk t).view.emb _) = _
  rw [entry_v2, place0]

theorem block3 (c : Dev nD) (t : Fin cfg0.N) (ρ : Fin 256) (d : Fin 256) :
    iblk m c 3 t (ix2 ρ d) = laid (m ((c : Thread nD τ).loc main_arg1))
      (ix2 ⟨(128 + t.val / 64) * 256 + ρ.val, by have := lt_points t; omega⟩ ⟨t.val / 16 % 4 * 256 + d.val, by omega⟩) := by
  unfold iblk
  change V m c main_v5 (((cfg0.win 3).blk t).view.emb _) = _
  rw [entry_v5, place3]

theorem block4 (c : Dev nD) (t : Fin cfg0.N) (ρ : Fin 256) (d : Fin 128) :
    iblk m c 4 t (ix2 ρ d) = laidV (m ((c : Thread nD τ).loc main_arg2))
      (ix2 ⟨(128 + t.val / 64) * 256 + ρ.val, by have := lt_points t; omega⟩ ⟨t.val / 16 % 4 * 128 + d.val, by omega⟩) := by
  unfold iblk
  change V m c main_v7 (((cfg0.win 4).blk t).view.emb _) = _
  rw [entry_v7, place4]

theorem block1 (c : Dev nD) (t : Fin cfg0.N) (ρ : Fin 8192) (d : Fin 256) :
    X0_1 m c t (ix2 ρ d) = laid (m ((c : Thread nD τ).loc main_arg1))
      (ix2 ⟨t.val / 64 * 8192 + ρ.val, by have := lt_points t; omega⟩ ⟨t.val / 16 % 4 * 256 + d.val, by omega⟩) := by
  unfold X0_1 Pipeline.Window.fill
  rw [dif_pos (moved0_1 t _)]
  unfold iblk
  change V m c main_v5 (((cfg0.win 1).blk t).view.emb _) = _
  rw [entry_v5]
  congr 1
  blk_ext [idx t]

theorem block2 (c : Dev nD) (t : Fin cfg0.N) (ρ : Fin 8192) (d : Fin 128) :
    X0_2 m c t (ix2 ρ d) = laidV (m ((c : Thread nD τ).loc main_arg2))
      (ix2 ⟨t.val / 64 * 8192 + ρ.val, by have := lt_points t; omega⟩ ⟨t.val / 16 % 4 * 128 + d.val, by omega⟩) := by
  unfold X0_2 Pipeline.Window.fill
  rw [dif_pos (moved0_2 t _)]
  unfold iblk
  change V m c main_v7 (((cfg0.win 2).blk t).view.emb _) = _
  rw [entry_v7]
  congr 1
  blk_ext [idx t]

end Cert.Proof.Attn

end
-- ==== Proof.AttnRef.lean ====
/-
  The reference's latent attention, read at an index: the softmax of the scores of a query row, times the values.
-/
module

public import proofs.«01_k».proof.Proof.Softmax
public import proofs.«01_k».proof.Proof.Gen.Reference2Ideal.Run
public import Idealize.ShloMosaic.Lib.Pipeline.ValueKit

@[expose] public section

set_option maxRecDepth 16384

noncomputable section

open Idealize.ShloMosaic Idealize.ShloMosaic.TcCoe Idealize.SL.Sem

namespace Cert.Proof.AttnRef

open Cert.Reference2Ideal Cert.Reference2Ideal.Gen Cert.Proof.Softmax

variable (q k : FVec Ideal S33792x8x96 .f32) (v : FVec Ideal S33792x8x64 .f32)

/-- The row of key `j` of a batch: the batch's tokens, then its context. -/
def key (b : Fin 4) (j : Fin 8448) : Fin 33792 :=
  ⟨if j.val < 8192 then b.val * 8192 + j.val else 32768 + b.val * 256 + (j.val - 8192), by split <;> omega⟩

def qs : FVec Ideal S4x8192x8x96 .f32 :=
  shapeCast _ (extractStridedSlice S32768x8x96 ![0, 0, 0] q slices_S33792x8x96_S32768x8x96_0_0_0) shapeCasts_S32768x8x96_S4x8192x8x96

def ks : FVec Ideal S4x8448x8x96 .f32 :=
  concatenate S4x8448x8x96 1 [⟨S4x8192x8x96, (shapeCast _ (extractStridedSlice S32768x8x96 ![0, 0, 0] k slices_S33792x8x96_S32768x8x96_0_0_0) shapeCasts_S32768x8x96_S4x8192x8x96)⟩, ⟨S4x256x8x96, (shapeCast _ (extractStridedSlice S1024x8x96 ![32768, 0, 0] k slices_S33792x8x96_S1024x8x96_32768_0_0) shapeCasts_S1024x8x96_S4x256x8x96)⟩] concatenates_S4x8192x8x96_S4x256x8x96_S4x8448x8x96_d1

def vs : FVec Ideal S4x8448x8x64 .f32 :=
  concatenate S4x8448x8x64 1 [⟨S4x8192x8x64, (shapeCast _ (extractStridedSlice S32768x8x64 ![0, 0, 0] v slices_S33792x8x64_S32768x8x64_0_0_0) shapeCasts_S32768x8x64_S4x8192x8x64)⟩, ⟨S4x256x8x64, (shapeCast _ (extractStridedSlice S1024x8x64 ![32768, 0, 0] v slices_S33792x8x64_S1024x8x64_32768_0_0) shapeCasts_S1024x8x64_S4x256x8x64)⟩] concatenates_S4x8192x8x64_S4x256x8x64_S4x8448x8x64_d1

def scores : FVec Ideal S4x8x8192x8448 .f32 :=
  mulf (Host.dotGeneral dot_S4x8192x8x96_S4x8448x8x96_S4x8x8192x8448_3_3_1_1_02_02 none (qs q) (ks k)) (broadcastInDim S4x8x8192x8448 ![] bcast_S_S4x8x8192x8448 (constant S_ .f32 0x3DD105EC#32))

def top (s : FVec Ideal S4x8x8192x8448 .f32) : FVec Ideal S4x8x8192 .f32 :=
  maximumf (broadcastInDim S4x8x8192 ![] bcast_S_S4x8x8192 (constant S_ .f32 0xFF800000#32)) (Host.reduce FloatOps.maximumf s (constant S_ .f32 0xFF800000#32) reducesTo_S4x8x8192x8448_S4x8x8192_d3 h_S_)

def spread (s : FVec Ideal S4x8x8192 .f32) : FVec Ideal S4x8x8192x8448 .f32 :=
  broadcastInDim S4x8x8192x8448 ![0, 1, 2, 3] bcast_S4x8x8192x1_S4x8x8192x8448_0_1_2_3 (broadcastInDim S4x8x8192x1 ![0, 1, 2] bcast_S4x8x8192_S4x8x8192x1_0_1_2 s)

def powers (s : FVec Ideal S4x8x8192x8448 .f32) : FVec Ideal S4x8x8192x8448 .f32 := Host.exp (subf s (spread (top s)))

def weights (s : FVec Ideal S4x8x8192x8448 .f32) : FVec Ideal S4x8x8192x8448 .f32 :=
  Host.divf (powers s) (spread (Host.reduceAdd (powers s) (constant S_ .f32 0x00000000#32) reducesTo_S4x8x8192x8448_S4x8x8192_d3 h_S_))

/-- The reference's result over the argument arrays. -/
def want : FVec Ideal S32768x512 .bf16 :=
  truncf .bf16 (shapeCast _ (transpose S4x8192x8x64 [0, 3, 1, 2] (Host.dotGeneral dot_S4x8448x8x64_S4x8x8192x8448_S4x8x64x8192_1_3_3_2_02_01 none (vs v) (weights (scores q k))) transposes_S4x8x64x8192_S4x8192x8x64_0_3_1_2) shapeCasts_S4x8192x8x64_S32768x512) bitsLt_bf16_f32

theorem res_eq (m : (ℓ : Loc nD τ sig) → Buf (Elt Ideal) ℓ) (c : Dev nD) :
    Cert.Reference2Ideal.Value.res_main_v29 m c = want (m ((c : Thread nD τ).loc main_arg0))
      (m ((c : Thread nD τ).loc main_arg1)) (m ((c : Thread nD τ).loc main_arg2)) := rfl

theorem ninf : Ideal.ofBits .f32 0xFF800000#32 = ⊥ := by
  simp [Ideal.ofBits, Ideal.ieee]

theorem scale_word : Ideal.ofBits .f32 0x3DD105EC#32 = ((3424635 / 33554432 : ℝ) : EReal) := by
  simp [Ideal.ofBits, Ideal.ieee]
  rw [← EReal.coe_mul]
  norm_num

theorem qs_at (b : Fin 4) (n : Fin 8192) (h : Fin 8) (d : Fin 96) :
    qs q (ix4 b n h d) = q (ix3 ⟨b.val * 8192 + n.val, by omega⟩ h d) := by
  pointwise [qs]
  try blk_ext []

theorem ks_at (b : Fin 4) (j : Fin 8448) (h : Fin 8) (d : Fin 96) :
    ks k (ix4 b j h d) = k (ix3 (key b j) h d) := by
  pointwise [ks, key]
  split
  · blk_ext []
  · blk_ext []

theorem vs_at (b : Fin 4) (j : Fin 8448) (h : Fin 8) (e : Fin 64) :
    vs v (ix4 b j h e) = v (ix3 (key b j) h e) := by
  pointwise [vs, key]
  split
  · blk_ext []
  · blk_ext []

theorem scores_at (b : Fin 4) (h : Fin 8) (n : Fin 8192) (j : Fin 8448) :
    scores q k (ix4 b h n j) = (∑ d : Fin 96, q (ix3 ⟨b.val * 8192 + n.val, by omega⟩ h d) * k (ix3 (key b j) h d))
      * ((3424635 / 33554432 : ℝ) : EReal) := by
  pointwise [scores]
  simp only [qs_at, ks_at, scale_word]

theorem row_top (s : FVec Ideal S4x8x8192x8448 .f32) (hr : S4x8x8192x8448.ReducesTo [3] S4x8x8192) (hu) (b : Fin 4) (h : Fin 8) (n : Fin 8192) :
    Host.reduce FloatOps.maximumf s (constant S_ .f32 0xFF800000#32) hr hu (ix3 b h n)
      = Finset.univ.fold max ⊥ fun j : Fin 8448 => s (ix4 b h n j) := by
  pointwise
  rw [ninf]

theorem max_at (x y : FVec Ideal S4x8x8192 .f32) (i) : maximumf x y i = max (x i) (y i) := rfl

theorem top_at (s : FVec Ideal S4x8x8192x8448 .f32) (b : Fin 4) (h : Fin 8) (n : Fin 8192) :
    top s (ix3 b h n) = max ⊥ (Finset.univ.fold max ⊥ fun j => s (ix4 b h n j)) := by
  have e := row_top s reducesTo_S4x8x8192x8448_S4x8x8192_d3 h_S_ b h n
  have e0 : broadcastInDim S4x8x8192 ![] bcast_S_S4x8x8192 (constant (F := Ideal) S_ .f32 0xFF800000#32) (ix3 b h n) = (⊥ : EReal) := by
    pointwise
    exact ninf
  unfold top
  rw [max_at, e0, e]

theorem powers_at (s : FVec Ideal S4x8x8192x8448 .f32) (b : Fin 4) (h : Fin 8) (n : Fin 8192) (j : Fin 8448) :
    powers s (ix4 b h n j) = Ideal.exp (s (ix4 b h n j) - top s (ix3 b h n)) := by
  pointwise [powers, spread]
  try rfl

theorem weights_at (s : FVec Ideal S4x8x8192x8448 .f32) (b : Fin 4) (h : Fin 8) (n : Fin 8192) (j : Fin 8448) :
    weights s (ix4 b h n j) = Ideal.div (powers s (ix4 b h n j)) (∑ i, powers s (ix4 b h n i)) := by
  pointwise [weights, spread]
  try rfl

theorem want_at (b : Fin 4) (n : Fin 8192) (h : Fin 8) (e : Fin 64) :
    want q k v (ix2 ⟨b.val * 8192 + n.val, by omega⟩ ⟨h.val * 64 + e.val, by omega⟩)
      = ∑ j, vs v (ix4 b j h e) * weights (scores q k) (ix4 b h n j) := by
  pointwise [want]
  try blk_ext []

theorem want_soft (b : Fin 4) (n : Fin 8192) (h : Fin 8) (e : Fin 64) (σ : Fin 8448 → ℝ)
    (hσ : ∀ j, scores q k (ix4 b h n j) = ((σ j * Real.log 2 : ℝ) : EReal)) :
    want q k v (ix2 ⟨b.val * 8192 + n.val, by omega⟩ ⟨h.val * 64 + e.val, by omega⟩)
      = soft σ fun j => v (ix3 (key b j) h e) := by
  rw [want_at]
  simp only [weights_at, powers_at, top_at, vs_at]
  exact soft_eq (fun j => scores q k (ix4 b h n j)) _ σ hσ

end Cert.Proof.AttnRef

end
-- ==== Proof.Attn.lean ====
/-
  The latent attention: what each grid point writes is the reference's block of rows, for a pair of heads.
-/
module

public import proofs.«01_k».proof.Proof.AttnIn
public import proofs.«01_k».proof.Proof.AttnRef

@[expose] public section

set_option maxRecDepth 16384

noncomputable section

open Idealize.ShloMosaic Idealize.ShloMosaic.TcCoe Idealize.SL.Sem
open Idealize.ShloMosaic.Pipeline (Dat)

namespace Cert.Proof.Attn

open Cert.Kernel2Ideal Cert.Kernel2Ideal.Gen Cert.Proof.Softmax
open Cert.Proof.AttnRef (key)

variable (m : (ℓ : Loc nD τ sig) → Buf (Elt Ideal) ℓ)

/-- The scale the kernel multiplies by, for powers of two. -/
abbrev scl : ℝ := (3424635 / 33554432) * (Real.log 2)⁻¹

theorem scale_eq : (Named.named κ "scale" 0x3E16C740#32 : Ideal .f32) = (scl : EReal) := by
  exact IdealRules.named_const.ideal_named_scalar _ _ _ _ rfl

theorem sel128 (d : Fin 256) (a b : EReal) :
    Scalar.select (IntOp.cmpi .slt (BitVec.ofNat 32 d.val) 128#32) a b = if d.val < 128 then a else b := by
  have h : ∀ d : Fin 256, IntOp.cmpi .slt (BitVec.ofNat 32 d.val) 128#32 = if d.val < 128 then 1#1 else 0#1 := by
    decide +kernel
  rw [h d]
  split <;> rfl

theorem sel64 (d : Fin 128) (a b : EReal) :
    Scalar.select (IntOp.cmpi .slt (BitVec.ofNat 32 d.val) 64#32) a b = if d.val < 64 then a else b := by
  have h : ∀ d : Fin 128, IntOp.cmpi .slt (BitVec.ofNat 32 d.val) 64#32 = if d.val < 64 then 1#1 else 0#1 := by
    decide +kernel
  rw [h d]
  split <;> rfl

/-- The first 512 stacked rows are the scaled queries of the first head of the pair. -/
theorem stack_lo (v0 : FVec Ideal S512x256 .bf16) (ρ : Fin 512) (d : Fin 256) :
    k0_pay2 (F := Ideal) v0 (ix2 ⟨ρ.val, by omega⟩ d) = if d.val < 128 then v0 (ix2 ρ d) * (scl : EReal) else 0 := by
  pointwise [k0_pay2]
  rw [scale_eq, sel128]

/-- The last 512 are those of the second. -/
theorem stack_hi (v0 : FVec Ideal S512x256 .bf16) (ρ : Fin 512) (d : Fin 256) :
    k0_pay2 (F := Ideal) v0 (ix2 ⟨512 + ρ.val, by omega⟩ d) = if d.val < 128 then 0 else v0 (ix2 ρ d) * (scl : EReal) := by
  pointwise [k0_pay2]
  rw [scale_eq, sel128]

theorem sum_lanes (f : Fin 256 → EReal) :
    ∑ d, f d = (((∑ d : Fin 96, f ⟨d.val, by omega⟩) + ∑ d : Fin 32, f ⟨96 + d.val, by omega⟩)
      + ∑ d : Fin 96, f ⟨128 + d.val, by omega⟩) + ∑ d : Fin 32, f ⟨224 + d.val, by omega⟩ := by
  have split : ∀ (n a b : ℕ) (h : n = a + b) (g : Fin n → EReal),
      ∑ j, g j = (∑ j : Fin a, g ⟨j.val, by omega⟩) + ∑ j : Fin b, g ⟨a + j.val, by omega⟩ := by
    intro n a b h g
    subst h
    exact Fin.sum_univ_add g
  rw [split 256 224 32 rfl, split 224 128 96 rfl, split 128 96 32 rfl]

theorem real_dot (a b : Fin 96 → ℝ) :
    ∑ d, ((a d : EReal) * (scl : EReal)) * (b d : EReal) = (((∑ d, a d * b d) * scl : ℝ) : EReal) := by
  rw [Finset.sum_mul]
  rw [show ((∑ d, a d * b d * scl : ℝ) : EReal) = ∑ d, ((a d * b d * scl : ℝ) : EReal) from
    map_sum (⟨⟨Real.toEReal, rfl⟩, EReal.coe_add⟩ : ℝ →+ EReal) _ _]
  refine Finset.sum_congr rfl fun d _ => ?_
  rw [← EReal.coe_mul, ← EReal.coe_mul]
  congr 1
  ring

theorem score_lo {n : ℕ} (v0 : FVec Ideal S512x256 .bf16) (K : Shape.Idx ⟨2, ![n, 256]⟩ → EReal) (ρ : Fin 512) (j : Fin n)
    (a b : Fin 96 → ℝ) (hq : ∀ d : Fin 96, v0 (ix2 ρ ⟨d.val, by omega⟩) = (a d : EReal))
    (hq0 : ∀ d : Fin 32, v0 (ix2 ρ ⟨96 + d.val, by omega⟩) = (0 : EReal))
    (hk : ∀ d : Fin 96, K (ix2 j ⟨d.val, by omega⟩) = (b d : EReal)) :
    sc (k0_pay2 v0) K ⟨ρ.val, by omega⟩ j = (((∑ d, a d * b d) * scl : ℝ) : EReal) := by
  unfold sc
  rw [sum_lanes, ← real_dot]
  simp only [stack_lo, hq, hq0, hk]
  have e1 : ∀ d : Fin 96, d.val < 128 := fun d => by omega
  have e2 : ∀ d : Fin 32, 96 + d.val < 128 := fun d => by omega
  have e3 : ∀ d : Fin 96, ¬ 128 + d.val < 128 := fun d => by omega
  have e4 : ∀ d : Fin 32, ¬ 224 + d.val < 128 := fun d => by omega
  simp only [e1, e2, e3, e4, if_true, if_false, zero_mul, Finset.sum_const_zero, add_zero]

theorem score_hi {n : ℕ} (v0 : FVec Ideal S512x256 .bf16) (K : Shape.Idx ⟨2, ![n, 256]⟩ → EReal) (ρ : Fin 512) (j : Fin n)
    (a b : Fin 96 → ℝ) (hq : ∀ d : Fin 96, v0 (ix2 ρ ⟨128 + d.val, by omega⟩) = (a d : EReal))
    (hq0 : ∀ d : Fin 32, v0 (ix2 ρ ⟨224 + d.val, by omega⟩) = (0 : EReal))
    (hk : ∀ d : Fin 96, K (ix2 j ⟨128 + d.val, by omega⟩) = (b d : EReal)) :
    sc (k0_pay2 v0) K ⟨512 + ρ.val, by omega⟩ j = (((∑ d, a d * b d) * scl : ℝ) : EReal) := by
  unfold sc
  rw [sum_lanes, ← real_dot]
  simp only [stack_hi, hq, hq0, hk]
  have e1 : ∀ d : Fin 96, d.val < 128 := fun d => by omega
  have e2 : ∀ d : Fin 32, 96 + d.val < 128 := fun d => by omega
  have e3 : ∀ d : Fin 96, ¬ 128 + d.val < 128 := fun d => by omega
  have e4 : ∀ d : Fin 32, ¬ 224 + d.val < 128 := fun d => by omega
  simp only [e1, e2, e3, e4, if_true, if_false, zero_mul, Finset.sum_const_zero, add_zero, zero_add]

theorem pay1_at (x : FVec Ideal S1024x128 .f32) (y : FVec Ideal S512x128 .f32) (ρ : Fin 512) (e : Fin 128) :
    k0_pay1 (F := Ideal) x y (ix2 ρ e) = if e.val < 64 then y (ix2 ρ e) else x (ix2 ⟨512 + ρ.val, by omega⟩ e) := by
  pointwise [k0_pay1]
  rw [sel64]

/-- The score of a query of one of the two heads against a key. -/
theorem score {n : ℕ} (s : Fin 2) (v0 : FVec Ideal S512x256 .bf16) (K : Shape.Idx ⟨2, ![n, 256]⟩ → EReal) (ρ : Fin 512)
    (j : Fin n) (a b : Fin 96 → ℝ) (hq : ∀ d : Fin 96, v0 (ix2 ρ ⟨s.val * 128 + d.val, by omega⟩) = (a d : EReal))
    (hq0 : ∀ d : Fin 32, v0 (ix2 ρ ⟨s.val * 128 + 96 + d.val, by omega⟩) = (0 : EReal))
    (hk : ∀ d : Fin 96, K (ix2 j ⟨s.val * 128 + d.val, by omega⟩) = (b d : EReal)) :
    sc (k0_pay2 v0) K ⟨s.val * 512 + ρ.val, by omega⟩ j = (((∑ d, a d * b d) * scl : ℝ) : EReal) := by
  obtain rfl | rfl : s = 0 ∨ s = 1 := by omega
  · have e := score_lo v0 K ρ j a b (fun d => by simpa using hq d) (fun d => by simpa using hq0 d) (fun d => by simpa using hk d)
    simpa using e
  · have e := score_hi v0 K ρ j a b (fun d => by simpa using hq d) (fun d => by simpa using hq0 d) (fun d => by simpa using hk d)
    simpa using e

/-- The batch of a point. -/
abbrev bat (t : Fin cfg0.N) : Fin 4 := ⟨t.val / 64, by have := lt_points t; omega⟩

/-- The query a row of its block is. -/
abbrev tok (t : Fin cfg0.N) (ρ : Fin 512) : Fin 8192 := ⟨t.val % 16 * 512 + ρ.val, by omega⟩

/-- The head, the first or the second of its pair. -/
abbrev hd (t : Fin cfg0.N) (s : Fin 2) : Fin 8 := ⟨t.val / 16 % 4 * 2 + s.val, by omega⟩

theorem read0 (c : Dev nD) (t : Fin cfg0.N) (s : Fin 2) (ρ : Fin 512) (d : Fin 128) :
    iblk m c 0 t (ix2 ρ ⟨s.val * 128 + d.val, by omega⟩) = if h : d.val < 96 then
      (m ((c : Thread nD τ).loc main_arg0) (ix3 ⟨(bat t).val * 8192 + (tok t ρ).val, by omega⟩ (hd t s) ⟨d.val, h⟩) : EReal)
        else (0 : EReal) := by
  rw [block0]
  refine Eq.trans ?_ (laid_at _ _ (hd t s) d)
  congr 1
  blk_ext []

theorem read1 (c : Dev nD) (t : Fin cfg0.N) (s : Fin 2) (j : Fin 8192) (d : Fin 96) :
    X0_1 m c t (ix2 j ⟨s.val * 128 + d.val, by omega⟩)
      = m ((c : Thread nD τ).loc main_arg1) (ix3 (key (bat t) ⟨j.val, by omega⟩) (hd t s) d) := by
  rw [block1]
  refine Eq.trans (congrArg _ ?_) ((laid_at _ (key (bat t) ⟨j.val, by omega⟩) (hd t s) ⟨d.val, by omega⟩).trans (dif_pos d.isLt))
  blk_ext [key]
  split <;> omega

theorem read3 (c : Dev nD) (t : Fin cfg0.N) (s : Fin 2) (j : Fin 256) (d : Fin 96) :
    iblk m c 3 t (ix2 j ⟨s.val * 128 + d.val, by omega⟩)
      = m ((c : Thread nD τ).loc main_arg1) (ix3 (key (bat t) ⟨8192 + j.val, by omega⟩) (hd t s) d) := by
  rw [block3]
  refine Eq.trans (congrArg _ ?_) ((laid_at _ (key (bat t) ⟨8192 + j.val, by omega⟩) (hd t s) ⟨d.val, by omega⟩).trans (dif_pos d.isLt))
  blk_ext [key]
  split <;> omega

theorem read2 (c : Dev nD) (t : Fin cfg0.N) (s : Fin 2) (j : Fin 8192) (e : Fin 64) :
    X0_2 m c t (ix2 j ⟨s.val * 64 + e.val, by omega⟩)
      = m ((c : Thread nD τ).loc main_arg2) (ix3 (key (bat t) ⟨j.val, by omega⟩) (hd t s) e) := by
  rw [block2]
  refine Eq.trans (congrArg _ ?_) (laidV_at _ (key (bat t) ⟨j.val, by omega⟩) (hd t s) e)
  blk_ext [key]
  split <;> omega

theorem read4 (c : Dev nD) (t : Fin cfg0.N) (s : Fin 2) (j : Fin 256) (e : Fin 64) :
    iblk m c 4 t (ix2 j ⟨s.val * 64 + e.val, by omega⟩)
      = m ((c : Thread nD τ).loc main_arg2) (ix3 (key (bat t) ⟨8192 + j.val, by omega⟩) (hd t s) e) := by
  rw [block4]
  refine Eq.trans (congrArg _ ?_) (laidV_at _ (key (bat t) ⟨8192 + j.val, by omega⟩) (hd t s) e)
  blk_ext [key]
  split <;> omega

theorem load0 (X : Vec Ideal S8192x256 .bf16) (j : Fin 2048) (d : Fin 256) :
    View.ld X (Rect.unit ![0, 0] ![2048, 256] inb_S8192x256_S2048x256_0_0) (ix2 j d) = X (ix2 ⟨j.val, by omega⟩ d) := by
  pointwise

theorem load1 (X : Vec Ideal S8192x256 .bf16) (j : Fin 2048) (d : Fin 256) :
    View.ld X (Rect.unit ![2048, 0] ![2048, 256] inb_S8192x256_S2048x256_2048_0) (ix2 j d) = X (ix2 ⟨2048 + j.val, by omega⟩ d) := by
  pointwise

theorem load2 (X : Vec Ideal S8192x256 .bf16) (j : Fin 2048) (d : Fin 256) :
    View.ld X (Rect.unit ![4096, 0] ![2048, 256] inb_S8192x256_S2048x256_4096_0) (ix2 j d) = X (ix2 ⟨4096 + j.val, by omega⟩ d) := by
  pointwise

theorem load3 (X : Vec Ideal S8192x256 .bf16) (j : Fin 2048) (d : Fin 256) :
    View.ld X (Rect.unit ![6144, 0] ![2048, 256] inb_S8192x256_S2048x256_6144_0) (ix2 j d) = X (ix2 ⟨6144 + j.val, by omega⟩ d) := by
  pointwise

theorem loadV0 (X : Vec Ideal S8192x128 .bf16) (j : Fin 2048) (d : Fin 128) :
    View.ld X (Rect.unit ![0, 0] ![2048, 128] inb_S8192x128_S2048x128_0_0) (ix2 j d) = X (ix2 ⟨j.val, by omega⟩ d) := by
  pointwise

theorem loadV1 (X : Vec Ideal S8192x128 .bf16) (j : Fin 2048) (d : Fin 128) :
    View.ld X (Rect.unit ![2048, 0] ![2048, 128] inb_S8192x128_S2048x128_2048_0) (ix2 j d) = X (ix2 ⟨2048 + j.val, by omega⟩ d) := by
  pointwise

theorem loadV2 (X : Vec Ideal S8192x128 .bf16) (j : Fin 2048) (d : Fin 128) :
    View.ld X (Rect.unit ![4096, 0] ![2048, 128] inb_S8192x128_S2048x128_4096_0) (ix2 j d) = X (ix2 ⟨4096 + j.val, by omega⟩ d) := by
  pointwise

theorem loadV3 (X : Vec Ideal S8192x128 .bf16) (j : Fin 2048) (d : Fin 128) :
    View.ld X (Rect.unit ![6144, 0] ![2048, 128] inb_S8192x128_S2048x128_6144_0) (ix2 j d) = X (ix2 ⟨6144 + j.val, by omega⟩ d) := by
  pointwise

/-- What the body computes for the stacked rows of a point. -/
def rows (c : Dev nD) (t : Fin cfg0.N) : FVec Ideal S1024x128 .f32 :=
  let Q := k0_pay2 (F := Ideal) (iblk m c 0 t)
  let K1 := View.ld (X0_1 m c t) (Rect.unit ![0, 0] ![2048, 256] inb_S8192x256_S2048x256_0_0)
  let K2 := View.ld (X0_1 m c t) (Rect.unit ![2048, 0] ![2048, 256] inb_S8192x256_S2048x256_2048_0)
  let K3 := View.ld (X0_1 m c t) (Rect.unit ![4096, 0] ![2048, 256] inb_S8192x256_S2048x256_4096_0)
  let K4 := View.ld (X0_1 m c t) (Rect.unit ![6144, 0] ![2048, 256] inb_S8192x256_S2048x256_6144_0)
  let V1 := View.ld (X0_2 m c t) (Rect.unit ![0, 0] ![2048, 128] inb_S8192x128_S2048x128_0_0)
  let V2 := View.ld (X0_2 m c t) (Rect.unit ![2048, 0] ![2048, 128] inb_S8192x128_S2048x128_2048_0)
  let V3 := View.ld (X0_2 m c t) (Rect.unit ![4096, 0] ![2048, 128] inb_S8192x128_S2048x128_4096_0)
  let V4 := View.ld (X0_2 m c t) (Rect.unit ![6144, 0] ![2048, 128] inb_S8192x128_S2048x128_6144_0)
  k0_pay20 (F := Ideal) Q (k0_pay15 Q (k0_pay5 (iblk m c 0 t) K1) K2 K3)
    (k0_pay18 Q (k0_pay5 (iblk m c 0 t) K1) (k0_pay8 (iblk m c 0 t) K1) K2 K3)
    (k0_pay19 Q (k0_pay5 (iblk m c 0 t) K1) (k0_pay9 (iblk m c 0 t) K1 V1) K2 V2 K3 V3) K4 V4 (iblk m c 3 t) (iblk m c 4 t)

theorem outs_at (c : Dev nD) (t : Fin cfg0.N) (ρ : Fin 512) (e : Fin 128) :
    outsAt0 m c t (ix2 ρ e) = if e.val < 64 then rows m c t (ix2 ⟨ρ.val, by omega⟩ e)
      else rows m c t (ix2 ⟨512 + ρ.val, by omega⟩ e) := by
  unfold outsAt0
  frame_out
  refine (pay1_at _ _ ρ e).trans ?_
  have h21 : ∀ (Q : FVec Ideal S1024x256 .bf16) (x y a K V KC VC), k0_pay21 (F := Ideal) Q x y a K V KC VC (ix2 ρ e)
      = k0_pay20 (F := Ideal) Q x y a K V KC VC (ix2 ⟨ρ.val, by omega⟩ e) := by
    intro Q x y a K V KC VC
    pointwise [k0_pay21]
  rw [h21]
  rfl

/-- Arrays whose elements are all real. -/
abbrev Real3 (x : FVec Ideal S33792x8x96 .f32) (xr : S33792x8x96.Idx → ℝ) : Prop := ∀ i, x i = (xr i : EReal)

theorem half (c : Dev nD) (t : Fin cfg0.N) (s : Fin 2) (ρ : Fin 512) (e : Fin 64) (qr kr : S33792x8x96.Idx → ℝ)
    (hq : Real3 (m ((c : Thread nD τ).loc main_arg0)) qr) (hk : Real3 (m ((c : Thread nD τ).loc main_arg1)) kr) :
    rows m c t (ix2 ⟨s.val * 512 + ρ.val, by omega⟩ ⟨s.val * 64 + e.val, by omega⟩)
      = Cert.Proof.AttnRef.want (m ((c : Thread nD τ).loc main_arg0)) (m ((c : Thread nD τ).loc main_arg1))
          (m ((c : Thread nD τ).loc main_arg2)) (ix2 ⟨(bat t).val * 8192 + (tok t ρ).val, by omega⟩ ⟨(hd t s).val * 64 + e.val, by omega⟩) := by
  have q1 : ∀ d : Fin 96, iblk m c 0 t (ix2 ρ ⟨s.val * 128 + d.val, by omega⟩)
      = (qr (ix3 ⟨(bat t).val * 8192 + (tok t ρ).val, by omega⟩ (hd t s) d) : EReal) := fun d =>
    (read0 m c t s ρ ⟨d.val, by omega⟩).trans ((dif_pos d.isLt).trans (hq _))
  have q0 : ∀ d : Fin 32, iblk m c 0 t (ix2 ρ ⟨s.val * 128 + 96 + d.val, by omega⟩) = (0 : EReal) := fun d => by
    have h := read0 m c t s ρ ⟨96 + d.val, by omega⟩
    rw [dif_neg (by simp)] at h
    refine Eq.trans (congrArg _ ?_) h
    blk_ext []
  have key1 : ∀ (j : Fin 8192) (d : Fin 96), X0_1 m c t (ix2 j ⟨s.val * 128 + d.val, by omega⟩)
      = (kr (ix3 (key (bat t) ⟨j.val, by omega⟩) (hd t s) d) : EReal) := fun j d => (read1 m c t s j d).trans (hk _)
  refine (row (iblk m c 0 t) _ _ _ _ _ _ _ _ _ _ _ _
    (fun j => (∑ d, qr (ix3 ⟨(bat t).val * 8192 + (tok t ρ).val, by omega⟩ (hd t s) d) * kr (ix3 (key (bat t) j) (hd t s) d)) * scl)
    (fun j => m ((c : Thread nD τ).loc main_arg2) (ix3 (key (bat t) j) (hd t s) e))
    (fun j => score s _ _ ρ j _ _ q1 q0 fun d => (load0 _ j _).trans (key1 _ d))
    (fun j => score s _ _ ρ j _ _ q1 q0 fun d => (load1 _ j _).trans (key1 _ d))
    (fun j => score s _ _ ρ j _ _ q1 q0 fun d => (load2 _ j _).trans (key1 _ d))
    (fun j => score s _ _ ρ j _ _ q1 q0 fun d => (load3 _ j _).trans (key1 _ d))
    (fun j => score s _ _ ρ j _ _ q1 q0 fun d => (read3 m c t s j d).trans (hk _))
    (fun j => (loadV0 _ j _).trans (read2 m c t s _ e))
    (fun j => (loadV1 _ j _).trans (read2 m c t s _ e))
    (fun j => (loadV2 _ j _).trans (read2 m c t s _ e))
    (fun j => (loadV3 _ j _).trans (read2 m c t s _ e))
    (fun j => read4 m c t s j e)).trans ?_
  refine (Cert.Proof.AttnRef.want_soft _ _ _ (bat t) (tok t ρ) (hd t s) e _ fun j => ?_).symm
  rw [Cert.Proof.AttnRef.scores_at]
  have hl : Real.log 2 ≠ 0 := (Real.log_pos (by norm_num)).ne'
  simp only [show ∀ i, m ((c : Thread nD τ).loc main_arg0) i = (qr i : EReal) from hq,
    show ∀ i, m ((c : Thread nD τ).loc main_arg1) i = (kr i : EReal) from hk]
  simp only [← EReal.coe_mul]
  rw [show ∀ f : Fin 96 → ℝ, ∑ d, (f d : EReal) = ((∑ d, f d : ℝ) : EReal) from fun f =>
    (map_sum (⟨⟨Real.toEReal, rfl⟩, EReal.coe_add⟩ : ℝ →+ EReal) _ _).symm, ← EReal.coe_mul]
  congr 1
  unfold scl
  field_simp

theorem point (c : Dev nD) (t : Fin cfg0.N) (ρ : Fin 512) (e : Fin 128) (qr kr : S33792x8x96.Idx → ℝ)
    (hq : Real3 (m ((c : Thread nD τ).loc main_arg0)) qr) (hk : Real3 (m ((c : Thread nD τ).loc main_arg1)) kr) :
    outsAt0 m c t (ix2 ρ e) = Cert.Proof.AttnRef.want (m ((c : Thread nD τ).loc main_arg0)) (m ((c : Thread nD τ).loc main_arg1))
          (m ((c : Thread nD τ).loc main_arg2)) (((cfg0.win 7).blk t).view.emb (ix2 ρ e)) := by
  rw [outs_at, place7]
  split
  · rename_i h
    refine Eq.trans ?_ ((half m c t 0 ρ ⟨e.val, h⟩ qr kr hq hk).trans ?_)
    · congr 1
      blk_ext []
    · congr 1
      blk_ext []
  · rename_i h
    refine Eq.trans ?_ ((half m c t 1 ρ ⟨e.val - 64, by omega⟩ qr kr hq hk).trans ?_)
    · congr 1
      blk_ext []
    · congr 1
      blk_ext []

/-- The result array after the run. -/
theorem final (c : Dev nD) (qr kr : S33792x8x96.Idx → ℝ)
    (hq : Real3 (m ((c : Thread nD τ).loc main_arg0)) qr) (hk : Real3 (m ((c : Thread nD τ).loc main_arg1)) kr) :
    (dats m 0 c).arrAt 7 cfg0.N = Cert.Proof.AttnRef.want (m ((c : Thread nD τ).loc main_arg0))
      (m ((c : Thread nD τ).loc main_arg1)) (m ((c : Thread nD τ).loc main_arg2)) := by
  refine (dats m 0 c).arrAt_eq_of_covers 7 _ (by decide +kernel) fun t _ y => ?_
  blk_simp
  rw [after0_7]
  idx_vars y
  exact point m c t _ _ qr kr hq hk

end Cert.Proof.Attn

end
-- ==== Proof.Finite.lean ====
/-
  The precondition of the latent attention, read: every query and key is a real number.
-/
module

public import proofs.«01_k».proof.Pre_finite
public import proofs.«01_k».proof.Proof.Gen.Pre_finite
public import Idealize.ShloMosaic.PureOps.Ideal
public import Idealize.ShloMosaic.Lib.ReduceAll
public import Idealize.ShloMosaic.Lib.Affine

@[expose] public section

noncomputable section

open Idealize.ShloMosaic

namespace Cert.Proof.Finite

open Cert.Pre_finite Cert.Pre_finite.Facts

theorem inf_word : Ideal.ofBits .f32 0x7F800000#32 = ⊤ := by
  simp [Ideal.ofBits, Ideal.ieee]

/-- One comparison: the magnitude is below infinity. -/
theorem real_of_lt (x : Ideal .f32) (h : FloatOps.cmpf .olt (FloatOps.hostAbsf x) (FloatOps.ofBits .f32 0x7F800000#32) = 1#1) :
    ∃ r : ℝ, x = (r : EReal) := by
  have h1 : Ideal.cmp .olt (max x (-x) : EReal) (Ideal.ofBits .f32 0x7F800000#32) = 1#1 := h
  rw [inf_word] at h1
  have h2 : (max x (-x) : EReal) < ⊤ := by
    by_contra hn
    simp [Ideal.cmp, hn] at h1
  have ht : (x : EReal) ≠ ⊤ := fun e => by
    rw [e] at h2
    simp at h2
  have hb : (x : EReal) ≠ ⊥ := fun e => by
    rw [e] at h2
    simp at h2
  exact ⟨EReal.toReal x, (EReal.coe_toReal ht hb).symm⟩

instance : Subsingleton S_.Idx := ⟨fun a b => funext fun i => i.elim0⟩

theorem real_of_all (x : FVec Ideal S33792x8x96 .f32) (j : S_.Idx)
    (h : Host.reduce IntOp.andi (cmpf .olt (Host.absf x) (broadcastInDim S33792x8x96 ![] bcast_S_S33792x8x96
      (constant S_ .f32 0x7F800000#32))) (constantI S_ 1 1#1) reducesTo_S33792x8x96_S_d0_1_2 h_S_ j = 1#1) :
    ∃ r : S33792x8x96.Idx → ℝ, ∀ i, x i = (r i : EReal) := by
  have e : ∀ i, ∃ r : ℝ, x i = (r : EReal) := fun i =>
    real_of_lt (x i) (Host.reduce_andi_all _ _ _ _ j h i)
  exact ⟨fun i => (e i).choose, fun i => (e i).choose_spec⟩

theorem reals (q k : FVec Ideal S33792x8x96 .f32) (v : FVec Ideal S33792x8x64 .f32) (h : fn (F := Ideal) q k v = fun _ => 1#1) :
    (∃ r : S33792x8x96.Idx → ℝ, ∀ i, q i = (r i : EReal)) ∧ ∃ r : S33792x8x96.Idx → ℝ, ∀ i, k i = (r i : EReal) := by
  have h0 := congrFun h (fun i => i.elim0)
  dsimp only [fn] at h0
  have hand : ∀ a b : BitVec 1, IntOp.andi a b = 1#1 → a = 1#1 ∧ b = 1#1 := by decide
  obtain ⟨ha, hb⟩ := hand _ _ h0
  exact ⟨real_of_all q _ ha, real_of_all k _ hb⟩

end Cert.Proof.Finite

end
-- ==== Proof.DiffPay.lean ====
/-
  The differential attention's payloads, read at an index: each is a step of the chunked softmax over the scores of a row.
-/
module

public import proofs.«01_k».proof.Proof.Softmax
public import proofs.«01_k».proof.Proof.Gen.Kernel4Ideal.Value
public import Idealize.ShloMosaic.Lib.Pipeline.ValueKit

@[expose] public section

set_option maxRecDepth 16384

noncomputable section

open Idealize.ShloMosaic Idealize.ShloMosaic.TcCoe Idealize.SL.Sem

namespace Cert.Proof.Diff

open Cert.Kernel4Ideal Cert.Kernel4Ideal.Gen Cert.Proof.Softmax

/-- The score of a query row against a key row. -/
def sc {n : ℕ} (Q : FVec Ideal S1024x128 .bf16) (K : Shape.Idx ⟨2, ![n, 128]⟩ → EReal) (r : Fin 1024) (j : Fin n) : EReal :=
  ∑ d : Fin 128, Q (ix2 r d) * K (ix2 j d)

theorem pay3_at (r : Fin 1024) : k0_pay3 (F := Ideal) (ix2 r 0) = ⊥ := by
  pointwise [k0_pay3]
  exact IdealRules.named_const.ideal_named_scalar _ _ _ _ rfl

theorem col1024 (x : FVec Ideal S1024 .f32) (r : Fin 1024) :
    shapeCast S1024x1 x shapeCasts_S1024_S1024x1 (ix2 r 0) = x (ix1 r) := by
  pointwise

theorem ninf : Ideal.ofBits .f32 0xFF800000#32 = ⊥ := by
  simp [Ideal.ofBits, Ideal.ieee]

theorem max2048 (x : FVec Ideal S1024x2048 .f32) (h h' h'') (r : Fin 1024) :
    multiReduction .maximumf [1] S1024 x 0xFF800000#32 h h' h'' (ix1 r)
      = Finset.univ.fold max ⊥ fun k : Fin 2048 => x (ix2 r k) := by
  pointwise
  rw [ninf]

theorem max256 (x : FVec Ideal S1024x256 .f32) (h h' h'') (r : Fin 1024) :
    multiReduction .maximumf [1] S1024 x 0xFF800000#32 h h' h'' (ix1 r)
      = Finset.univ.fold max ⊥ fun k : Fin 256 => x (ix2 r k) := by
  pointwise
  rw [ninf]

theorem colmax2048 (m : FVec Ideal S1024x1 .f32) (x : FVec Ideal S1024x2048 .f32) (h h' h'') (r : Fin 1024) :
    maximumf m (shapeCast S1024x1 (multiReduction .maximumf [1] S1024 x 0xFF800000#32 h h' h'') shapeCasts_S1024_S1024x1) (ix2 r 0)
      = stepM (m (ix2 r 0)) fun k => x (ix2 r k) := by
  have e := (col1024 (multiReduction .maximumf [1] S1024 x 0xFF800000#32 h h' h'') r).trans (max2048 x h h' h'' r)
  unfold stepM
  rw [← e]
  rfl

theorem colmax256 (m : FVec Ideal S1024x1 .f32) (x : FVec Ideal S1024x256 .f32) (h h' h'') (r : Fin 1024) :
    maximumf m (shapeCast S1024x1 (multiReduction .maximumf [1] S1024 x 0xFF800000#32 h h' h'') shapeCasts_S1024_S1024x1) (ix2 r 0)
      = stepM (m (ix2 r 0)) fun k => x (ix2 r k) := by
  have e := (col1024 (multiReduction .maximumf [1] S1024 x 0xFF800000#32 h h' h'') r).trans (max256 x h h' h'' r)
  unfold stepM
  rw [← e]
  rfl

section Chunks

variable (v0 : FVec Ideal S512x128 .bf16) (Q : FVec Ideal S1024x128 .bf16) (m l : FVec Ideal S1024x1 .f32)
  (a : FVec Ideal S1024x128 .f32) (K K2 K3 K4 : FVec Ideal S2048x128 .bf16) (V V2 V3 V4 : FVec Ideal S2048x128 .bf16)
  (KC : FVec Ideal S256x128 .bf16) (VC : FVec Ideal S256x128 .bf16) (r : Fin 1024) (e : Fin 128)

theorem pay4_at (j : Fin 2048) : k0_pay4 (F := Ideal) v0 K (ix2 r j) = sc (k0_pay2 v0) K r j := by
  pointwise [k0_pay4]
  rfl

theorem pay10_at (j : Fin 2048) : k0_pay10 (F := Ideal) Q K (ix2 r j) = sc Q K r j := by
  pointwise [k0_pay10]
  rfl

theorem pay14_at (j : Fin 2048) : k0_pay14 (F := Ideal) Q K (ix2 r j) = sc Q K r j := by
  pointwise [k0_pay14]
  rfl

theorem pay5_at : k0_pay5 (F := Ideal) v0 K (ix2 r 0) = stepM ⊥ (sc (k0_pay2 v0) K r) := by
  refine (colmax2048 (k0_pay3 (F := Ideal)) (k0_pay4 (F := Ideal) v0 K) _ _ _ r).trans ?_
  rw [pay3_at]
  exact congrArg (stepM ⊥) (funext fun j => pay4_at v0 K r j)

theorem pay11_at : k0_pay11 (F := Ideal) Q m K (ix2 r 0) = stepM (m (ix2 r 0)) (sc Q K r) := by
  refine (colmax2048 m (k0_pay10 (F := Ideal) Q K) _ _ _ r).trans ?_
  exact congrArg (stepM _) (funext fun j => pay10_at Q K r j)

theorem pay15_at : k0_pay15 (F := Ideal) Q m K K2 (ix2 r 0) = stepM (stepM (m (ix2 r 0)) (sc Q K r)) (sc Q K2 r) := by
  refine (colmax2048 (k0_pay11 (F := Ideal) Q m K) (k0_pay14 (F := Ideal) Q K2) _ _ _ r).trans ?_
  rw [pay11_at]
  exact congrArg (stepM _) (funext fun j => pay14_at Q K2 r j)

theorem pay8_at : k0_pay8 (F := Ideal) v0 K (ix2 r 0) = stepL ⊥ 0 (sc (k0_pay2 v0) K r) := by
  pointwise [k0_pay8, k0_pay7, k0_pay6]
  simp only [pay4_at, pay3_at, pay5_at]
  rfl

theorem pay9_at : k0_pay9 (F := Ideal) v0 K V (ix2 r e) = stepA ⊥ 0 (sc (k0_pay2 v0) K r) fun j => V (ix2 j e) := by
  pointwise [k0_pay9, k0_pay7, k0_pay6]
  simp only [pay4_at, pay3_at, pay5_at]
  rfl

theorem pay18_at : k0_pay18 (F := Ideal) Q m l K K2 (ix2 r 0)
    = stepL (stepM (m (ix2 r 0)) (sc Q K r)) (stepL (m (ix2 r 0)) (l (ix2 r 0)) (sc Q K r)) (sc Q K2 r) := by
  pointwise [k0_pay18, k0_pay17, k0_pay16, k0_pay13, k0_pay12]
  simp only [pay10_at, pay14_at, pay11_at, pay15_at]
  rfl

theorem pay19_at : k0_pay19 (F := Ideal) Q m a K V K2 V2 (ix2 r e)
    = stepA (stepM (m (ix2 r 0)) (sc Q K r)) (stepA (m (ix2 r 0)) (a (ix2 r e)) (sc Q K r) fun j => V (ix2 j e)) (sc Q K2 r)
        fun j => V2 (ix2 j e) := by
  pointwise [k0_pay19, k0_pay17, k0_pay16, k0_pay13, k0_pay12]
  simp only [pay10_at, pay14_at, pay11_at, pay15_at]
  rfl

/-! The last two chunks stand in one payload, with the division; it is taken apart here. -/

def l4 : FVec Ideal S1024x1 .f32 :=
  addf (mulf (k0_pay13 Q m K) l) (shapeCast S1024x1 (multiReduction .add [1] S1024 (k0_pay12 Q m K) 0x00000000#32 reduces_S1024x2048_S1024 (.inl rfl) rfl) shapeCasts_S1024_S1024x1)

def a4 : FVec Ideal S1024x128 .f32 :=
  addf (mulf (broadcastTo S1024x128 (k0_pay13 Q m K) broadcasts_S1024x1_S1024x128) a)
    (matmul dot_S1024x2048_S2048x128_S1024x128_1_0_0_1_n_n none (truncf .bf16 (k0_pay12 Q m K) bitsLt_bf16_f32)
      (shapeCast S2048x128 V shapeCasts_S2048x128_S2048x128) (constant S1024x128 .f32 0x00000000#32))

def s5 : FVec Ideal S1024x256 .f32 :=
  matmul dot_S1024x128_S256x128_S1024x256_1_1_0_0_n_n none Q (shapeCast S256x128 KC shapeCasts_S256x128_S256x128) (constant S1024x256 .f32 0x00000000#32)

def m5 : FVec Ideal S1024x1 .f32 :=
  maximumf m (shapeCast S1024x1 (multiReduction .maximumf [1] S1024 (s5 Q KC) 0xFF800000#32 reduces_S1024x256_S1024 (.inl rfl) rfl) shapeCasts_S1024_S1024x1)

def w5 : FVec Ideal S1024x256 .f32 :=
  exp2 (subf (s5 Q KC) (broadcastTo S1024x256 (m5 Q m KC) broadcasts_S1024x1_S1024x256))

def c5 : FVec Ideal S1024x1 .f32 := exp2 (subf m (m5 Q m KC))

def l5 : FVec Ideal S1024x1 .f32 :=
  addf (mulf (c5 Q m KC) l) (shapeCast S1024x1 (multiReduction .add [1] S1024 (w5 Q m KC) 0x00000000#32 reduces_S1024x256_S1024 (.inl rfl) rfl) shapeCasts_S1024_S1024x1)

def a5 : FVec Ideal S1024x128 .f32 :=
  addf (mulf (broadcastTo S1024x128 (c5 Q m KC) broadcasts_S1024x1_S1024x128) a)
    (matmul dot_S1024x256_S256x128_S1024x128_1_0_0_1_n_n none (truncf .bf16 (w5 Q m KC) bitsLt_bf16_f32)
      (shapeCast S256x128 VC shapeCasts_S256x128_S256x128) (constant S1024x128 .f32 0x00000000#32))

theorem pay20_eq : k0_pay20 (F := Ideal) Q m l a K V KC VC
    = divf (a5 Q (k0_pay11 Q m K) (a4 Q m a K V) KC VC)
        (broadcastTo S1024x128 (l5 Q (k0_pay11 Q m K) (l4 Q m l K) KC) broadcasts_S1024x1_S1024x128) := rfl

theorem l4_at : l4 Q m l K (ix2 r 0) = stepL (m (ix2 r 0)) (l (ix2 r 0)) (sc Q K r) := by
  pointwise [l4, k0_pay13, k0_pay12]
  simp only [pay10_at, pay11_at]
  rfl

theorem a4_at : a4 Q m a K V (ix2 r e) = stepA (m (ix2 r 0)) (a (ix2 r e)) (sc Q K r) fun j => V (ix2 j e) := by
  pointwise [a4, k0_pay13, k0_pay12]
  simp only [pay10_at, pay11_at]
  rfl

theorem s5_at (j : Fin 256) : s5 Q KC (ix2 r j) = sc Q KC r j := by
  pointwise [s5]
  rfl

theorem m5_at : m5 Q m KC (ix2 r 0) = stepM (m (ix2 r 0)) (sc Q KC r) := by
  refine (colmax256 m (s5 Q KC) _ _ _ r).trans ?_
  exact congrArg (stepM _) (funext fun j => s5_at Q KC r j)

theorem l5_at : l5 Q m l KC (ix2 r 0) = stepL (m (ix2 r 0)) (l (ix2 r 0)) (sc Q KC r) := by
  pointwise [l5, c5, w5]
  simp only [s5_at, m5_at]
  rfl

theorem a5_at : a5 Q m a KC VC (ix2 r e) = stepA (m (ix2 r 0)) (a (ix2 r e)) (sc Q KC r) fun j => VC (ix2 j e) := by
  pointwise [a5, c5, w5]
  simp only [s5_at, m5_at]
  rfl

theorem pay20_at : k0_pay20 (F := Ideal) Q m l a K V KC VC (ix2 r e)
    = Ideal.div (stepA (stepM (m (ix2 r 0)) (sc Q K r)) (stepA (m (ix2 r 0)) (a (ix2 r e)) (sc Q K r) fun j => V (ix2 j e))
          (sc Q KC r) fun j => VC (ix2 j e))
        (stepL (stepM (m (ix2 r 0)) (sc Q K r)) (stepL (m (ix2 r 0)) (l (ix2 r 0)) (sc Q K r)) (sc Q KC r)) := by
  rw [pay20_eq]
  pointwise
  simp only [a5_at, l5_at, a4_at, l4_at, pay11_at]
  try rfl

end Chunks

end Cert.Proof.Diff

end
-- ==== Proof.DiffRow.lean ====
/-
  A row and a column of the differential attention's block: five chunks of the chunked softmax are the softmax.
-/
module

public import proofs.«01_k».proof.Proof.DiffPay

@[expose] public section

set_option maxRecDepth 16384

noncomputable section

open Idealize.ShloMosaic Idealize.ShloMosaic.TcCoe Idealize.SL.Sem

namespace Cert.Proof.Diff

open Cert.Kernel4Ideal Cert.Kernel4Ideal.Gen Cert.Proof.Softmax

theorem row (v0 : FVec Ideal S512x128 .bf16) (K1 K2 K3 K4 : FVec Ideal S2048x128 .bf16) (V1 V2 V3 V4 : FVec Ideal S2048x128 .bf16)
    (KC : FVec Ideal S256x128 .bf16) (VC : FVec Ideal S256x128 .bf16) (r : Fin 1024) (e : Fin 128)
    (σ : Fin 8448 → ℝ) (v : Fin 8448 → EReal)
    (h1 : ∀ j : Fin 2048, sc (k0_pay2 v0) K1 r j = (σ ⟨j.val, by omega⟩ : EReal))
    (h2 : ∀ j : Fin 2048, sc (k0_pay2 v0) K2 r j = (σ ⟨2048 + j.val, by omega⟩ : EReal))
    (h3 : ∀ j : Fin 2048, sc (k0_pay2 v0) K3 r j = (σ ⟨4096 + j.val, by omega⟩ : EReal))
    (h4 : ∀ j : Fin 2048, sc (k0_pay2 v0) K4 r j = (σ ⟨6144 + j.val, by omega⟩ : EReal))
    (h5 : ∀ j : Fin 256, sc (k0_pay2 v0) KC r j = (σ ⟨8192 + j.val, by omega⟩ : EReal))
    (g1 : ∀ j : Fin 2048, V1 (ix2 j e) = v ⟨j.val, by omega⟩)
    (g2 : ∀ j : Fin 2048, V2 (ix2 j e) = v ⟨2048 + j.val, by omega⟩)
    (g3 : ∀ j : Fin 2048, V3 (ix2 j e) = v ⟨4096 + j.val, by omega⟩)
    (g4 : ∀ j : Fin 2048, V4 (ix2 j e) = v ⟨6144 + j.val, by omega⟩)
    (g5 : ∀ j : Fin 256, VC (ix2 j e) = v ⟨8192 + j.val, by omega⟩) :
    k0_pay20 (F := Ideal) (k0_pay2 v0) (k0_pay15 (k0_pay2 v0) (k0_pay5 v0 K1) K2 K3)
        (k0_pay18 (k0_pay2 v0) (k0_pay5 v0 K1) (k0_pay8 v0 K1) K2 K3)
        (k0_pay19 (k0_pay2 v0) (k0_pay5 v0 K1) (k0_pay9 v0 K1 V1) K2 V2 K3 V3) K4 V4 KC VC (ix2 r e)
      = soft σ v := by
  rw [pay20_at, pay15_at, pay18_at, pay19_at, pay5_at, pay8_at, pay9_at]
  have s1 := Good.first (sc (k0_pay2 v0) K1 r) (fun j => V1 (ix2 j e)) _ h1
  have s2 := s1.step (sc (k0_pay2 v0) K2 r) (fun j => V2 (ix2 j e)) _ h2
  have s3 := s2.step (sc (k0_pay2 v0) K3 r) (fun j => V3 (ix2 j e)) _ h3
  have s4 := s3.step (sc (k0_pay2 v0) K4 r) (fun j => V4 (ix2 j e)) _ h4
  have s5 := s4.step (sc (k0_pay2 v0) KC r) (fun j => VC (ix2 j e)) _ h5
  refine s5.div_eq_soft σ v ?_ ?_
  · exact (sum_chunks fun j => pw (σ j - 0)).symm
  · have e := sum_chunks fun j => pw (σ j - 0) * v j
    simp only [wsum, g1, g2, g3, g4, g5]
    exact e.symm

end Cert.Proof.Diff

end
-- ==== Proof.DiffIn.lean ====
/-
  The differential attention's windows: what each input block holds of the argument arrays at a grid point.

  A point is a batch, a head and a block of 512 query rows.  The host code lays the heads, and a head's two maps, side by
  side, and stacks the four vectors the factor is made of.
-/
module

public import proofs.«01_k».proof.Proof.DiffRow

@[expose] public section

set_option maxRecDepth 16384

noncomputable section

open Idealize.ShloMosaic Idealize.ShloMosaic.TcCoe Idealize.SL.Sem
open Idealize.ShloMosaic.Pipeline (Dat)

namespace Cert.Proof.Diff

open Cert.Kernel4Ideal Cert.Kernel4Ideal.Gen Cert.Proof.Softmax

variable (m : (ℓ : Loc nD τ sig) → Buf (Elt Ideal) ℓ)

/-- Queries or keys as the host code lays them out. -/
abbrev laid (x : FVec Ideal S33792x4x2x64 .f32) : FVec Ideal S33792x512 .bf16 :=
  truncf .bf16 (shapeCast S33792x512 x shapeCasts_S33792x4x2x64_S33792x512) bitsLt_bf16_f32

/-- Values as the host code lays them out. -/
abbrev laidV (x : FVec Ideal S33792x4x128 .f32) : FVec Ideal S33792x512 .bf16 :=
  truncf .bf16 (shapeCast S33792x512 x shapeCasts_S33792x4x128_S33792x512) bitsLt_bf16_f32

/-- The four vectors of the factor, stacked. -/
abbrev stack (a b x y : FVec Ideal S64 .f32) : FVec Ideal S4x64 .f32 :=
  concatenate S4x64 0 [⟨S1x64, broadcastInDim S1x64 ![1] bcast_S64_S1x64_1 a⟩, ⟨S1x64, broadcastInDim S1x64 ![1] bcast_S64_S1x64_1 b⟩, ⟨S1x64, broadcastInDim S1x64 ![1] bcast_S64_S1x64_1 x⟩, ⟨S1x64, broadcastInDim S1x64 ![1] bcast_S64_S1x64_1 y⟩] concatenates_S1x64_S1x64_S1x64_S1x64_S4x64_d0

theorem laid_at (x : FVec Ideal S33792x4x2x64 .f32) (R : Fin 33792) (h : Fin 4) (s : Fin 2) (d : Fin 64) :
    laid x (ix2 R ⟨h.val * 128 + s.val * 64 + d.val, by omega⟩) = x (ix4 R h s d) := by
  pointwise [laid]
  blk_ext []

theorem laidV_at (x : FVec Ideal S33792x4x128 .f32) (R : Fin 33792) (h : Fin 4) (e : Fin 128) :
    laidV x (ix2 R ⟨h.val * 128 + e.val, by omega⟩) = x (ix3 R h e) := by
  pointwise [laidV]
  blk_ext []

theorem stack_at (a b x y : FVec Ideal S64 .f32) (d : Fin 64) :
    stack a b x y (ix2 0 d) = a (ix1 d) ∧ stack a b x y (ix2 1 d) = b (ix1 d)
      ∧ stack a b x y (ix2 2 d) = x (ix1 d) ∧ stack a b x y (ix2 3 d) = y (ix1 d) := by
  refine ⟨?_, ?_, ?_, ?_⟩
  · pointwise [stack]
  · pointwise [stack]
  · pointwise [stack]
  · pointwise [stack]

theorem gain_at (x : FVec Ideal S128 .f32) (e : Fin 128) :
    broadcastInDim S1x128 ![1] bcast_S128_S1x128_1 x (ix2 0 e) = x (ix1 e) := by
  pointwise

theorem entry_v1 (c : Dev nD) : V m c main_v1 = laid (m ((c : Thread nD τ).loc main_arg0)) := by
  simp only [V, List.flatten_cons, List.flatten_nil, List.append_nil, List.cons_append, List.nil_append]
  after_results_simp <;> rfl

theorem entry_v3 (c : Dev nD) : V m c main_v3 = laid (m ((c : Thread nD τ).loc main_arg1)) := by
  simp only [V, List.flatten_cons, List.flatten_nil, List.append_nil, List.cons_append, List.nil_append]
  after_results_simp <;> rfl

theorem entry_v5 (c : Dev nD) : V m c main_v5 = laidV (m ((c : Thread nD τ).loc main_arg2)) := by
  simp only [V, List.flatten_cons, List.flatten_nil, List.append_nil, List.cons_append, List.nil_append]
  after_results_simp <;> rfl

theorem entry_v10 (c : Dev nD) : V m c main_v10 = stack (m ((c : Thread nD τ).loc main_arg3)) (m ((c : Thread nD τ).loc main_arg4))
    (m ((c : Thread nD τ).loc main_arg5)) (m ((c : Thread nD τ).loc main_arg6)) := by
  simp only [V, List.flatten_cons, List.flatten_nil, List.append_nil, List.cons_append, List.nil_append]
  after_results_simp <;> rfl

theorem entry_v11 (c : Dev nD) : V m c main_v11 = (broadcastInDim S1x128 ![1] bcast_S128_S1x128_1 (m ((c : Thread nD τ).loc main_arg7)) : FVec Ideal S1x128 .f32) := by
  simp only [V, List.flatten_cons, List.flatten_nil, List.append_nil, List.cons_append, List.nil_append]
  after_results_simp <;> rfl

/-- Where each window's block sits at every point. -/
theorem idx : ∀ t : Fin cfg0.N, win0_0.index t = ![(t : ℕ) / 64 * 16 + (t : ℕ) % 16, (t : ℕ) / 16 % 4]
    ∧ win0_1.index t = ![(t : ℕ) / 64, (t : ℕ) / 16 % 4] ∧ win0_2.index t = ![(t : ℕ) / 64, (t : ℕ) / 16 % 4]
    ∧ win0_3.index t = ![128 + (t : ℕ) / 64, (t : ℕ) / 16 % 4] ∧ win0_4.index t = ![128 + (t : ℕ) / 64, (t : ℕ) / 16 % 4]
    ∧ win0_5.index t = ![0, 0] ∧ win0_6.index t = ![0, 0]
    ∧ win0_7.index t = ![(t : ℕ) / 64 * 16 + (t : ℕ) % 16, (t : ℕ) / 16 % 4] :=
  (by decide +kernel : ∀ t : Fin grid0.N, _)

theorem lt_points (t : Fin cfg0.N) : (t : ℕ) < 256 := by
  have h : cfg0.N = 256 := by decide +kernel
  omega

theorem place0 (t : Fin cfg0.N) (ρ : Fin 512) (d : Fin 128) :
    ((cfg0.win 0).blk t).view.emb (ix2 ρ d) = ix2 ⟨(t.val / 64 * 16 + t.val % 16) * 512 + ρ.val, by have := lt_points t; omega⟩
      ⟨t.val / 16 % 4 * 128 + d.val, by omega⟩ := by
  blk_ext [idx t]

theorem place3 (t : Fin cfg0.N) (ρ : Fin 256) (d : Fin 128) :
    ((cfg0.win 3).blk t).view.emb (ix2 ρ d) = ix2 ⟨(128 + t.val / 64) * 256 + ρ.val, by have := lt_points t; omega⟩
      ⟨t.val / 16 % 4 * 128 + d.val, by omega⟩ := by
  blk_ext [idx t]

theorem place4 (t : Fin cfg0.N) (ρ : Fin 256) (d : Fin 128) :
    ((cfg0.win 4).blk t).view.emb (ix2 ρ d) = ix2 ⟨(128 + t.val / 64) * 256 + ρ.val, by have := lt_points t; omega⟩
      ⟨t.val / 16 % 4 * 128 + d.val, by omega⟩ := by
  blk_ext [idx t]

theorem place7 (t : Fin cfg0.N) (ρ : Fin 512) (d : Fin 128) :
    ((cfg0.win 7).blk t).view.emb (ix2 ρ d) = ix2 ⟨(t.val / 64 * 16 + t.val % 16) * 512 + ρ.val, by have := lt_points t; omega⟩
      ⟨t.val / 16 % 4 * 128 + d.val, by omega⟩ := by
  blk_ext [idx t]

theorem block0 (c : Dev nD) (t : Fin cfg0.N) (ρ : Fin 512) (d : Fin 128) :
    iblk m c 0 t (ix2 ρ d) = laid (m ((c : Thread nD τ).loc main_arg0))
      (ix2 ⟨(t.val / 64 * 16 + t.val % 16) * 512 + ρ.val, by have := lt_points t; omega⟩ ⟨t.val / 16 % 4 * 128 + d.val, by omega⟩) := by
  unfold iblk
  change V m c main_v1 (((cfg0.win 0).blk t).view.emb _) = _
  rw [entry_v1, place0]

theorem block3 (c : Dev nD) (t : Fin cfg0.N) (ρ : Fin 256) (d : Fin 128) :
    iblk m c 3 t (ix2 ρ d) = laid (m ((c : Thread nD τ).loc main_arg1))
      (ix2 ⟨(128 + t.val / 64) * 256 + ρ.val, by have := lt_points t; omega⟩ ⟨t.val / 16 % 4 * 128 + d.val, by omega⟩) := by
  unfold iblk
  change V m c main_v3 (((cfg0.win 3).blk t).view.emb _) = _
  rw [entry_v3, place3]

theorem block4 (c : Dev nD) (t : Fin cfg0.N) (ρ : Fin 256) (d : Fin 128) :
    iblk m c 4 t (ix2 ρ d) = laidV (m ((c : Thread nD τ).loc main_arg2))
      (ix2 ⟨(128 + t.val / 64) * 256 + ρ.val, by have := lt_points t; omega⟩ ⟨t.val / 16 % 4 * 128 + d.val, by omega⟩) := by
  unfold iblk
  change V m c main_v5 (((cfg0.win 4).blk t).view.emb _) = _
  rw [entry_v5, place4]

theorem block1 (c : Dev nD) (t : Fin cfg0.N) (ρ : Fin 8192) (d : Fin 128) :
    X0_1 m c t (ix2 ρ d) = laid (m ((c : Thread nD τ).loc main_arg1))
      (ix2 ⟨t.val / 64 * 8192 + ρ.val, by have := lt_points t; omega⟩ ⟨t.val / 16 % 4 * 128 + d.val, by omega⟩) := by
  unfold X0_1 Pipeline.Window.fill
  rw [dif_pos (moved0_1 t _)]
  unfold iblk
  change V m c main_v3 (((cfg0.win 1).blk t).view.emb _) = _
  rw [entry_v3]
  congr 1
  blk_ext [idx t]

theorem block2 (c : Dev nD) (t : Fin cfg0.N) (ρ : Fin 8192) (d : Fin 128) :
    X0_2 m c t (ix2 ρ d) = laidV (m ((c : Thread nD τ).loc main_arg2))
      (ix2 ⟨t.val / 64 * 8192 + ρ.val, by have := lt_points t; omega⟩ ⟨t.val / 16 % 4 * 128 + d.val, by omega⟩) := by
  unfold X0_2 Pipeline.Window.fill
  rw [dif_pos (moved0_2 t _)]
  unfold iblk
  change V m c main_v5 (((cfg0.win 2).blk t).view.emb _) = _
  rw [entry_v5]
  congr 1
  blk_ext [idx t]

theorem place5 (t : Fin cfg0.N) (r : Fin 4) (d : Fin 64) : ((cfg0.win 5).blk t).view.emb (ix2 r d) = ix2 r d := by
  blk_ext [idx t]

theorem place6 (t : Fin cfg0.N) (d : Fin 128) : ((cfg0.win 6).blk t).view.emb (ix2 0 d) = ix2 0 d := by
  blk_ext [idx t]

theorem block5 (c : Dev nD) (t : Fin cfg0.N) (r : Fin 4) (d : Fin 64) :
    iblk m c 5 t (ix2 r d) = stack (m ((c : Thread nD τ).loc main_arg3)) (m ((c : Thread nD τ).loc main_arg4))
      (m ((c : Thread nD τ).loc main_arg5)) (m ((c : Thread nD τ).loc main_arg6)) (ix2 r d) := by
  unfold iblk
  change V m c main_v10 (((cfg0.win 5).blk t).view.emb _) = _
  rw [entry_v10, place5]

theorem block6 (c : Dev nD) (t : Fin cfg0.N) (e : Fin 128) :
    iblk m c 6 t (ix2 0 e) = m ((c : Thread nD τ).loc main_arg7) (ix1 e) := by
  unfold iblk
  change V m c main_v11 (((cfg0.win 6).blk t).view.emb _) = _
  rw [entry_v11, place6]
  exact gain_at _ e

end Cert.Proof.Diff

end
-- ==== Proof.DiffMath.lean ====
/-
  The difference of two softmaxes with the same values, and the norm that follows it, over the extended reals.

  The kernel subtracts the two attended rows; the reference subtracts the weights and attends once.  The two agree where the
  values, the scores and the factor of the second softmax are real numbers.
-/
module

public import proofs.«01_k».proof.Proof.Softmax

@[expose] public section

noncomputable section

open Idealize.ShloMosaic

namespace Cert.Proof.Softmax

theorem coe_sum {ι : Type} (s : Finset ι) (f : ι → ℝ) : ∑ i ∈ s, (f i : EReal) = ((∑ i ∈ s, f i : ℝ) : EReal) :=
  (map_sum (⟨⟨Real.toEReal, rfl⟩, EReal.coe_add⟩ : ℝ →+ EReal) _ _).symm

variable {ι : Type} [Fintype ι]

/-- A weight of the softmax as the reference spells it. -/
def weight (S : ι → EReal) (k : ι) : EReal :=
  Ideal.div (Ideal.exp (S k - max ⊥ (Finset.univ.fold max ⊥ S))) (∑ j, Ideal.exp (S j - max ⊥ (Finset.univ.fold max ⊥ S)))

theorem weight_real [Nonempty ι] (S : ι → EReal) (σ : ι → ℝ) (hS : ∀ k, S k = (σ k : EReal)) :
    ∃ w : ι → ℝ, ∀ k, weight S k = (w k : EReal) := by
  obtain rfl : S = fun k => (σ k : EReal) := funext hS
  obtain ⟨μ, hμ⟩ := fold_real σ
  have ht : 0 < ∑ j, Real.exp (σ j - μ) := Finset.sum_pos (fun i _ => Real.exp_pos _) Finset.univ_nonempty
  refine ⟨fun k => Real.exp (σ k - μ) * (1 / ∑ j, Real.exp (σ j - μ)), fun k => ?_⟩
  unfold weight
  rw [hμ]
  simp only [max_eq_right bot_le, ← EReal.coe_sub, Ideal.exp_coe]
  rw [coe_sum, Ideal.div_coe ht.ne', ← EReal.coe_mul]

theorem soft_diff [Nonempty ι] (S0 S1 : ι → EReal) (σ0 σ1 : ι → ℝ) (h0 : ∀ k, S0 k = ((σ0 k * Real.log 2 : ℝ) : EReal))
    (h1 : ∀ k, S1 k = ((σ1 k * Real.log 2 : ℝ) : EReal)) (v : ι → EReal) (vr : ι → ℝ) (hv : ∀ k, v k = (vr k : EReal))
    (l : EReal) (lr : ℝ) (hl : l = (lr : EReal)) :
    ∑ k, v k * (weight S0 k - l * weight S1 k) = soft σ0 v - l * soft σ1 v := by
  obtain rfl : v = fun k => (vr k : EReal) := funext hv
  subst hl
  rw [← soft_eq S0 _ σ0 h0, ← soft_eq S1 _ σ1 h1]
  change _ = (∑ k, (vr k : EReal) * weight S0 k) - (lr : EReal) * ∑ k, (vr k : EReal) * weight S1 k
  obtain ⟨w0, e0⟩ := weight_real S0 _ h0
  obtain ⟨w1, e1⟩ := weight_real S1 _ h1
  simp only [e0, e1, ← EReal.coe_mul, ← EReal.coe_sub, coe_sum]
  congr 1
  rw [Finset.mul_sum, ← Finset.sum_sub_distrib]
  exact Finset.sum_congr rfl fun k _ => by ring

/-- The factor of the second softmax. -/
def factor (a b x y : Fin 64 → EReal) (w : EReal) : EReal :=
  Ideal.exp (∑ d, a d * b d) - Ideal.exp (∑ d, x d * y d) + w

theorem factor_real (a b x y : Fin 64 → EReal) (w : EReal) (ar br xr yr : Fin 64 → ℝ) (wr : ℝ) (ha : ∀ d, a d = (ar d : EReal))
    (hb : ∀ d, b d = (br d : EReal)) (hx : ∀ d, x d = (xr d : EReal)) (hy : ∀ d, y d = (yr d : EReal)) (hw : w = (wr : EReal)) :
    ∃ l : ℝ, factor a b x y w = (l : EReal) := by
  refine ⟨Real.exp (∑ d, ar d * br d) - Real.exp (∑ d, xr d * yr d) + wr, ?_⟩
  unfold factor
  simp only [ha, hb, hx, hy, hw, ← EReal.coe_mul, coe_sum, Ideal.exp_coe, ← EReal.coe_sub, ← EReal.coe_add]

/-- The norm over a head's 128 lanes, with its gain, times a constant. -/
def post (o : Fin 128 → EReal) (g w : EReal) (e : Fin 128) : EReal :=
  o e * Ideal.rsqrt (Ideal.div (∑ d, o d * o d) (Ideal.ofBits .f32 0x43000000#32) + Ideal.ofBits .f32 0x358637BD#32) * g * w

end Cert.Proof.Softmax

end
-- ==== Proof.DiffRef.lean ====
/-
  The reference's differential attention, read at an index: the difference of two softmaxes of a query row, times the values, normed.
-/
module

public import proofs.«01_k».proof.Proof.DiffMath
public import proofs.«01_k».proof.Proof.Gen.Reference4Ideal.Run
public import Idealize.ShloMosaic.Lib.Pipeline.ValueKit

@[expose] public section

set_option maxRecDepth 16384

noncomputable section

open Idealize.ShloMosaic Idealize.ShloMosaic.TcCoe Idealize.SL.Sem

namespace Cert.Proof.DiffRef

open Cert.Reference4Ideal Cert.Reference4Ideal.Gen Cert.Proof.Softmax

variable (q k : FVec Ideal S33792x4x2x64 .f32) (v : FVec Ideal S33792x4x128 .f32) (a b x y : FVec Ideal S64 .f32) (g : FVec Ideal S128 .f32)

/-- The row of key `j` of a batch: the batch's tokens, then its context. -/
def key (b : Fin 4) (j : Fin 8448) : Fin 33792 :=
  ⟨if j.val < 8192 then b.val * 8192 + j.val else 32768 + b.val * 256 + (j.val - 8192), by split <;> omega⟩

def qs : FVec Ideal S4x8192x4x2x64 .f32 :=
  shapeCast _ (extractStridedSlice S32768x4x2x64 ![0, 0, 0, 0] q slices_S33792x4x2x64_S32768x4x2x64_0_0_0_0) shapeCasts_S32768x4x2x64_S4x8192x4x2x64

def ks : FVec Ideal S4x8448x4x2x64 .f32 :=
  concatenate S4x8448x4x2x64 1 [⟨S4x8192x4x2x64, (shapeCast _ (extractStridedSlice S32768x4x2x64 ![0, 0, 0, 0] k slices_S33792x4x2x64_S32768x4x2x64_0_0_0_0) shapeCasts_S32768x4x2x64_S4x8192x4x2x64)⟩, ⟨S4x256x4x2x64, (shapeCast _ (extractStridedSlice S1024x4x2x64 ![32768, 0, 0, 0] k slices_S33792x4x2x64_S1024x4x2x64_32768_0_0_0) shapeCasts_S1024x4x2x64_S4x256x4x2x64)⟩] concatenates_S4x8192x4x2x64_S4x256x4x2x64_S4x8448x4x2x64_d1

def vs : FVec Ideal S4x8448x4x128 .f32 :=
  concatenate S4x8448x4x128 1 [⟨S4x8192x4x128, (shapeCast _ (extractStridedSlice S32768x4x128 ![0, 0, 0] v slices_S33792x4x128_S32768x4x128_0_0_0) shapeCasts_S32768x4x128_S4x8192x4x128)⟩, ⟨S4x256x4x128, (shapeCast _ (extractStridedSlice S1024x4x128 ![32768, 0, 0] v slices_S33792x4x128_S1024x4x128_32768_0_0) shapeCasts_S1024x4x128_S4x256x4x128)⟩] concatenates_S4x8192x4x128_S4x256x4x128_S4x8448x4x128_d1

def scores : FVec Ideal S4x4x2x8192x8448 .f32 :=
  mulf (Host.dotGeneral dot_S4x8192x4x2x64_S4x8448x4x2x64_S4x4x2x8192x8448_4_4_1_1_023_023 none (qs q) (ks k)) (broadcastInDim S4x4x2x8192x8448 ![] bcast_S_S4x4x2x8192x8448 (constant S_ .f32 0x3E000000#32))

def top (s : FVec Ideal S4x4x2x8192x8448 .f32) : FVec Ideal S4x4x2x8192 .f32 :=
  maximumf (broadcastInDim S4x4x2x8192 ![] bcast_S_S4x4x2x8192 (constant S_ .f32 0xFF800000#32)) (Host.reduce FloatOps.maximumf s (constant S_ .f32 0xFF800000#32) reducesTo_S4x4x2x8192x8448_S4x4x2x8192_d4 h_S_)

def spread (s : FVec Ideal S4x4x2x8192 .f32) : FVec Ideal S4x4x2x8192x8448 .f32 :=
  broadcastInDim S4x4x2x8192x8448 ![0, 1, 2, 3, 4] bcast_S4x4x2x8192x1_S4x4x2x8192x8448_0_1_2_3_4 (broadcastInDim S4x4x2x8192x1 ![0, 1, 2, 3] bcast_S4x4x2x8192_S4x4x2x8192x1_0_1_2_3 s)

def powers (s : FVec Ideal S4x4x2x8192x8448 .f32) : FVec Ideal S4x4x2x8192x8448 .f32 := Host.exp (subf s (spread (top s)))

def weights (s : FVec Ideal S4x4x2x8192x8448 .f32) : FVec Ideal S4x4x2x8192x8448 .f32 :=
  Host.divf (powers s) (spread (Host.reduceAdd (powers s) (constant S_ .f32 0x00000000#32) reducesTo_S4x4x2x8192x8448_S4x4x2x8192_d4 h_S_))

/-- The factor of the second map. -/
def lam : FVec Ideal S_ .f32 :=
  addf (subf (Host.exp (Host.reduceAdd (mulf a b) (constant S_ .f32 0x00000000#32) reducesTo_S64_S_d0 h_S_)) (Host.exp (Host.reduceAdd (mulf x y) (constant S_ .f32 0x00000000#32) reducesTo_S64_S_d0 h_S_))) (constant S_ .f32 0x3EB60549#32)

/-- The difference of the two maps' weights. -/
def diff (l : FVec Ideal S_ .f32) (W : FVec Ideal S4x4x2x8192x8448 .f32) : FVec Ideal S4x4x8192x8448 .f32 :=
  subf (shapeCast _ (extractStridedSlice S4x4x1x8192x8448 ![0, 0, 0, 0, 0] W slices_S4x4x2x8192x8448_S4x4x1x8192x8448_0_0_0_0_0) shapeCasts_S4x4x1x8192x8448_S4x4x8192x8448) (mulf (broadcastInDim S4x4x8192x8448 ![] bcast_S_S4x4x8192x8448 l) (shapeCast _ (extractStridedSlice S4x4x1x8192x8448 ![0, 0, 1, 0, 0] W slices_S4x4x2x8192x8448_S4x4x1x8192x8448_0_0_1_0_0) shapeCasts_S4x4x1x8192x8448_S4x4x8192x8448))

/-- The attended rows. -/
def attend (u : FVec Ideal S4x8448x4x128 .f32) (A : FVec Ideal S4x4x8192x8448 .f32) : FVec Ideal S4x8192x4x128 .f32 :=
  transpose S4x8192x4x128 [0, 3, 1, 2] (Host.dotGeneral dot_S4x8448x4x128_S4x4x8192x8448_S4x4x128x8192_1_3_3_2_02_01 none u A) transposes_S4x4x128x8192_S4x8192x4x128_0_3_1_2

/-- The norm, with its gain, laid out as the result. -/
def normed (O : FVec Ideal S4x8192x4x128 .f32) (g : FVec Ideal S128 .f32) : FVec Ideal S32768x512 .bf16 :=
  truncf .bf16 (shapeCast _ (mulf (mulf (mulf O (broadcastInDim S4x8192x4x128 ![0, 1, 2, 3] bcast_S4x8192x4x1_S4x8192x4x128_0_1_2_3 (Host.rsqrt (addf (Host.divf (broadcastInDim S4x8192x4x1 ![0, 1, 2] bcast_S4x8192x4_S4x8192x4x1_0_1_2 (Host.reduceAdd (mulf O O) (constant S_ .f32 0x00000000#32) reducesTo_S4x8192x4x128_S4x8192x4_d3 h_S_)) (broadcastInDim S4x8192x4x1 ![] bcast_S_S4x8192x4x1 (constant S_ .f32 0x43000000#32))) (broadcastInDim S4x8192x4x1 ![] bcast_S_S4x8192x4x1 (constant S_ .f32 0x358637BD#32)))))) (broadcastInDim S4x8192x4x128 ![0, 1, 2, 3] bcast_S1x1x1x128_S4x8192x4x128_0_1_2_3 (broadcastInDim S1x1x1x128 ![3] bcast_S128_S1x1x1x128_3 g))) (broadcastInDim S4x8192x4x128 ![] bcast_S_S4x8192x4x128 (constant S_ .f32 0x3F24FD5C#32))) shapeCasts_S4x8192x4x128_S32768x512) bitsLt_bf16_f32

/-- The reference's result over the argument arrays. -/
def want : FVec Ideal S32768x512 .bf16 := normed (attend (vs v) (diff (lam a b x y) (weights (scores q k)))) g

theorem res_eq (m : (ℓ : Loc nD τ sig) → Buf (Elt Ideal) ℓ) (c : Dev nD) :
    Cert.Reference4Ideal.Value.res_main_v59 m c = want (m ((c : Thread nD τ).loc main_arg0))
      (m ((c : Thread nD τ).loc main_arg1)) (m ((c : Thread nD τ).loc main_arg2)) (m ((c : Thread nD τ).loc main_arg3))
      (m ((c : Thread nD τ).loc main_arg4)) (m ((c : Thread nD τ).loc main_arg5)) (m ((c : Thread nD τ).loc main_arg6))
      (m ((c : Thread nD τ).loc main_arg7)) := rfl

theorem ninf : Ideal.ofBits .f32 0xFF800000#32 = ⊥ := by
  simp [Ideal.ofBits, Ideal.ieee]

theorem scale_word : Ideal.ofBits .f32 0x3E000000#32 = ((1 / 8 : ℝ) : EReal) := by
  simp [Ideal.ofBits, Ideal.ieee]
  try rw [← EReal.coe_mul]
  norm_num

theorem qs_at (b : Fin 4) (n : Fin 8192) (h : Fin 4) (s : Fin 2) (d : Fin 64) :
    qs q (ix5 b n h s d) = q (ix4 ⟨b.val * 8192 + n.val, by omega⟩ h s d) := by
  pointwise [qs]
  try blk_ext []

theorem ks_at (b : Fin 4) (j : Fin 8448) (h : Fin 4) (s : Fin 2) (d : Fin 64) :
    ks k (ix5 b j h s d) = k (ix4 (key b j) h s d) := by
  pointwise [ks, key]
  split
  · blk_ext []
  · blk_ext []

theorem vs_at (b : Fin 4) (j : Fin 8448) (h : Fin 4) (e : Fin 128) :
    vs v (ix4 b j h e) = v (ix3 (key b j) h e) := by
  pointwise [vs, key]
  split
  · blk_ext []
  · blk_ext []

theorem scores_at (b : Fin 4) (h : Fin 4) (s : Fin 2) (n : Fin 8192) (j : Fin 8448) :
    scores q k (ix5 b h s n j) = (∑ d : Fin 64, q (ix4 ⟨b.val * 8192 + n.val, by omega⟩ h s d) * k (ix4 (key b j) h s d))
      * ((1 / 8 : ℝ) : EReal) := by
  pointwise [scores]
  simp only [qs_at, ks_at, scale_word]

theorem row_top (s : FVec Ideal S4x4x2x8192x8448 .f32) (hr : S4x4x2x8192x8448.ReducesTo [4] S4x4x2x8192) (hu) (b : Fin 4) (h : Fin 4) (r : Fin 2) (n : Fin 8192) :
    Host.reduce FloatOps.maximumf s (constant S_ .f32 0xFF800000#32) hr hu (ix4 b h r n)
      = Finset.univ.fold max ⊥ fun j : Fin 8448 => s (ix5 b h r n j) := by
  pointwise
  rw [ninf]

theorem max_at (x y : FVec Ideal S4x4x2x8192 .f32) (i) : maximumf x y i = max (x i) (y i) := rfl

theorem top_at (s : FVec Ideal S4x4x2x8192x8448 .f32) (b : Fin 4) (h : Fin 4) (r : Fin 2) (n : Fin 8192) :
    top s (ix4 b h r n) = max ⊥ (Finset.univ.fold max ⊥ fun j => s (ix5 b h r n j)) := by
  have e := row_top s reducesTo_S4x4x2x8192x8448_S4x4x2x8192_d4 h_S_ b h r n
  have e0 : broadcastInDim S4x4x2x8192 ![] bcast_S_S4x4x2x8192 (constant (F := Ideal) S_ .f32 0xFF800000#32) (ix4 b h r n) = (⊥ : EReal) := by
    pointwise
    exact ninf
  unfold top
  rw [max_at, e0, e]

theorem powers_at (s : FVec Ideal S4x4x2x8192x8448 .f32) (b : Fin 4) (h : Fin 4) (r : Fin 2) (n : Fin 8192) (j : Fin 8448) :
    powers s (ix5 b h r n j) = Ideal.exp (s (ix5 b h r n j) - top s (ix4 b h r n)) := by
  pointwise [powers, spread]
  try rfl

theorem weights_at (s : FVec Ideal S4x4x2x8192x8448 .f32) (b : Fin 4) (h : Fin 4) (r : Fin 2) (n : Fin 8192) (j : Fin 8448) :
    weights s (ix5 b h r n j) = Ideal.div (powers s (ix5 b h r n j)) (∑ i, powers s (ix5 b h r n i)) := by
  pointwise [weights, spread]
  try rfl

theorem weights_eq (s : FVec Ideal S4x4x2x8192x8448 .f32) (b : Fin 4) (h : Fin 4) (r : Fin 2) (n : Fin 8192) (j : Fin 8448) :
    weights s (ix5 b h r n j) = weight (fun j => s (ix5 b h r n j)) j := by
  rw [weights_at]
  simp only [powers_at, top_at]
  rfl

theorem lam_at (i : S_.Idx) : lam a b x y i = factor (fun d => a (ix1 d)) (fun d => b (ix1 d)) (fun d => x (ix1 d))
    (fun d => y (ix1 d)) (Ideal.ofBits .f32 0x3EB60549#32) := by
  have hi : i = (fun j => j.elim0) := funext fun j => j.elim0
  subst hi
  pointwise [lam]
  rfl

theorem diff_at (l : FVec Ideal S_ .f32) (L : EReal) (hl : ∀ i, l i = L) (W : FVec Ideal S4x4x2x8192x8448 .f32) (b : Fin 4) (h : Fin 4) (n : Fin 8192) (j : Fin 8448) :
    diff l W (ix4 b h n j) = W (ix5 b h 0 n j) - L * W (ix5 b h 1 n j) := by
  pointwise [diff]
  simp only [hl]

theorem attend_at (u : FVec Ideal S4x8448x4x128 .f32) (A : FVec Ideal S4x4x8192x8448 .f32) (b : Fin 4) (n : Fin 8192) (h : Fin 4) (e : Fin 128) :
    attend u A (ix4 b n h e) = ∑ j, u (ix4 b j h e) * A (ix4 b h n j) := by
  pointwise [attend]

theorem normed_at (O : FVec Ideal S4x8192x4x128 .f32) (b : Fin 4) (n : Fin 8192) (h : Fin 4) (e : Fin 128) :
    normed O g (ix2 ⟨b.val * 8192 + n.val, by omega⟩ ⟨h.val * 128 + e.val, by omega⟩)
      = post (fun d => O (ix4 b n h d)) (g (ix1 e)) (Ideal.ofBits .f32 0x3F24FD5C#32) e := by
  pointwise [normed]
  rfl

theorem init_word : Ideal.ofBits .f32 0x3EB60549#32 = ((11928905 / 33554432 : ℝ) : EReal) := by
  simp [Ideal.ofBits, Ideal.ieee]
  rw [← EReal.coe_mul]
  norm_num

theorem want_soft (b' : Fin 4) (n : Fin 8192) (h : Fin 4) (e : Fin 128) (σ : Fin 2 → Fin 8448 → ℝ)
    (hσ : ∀ s j, scores q k (ix5 b' h s n j) = ((σ s j * Real.log 2 : ℝ) : EReal)) (vr : S33792x4x128.Idx → ℝ)
    (hv : ∀ i, v i = (vr i : EReal)) (lr : ℝ) (L : EReal) (hL : factor (fun d => a (ix1 d)) (fun d => b (ix1 d)) (fun d => x (ix1 d))
    (fun d => y (ix1 d)) (Ideal.ofBits .f32 0x3EB60549#32) = L) (hl : L = (lr : EReal)) :
    want q k v a b x y g (ix2 ⟨b'.val * 8192 + n.val, by omega⟩ ⟨h.val * 128 + e.val, by omega⟩)
      = post (fun d => soft (σ 0) (fun j => v (ix3 (key b' j) h d)) - L * soft (σ 1) (fun j => v (ix3 (key b' j) h d)))
          (g (ix1 e)) (Ideal.ofBits .f32 0x3F24FD5C#32) e := by
  unfold want
  rw [normed_at]
  refine congrArg (fun o => post o (g (ix1 e)) (Ideal.ofBits .f32 0x3F24FD5C#32) e) (funext fun d => ?_)
  rw [attend_at]
  simp only [diff_at _ L fun i => (lam_at a b x y i).trans hL, weights_eq, vs_at]
  exact soft_diff _ _ (σ 0) (σ 1) (hσ 0) (hσ 1) _ (fun j => vr (ix3 (key b' j) h d)) (fun j => hv _) L lr hl

end Cert.Proof.DiffRef

end
-- ==== Proof.Diff.lean ====
/-
  The differential attention: what each grid point writes is the reference's block of rows, for a head.
-/
module

public import proofs.«01_k».proof.Proof.DiffIn
public import proofs.«01_k».proof.Proof.DiffRef

@[expose] public section

set_option maxRecDepth 16384

noncomputable section

open Idealize.ShloMosaic Idealize.ShloMosaic.TcCoe Idealize.SL.Sem
open Idealize.ShloMosaic.Pipeline (Dat)

namespace Cert.Proof.Diff

open Cert.Kernel4Ideal Cert.Kernel4Ideal.Gen Cert.Proof.Softmax
open Cert.Proof.DiffRef (key)

variable (m : (ℓ : Loc nD τ sig) → Buf (Elt Ideal) ℓ)

/-- The scale the kernel multiplies by, for powers of two. -/
abbrev scl : ℝ := (1 / 8) * (Real.log 2)⁻¹

theorem scale_eq : (Named.named κ "scale" 0x3E38AA3B#32 : Ideal .f32) = (scl : EReal) := by
  exact IdealRules.named_const.ideal_named_scalar _ _ _ _ rfl

theorem sel64 (d : Fin 128) (a b : EReal) :
    Scalar.select (IntOp.cmpi .slt (BitVec.ofNat 32 d.val) 64#32) a b = if d.val < 64 then a else b := by
  have h : ∀ d : Fin 128, IntOp.cmpi .slt (BitVec.ofNat 32 d.val) 64#32 = if d.val < 64 then 1#1 else 0#1 := by
    decide +kernel
  rw [h d]
  split <;> rfl

/-- The first 512 stacked rows are the scaled queries of the first map of the head. -/
theorem stack_lo (v0 : FVec Ideal S512x128 .bf16) (ρ : Fin 512) (d : Fin 128) :
    k0_pay2 (F := Ideal) v0 (ix2 ⟨ρ.val, by omega⟩ d) = if d.val < 64 then v0 (ix2 ρ d) * (scl : EReal) else 0 := by
  pointwise [k0_pay2]
  rw [scale_eq, sel64]

/-- The last 512 are those of the second. -/
theorem stack_hi (v0 : FVec Ideal S512x128 .bf16) (ρ : Fin 512) (d : Fin 128) :
    k0_pay2 (F := Ideal) v0 (ix2 ⟨512 + ρ.val, by omega⟩ d) = if d.val < 64 then 0 else v0 (ix2 ρ d) * (scl : EReal) := by
  pointwise [k0_pay2]
  rw [scale_eq, sel64]

theorem sum_lanes (f : Fin 128 → EReal) :
    ∑ d, f d = (∑ d : Fin 64, f ⟨d.val, by omega⟩) + ∑ d : Fin 64, f ⟨64 + d.val, by omega⟩ :=
  Fin.sum_univ_add (a := 64) (b := 64) f

theorem real_dot (a b : Fin 64 → ℝ) :
    ∑ d, ((a d : EReal) * (scl : EReal)) * (b d : EReal) = (((∑ d, a d * b d) * scl : ℝ) : EReal) := by
  simp only [← EReal.coe_mul, coe_sum]
  congr 1
  rw [Finset.sum_mul]
  exact Finset.sum_congr rfl fun d _ => by ring

theorem score_lo {n : ℕ} (v0 : FVec Ideal S512x128 .bf16) (K : Shape.Idx ⟨2, ![n, 128]⟩ → EReal) (ρ : Fin 512) (j : Fin n)
    (a b : Fin 64 → ℝ) (hq : ∀ d : Fin 64, v0 (ix2 ρ ⟨d.val, by omega⟩) = (a d : EReal))
    (hk : ∀ d : Fin 64, K (ix2 j ⟨d.val, by omega⟩) = (b d : EReal)) :
    sc (k0_pay2 v0) K ⟨ρ.val, by omega⟩ j = (((∑ d, a d * b d) * scl : ℝ) : EReal) := by
  unfold sc
  rw [sum_lanes, ← real_dot]
  simp only [stack_lo, hq, hk]
  have e1 : ∀ d : Fin 64, d.val < 64 := fun d => by omega
  have e2 : ∀ d : Fin 64, ¬ 64 + d.val < 64 := fun d => by omega
  simp only [e1, e2, if_true, if_false, zero_mul, Finset.sum_const_zero, add_zero]

theorem score_hi {n : ℕ} (v0 : FVec Ideal S512x128 .bf16) (K : Shape.Idx ⟨2, ![n, 128]⟩ → EReal) (ρ : Fin 512) (j : Fin n)
    (a b : Fin 64 → ℝ) (hq : ∀ d : Fin 64, v0 (ix2 ρ ⟨64 + d.val, by omega⟩) = (a d : EReal))
    (hk : ∀ d : Fin 64, K (ix2 j ⟨64 + d.val, by omega⟩) = (b d : EReal)) :
    sc (k0_pay2 v0) K ⟨512 + ρ.val, by omega⟩ j = (((∑ d, a d * b d) * scl : ℝ) : EReal) := by
  unfold sc
  rw [sum_lanes, ← real_dot]
  simp only [stack_hi, hq, hk]
  have e1 : ∀ d : Fin 64, d.val < 64 := fun d => by omega
  have e2 : ∀ d : Fin 64, ¬ 64 + d.val < 64 := fun d => by omega
  simp only [e1, e2, if_true, if_false, zero_mul, Finset.sum_const_zero, zero_add]

/-- The score of a query of one of the two maps against a key. -/
theorem score {n : ℕ} (s : Fin 2) (v0 : FVec Ideal S512x128 .bf16) (K : Shape.Idx ⟨2, ![n, 128]⟩ → EReal) (ρ : Fin 512)
    (j : Fin n) (a b : Fin 64 → ℝ) (hq : ∀ d : Fin 64, v0 (ix2 ρ ⟨s.val * 64 + d.val, by omega⟩) = (a d : EReal))
    (hk : ∀ d : Fin 64, K (ix2 j ⟨s.val * 64 + d.val, by omega⟩) = (b d : EReal)) :
    sc (k0_pay2 v0) K ⟨s.val * 512 + ρ.val, by omega⟩ j = (((∑ d, a d * b d) * scl : ℝ) : EReal) := by
  obtain rfl | rfl : s = 0 ∨ s = 1 := by omega
  · have e := score_lo v0 K ρ j a b (fun d => by simpa using hq d) (fun d => by simpa using hk d)
    simpa using e
  · have e := score_hi v0 K ρ j a b (fun d => by simpa using hq d) (fun d => by simpa using hk d)
    simpa using e

/-- The difference of the two halves of the stacked rows, normed. -/
theorem pay1_at (x : FVec Ideal S1024x128 .f32) (y : FVec Ideal S512x128 .f32) (l : FVec Ideal S4x64 .f32)
    (g : FVec Ideal S1x128 .f32) (ρ : Fin 512) (e : Fin 128) :
    k0_pay1 (F := Ideal) x y l g (ix2 ρ e) = post (fun d => y (ix2 ρ d)
      - factor (fun d => l (ix2 0 d)) (fun d => l (ix2 1 d)) (fun d => l (ix2 2 d)) (fun d => l (ix2 3 d)) (Ideal.ofBits .f32 0x3EB60549#32)
        * x (ix2 ⟨512 + ρ.val, by omega⟩ d)) (g (ix2 0 e)) (Ideal.ofBits .f32 0x3F24FD5C#32) e := by
  pointwise [k0_pay1]
  rfl

/-- The batch of a point. -/
abbrev bat (t : Fin cfg0.N) : Fin 4 := ⟨t.val / 64, by have := lt_points t; omega⟩

/-- The query a row of its block is. -/
abbrev tok (t : Fin cfg0.N) (ρ : Fin 512) : Fin 8192 := ⟨t.val % 16 * 512 + ρ.val, by omega⟩

/-- The head. -/
abbrev hd (t : Fin cfg0.N) : Fin 4 := ⟨t.val / 16 % 4, by omega⟩

theorem read0 (c : Dev nD) (t : Fin cfg0.N) (s : Fin 2) (ρ : Fin 512) (d : Fin 64) :
    iblk m c 0 t (ix2 ρ ⟨s.val * 64 + d.val, by omega⟩)
      = m ((c : Thread nD τ).loc main_arg0) (ix4 ⟨(bat t).val * 8192 + (tok t ρ).val, by omega⟩ (hd t) s d) := by
  rw [block0]
  refine Eq.trans (congrArg _ ?_) (laid_at _ _ (hd t) s d)
  blk_ext []

theorem read1 (c : Dev nD) (t : Fin cfg0.N) (s : Fin 2) (j : Fin 8192) (d : Fin 64) :
    X0_1 m c t (ix2 j ⟨s.val * 64 + d.val, by omega⟩)
      = m ((c : Thread nD τ).loc main_arg1) (ix4 (key (bat t) ⟨j.val, by omega⟩) (hd t) s d) := by
  rw [block1]
  refine Eq.trans (congrArg _ ?_) (laid_at _ (key (bat t) ⟨j.val, by omega⟩) (hd t) s d)
  blk_ext [key]
  all_goals first | omega | (split <;> omega)

theorem read3 (c : Dev nD) (t : Fin cfg0.N) (s : Fin 2) (j : Fin 256) (d : Fin 64) :
    iblk m c 3 t (ix2 j ⟨s.val * 64 + d.val, by omega⟩)
      = m ((c : Thread nD τ).loc main_arg1) (ix4 (key (bat t) ⟨8192 + j.val, by omega⟩) (hd t) s d) := by
  rw [block3]
  refine Eq.trans (congrArg _ ?_) (laid_at _ (key (bat t) ⟨8192 + j.val, by omega⟩) (hd t) s d)
  blk_ext [key]
  all_goals first | omega | (split <;> omega)

theorem read2 (c : Dev nD) (t : Fin cfg0.N) (j : Fin 8192) (e : Fin 128) :
    X0_2 m c t (ix2 j e)
      = m ((c : Thread nD τ).loc main_arg2) (ix3 (key (bat t) ⟨j.val, by omega⟩) (hd t) e) := by
  rw [block2]
  refine Eq.trans (congrArg _ ?_) (laidV_at _ (key (bat t) ⟨j.val, by omega⟩) (hd t) e)
  blk_ext [key]
  all_goals first | omega | (split <;> omega)

theorem read4 (c : Dev nD) (t : Fin cfg0.N) (j : Fin 256) (e : Fin 128) :
    iblk m c 4 t (ix2 j e)
      = m ((c : Thread nD τ).loc main_arg2) (ix3 (key (bat t) ⟨8192 + j.val, by omega⟩) (hd t) e) := by
  rw [block4]
  refine Eq.trans (congrArg _ ?_) (laidV_at _ (key (bat t) ⟨8192 + j.val, by omega⟩) (hd t) e)
  blk_ext [key]
  all_goals first | omega | (split <;> omega)

theorem load0 (X : Vec Ideal S8192x128 .bf16) (j : Fin 2048) (d : Fin 128) :
    View.ld X (Rect.unit ![0, 0] ![2048, 128] inb_S8192x128_S2048x128_0_0) (ix2 j d) = X (ix2 ⟨j.val, by omega⟩ d) := by
  pointwise

theorem load1 (X : Vec Ideal S8192x128 .bf16) (j : Fin 2048) (d : Fin 128) :
    View.ld X (Rect.unit ![2048, 0] ![2048, 128] inb_S8192x128_S2048x128_2048_0) (ix2 j d) = X (ix2 ⟨2048 + j.val, by omega⟩ d) := by
  pointwise

theorem load2 (X : Vec Ideal S8192x128 .bf16) (j : Fin 2048) (d : Fin 128) :
    View.ld X (Rect.unit ![4096, 0] ![2048, 128] inb_S8192x128_S2048x128_4096_0) (ix2 j d) = X (ix2 ⟨4096 + j.val, by omega⟩ d) := by
  pointwise

theorem load3 (X : Vec Ideal S8192x128 .bf16) (j : Fin 2048) (d : Fin 128) :
    View.ld X (Rect.unit ![6144, 0] ![2048, 128] inb_S8192x128_S2048x128_6144_0) (ix2 j d) = X (ix2 ⟨6144 + j.val, by omega⟩ d) := by
  pointwise

/-- What the body computes for the stacked rows of a point. -/
def rows (c : Dev nD) (t : Fin cfg0.N) : FVec Ideal S1024x128 .f32 :=
  let Q := k0_pay2 (F := Ideal) (iblk m c 0 t)
  let K1 := View.ld (X0_1 m c t) (Rect.unit ![0, 0] ![2048, 128] inb_S8192x128_S2048x128_0_0)
  let K2 := View.ld (X0_1 m c t) (Rect.unit ![2048, 0] ![2048, 128] inb_S8192x128_S2048x128_2048_0)
  let K3 := View.ld (X0_1 m c t) (Rect.unit ![4096, 0] ![2048, 128] inb_S8192x128_S2048x128_4096_0)
  let K4 := View.ld (X0_1 m c t) (Rect.unit ![6144, 0] ![2048, 128] inb_S8192x128_S2048x128_6144_0)
  let V1 := View.ld (X0_2 m c t) (Rect.unit ![0, 0] ![2048, 128] inb_S8192x128_S2048x128_0_0)
  let V2 := View.ld (X0_2 m c t) (Rect.unit ![2048, 0] ![2048, 128] inb_S8192x128_S2048x128_2048_0)
  let V3 := View.ld (X0_2 m c t) (Rect.unit ![4096, 0] ![2048, 128] inb_S8192x128_S2048x128_4096_0)
  let V4 := View.ld (X0_2 m c t) (Rect.unit ![6144, 0] ![2048, 128] inb_S8192x128_S2048x128_6144_0)
  k0_pay20 (F := Ideal) Q (k0_pay15 Q (k0_pay5 (iblk m c 0 t) K1) K2 K3)
    (k0_pay18 Q (k0_pay5 (iblk m c 0 t) K1) (k0_pay8 (iblk m c 0 t) K1) K2 K3)
    (k0_pay19 Q (k0_pay5 (iblk m c 0 t) K1) (k0_pay9 (iblk m c 0 t) K1 V1) K2 V2 K3 V3) K4 V4 (iblk m c 3 t) (iblk m c 4 t)

/-- The factor of the second map, over the argument arrays. -/
abbrev fac (c : Dev nD) : EReal :=
  factor (fun d => m ((c : Thread nD τ).loc main_arg3) (ix1 d)) (fun d => m ((c : Thread nD τ).loc main_arg4) (ix1 d))
    (fun d => m ((c : Thread nD τ).loc main_arg5) (ix1 d)) (fun d => m ((c : Thread nD τ).loc main_arg6) (ix1 d)) (Ideal.ofBits .f32 0x3EB60549#32)

theorem outs_at (c : Dev nD) (t : Fin cfg0.N) (ρ : Fin 512) (e : Fin 128) :
    outsAt0 m c t (ix2 ρ e) = post (fun d => rows m c t (ix2 ⟨ρ.val, by omega⟩ d) - fac m c * rows m c t (ix2 ⟨512 + ρ.val, by omega⟩ d))
      (m ((c : Thread nD τ).loc main_arg7) (ix1 e)) (Ideal.ofBits .f32 0x3F24FD5C#32) e := by
  unfold outsAt0
  frame_out
  refine (pay1_at _ _ _ _ ρ e).trans ?_
  have h21 : ∀ (Q : FVec Ideal S1024x128 .bf16) (x y a K V KC VC) (d : Fin 128), k0_pay21 (F := Ideal) Q x y a K V KC VC (ix2 ρ d)
      = k0_pay20 (F := Ideal) Q x y a K V KC VC (ix2 ⟨ρ.val, by omega⟩ d) := by
    intro Q x y a K V KC VC d
    pointwise [k0_pay21]
  have s := stack_at (m ((c : Thread nD τ).loc main_arg3)) (m ((c : Thread nD τ).loc main_arg4))
      (m ((c : Thread nD τ).loc main_arg5)) (m ((c : Thread nD τ).loc main_arg6))
  have f0 : ∀ d, iblk m c 5 t (ix2 0 d) = m ((c : Thread nD τ).loc main_arg3) (ix1 d) := fun d => (block5 m c t 0 d).trans (s d).1
  have f1 : ∀ d, iblk m c 5 t (ix2 1 d) = m ((c : Thread nD τ).loc main_arg4) (ix1 d) := fun d => (block5 m c t 1 d).trans (s d).2.1
  have f2 : ∀ d, iblk m c 5 t (ix2 2 d) = m ((c : Thread nD τ).loc main_arg5) (ix1 d) := fun d => (block5 m c t 2 d).trans (s d).2.2.1
  have f3 : ∀ d, iblk m c 5 t (ix2 3 d) = m ((c : Thread nD τ).loc main_arg6) (ix1 d) := fun d => (block5 m c t 3 d).trans (s d).2.2.2
  have f6 := block6 m c t e
  simp only [h21, f0, f1, f2, f3, f6]
  rfl

/-- Arrays whose elements are all real. -/
abbrev RealArr {s : Shape} (x : FVec Ideal s .f32) (xr : s.Idx → ℝ) : Prop := ∀ i, x i = (xr i : EReal)

/-- The score, as a real number of bits, of query row `tok t ρ` against key `j`, in map `s` of the head. -/
def bits (t : Fin cfg0.N) (ρ : Fin 512) (qr kr : S33792x4x2x64.Idx → ℝ) (s : Fin 2) (j : Fin 8448) : ℝ :=
  (∑ d : Fin 64, qr (ix4 ⟨(bat t).val * 8192 + (tok t ρ).val, by omega⟩ (hd t) s d) * kr (ix4 (key (bat t) j) (hd t) s d)) * scl

theorem half (c : Dev nD) (t : Fin cfg0.N) (s : Fin 2) (ρ : Fin 512) (e : Fin 128) (qr kr : S33792x4x2x64.Idx → ℝ)
    (hq : RealArr (m ((c : Thread nD τ).loc main_arg0)) qr) (hk : RealArr (m ((c : Thread nD τ).loc main_arg1)) kr) :
    rows m c t (ix2 ⟨s.val * 512 + ρ.val, by omega⟩ e)
      = soft (bits t ρ qr kr s) fun j => m ((c : Thread nD τ).loc main_arg2) (ix3 (key (bat t) j) (hd t) e) := by
  have q1 : ∀ d : Fin 64, iblk m c 0 t (ix2 ρ ⟨s.val * 64 + d.val, by omega⟩)
      = (qr (ix4 ⟨(bat t).val * 8192 + (tok t ρ).val, by omega⟩ (hd t) s d) : EReal) := fun d =>
    (read0 m c t s ρ d).trans (hq _)
  have key1 : ∀ (j : Fin 8192) (d : Fin 64), X0_1 m c t (ix2 j ⟨s.val * 64 + d.val, by omega⟩)
      = (kr (ix4 (key (bat t) ⟨j.val, by omega⟩) (hd t) s d) : EReal) := fun j d => (read1 m c t s j d).trans (hk _)
  exact row (iblk m c 0 t) _ _ _ _ _ _ _ _ _ _ _ _
    (bits t ρ qr kr s)
    (fun j => m ((c : Thread nD τ).loc main_arg2) (ix3 (key (bat t) j) (hd t) e))
    (fun j => score s _ _ ρ j _ _ q1 fun d => (load0 _ j _).trans (key1 _ d))
    (fun j => score s _ _ ρ j _ _ q1 fun d => (load1 _ j _).trans (key1 _ d))
    (fun j => score s _ _ ρ j _ _ q1 fun d => (load2 _ j _).trans (key1 _ d))
    (fun j => score s _ _ ρ j _ _ q1 fun d => (load3 _ j _).trans (key1 _ d))
    (fun j => score s _ _ ρ j _ _ q1 fun d => (read3 m c t s j d).trans (hk _))
    (fun j => (load0 _ j _).trans (read2 m c t _ e))
    (fun j => (load1 _ j _).trans (read2 m c t _ e))
    (fun j => (load2 _ j _).trans (read2 m c t _ e))
    (fun j => (load3 _ j _).trans (read2 m c t _ e))
    (fun j => read4 m c t j e)

theorem scores_real (c : Dev nD) (t : Fin cfg0.N) (ρ : Fin 512) (qr kr : S33792x4x2x64.Idx → ℝ)
    (hq : RealArr (m ((c : Thread nD τ).loc main_arg0)) qr) (hk : RealArr (m ((c : Thread nD τ).loc main_arg1)) kr) (s : Fin 2) (j : Fin 8448) :
    Cert.Proof.DiffRef.scores (m ((c : Thread nD τ).loc main_arg0)) (m ((c : Thread nD τ).loc main_arg1)) (ix5 (bat t) (hd t) s (tok t ρ) j)
      = ((bits t ρ qr kr s j * Real.log 2 : ℝ) : EReal) := by
  rw [Cert.Proof.DiffRef.scores_at]
  have hl : Real.log 2 ≠ 0 := (Real.log_pos (by norm_num)).ne'
  simp only [show ∀ i, m ((c : Thread nD τ).loc main_arg0) i = (qr i : EReal) from hq,
    show ∀ i, m ((c : Thread nD τ).loc main_arg1) i = (kr i : EReal) from hk]
  simp only [← EReal.coe_mul]
  rw [coe_sum, ← EReal.coe_mul]
  congr 1
  unfold bits scl
  field_simp

/-- The reference's result over a core's argument arrays. -/
abbrev goal (c : Dev nD) : FVec Ideal S32768x512 .bf16 :=
  Cert.Proof.DiffRef.want (m ((c : Thread nD τ).loc main_arg0)) (m ((c : Thread nD τ).loc main_arg1))
    (m ((c : Thread nD τ).loc main_arg2)) (m ((c : Thread nD τ).loc main_arg3)) (m ((c : Thread nD τ).loc main_arg4))
    (m ((c : Thread nD τ).loc main_arg5)) (m ((c : Thread nD τ).loc main_arg6)) (m ((c : Thread nD τ).loc main_arg7))

theorem point (c : Dev nD) (t : Fin cfg0.N) (ρ : Fin 512) (e : Fin 128) (qr kr : S33792x4x2x64.Idx → ℝ)
    (hq : RealArr (m ((c : Thread nD τ).loc main_arg0)) qr) (hk : RealArr (m ((c : Thread nD τ).loc main_arg1)) kr)
    (vr : S33792x4x128.Idx → ℝ) (hv : RealArr (m ((c : Thread nD τ).loc main_arg2)) vr) (lr : ℝ) (hl : fac m c = (lr : EReal)) :
    outsAt0 m c t (ix2 ρ e) = goal m c (((cfg0.win 7).blk t).view.emb (ix2 ρ e)) := by
  rw [outs_at, place7]
  have h0 := fun d => half m c t 0 ρ d qr kr hq hk
  have h1 := fun d => half m c t 1 ρ d qr kr hq hk
  have r0 : (⟨ρ.val, by omega⟩ : Fin 1024) = ⟨(0 : Fin 2).val * 512 + ρ.val, by simp; omega⟩ := by simp
  have r1 : (⟨512 + ρ.val, by omega⟩ : Fin 1024) = ⟨(1 : Fin 2).val * 512 + ρ.val, by simp; omega⟩ := by simp
  rw [r0, r1]
  simp only [h0, h1]
  refine (Cert.Proof.DiffRef.want_soft _ _ _ _ _ _ _ _ (bat t) (tok t ρ) (hd t) e _ (fun s j => scores_real m c t ρ qr kr hq hk s j)
    vr hv lr (fac m c) rfl hl).symm.trans ?_
  refine congrArg _ ?_
  blk_ext []

/-- The result array after the run. -/
theorem final (c : Dev nD) (qr kr : S33792x4x2x64.Idx → ℝ)
    (hq : RealArr (m ((c : Thread nD τ).loc main_arg0)) qr) (hk : RealArr (m ((c : Thread nD τ).loc main_arg1)) kr)
    (vr : S33792x4x128.Idx → ℝ) (hv : RealArr (m ((c : Thread nD τ).loc main_arg2)) vr)
    (ar br xr yr : S64.Idx → ℝ) (ha : RealArr (m ((c : Thread nD τ).loc main_arg3)) ar) (hb : RealArr (m ((c : Thread nD τ).loc main_arg4)) br)
    (hx : RealArr (m ((c : Thread nD τ).loc main_arg5)) xr) (hy : RealArr (m ((c : Thread nD τ).loc main_arg6)) yr) :
    (dats m 0 c).arrAt 7 cfg0.N = goal m c := by
  obtain ⟨lr, hl⟩ : ∃ l : ℝ, fac m c = (l : EReal) := factor_real _ _ _ _ _ (fun d => ar (ix1 d)) (fun d => br (ix1 d))
    (fun d => xr (ix1 d)) (fun d => yr (ix1 d)) _ (fun _ => ha _) (fun _ => hb _) (fun _ => hx _) (fun _ => hy _) Cert.Proof.DiffRef.init_word
  refine (dats m 0 c).arrAt_eq_of_covers 7 _ (by decide +kernel) fun t _ y => ?_
  blk_simp
  rw [after0_7]
  idx_vars y
  exact point m c t _ _ qr kr hq hk vr hv lr hl

end Cert.Proof.Diff

end
-- ==== Proof.FirstPay.lean ====
/-
  The first layer's differential attention's payloads, read at an index: each is a step of the chunked softmax over the scores of a row.
-/
module

public import proofs.«01_k».proof.Proof.Softmax
public import proofs.«01_k».proof.Proof.Gen.Kernel5Ideal.Value
public import Idealize.ShloMosaic.Lib.Pipeline.ValueKit

@[expose] public section

set_option maxRecDepth 16384

noncomputable section

open Idealize.ShloMosaic Idealize.ShloMosaic.TcCoe Idealize.SL.Sem

namespace Cert.Proof.First

open Cert.Kernel5Ideal Cert.Kernel5Ideal.Gen Cert.Proof.Softmax

/-- The score of a query row against a key row. -/
def sc {n : ℕ} (Q : FVec Ideal S1024x128 .bf16) (K : Shape.Idx ⟨2, ![n, 128]⟩ → EReal) (r : Fin 1024) (j : Fin n) : EReal :=
  ∑ d : Fin 128, Q (ix2 r d) * K (ix2 j d)

theorem pay3_at (r : Fin 1024) : k0_pay3 (F := Ideal) (ix2 r 0) = ⊥ := by
  pointwise [k0_pay3]
  exact IdealRules.named_const.ideal_named_scalar _ _ _ _ rfl

theorem col1024 (x : FVec Ideal S1024 .f32) (r : Fin 1024) :
    shapeCast S1024x1 x shapeCasts_S1024_S1024x1 (ix2 r 0) = x (ix1 r) := by
  pointwise

theorem ninf : Ideal.ofBits .f32 0xFF800000#32 = ⊥ := by
  simp [Ideal.ofBits, Ideal.ieee]

theorem max2048 (x : FVec Ideal S1024x2048 .f32) (h h' h'') (r : Fin 1024) :
    multiReduction .maximumf [1] S1024 x 0xFF800000#32 h h' h'' (ix1 r)
      = Finset.univ.fold max ⊥ fun k : Fin 2048 => x (ix2 r k) := by
  pointwise
  rw [ninf]

theorem max256 (x : FVec Ideal S1024x256 .f32) (h h' h'') (r : Fin 1024) :
    multiReduction .maximumf [1] S1024 x 0xFF800000#32 h h' h'' (ix1 r)
      = Finset.univ.fold max ⊥ fun k : Fin 256 => x (ix2 r k) := by
  pointwise
  rw [ninf]

theorem colmax2048 (m : FVec Ideal S1024x1 .f32) (x : FVec Ideal S1024x2048 .f32) (h h' h'') (r : Fin 1024) :
    maximumf m (shapeCast S1024x1 (multiReduction .maximumf [1] S1024 x 0xFF800000#32 h h' h'') shapeCasts_S1024_S1024x1) (ix2 r 0)
      = stepM (m (ix2 r 0)) fun k => x (ix2 r k) := by
  have e := (col1024 (multiReduction .maximumf [1] S1024 x 0xFF800000#32 h h' h'') r).trans (max2048 x h h' h'' r)
  unfold stepM
  rw [← e]
  rfl

theorem colmax256 (m : FVec Ideal S1024x1 .f32) (x : FVec Ideal S1024x256 .f32) (h h' h'') (r : Fin 1024) :
    maximumf m (shapeCast S1024x1 (multiReduction .maximumf [1] S1024 x 0xFF800000#32 h h' h'') shapeCasts_S1024_S1024x1) (ix2 r 0)
      = stepM (m (ix2 r 0)) fun k => x (ix2 r k) := by
  have e := (col1024 (multiReduction .maximumf [1] S1024 x 0xFF800000#32 h h' h'') r).trans (max256 x h h' h'' r)
  unfold stepM
  rw [← e]
  rfl

section Chunks

variable (v0 : FVec Ideal S512x128 .bf16) (Q : FVec Ideal S1024x128 .bf16) (m l : FVec Ideal S1024x1 .f32)
  (a : FVec Ideal S1024x128 .f32) (K K2 K3 K4 : FVec Ideal S2048x128 .bf16) (V V2 V3 V4 : FVec Ideal S2048x128 .bf16)
  (KC : FVec Ideal S256x128 .bf16) (VC : FVec Ideal S256x128 .bf16) (r : Fin 1024) (e : Fin 128)

theorem pay4_at (j : Fin 2048) : k0_pay4 (F := Ideal) v0 K (ix2 r j) = sc (k0_pay2 v0) K r j := by
  pointwise [k0_pay4]
  rfl

theorem pay10_at (j : Fin 2048) : k0_pay10 (F := Ideal) Q K (ix2 r j) = sc Q K r j := by
  pointwise [k0_pay10]
  rfl

theorem pay14_at (j : Fin 2048) : k0_pay14 (F := Ideal) Q K (ix2 r j) = sc Q K r j := by
  pointwise [k0_pay14]
  rfl

theorem pay5_at : k0_pay5 (F := Ideal) v0 K (ix2 r 0) = stepM ⊥ (sc (k0_pay2 v0) K r) := by
  refine (colmax2048 (k0_pay3 (F := Ideal)) (k0_pay4 (F := Ideal) v0 K) _ _ _ r).trans ?_
  rw [pay3_at]
  exact congrArg (stepM ⊥) (funext fun j => pay4_at v0 K r j)

theorem pay11_at : k0_pay11 (F := Ideal) Q m K (ix2 r 0) = stepM (m (ix2 r 0)) (sc Q K r) := by
  refine (colmax2048 m (k0_pay10 (F := Ideal) Q K) _ _ _ r).trans ?_
  exact congrArg (stepM _) (funext fun j => pay10_at Q K r j)

theorem pay15_at : k0_pay15 (F := Ideal) Q m K K2 (ix2 r 0) = stepM (stepM (m (ix2 r 0)) (sc Q K r)) (sc Q K2 r) := by
  refine (colmax2048 (k0_pay11 (F := Ideal) Q m K) (k0_pay14 (F := Ideal) Q K2) _ _ _ r).trans ?_
  rw [pay11_at]
  exact congrArg (stepM _) (funext fun j => pay14_at Q K2 r j)

theorem pay8_at : k0_pay8 (F := Ideal) v0 K (ix2 r 0) = stepL ⊥ 0 (sc (k0_pay2 v0) K r) := by
  pointwise [k0_pay8, k0_pay7, k0_pay6]
  simp only [pay4_at, pay3_at, pay5_at]
  rfl

theorem pay9_at : k0_pay9 (F := Ideal) v0 K V (ix2 r e) = stepA ⊥ 0 (sc (k0_pay2 v0) K r) fun j => V (ix2 j e) := by
  pointwise [k0_pay9, k0_pay7, k0_pay6]
  simp only [pay4_at, pay3_at, pay5_at]
  rfl

theorem pay18_at : k0_pay18 (F := Ideal) Q m l K K2 (ix2 r 0)
    = stepL (stepM (m (ix2 r 0)) (sc Q K r)) (stepL (m (ix2 r 0)) (l (ix2 r 0)) (sc Q K r)) (sc Q K2 r) := by
  pointwise [k0_pay18, k0_pay17, k0_pay16, k0_pay13, k0_pay12]
  simp only [pay10_at, pay14_at, pay11_at, pay15_at]
  rfl

theorem pay19_at : k0_pay19 (F := Ideal) Q m a K V K2 V2 (ix2 r e)
    = stepA (stepM (m (ix2 r 0)) (sc Q K r)) (stepA (m (ix2 r 0)) (a (ix2 r e)) (sc Q K r) fun j => V (ix2 j e)) (sc Q K2 r)
        fun j => V2 (ix2 j e) := by
  pointwise [k0_pay19, k0_pay17, k0_pay16, k0_pay13, k0_pay12]
  simp only [pay10_at, pay14_at, pay11_at, pay15_at]
  rfl

/-! The last two chunks stand in one payload, with the division; it is taken apart here. -/

def l4 : FVec Ideal S1024x1 .f32 :=
  addf (mulf (k0_pay13 Q m K) l) (shapeCast S1024x1 (multiReduction .add [1] S1024 (k0_pay12 Q m K) 0x00000000#32 reduces_S1024x2048_S1024 (.inl rfl) rfl) shapeCasts_S1024_S1024x1)

def a4 : FVec Ideal S1024x128 .f32 :=
  addf (mulf (broadcastTo S1024x128 (k0_pay13 Q m K) broadcasts_S1024x1_S1024x128) a)
    (matmul dot_S1024x2048_S2048x128_S1024x128_1_0_0_1_n_n none (truncf .bf16 (k0_pay12 Q m K) bitsLt_bf16_f32)
      (shapeCast S2048x128 V shapeCasts_S2048x128_S2048x128) (constant S1024x128 .f32 0x00000000#32))

def s5 : FVec Ideal S1024x256 .f32 :=
  matmul dot_S1024x128_S256x128_S1024x256_1_1_0_0_n_n none Q (shapeCast S256x128 KC shapeCasts_S256x128_S256x128) (constant S1024x256 .f32 0x00000000#32)

def m5 : FVec Ideal S1024x1 .f32 :=
  maximumf m (shapeCast S1024x1 (multiReduction .maximumf [1] S1024 (s5 Q KC) 0xFF800000#32 reduces_S1024x256_S1024 (.inl rfl) rfl) shapeCasts_S1024_S1024x1)

def w5 : FVec Ideal S1024x256 .f32 :=
  exp2 (subf (s5 Q KC) (broadcastTo S1024x256 (m5 Q m KC) broadcasts_S1024x1_S1024x256))

def c5 : FVec Ideal S1024x1 .f32 := exp2 (subf m (m5 Q m KC))

def l5 : FVec Ideal S1024x1 .f32 :=
  addf (mulf (c5 Q m KC) l) (shapeCast S1024x1 (multiReduction .add [1] S1024 (w5 Q m KC) 0x00000000#32 reduces_S1024x256_S1024 (.inl rfl) rfl) shapeCasts_S1024_S1024x1)

def a5 : FVec Ideal S1024x128 .f32 :=
  addf (mulf (broadcastTo S1024x128 (c5 Q m KC) broadcasts_S1024x1_S1024x128) a)
    (matmul dot_S1024x256_S256x128_S1024x128_1_0_0_1_n_n none (truncf .bf16 (w5 Q m KC) bitsLt_bf16_f32)
      (shapeCast S256x128 VC shapeCasts_S256x128_S256x128) (constant S1024x128 .f32 0x00000000#32))

theorem pay20_eq : k0_pay20 (F := Ideal) Q m l a K V KC VC
    = divf (a5 Q (k0_pay11 Q m K) (a4 Q m a K V) KC VC)
        (broadcastTo S1024x128 (l5 Q (k0_pay11 Q m K) (l4 Q m l K) KC) broadcasts_S1024x1_S1024x128) := rfl

theorem l4_at : l4 Q m l K (ix2 r 0) = stepL (m (ix2 r 0)) (l (ix2 r 0)) (sc Q K r) := by
  pointwise [l4, k0_pay13, k0_pay12]
  simp only [pay10_at, pay11_at]
  rfl

theorem a4_at : a4 Q m a K V (ix2 r e) = stepA (m (ix2 r 0)) (a (ix2 r e)) (sc Q K r) fun j => V (ix2 j e) := by
  pointwise [a4, k0_pay13, k0_pay12]
  simp only [pay10_at, pay11_at]
  rfl

theorem s5_at (j : Fin 256) : s5 Q KC (ix2 r j) = sc Q KC r j := by
  pointwise [s5]
  rfl

theorem m5_at : m5 Q m KC (ix2 r 0) = stepM (m (ix2 r 0)) (sc Q KC r) := by
  refine (colmax256 m (s5 Q KC) _ _ _ r).trans ?_
  exact congrArg (stepM _) (funext fun j => s5_at Q KC r j)

theorem l5_at : l5 Q m l KC (ix2 r 0) = stepL (m (ix2 r 0)) (l (ix2 r 0)) (sc Q KC r) := by
  pointwise [l5, c5, w5]
  simp only [s5_at, m5_at]
  rfl

theorem a5_at : a5 Q m a KC VC (ix2 r e) = stepA (m (ix2 r 0)) (a (ix2 r e)) (sc Q KC r) fun j => VC (ix2 j e) := by
  pointwise [a5, c5, w5]
  simp only [s5_at, m5_at]
  rfl

theorem pay20_at : k0_pay20 (F := Ideal) Q m l a K V KC VC (ix2 r e)
    = Ideal.div (stepA (stepM (m (ix2 r 0)) (sc Q K r)) (stepA (m (ix2 r 0)) (a (ix2 r e)) (sc Q K r) fun j => V (ix2 j e))
          (sc Q KC r) fun j => VC (ix2 j e))
        (stepL (stepM (m (ix2 r 0)) (sc Q K r)) (stepL (m (ix2 r 0)) (l (ix2 r 0)) (sc Q K r)) (sc Q KC r)) := by
  rw [pay20_eq]
  pointwise
  simp only [a5_at, l5_at, a4_at, l4_at, pay11_at]
  try rfl

end Chunks

end Cert.Proof.First

end
-- ==== Proof.FirstRow.lean ====
/-
  A row and a column of the first layer's differential attention's block: five chunks of the chunked softmax are the softmax.
-/
module

public import proofs.«01_k».proof.Proof.FirstPay

@[expose] public section

set_option maxRecDepth 16384

noncomputable section

open Idealize.ShloMosaic Idealize.ShloMosaic.TcCoe Idealize.SL.Sem

namespace Cert.Proof.First

open Cert.Kernel5Ideal Cert.Kernel5Ideal.Gen Cert.Proof.Softmax

theorem row (v0 : FVec Ideal S512x128 .bf16) (K1 K2 K3 K4 : FVec Ideal S2048x128 .bf16) (V1 V2 V3 V4 : FVec Ideal S2048x128 .bf16)
    (KC : FVec Ideal S256x128 .bf16) (VC : FVec Ideal S256x128 .bf16) (r : Fin 1024) (e : Fin 128)
    (σ : Fin 8448 → ℝ) (v : Fin 8448 → EReal)
    (h1 : ∀ j : Fin 2048, sc (k0_pay2 v0) K1 r j = (σ ⟨j.val, by omega⟩ : EReal))
    (h2 : ∀ j : Fin 2048, sc (k0_pay2 v0) K2 r j = (σ ⟨2048 + j.val, by omega⟩ : EReal))
    (h3 : ∀ j : Fin 2048, sc (k0_pay2 v0) K3 r j = (σ ⟨4096 + j.val, by omega⟩ : EReal))
    (h4 : ∀ j : Fin 2048, sc (k0_pay2 v0) K4 r j = (σ ⟨6144 + j.val, by omega⟩ : EReal))
    (h5 : ∀ j : Fin 256, sc (k0_pay2 v0) KC r j = (σ ⟨8192 + j.val, by omega⟩ : EReal))
    (g1 : ∀ j : Fin 2048, V1 (ix2 j e) = v ⟨j.val, by omega⟩)
    (g2 : ∀ j : Fin 2048, V2 (ix2 j e) = v ⟨2048 + j.val, by omega⟩)
    (g3 : ∀ j : Fin 2048, V3 (ix2 j e) = v ⟨4096 + j.val, by omega⟩)
    (g4 : ∀ j : Fin 2048, V4 (ix2 j e) = v ⟨6144 + j.val, by omega⟩)
    (g5 : ∀ j : Fin 256, VC (ix2 j e) = v ⟨8192 + j.val, by omega⟩) :
    k0_pay20 (F := Ideal) (k0_pay2 v0) (k0_pay15 (k0_pay2 v0) (k0_pay5 v0 K1) K2 K3)
        (k0_pay18 (k0_pay2 v0) (k0_pay5 v0 K1) (k0_pay8 v0 K1) K2 K3)
        (k0_pay19 (k0_pay2 v0) (k0_pay5 v0 K1) (k0_pay9 v0 K1 V1) K2 V2 K3 V3) K4 V4 KC VC (ix2 r e)
      = soft σ v := by
  rw [pay20_at, pay15_at, pay18_at, pay19_at, pay5_at, pay8_at, pay9_at]
  have s1 := Good.first (sc (k0_pay2 v0) K1 r) (fun j => V1 (ix2 j e)) _ h1
  have s2 := s1.step (sc (k0_pay2 v0) K2 r) (fun j => V2 (ix2 j e)) _ h2
  have s3 := s2.step (sc (k0_pay2 v0) K3 r) (fun j => V3 (ix2 j e)) _ h3
  have s4 := s3.step (sc (k0_pay2 v0) K4 r) (fun j => V4 (ix2 j e)) _ h4
  have s5 := s4.step (sc (k0_pay2 v0) KC r) (fun j => VC (ix2 j e)) _ h5
  refine s5.div_eq_soft σ v ?_ ?_
  · exact (sum_chunks fun j => pw (σ j - 0)).symm
  · have e := sum_chunks fun j => pw (σ j - 0) * v j
    simp only [wsum, g1, g2, g3, g4, g5]
    exact e.symm

end Cert.Proof.First

end
-- ==== Proof.FirstIn.lean ====
/-
  The first layer's differential attention's windows: what each input block holds of the argument arrays at a grid point.

  A point is a batch, a head and a block of 512 query rows.  The host code lays the heads, and a head's two maps, side by
  side, and stacks the four vectors the factor is made of.
-/
module

public import proofs.«01_k».proof.Proof.FirstRow

@[expose] public section

set_option maxRecDepth 16384

noncomputable section

open Idealize.ShloMosaic Idealize.ShloMosaic.TcCoe Idealize.SL.Sem
open Idealize.ShloMosaic.Pipeline (Dat)

namespace Cert.Proof.First

open Cert.Kernel5Ideal Cert.Kernel5Ideal.Gen Cert.Proof.Softmax

variable (m : (ℓ : Loc nD τ sig) → Buf (Elt Ideal) ℓ)

/-- Queries or keys as the host code lays them out. -/
abbrev laid (x : FVec Ideal S33792x4x2x64 .f32) : FVec Ideal S33792x512 .bf16 :=
  truncf .bf16 (shapeCast S33792x512 x shapeCasts_S33792x4x2x64_S33792x512) bitsLt_bf16_f32

/-- Values as the host code lays them out. -/
abbrev laidV (x : FVec Ideal S33792x4x128 .f32) : FVec Ideal S33792x512 .bf16 :=
  truncf .bf16 (shapeCast S33792x512 x shapeCasts_S33792x4x128_S33792x512) bitsLt_bf16_f32

/-- The four vectors of the factor, stacked. -/
abbrev stack (a b x y : FVec Ideal S64 .f32) : FVec Ideal S4x64 .f32 :=
  concatenate S4x64 0 [⟨S1x64, broadcastInDim S1x64 ![1] bcast_S64_S1x64_1 a⟩, ⟨S1x64, broadcastInDim S1x64 ![1] bcast_S64_S1x64_1 b⟩, ⟨S1x64, broadcastInDim S1x64 ![1] bcast_S64_S1x64_1 x⟩, ⟨S1x64, broadcastInDim S1x64 ![1] bcast_S64_S1x64_1 y⟩] concatenates_S1x64_S1x64_S1x64_S1x64_S4x64_d0

theorem laid_at (x : FVec Ideal S33792x4x2x64 .f32) (R : Fin 33792) (h : Fin 4) (s : Fin 2) (d : Fin 64) :
    laid x (ix2 R ⟨h.val * 128 + s.val * 64 + d.val, by omega⟩) = x (ix4 R h s d) := by
  pointwise [laid]
  blk_ext []

theorem laidV_at (x : FVec Ideal S33792x4x128 .f32) (R : Fin 33792) (h : Fin 4) (e : Fin 128) :
    laidV x (ix2 R ⟨h.val * 128 + e.val, by omega⟩) = x (ix3 R h e) := by
  pointwise [laidV]
  blk_ext []

theorem stack_at (a b x y : FVec Ideal S64 .f32) (d : Fin 64) :
    stack a b x y (ix2 0 d) = a (ix1 d) ∧ stack a b x y (ix2 1 d) = b (ix1 d)
      ∧ stack a b x y (ix2 2 d) = x (ix1 d) ∧ stack a b x y (ix2 3 d) = y (ix1 d) := by
  refine ⟨?_, ?_, ?_, ?_⟩
  · pointwise [stack]
  · pointwise [stack]
  · pointwise [stack]
  · pointwise [stack]

theorem gain_at (x : FVec Ideal S128 .f32) (e : Fin 128) :
    broadcastInDim S1x128 ![1] bcast_S128_S1x128_1 x (ix2 0 e) = x (ix1 e) := by
  pointwise

theorem entry_v1 (c : Dev nD) : V m c main_v1 = laid (m ((c : Thread nD τ).loc main_arg0)) := by
  simp only [V, List.flatten_cons, List.flatten_nil, List.append_nil, List.cons_append, List.nil_append]
  after_results_simp <;> rfl

theorem entry_v3 (c : Dev nD) : V m c main_v3 = laid (m ((c : Thread nD τ).loc main_arg1)) := by
  simp only [V, List.flatten_cons, List.flatten_nil, List.append_nil, List.cons_append, List.nil_append]
  after_results_simp <;> rfl

theorem entry_v5 (c : Dev nD) : V m c main_v5 = laidV (m ((c : Thread nD τ).loc main_arg2)) := by
  simp only [V, List.flatten_cons, List.flatten_nil, List.append_nil, List.cons_append, List.nil_append]
  after_results_simp <;> rfl

theorem entry_v10 (c : Dev nD) : V m c main_v10 = stack (m ((c : Thread nD τ).loc main_arg3)) (m ((c : Thread nD τ).loc main_arg4))
    (m ((c : Thread nD τ).loc main_arg5)) (m ((c : Thread nD τ).loc main_arg6)) := by
  simp only [V, List.flatten_cons, List.flatten_nil, List.append_nil, List.cons_append, List.nil_append]
  after_results_simp <;> rfl

theorem entry_v11 (c : Dev nD) : V m c main_v11 = (broadcastInDim S1x128 ![1] bcast_S128_S1x128_1 (m ((c : Thread nD τ).loc main_arg7)) : FVec Ideal S1x128 .f32) := by
  simp only [V, List.flatten_cons, List.flatten_nil, List.append_nil, List.cons_append, List.nil_append]
  after_results_simp <;> rfl

/-- Where each window's block sits at every point. -/
theorem idx : ∀ t : Fin cfg0.N, win0_0.index t = ![(t : ℕ) / 64 * 16 + (t : ℕ) % 16, (t : ℕ) / 16 % 4]
    ∧ win0_1.index t = ![(t : ℕ) / 64, (t : ℕ) / 16 % 4] ∧ win0_2.index t = ![(t : ℕ) / 64, (t : ℕ) / 16 % 4]
    ∧ win0_3.index t = ![128 + (t : ℕ) / 64, (t : ℕ) / 16 % 4] ∧ win0_4.index t = ![128 + (t : ℕ) / 64, (t : ℕ) / 16 % 4]
    ∧ win0_5.index t = ![0, 0] ∧ win0_6.index t = ![0, 0]
    ∧ win0_7.index t = ![(t : ℕ) / 64 * 16 + (t : ℕ) % 16, (t : ℕ) / 16 % 4] :=
  (by decide +kernel : ∀ t : Fin grid0.N, _)

theorem lt_points (t : Fin cfg0.N) : (t : ℕ) < 256 := by
  have h : cfg0.N = 256 := by decide +kernel
  omega

theorem place0 (t : Fin cfg0.N) (ρ : Fin 512) (d : Fin 128) :
    ((cfg0.win 0).blk t).view.emb (ix2 ρ d) = ix2 ⟨(t.val / 64 * 16 + t.val % 16) * 512 + ρ.val, by have := lt_points t; omega⟩
      ⟨t.val / 16 % 4 * 128 + d.val, by omega⟩ := by
  blk_ext [idx t]

theorem place3 (t : Fin cfg0.N) (ρ : Fin 256) (d : Fin 128) :
    ((cfg0.win 3).blk t).view.emb (ix2 ρ d) = ix2 ⟨(128 + t.val / 64) * 256 + ρ.val, by have := lt_points t; omega⟩
      ⟨t.val / 16 % 4 * 128 + d.val, by omega⟩ := by
  blk_ext [idx t]

theorem place4 (t : Fin cfg0.N) (ρ : Fin 256) (d : Fin 128) :
    ((cfg0.win 4).blk t).view.emb (ix2 ρ d) = ix2 ⟨(128 + t.val / 64) * 256 + ρ.val, by have := lt_points t; omega⟩
      ⟨t.val / 16 % 4 * 128 + d.val, by omega⟩ := by
  blk_ext [idx t]

theorem place7 (t : Fin cfg0.N) (ρ : Fin 512) (d : Fin 128) :
    ((cfg0.win 7).blk t).view.emb (ix2 ρ d) = ix2 ⟨(t.val / 64 * 16 + t.val % 16) * 512 + ρ.val, by have := lt_points t; omega⟩
      ⟨t.val / 16 % 4 * 128 + d.val, by omega⟩ := by
  blk_ext [idx t]

theorem block0 (c : Dev nD) (t : Fin cfg0.N) (ρ : Fin 512) (d : Fin 128) :
    iblk m c 0 t (ix2 ρ d) = laid (m ((c : Thread nD τ).loc main_arg0))
      (ix2 ⟨(t.val / 64 * 16 + t.val % 16) * 512 + ρ.val, by have := lt_points t; omega⟩ ⟨t.val / 16 % 4 * 128 + d.val, by omega⟩) := by
  unfold iblk
  change V m c main_v1 (((cfg0.win 0).blk t).view.emb _) = _
  rw [entry_v1, place0]

theorem block3 (c : Dev nD) (t : Fin cfg0.N) (ρ : Fin 256) (d : Fin 128) :
    iblk m c 3 t (ix2 ρ d) = laid (m ((c : Thread nD τ).loc main_arg1))
      (ix2 ⟨(128 + t.val / 64) * 256 + ρ.val, by have := lt_points t; omega⟩ ⟨t.val / 16 % 4 * 128 + d.val, by omega⟩) := by
  unfold iblk
  change V m c main_v3 (((cfg0.win 3).blk t).view.emb _) = _
  rw [entry_v3, place3]

theorem block4 (c : Dev nD) (t : Fin cfg0.N) (ρ : Fin 256) (d : Fin 128) :
    iblk m c 4 t (ix2 ρ d) = laidV (m ((c : Thread nD τ).loc main_arg2))
      (ix2 ⟨(128 + t.val / 64) * 256 + ρ.val, by have := lt_points t; omega⟩ ⟨t.val / 16 % 4 * 128 + d.val, by omega⟩) := by
  unfold iblk
  change V m c main_v5 (((cfg0.win 4).blk t).view.emb _) = _
  rw [entry_v5, place4]

theorem block1 (c : Dev nD) (t : Fin cfg0.N) (ρ : Fin 8192) (d : Fin 128) :
    X0_1 m c t (ix2 ρ d) = laid (m ((c : Thread nD τ).loc main_arg1))
      (ix2 ⟨t.val / 64 * 8192 + ρ.val, by have := lt_points t; omega⟩ ⟨t.val / 16 % 4 * 128 + d.val, by omega⟩) := by
  unfold X0_1 Pipeline.Window.fill
  rw [dif_pos (moved0_1 t _)]
  unfold iblk
  change V m c main_v3 (((cfg0.win 1).blk t).view.emb _) = _
  rw [entry_v3]
  congr 1
  blk_ext [idx t]

theorem block2 (c : Dev nD) (t : Fin cfg0.N) (ρ : Fin 8192) (d : Fin 128) :
    X0_2 m c t (ix2 ρ d) = laidV (m ((c : Thread nD τ).loc main_arg2))
      (ix2 ⟨t.val / 64 * 8192 + ρ.val, by have := lt_points t; omega⟩ ⟨t.val / 16 % 4 * 128 + d.val, by omega⟩) := by
  unfold X0_2 Pipeline.Window.fill
  rw [dif_pos (moved0_2 t _)]
  unfold iblk
  change V m c main_v5 (((cfg0.win 2).blk t).view.emb _) = _
  rw [entry_v5]
  congr 1
  blk_ext [idx t]

theorem place5 (t : Fin cfg0.N) (r : Fin 4) (d : Fin 64) : ((cfg0.win 5).blk t).view.emb (ix2 r d) = ix2 r d := by
  blk_ext [idx t]

theorem place6 (t : Fin cfg0.N) (d : Fin 128) : ((cfg0.win 6).blk t).view.emb (ix2 0 d) = ix2 0 d := by
  blk_ext [idx t]

theorem block5 (c : Dev nD) (t : Fin cfg0.N) (r : Fin 4) (d : Fin 64) :
    iblk m c 5 t (ix2 r d) = stack (m ((c : Thread nD τ).loc main_arg3)) (m ((c : Thread nD τ).loc main_arg4))
      (m ((c : Thread nD τ).loc main_arg5)) (m ((c : Thread nD τ).loc main_arg6)) (ix2 r d) := by
  unfold iblk
  change V m c main_v10 (((cfg0.win 5).blk t).view.emb _) = _
  rw [entry_v10, place5]

theorem block6 (c : Dev nD) (t : Fin cfg0.N) (e : Fin 128) :
    iblk m c 6 t (ix2 0 e) = m ((c : Thread nD τ).loc main_arg7) (ix1 e) := by
  unfold iblk
  change V m c main_v11 (((cfg0.win 6).blk t).view.emb _) = _
  rw [entry_v11, place6]
  exact gain_at _ e

end Cert.Proof.First

end
-- ==== Proof.FirstRef.lean ====
/-
  The reference's differential attention in the first layer, read at an index: the difference of two softmaxes of a query row, times the values, normed.
-/
module

public import proofs.«01_k».proof.Proof.DiffMath
public import proofs.«01_k».proof.Proof.Gen.Reference5Ideal.Run
public import Idealize.ShloMosaic.Lib.Pipeline.ValueKit

@[expose] public section

set_option maxRecDepth 16384

noncomputable section

open Idealize.ShloMosaic Idealize.ShloMosaic.TcCoe Idealize.SL.Sem

namespace Cert.Proof.FirstRef

open Cert.Reference5Ideal Cert.Reference5Ideal.Gen Cert.Proof.Softmax

variable (q k : FVec Ideal S33792x4x2x64 .f32) (v : FVec Ideal S33792x4x128 .f32) (a b x y : FVec Ideal S64 .f32) (g : FVec Ideal S128 .f32)

/-- The row of key `j` of a batch: the batch's tokens, then its context. -/
def key (b : Fin 4) (j : Fin 8448) : Fin 33792 :=
  ⟨if j.val < 8192 then b.val * 8192 + j.val else 32768 + b.val * 256 + (j.val - 8192), by split <;> omega⟩

def qs : FVec Ideal S4x8192x4x2x64 .f32 :=
  shapeCast _ (extractStridedSlice S32768x4x2x64 ![0, 0, 0, 0] q slices_S33792x4x2x64_S32768x4x2x64_0_0_0_0) shapeCasts_S32768x4x2x64_S4x8192x4x2x64

def ks : FVec Ideal S4x8448x4x2x64 .f32 :=
  concatenate S4x8448x4x2x64 1 [⟨S4x8192x4x2x64, (shapeCast _ (extractStridedSlice S32768x4x2x64 ![0, 0, 0, 0] k slices_S33792x4x2x64_S32768x4x2x64_0_0_0_0) shapeCasts_S32768x4x2x64_S4x8192x4x2x64)⟩, ⟨S4x256x4x2x64, (shapeCast _ (extractStridedSlice S1024x4x2x64 ![32768, 0, 0, 0] k slices_S33792x4x2x64_S1024x4x2x64_32768_0_0_0) shapeCasts_S1024x4x2x64_S4x256x4x2x64)⟩] concatenates_S4x8192x4x2x64_S4x256x4x2x64_S4x8448x4x2x64_d1

def vs : FVec Ideal S4x8448x4x128 .f32 :=
  concatenate S4x8448x4x128 1 [⟨S4x8192x4x128, (shapeCast _ (extractStridedSlice S32768x4x128 ![0, 0, 0] v slices_S33792x4x128_S32768x4x128_0_0_0) shapeCasts_S32768x4x128_S4x8192x4x128)⟩, ⟨S4x256x4x128, (shapeCast _ (extractStridedSlice S1024x4x128 ![32768, 0, 0] v slices_S33792x4x128_S1024x4x128_32768_0_0) shapeCasts_S1024x4x128_S4x256x4x128)⟩] concatenates_S4x8192x4x128_S4x256x4x128_S4x8448x4x128_d1

def scores : FVec Ideal S4x4x2x8192x8448 .f32 :=
  mulf (Host.dotGeneral dot_S4x8192x4x2x64_S4x8448x4x2x64_S4x4x2x8192x8448_4_4_1_1_023_023 none (qs q) (ks k)) (broadcastInDim S4x4x2x8192x8448 ![] bcast_S_S4x4x2x8192x8448 (constant S_ .f32 0x3E000000#32))

def top (s : FVec Ideal S4x4x2x8192x8448 .f32) : FVec Ideal S4x4x2x8192 .f32 :=
  maximumf (broadcastInDim S4x4x2x8192 ![] bcast_S_S4x4x2x8192 (constant S_ .f32 0xFF800000#32)) (Host.reduce FloatOps.maximumf s (constant S_ .f32 0xFF800000#32) reducesTo_S4x4x2x8192x8448_S4x4x2x8192_d4 h_S_)

def spread (s : FVec Ideal S4x4x2x8192 .f32) : FVec Ideal S4x4x2x8192x8448 .f32 :=
  broadcastInDim S4x4x2x8192x8448 ![0, 1, 2, 3, 4] bcast_S4x4x2x8192x1_S4x4x2x8192x8448_0_1_2_3_4 (broadcastInDim S4x4x2x8192x1 ![0, 1, 2, 3] bcast_S4x4x2x8192_S4x4x2x8192x1_0_1_2_3 s)

def powers (s : FVec Ideal S4x4x2x8192x8448 .f32) : FVec Ideal S4x4x2x8192x8448 .f32 := Host.exp (subf s (spread (top s)))

def weights (s : FVec Ideal S4x4x2x8192x8448 .f32) : FVec Ideal S4x4x2x8192x8448 .f32 :=
  Host.divf (powers s) (spread (Host.reduceAdd (powers s) (constant S_ .f32 0x00000000#32) reducesTo_S4x4x2x8192x8448_S4x4x2x8192_d4 h_S_))

/-- The factor of the second map. -/
def lam : FVec Ideal S_ .f32 :=
  addf (subf (Host.exp (Host.reduceAdd (mulf a b) (constant S_ .f32 0x00000000#32) reducesTo_S64_S_d0 h_S_)) (Host.exp (Host.reduceAdd (mulf x y) (constant S_ .f32 0x00000000#32) reducesTo_S64_S_d0 h_S_))) (constant S_ .f32 0x3E4CCCCD#32)

/-- The difference of the two maps' weights. -/
def diff (l : FVec Ideal S_ .f32) (W : FVec Ideal S4x4x2x8192x8448 .f32) : FVec Ideal S4x4x8192x8448 .f32 :=
  subf (shapeCast _ (extractStridedSlice S4x4x1x8192x8448 ![0, 0, 0, 0, 0] W slices_S4x4x2x8192x8448_S4x4x1x8192x8448_0_0_0_0_0) shapeCasts_S4x4x1x8192x8448_S4x4x8192x8448) (mulf (broadcastInDim S4x4x8192x8448 ![] bcast_S_S4x4x8192x8448 l) (shapeCast _ (extractStridedSlice S4x4x1x8192x8448 ![0, 0, 1, 0, 0] W slices_S4x4x2x8192x8448_S4x4x1x8192x8448_0_0_1_0_0) shapeCasts_S4x4x1x8192x8448_S4x4x8192x8448))

/-- The attended rows. -/
def attend (u : FVec Ideal S4x8448x4x128 .f32) (A : FVec Ideal S4x4x8192x8448 .f32) : FVec Ideal S4x8192x4x128 .f32 :=
  transpose S4x8192x4x128 [0, 3, 1, 2] (Host.dotGeneral dot_S4x8448x4x128_S4x4x8192x8448_S4x4x128x8192_1_3_3_2_02_01 none u A) transposes_S4x4x128x8192_S4x8192x4x128_0_3_1_2

/-- The norm, with its gain, laid out as the result. -/
def normed (O : FVec Ideal S4x8192x4x128 .f32) (g : FVec Ideal S128 .f32) : FVec Ideal S32768x512 .bf16 :=
  truncf .bf16 (shapeCast _ (mulf (mulf (mulf O (broadcastInDim S4x8192x4x128 ![0, 1, 2, 3] bcast_S4x8192x4x1_S4x8192x4x128_0_1_2_3 (Host.rsqrt (addf (Host.divf (broadcastInDim S4x8192x4x1 ![0, 1, 2] bcast_S4x8192x4_S4x8192x4x1_0_1_2 (Host.reduceAdd (mulf O O) (constant S_ .f32 0x00000000#32) reducesTo_S4x8192x4x128_S4x8192x4_d3 h_S_)) (broadcastInDim S4x8192x4x1 ![] bcast_S_S4x8192x4x1 (constant S_ .f32 0x43000000#32))) (broadcastInDim S4x8192x4x1 ![] bcast_S_S4x8192x4x1 (constant S_ .f32 0x358637BD#32)))))) (broadcastInDim S4x8192x4x128 ![0, 1, 2, 3] bcast_S1x1x1x128_S4x8192x4x128_0_1_2_3 (broadcastInDim S1x1x1x128 ![3] bcast_S128_S1x1x1x128_3 g))) (broadcastInDim S4x8192x4x128 ![] bcast_S_S4x8192x4x128 (constant S_ .f32 0x3F4CCCCD#32))) shapeCasts_S4x8192x4x128_S32768x512) bitsLt_bf16_f32

/-- The reference's result over the argument arrays. -/
def want : FVec Ideal S32768x512 .bf16 := normed (attend (vs v) (diff (lam a b x y) (weights (scores q k)))) g

theorem res_eq (m : (ℓ : Loc nD τ sig) → Buf (Elt Ideal) ℓ) (c : Dev nD) :
    Cert.Reference5Ideal.Value.res_main_v59 m c = want (m ((c : Thread nD τ).loc main_arg0))
      (m ((c : Thread nD τ).loc main_arg1)) (m ((c : Thread nD τ).loc main_arg2)) (m ((c : Thread nD τ).loc main_arg3))
      (m ((c : Thread nD τ).loc main_arg4)) (m ((c : Thread nD τ).loc main_arg5)) (m ((c : Thread nD τ).loc main_arg6))
      (m ((c : Thread nD τ).loc main_arg7)) := rfl

theorem ninf : Ideal.ofBits .f32 0xFF800000#32 = ⊥ := by
  simp [Ideal.ofBits, Ideal.ieee]

theorem scale_word : Ideal.ofBits .f32 0x3E000000#32 = ((1 / 8 : ℝ) : EReal) := by
  simp [Ideal.ofBits, Ideal.ieee]
  try rw [← EReal.coe_mul]
  norm_num

theorem qs_at (b : Fin 4) (n : Fin 8192) (h : Fin 4) (s : Fin 2) (d : Fin 64) :
    qs q (ix5 b n h s d) = q (ix4 ⟨b.val * 8192 + n.val, by omega⟩ h s d) := by
  pointwise [qs]
  try blk_ext []

theorem ks_at (b : Fin 4) (j : Fin 8448) (h : Fin 4) (s : Fin 2) (d : Fin 64) :
    ks k (ix5 b j h s d) = k (ix4 (key b j) h s d) := by
  pointwise [ks, key]
  split
  · blk_ext []
  · blk_ext []

theorem vs_at (b : Fin 4) (j : Fin 8448) (h : Fin 4) (e : Fin 128) :
    vs v (ix4 b j h e) = v (ix3 (key b j) h e) := by
  pointwise [vs, key]
  split
  · blk_ext []
  · blk_ext []

theorem scores_at (b : Fin 4) (h : Fin 4) (s : Fin 2) (n : Fin 8192) (j : Fin 8448) :
    scores q k (ix5 b h s n j) = (∑ d : Fin 64, q (ix4 ⟨b.val * 8192 + n.val, by omega⟩ h s d) * k (ix4 (key b j) h s d))
      * ((1 / 8 : ℝ) : EReal) := by
  pointwise [scores]
  simp only [qs_at, ks_at, scale_word]

theorem row_top (s : FVec Ideal S4x4x2x8192x8448 .f32) (hr : S4x4x2x8192x8448.ReducesTo [4] S4x4x2x8192) (hu) (b : Fin 4) (h : Fin 4) (r : Fin 2) (n : Fin 8192) :
    Host.reduce FloatOps.maximumf s (constant S_ .f32 0xFF800000#32) hr hu (ix4 b h r n)
      = Finset.univ.fold max ⊥ fun j : Fin 8448 => s (ix5 b h r n j) := by
  pointwise
  rw [ninf]

theorem max_at (x y : FVec Ideal S4x4x2x8192 .f32) (i) : maximumf x y i = max (x i) (y i) := rfl

theorem top_at (s : FVec Ideal S4x4x2x8192x8448 .f32) (b : Fin 4) (h : Fin 4) (r : Fin 2) (n : Fin 8192) :
    top s (ix4 b h r n) = max ⊥ (Finset.univ.fold max ⊥ fun j => s (ix5 b h r n j)) := by
  have e := row_top s reducesTo_S4x4x2x8192x8448_S4x4x2x8192_d4 h_S_ b h r n
  have e0 : broadcastInDim S4x4x2x8192 ![] bcast_S_S4x4x2x8192 (constant (F := Ideal) S_ .f32 0xFF800000#32) (ix4 b h r n) = (⊥ : EReal) := by
    pointwise
    exact ninf
  unfold top
  rw [max_at, e0, e]

theorem powers_at (s : FVec Ideal S4x4x2x8192x8448 .f32) (b : Fin 4) (h : Fin 4) (r : Fin 2) (n : Fin 8192) (j : Fin 8448) :
    powers s (ix5 b h r n j) = Ideal.exp (s (ix5 b h r n j) - top s (ix4 b h r n)) := by
  pointwise [powers, spread]
  try rfl

theorem weights_at (s : FVec Ideal S4x4x2x8192x8448 .f32) (b : Fin 4) (h : Fin 4) (r : Fin 2) (n : Fin 8192) (j : Fin 8448) :
    weights s (ix5 b h r n j) = Ideal.div (powers s (ix5 b h r n j)) (∑ i, powers s (ix5 b h r n i)) := by
  pointwise [weights, spread]
  try rfl

theorem weights_eq (s : FVec Ideal S4x4x2x8192x8448 .f32) (b : Fin 4) (h : Fin 4) (r : Fin 2) (n : Fin 8192) (j : Fin 8448) :
    weights s (ix5 b h r n j) = weight (fun j => s (ix5 b h r n j)) j := by
  rw [weights_at]
  simp only [powers_at, top_at]
  rfl

theorem lam_at (i : S_.Idx) : lam a b x y i = factor (fun d => a (ix1 d)) (fun d => b (ix1 d)) (fun d => x (ix1 d))
    (fun d => y (ix1 d)) (Ideal.ofBits .f32 0x3E4CCCCD#32) := by
  have hi : i = (fun j => j.elim0) := funext fun j => j.elim0
  subst hi
  pointwise [lam]
  rfl

theorem diff_at (l : FVec Ideal S_ .f32) (L : EReal) (hl : ∀ i, l i = L) (W : FVec Ideal S4x4x2x8192x8448 .f32) (b : Fin 4) (h : Fin 4) (n : Fin 8192) (j : Fin 8448) :
    diff l W (ix4 b h n j) = W (ix5 b h 0 n j) - L * W (ix5 b h 1 n j) := by
  pointwise [diff]
  simp only [hl]

theorem attend_at (u : FVec Ideal S4x8448x4x128 .f32) (A : FVec Ideal S4x4x8192x8448 .f32) (b : Fin 4) (n : Fin 8192) (h : Fin 4) (e : Fin 128) :
    attend u A (ix4 b n h e) = ∑ j, u (ix4 b j h e) * A (ix4 b h n j) := by
  pointwise [attend]

theorem normed_at (O : FVec Ideal S4x8192x4x128 .f32) (b : Fin 4) (n : Fin 8192) (h : Fin 4) (e : Fin 128) :
    normed O g (ix2 ⟨b.val * 8192 + n.val, by omega⟩ ⟨h.val * 128 + e.val, by omega⟩)
      = post (fun d => O (ix4 b n h d)) (g (ix1 e)) (Ideal.ofBits .f32 0x3F4CCCCD#32) e := by
  pointwise [normed]
  rfl

theorem init_word : Ideal.ofBits .f32 0x3E4CCCCD#32 = ((13421773 / 67108864 : ℝ) : EReal) := by
  simp [Ideal.ofBits, Ideal.ieee]
  rw [← EReal.coe_mul]
  norm_num

theorem want_soft (b' : Fin 4) (n : Fin 8192) (h : Fin 4) (e : Fin 128) (σ : Fin 2 → Fin 8448 → ℝ)
    (hσ : ∀ s j, scores q k (ix5 b' h s n j) = ((σ s j * Real.log 2 : ℝ) : EReal)) (vr : S33792x4x128.Idx → ℝ)
    (hv : ∀ i, v i = (vr i : EReal)) (lr : ℝ) (L : EReal) (hL : factor (fun d => a (ix1 d)) (fun d => b (ix1 d)) (fun d => x (ix1 d))
    (fun d => y (ix1 d)) (Ideal.ofBits .f32 0x3E4CCCCD#32) = L) (hl : L = (lr : EReal)) :
    want q k v a b x y g (ix2 ⟨b'.val * 8192 + n.val, by omega⟩ ⟨h.val * 128 + e.val, by omega⟩)
      = post (fun d => soft (σ 0) (fun j => v (ix3 (key b' j) h d)) - L * soft (σ 1) (fun j => v (ix3 (key b' j) h d)))
          (g (ix1 e)) (Ideal.ofBits .f32 0x3F4CCCCD#32) e := by
  unfold want
  rw [normed_at]
  refine congrArg (fun o => post o (g (ix1 e)) (Ideal.ofBits .f32 0x3F4CCCCD#32) e) (funext fun d => ?_)
  rw [attend_at]
  simp only [diff_at _ L fun i => (lam_at a b x y i).trans hL, weights_eq, vs_at]
  exact soft_diff _ _ (σ 0) (σ 1) (hσ 0) (hσ 1) _ (fun j => vr (ix3 (key b' j) h d)) (fun j => hv _) L lr hl

end Cert.Proof.FirstRef

end
-- ==== Proof.First.lean ====
/-
  The first layer's differential attention: what each grid point writes is the reference's block of rows, for a head.
-/
module

public import proofs.«01_k».proof.Proof.FirstIn
public import proofs.«01_k».proof.Proof.FirstRef

@[expose] public section

set_option maxRecDepth 16384

noncomputable section

open Idealize.ShloMosaic Idealize.ShloMosaic.TcCoe Idealize.SL.Sem
open Idealize.ShloMosaic.Pipeline (Dat)

namespace Cert.Proof.First

open Cert.Kernel5Ideal Cert.Kernel5Ideal.Gen Cert.Proof.Softmax
open Cert.Proof.FirstRef (key)

variable (m : (ℓ : Loc nD τ sig) → Buf (Elt Ideal) ℓ)

/-- The scale the kernel multiplies by, for powers of two. -/
abbrev scl : ℝ := (1 / 8) * (Real.log 2)⁻¹

theorem scale_eq : (Named.named κ "scale" 0x3E38AA3B#32 : Ideal .f32) = (scl : EReal) := by
  exact IdealRules.named_const.ideal_named_scalar _ _ _ _ rfl

theorem sel64 (d : Fin 128) (a b : EReal) :
    Scalar.select (IntOp.cmpi .slt (BitVec.ofNat 32 d.val) 64#32) a b = if d.val < 64 then a else b := by
  have h : ∀ d : Fin 128, IntOp.cmpi .slt (BitVec.ofNat 32 d.val) 64#32 = if d.val < 64 then 1#1 else 0#1 := by
    decide +kernel
  rw [h d]
  split <;> rfl

/-- The first 512 stacked rows are the scaled queries of the first map of the head. -/
theorem stack_lo (v0 : FVec Ideal S512x128 .bf16) (ρ : Fin 512) (d : Fin 128) :
    k0_pay2 (F := Ideal) v0 (ix2 ⟨ρ.val, by omega⟩ d) = if d.val < 64 then v0 (ix2 ρ d) * (scl : EReal) else 0 := by
  pointwise [k0_pay2]
  rw [scale_eq, sel64]

/-- The last 512 are those of the second. -/
theorem stack_hi (v0 : FVec Ideal S512x128 .bf16) (ρ : Fin 512) (d : Fin 128) :
    k0_pay2 (F := Ideal) v0 (ix2 ⟨512 + ρ.val, by omega⟩ d) = if d.val < 64 then 0 else v0 (ix2 ρ d) * (scl : EReal) := by
  pointwise [k0_pay2]
  rw [scale_eq, sel64]

theorem sum_lanes (f : Fin 128 → EReal) :
    ∑ d, f d = (∑ d : Fin 64, f ⟨d.val, by omega⟩) + ∑ d : Fin 64, f ⟨64 + d.val, by omega⟩ :=
  Fin.sum_univ_add (a := 64) (b := 64) f

theorem real_dot (a b : Fin 64 → ℝ) :
    ∑ d, ((a d : EReal) * (scl : EReal)) * (b d : EReal) = (((∑ d, a d * b d) * scl : ℝ) : EReal) := by
  simp only [← EReal.coe_mul, coe_sum]
  congr 1
  rw [Finset.sum_mul]
  exact Finset.sum_congr rfl fun d _ => by ring

theorem score_lo {n : ℕ} (v0 : FVec Ideal S512x128 .bf16) (K : Shape.Idx ⟨2, ![n, 128]⟩ → EReal) (ρ : Fin 512) (j : Fin n)
    (a b : Fin 64 → ℝ) (hq : ∀ d : Fin 64, v0 (ix2 ρ ⟨d.val, by omega⟩) = (a d : EReal))
    (hk : ∀ d : Fin 64, K (ix2 j ⟨d.val, by omega⟩) = (b d : EReal)) :
    sc (k0_pay2 v0) K ⟨ρ.val, by omega⟩ j = (((∑ d, a d * b d) * scl : ℝ) : EReal) := by
  unfold sc
  rw [sum_lanes, ← real_dot]
  simp only [stack_lo, hq, hk]
  have e1 : ∀ d : Fin 64, d.val < 64 := fun d => by omega
  have e2 : ∀ d : Fin 64, ¬ 64 + d.val < 64 := fun d => by omega
  simp only [e1, e2, if_true, if_false, zero_mul, Finset.sum_const_zero, add_zero]

theorem score_hi {n : ℕ} (v0 : FVec Ideal S512x128 .bf16) (K : Shape.Idx ⟨2, ![n, 128]⟩ → EReal) (ρ : Fin 512) (j : Fin n)
    (a b : Fin 64 → ℝ) (hq : ∀ d : Fin 64, v0 (ix2 ρ ⟨64 + d.val, by omega⟩) = (a d : EReal))
    (hk : ∀ d : Fin 64, K (ix2 j ⟨64 + d.val, by omega⟩) = (b d : EReal)) :
    sc (k0_pay2 v0) K ⟨512 + ρ.val, by omega⟩ j = (((∑ d, a d * b d) * scl : ℝ) : EReal) := by
  unfold sc
  rw [sum_lanes, ← real_dot]
  simp only [stack_hi, hq, hk]
  have e1 : ∀ d : Fin 64, d.val < 64 := fun d => by omega
  have e2 : ∀ d : Fin 64, ¬ 64 + d.val < 64 := fun d => by omega
  simp only [e1, e2, if_true, if_false, zero_mul, Finset.sum_const_zero, zero_add]

/-- The score of a query of one of the two maps against a key. -/
theorem score {n : ℕ} (s : Fin 2) (v0 : FVec Ideal S512x128 .bf16) (K : Shape.Idx ⟨2, ![n, 128]⟩ → EReal) (ρ : Fin 512)
    (j : Fin n) (a b : Fin 64 → ℝ) (hq : ∀ d : Fin 64, v0 (ix2 ρ ⟨s.val * 64 + d.val, by omega⟩) = (a d : EReal))
    (hk : ∀ d : Fin 64, K (ix2 j ⟨s.val * 64 + d.val, by omega⟩) = (b d : EReal)) :
    sc (k0_pay2 v0) K ⟨s.val * 512 + ρ.val, by omega⟩ j = (((∑ d, a d * b d) * scl : ℝ) : EReal) := by
  obtain rfl | rfl : s = 0 ∨ s = 1 := by omega
  · have e := score_lo v0 K ρ j a b (fun d => by simpa using hq d) (fun d => by simpa using hk d)
    simpa using e
  · have e := score_hi v0 K ρ j a b (fun d => by simpa using hq d) (fun d => by simpa using hk d)
    simpa using e

/-- The difference of the two halves of the stacked rows, normed. -/
theorem pay1_at (x : FVec Ideal S1024x128 .f32) (y : FVec Ideal S512x128 .f32) (l : FVec Ideal S4x64 .f32)
    (g : FVec Ideal S1x128 .f32) (ρ : Fin 512) (e : Fin 128) :
    k0_pay1 (F := Ideal) x y l g (ix2 ρ e) = post (fun d => y (ix2 ρ d)
      - factor (fun d => l (ix2 0 d)) (fun d => l (ix2 1 d)) (fun d => l (ix2 2 d)) (fun d => l (ix2 3 d)) (Ideal.ofBits .f32 0x3E4CCCCD#32)
        * x (ix2 ⟨512 + ρ.val, by omega⟩ d)) (g (ix2 0 e)) (Ideal.ofBits .f32 0x3F4CCCCD#32) e := by
  pointwise [k0_pay1]
  rfl

/-- The batch of a point. -/
abbrev bat (t : Fin cfg0.N) : Fin 4 := ⟨t.val / 64, by have := lt_points t; omega⟩

/-- The query a row of its block is. -/
abbrev tok (t : Fin cfg0.N) (ρ : Fin 512) : Fin 8192 := ⟨t.val % 16 * 512 + ρ.val, by omega⟩

/-- The head. -/
abbrev hd (t : Fin cfg0.N) : Fin 4 := ⟨t.val / 16 % 4, by omega⟩

theorem read0 (c : Dev nD) (t : Fin cfg0.N) (s : Fin 2) (ρ : Fin 512) (d : Fin 64) :
    iblk m c 0 t (ix2 ρ ⟨s.val * 64 + d.val, by omega⟩)
      = m ((c : Thread nD τ).loc main_arg0) (ix4 ⟨(bat t).val * 8192 + (tok t ρ).val, by omega⟩ (hd t) s d) := by
  rw [block0]
  refine Eq.trans (congrArg _ ?_) (laid_at _ _ (hd t) s d)
  blk_ext []

theorem read1 (c : Dev nD) (t : Fin cfg0.N) (s : Fin 2) (j : Fin 8192) (d : Fin 64) :
    X0_1 m c t (ix2 j ⟨s.val * 64 + d.val, by omega⟩)
      = m ((c : Thread nD τ).loc main_arg1) (ix4 (key (bat t) ⟨j.val, by omega⟩) (hd t) s d) := by
  rw [block1]
  refine Eq.trans (congrArg _ ?_) (laid_at _ (key (bat t) ⟨j.val, by omega⟩) (hd t) s d)
  blk_ext [key]
  all_goals first | omega | (split <;> omega)

theorem read3 (c : Dev nD) (t : Fin cfg0.N) (s : Fin 2) (j : Fin 256) (d : Fin 64) :
    iblk m c 3 t (ix2 j ⟨s.val * 64 + d.val, by omega⟩)
      = m ((c : Thread nD τ).loc main_arg1) (ix4 (key (bat t) ⟨8192 + j.val, by omega⟩) (hd t) s d) := by
  rw [block3]
  refine Eq.trans (congrArg _ ?_) (laid_at _ (key (bat t) ⟨8192 + j.val, by omega⟩) (hd t) s d)
  blk_ext [key]
  all_goals first | omega | (split <;> omega)

theorem read2 (c : Dev nD) (t : Fin cfg0.N) (j : Fin 8192) (e : Fin 128) :
    X0_2 m c t (ix2 j e)
      = m ((c : Thread nD τ).loc main_arg2) (ix3 (key (bat t) ⟨j.val, by omega⟩) (hd t) e) := by
  rw [block2]
  refine Eq.trans (congrArg _ ?_) (laidV_at _ (key (bat t) ⟨j.val, by omega⟩) (hd t) e)
  blk_ext [key]
  all_goals first | omega | (split <;> omega)

theorem read4 (c : Dev nD) (t : Fin cfg0.N) (j : Fin 256) (e : Fin 128) :
    iblk m c 4 t (ix2 j e)
      = m ((c : Thread nD τ).loc main_arg2) (ix3 (key (bat t) ⟨8192 + j.val, by omega⟩) (hd t) e) := by
  rw [block4]
  refine Eq.trans (congrArg _ ?_) (laidV_at _ (key (bat t) ⟨8192 + j.val, by omega⟩) (hd t) e)
  blk_ext [key]
  all_goals first | omega | (split <;> omega)

theorem load0 (X : Vec Ideal S8192x128 .bf16) (j : Fin 2048) (d : Fin 128) :
    View.ld X (Rect.unit ![0, 0] ![2048, 128] inb_S8192x128_S2048x128_0_0) (ix2 j d) = X (ix2 ⟨j.val, by omega⟩ d) := by
  pointwise

theorem load1 (X : Vec Ideal S8192x128 .bf16) (j : Fin 2048) (d : Fin 128) :
    View.ld X (Rect.unit ![2048, 0] ![2048, 128] inb_S8192x128_S2048x128_2048_0) (ix2 j d) = X (ix2 ⟨2048 + j.val, by omega⟩ d) := by
  pointwise

theorem load2 (X : Vec Ideal S8192x128 .bf16) (j : Fin 2048) (d : Fin 128) :
    View.ld X (Rect.unit ![4096, 0] ![2048, 128] inb_S8192x128_S2048x128_4096_0) (ix2 j d) = X (ix2 ⟨4096 + j.val, by omega⟩ d) := by
  pointwise

theorem load3 (X : Vec Ideal S8192x128 .bf16) (j : Fin 2048) (d : Fin 128) :
    View.ld X (Rect.unit ![6144, 0] ![2048, 128] inb_S8192x128_S2048x128_6144_0) (ix2 j d) = X (ix2 ⟨6144 + j.val, by omega⟩ d) := by
  pointwise

/-- What the body computes for the stacked rows of a point. -/
def rows (c : Dev nD) (t : Fin cfg0.N) : FVec Ideal S1024x128 .f32 :=
  let Q := k0_pay2 (F := Ideal) (iblk m c 0 t)
  let K1 := View.ld (X0_1 m c t) (Rect.unit ![0, 0] ![2048, 128] inb_S8192x128_S2048x128_0_0)
  let K2 := View.ld (X0_1 m c t) (Rect.unit ![2048, 0] ![2048, 128] inb_S8192x128_S2048x128_2048_0)
  let K3 := View.ld (X0_1 m c t) (Rect.unit ![4096, 0] ![2048, 128] inb_S8192x128_S2048x128_4096_0)
  let K4 := View.ld (X0_1 m c t) (Rect.unit ![6144, 0] ![2048, 128] inb_S8192x128_S2048x128_6144_0)
  let V1 := View.ld (X0_2 m c t) (Rect.unit ![0, 0] ![2048, 128] inb_S8192x128_S2048x128_0_0)
  let V2 := View.ld (X0_2 m c t) (Rect.unit ![2048, 0] ![2048, 128] inb_S8192x128_S2048x128_2048_0)
  let V3 := View.ld (X0_2 m c t) (Rect.unit ![4096, 0] ![2048, 128] inb_S8192x128_S2048x128_4096_0)
  let V4 := View.ld (X0_2 m c t) (Rect.unit ![6144, 0] ![2048, 128] inb_S8192x128_S2048x128_6144_0)
  k0_pay20 (F := Ideal) Q (k0_pay15 Q (k0_pay5 (iblk m c 0 t) K1) K2 K3)
    (k0_pay18 Q (k0_pay5 (iblk m c 0 t) K1) (k0_pay8 (iblk m c 0 t) K1) K2 K3)
    (k0_pay19 Q (k0_pay5 (iblk m c 0 t) K1) (k0_pay9 (iblk m c 0 t) K1 V1) K2 V2 K3 V3) K4 V4 (iblk m c 3 t) (iblk m c 4 t)

/-- The factor of the second map, over the argument arrays. -/
abbrev fac (c : Dev nD) : EReal :=
  factor (fun d => m ((c : Thread nD τ).loc main_arg3) (ix1 d)) (fun d => m ((c : Thread nD τ).loc main_arg4) (ix1 d))
    (fun d => m ((c : Thread nD τ).loc main_arg5) (ix1 d)) (fun d => m ((c : Thread nD τ).loc main_arg6) (ix1 d)) (Ideal.ofBits .f32 0x3E4CCCCD#32)

theorem outs_at (c : Dev nD) (t : Fin cfg0.N) (ρ : Fin 512) (e : Fin 128) :
    outsAt0 m c t (ix2 ρ e) = post (fun d => rows m c t (ix2 ⟨ρ.val, by omega⟩ d) - fac m c * rows m c t (ix2 ⟨512 + ρ.val, by omega⟩ d))
      (m ((c : Thread nD τ).loc main_arg7) (ix1 e)) (Ideal.ofBits .f32 0x3F4CCCCD#32) e := by
  unfold outsAt0
  frame_out
  refine (pay1_at _ _ _ _ ρ e).trans ?_
  have h21 : ∀ (Q : FVec Ideal S1024x128 .bf16) (x y a K V KC VC) (d : Fin 128), k0_pay21 (F := Ideal) Q x y a K V KC VC (ix2 ρ d)
      = k0_pay20 (F := Ideal) Q x y a K V KC VC (ix2 ⟨ρ.val, by omega⟩ d) := by
    intro Q x y a K V KC VC d
    pointwise [k0_pay21]
  have s := stack_at (m ((c : Thread nD τ).loc main_arg3)) (m ((c : Thread nD τ).loc main_arg4))
      (m ((c : Thread nD τ).loc main_arg5)) (m ((c : Thread nD τ).loc main_arg6))
  have f0 : ∀ d, iblk m c 5 t (ix2 0 d) = m ((c : Thread nD τ).loc main_arg3) (ix1 d) := fun d => (block5 m c t 0 d).trans (s d).1
  have f1 : ∀ d, iblk m c 5 t (ix2 1 d) = m ((c : Thread nD τ).loc main_arg4) (ix1 d) := fun d => (block5 m c t 1 d).trans (s d).2.1
  have f2 : ∀ d, iblk m c 5 t (ix2 2 d) = m ((c : Thread nD τ).loc main_arg5) (ix1 d) := fun d => (block5 m c t 2 d).trans (s d).2.2.1
  have f3 : ∀ d, iblk m c 5 t (ix2 3 d) = m ((c : Thread nD τ).loc main_arg6) (ix1 d) := fun d => (block5 m c t 3 d).trans (s d).2.2.2
  have f6 := block6 m c t e
  simp only [h21, f0, f1, f2, f3, f6]
  rfl

/-- Arrays whose elements are all real. -/
abbrev RealArr {s : Shape} (x : FVec Ideal s .f32) (xr : s.Idx → ℝ) : Prop := ∀ i, x i = (xr i : EReal)

/-- The score, as a real number of bits, of query row `tok t ρ` against key `j`, in map `s` of the head. -/
def bits (t : Fin cfg0.N) (ρ : Fin 512) (qr kr : S33792x4x2x64.Idx → ℝ) (s : Fin 2) (j : Fin 8448) : ℝ :=
  (∑ d : Fin 64, qr (ix4 ⟨(bat t).val * 8192 + (tok t ρ).val, by omega⟩ (hd t) s d) * kr (ix4 (key (bat t) j) (hd t) s d)) * scl

theorem half (c : Dev nD) (t : Fin cfg0.N) (s : Fin 2) (ρ : Fin 512) (e : Fin 128) (qr kr : S33792x4x2x64.Idx → ℝ)
    (hq : RealArr (m ((c : Thread nD τ).loc main_arg0)) qr) (hk : RealArr (m ((c : Thread nD τ).loc main_arg1)) kr) :
    rows m c t (ix2 ⟨s.val * 512 + ρ.val, by omega⟩ e)
      = soft (bits t ρ qr kr s) fun j => m ((c : Thread nD τ).loc main_arg2) (ix3 (key (bat t) j) (hd t) e) := by
  have q1 : ∀ d : Fin 64, iblk m c 0 t (ix2 ρ ⟨s.val * 64 + d.val, by omega⟩)
      = (qr (ix4 ⟨(bat t).val * 8192 + (tok t ρ).val, by omega⟩ (hd t) s d) : EReal) := fun d =>
    (read0 m c t s ρ d).trans (hq _)
  have key1 : ∀ (j : Fin 8192) (d : Fin 64), X0_1 m c t (ix2 j ⟨s.val * 64 + d.val, by omega⟩)
      = (kr (ix4 (key (bat t) ⟨j.val, by omega⟩) (hd t) s d) : EReal) := fun j d => (read1 m c t s j d).trans (hk _)
  exact row (iblk m c 0 t) _ _ _ _ _ _ _ _ _ _ _ _
    (bits t ρ qr kr s)
    (fun j => m ((c : Thread nD τ).loc main_arg2) (ix3 (key (bat t) j) (hd t) e))
    (fun j => score s _ _ ρ j _ _ q1 fun d => (load0 _ j _).trans (key1 _ d))
    (fun j => score s _ _ ρ j _ _ q1 fun d => (load1 _ j _).trans (key1 _ d))
    (fun j => score s _ _ ρ j _ _ q1 fun d => (load2 _ j _).trans (key1 _ d))
    (fun j => score s _ _ ρ j _ _ q1 fun d => (load3 _ j _).trans (key1 _ d))
    (fun j => score s _ _ ρ j _ _ q1 fun d => (read3 m c t s j d).trans (hk _))
    (fun j => (load0 _ j _).trans (read2 m c t _ e))
    (fun j => (load1 _ j _).trans (read2 m c t _ e))
    (fun j => (load2 _ j _).trans (read2 m c t _ e))
    (fun j => (load3 _ j _).trans (read2 m c t _ e))
    (fun j => read4 m c t j e)

theorem scores_real (c : Dev nD) (t : Fin cfg0.N) (ρ : Fin 512) (qr kr : S33792x4x2x64.Idx → ℝ)
    (hq : RealArr (m ((c : Thread nD τ).loc main_arg0)) qr) (hk : RealArr (m ((c : Thread nD τ).loc main_arg1)) kr) (s : Fin 2) (j : Fin 8448) :
    Cert.Proof.FirstRef.scores (m ((c : Thread nD τ).loc main_arg0)) (m ((c : Thread nD τ).loc main_arg1)) (ix5 (bat t) (hd t) s (tok t ρ) j)
      = ((bits t ρ qr kr s j * Real.log 2 : ℝ) : EReal) := by
  rw [Cert.Proof.FirstRef.scores_at]
  have hl : Real.log 2 ≠ 0 := (Real.log_pos (by norm_num)).ne'
  simp only [show ∀ i, m ((c : Thread nD τ).loc main_arg0) i = (qr i : EReal) from hq,
    show ∀ i, m ((c : Thread nD τ).loc main_arg1) i = (kr i : EReal) from hk]
  simp only [← EReal.coe_mul]
  rw [coe_sum, ← EReal.coe_mul]
  congr 1
  unfold bits scl
  field_simp

/-- The reference's result over a core's argument arrays. -/
abbrev goal (c : Dev nD) : FVec Ideal S32768x512 .bf16 :=
  Cert.Proof.FirstRef.want (m ((c : Thread nD τ).loc main_arg0)) (m ((c : Thread nD τ).loc main_arg1))
    (m ((c : Thread nD τ).loc main_arg2)) (m ((c : Thread nD τ).loc main_arg3)) (m ((c : Thread nD τ).loc main_arg4))
    (m ((c : Thread nD τ).loc main_arg5)) (m ((c : Thread nD τ).loc main_arg6)) (m ((c : Thread nD τ).loc main_arg7))

theorem point (c : Dev nD) (t : Fin cfg0.N) (ρ : Fin 512) (e : Fin 128) (qr kr : S33792x4x2x64.Idx → ℝ)
    (hq : RealArr (m ((c : Thread nD τ).loc main_arg0)) qr) (hk : RealArr (m ((c : Thread nD τ).loc main_arg1)) kr)
    (vr : S33792x4x128.Idx → ℝ) (hv : RealArr (m ((c : Thread nD τ).loc main_arg2)) vr) (lr : ℝ) (hl : fac m c = (lr : EReal)) :
    outsAt0 m c t (ix2 ρ e) = goal m c (((cfg0.win 7).blk t).view.emb (ix2 ρ e)) := by
  rw [outs_at, place7]
  have h0 := fun d => half m c t 0 ρ d qr kr hq hk
  have h1 := fun d => half m c t 1 ρ d qr kr hq hk
  have r0 : (⟨ρ.val, by omega⟩ : Fin 1024) = ⟨(0 : Fin 2).val * 512 + ρ.val, by simp; omega⟩ := by simp
  have r1 : (⟨512 + ρ.val, by omega⟩ : Fin 1024) = ⟨(1 : Fin 2).val * 512 + ρ.val, by simp; omega⟩ := by simp
  rw [r0, r1]
  simp only [h0, h1]
  refine (Cert.Proof.FirstRef.want_soft _ _ _ _ _ _ _ _ (bat t) (tok t ρ) (hd t) e _ (fun s j => scores_real m c t ρ qr kr hq hk s j)
    vr hv lr (fac m c) rfl hl).symm.trans ?_
  refine congrArg _ ?_
  blk_ext []

/-- The result array after the run. -/
theorem final (c : Dev nD) (qr kr : S33792x4x2x64.Idx → ℝ)
    (hq : RealArr (m ((c : Thread nD τ).loc main_arg0)) qr) (hk : RealArr (m ((c : Thread nD τ).loc main_arg1)) kr)
    (vr : S33792x4x128.Idx → ℝ) (hv : RealArr (m ((c : Thread nD τ).loc main_arg2)) vr)
    (ar br xr yr : S64.Idx → ℝ) (ha : RealArr (m ((c : Thread nD τ).loc main_arg3)) ar) (hb : RealArr (m ((c : Thread nD τ).loc main_arg4)) br)
    (hx : RealArr (m ((c : Thread nD τ).loc main_arg5)) xr) (hy : RealArr (m ((c : Thread nD τ).loc main_arg6)) yr) :
    (dats m 0 c).arrAt 7 cfg0.N = goal m c := by
  obtain ⟨lr, hl⟩ : ∃ l : ℝ, fac m c = (l : EReal) := factor_real _ _ _ _ _ (fun d => ar (ix1 d)) (fun d => br (ix1 d))
    (fun d => xr (ix1 d)) (fun d => yr (ix1 d)) _ (fun _ => ha _) (fun _ => hb _) (fun _ => hx _) (fun _ => hy _) Cert.Proof.FirstRef.init_word
  refine (dats m 0 c).arrAt_eq_of_covers 7 _ (by decide +kernel) fun t _ y => ?_
  blk_simp
  rw [after0_7]
  idx_vars y
  exact point m c t _ _ qr kr hq hk vr hv lr hl

end Cert.Proof.First

end
-- ==== Proof.FiniteDiff.lean ====
/-
  The precondition of the differential attention, read: every query, key, value and factor vector is of real numbers.
-/
module

public import proofs.«01_k».proof.Pre_finite_diff
public import proofs.«01_k».proof.Proof.Gen.Pre_finite_diff
public import proofs.«01_k».proof.Proof.Finite

@[expose] public section

noncomputable section

open Idealize.ShloMosaic

namespace Cert.Proof.FiniteDiff

open Cert.Pre_finite_diff Cert.Pre_finite_diff.Facts
open Cert.Proof.Finite (real_of_lt)

instance : Subsingleton S_.Idx := ⟨fun a b => funext fun i => i.elim0⟩

theorem real_of_all {s : Shape} {axes : List (Fin s.rank)} (x : FVec Ideal s .f32) (y : FVec Ideal s .f32)
    (hy : ∀ i, y i = FloatOps.ofBits .f32 0x7F800000#32) (hr : s.ReducesTo axes S_) (hu) (j : S_.Idx)
    (h : Host.reduce IntOp.andi (cmpf .olt (Host.absf x) y) (constantI S_ 1 1#1) hr hu j = 1#1) :
    ∃ r : s.Idx → ℝ, ∀ i, x i = (r i : EReal) := by
  have e : ∀ i, ∃ r : ℝ, x i = (r : EReal) := fun i => by
    have := Host.reduce_andi_all _ _ _ _ j h i
    refine real_of_lt (x i) ?_
    rw [← hy i]
    exact this
  exact ⟨fun i => (e i).choose, fun i => (e i).choose_spec⟩

abbrev Real4 {s : Shape} (x : FVec Ideal s .f32) : Prop := ∃ r : s.Idx → ℝ, ∀ i, x i = (r i : EReal)

theorem reals (q k : FVec Ideal S33792x4x2x64 .f32) (v : FVec Ideal S33792x4x128 .f32) (a b x y : FVec Ideal S64 .f32)
    (g : FVec Ideal S128 .f32) (h : fn (F := Ideal) q k v a b x y g = fun _ => 1#1) :
    Real4 q ∧ Real4 k ∧ Real4 v ∧ Real4 a ∧ Real4 b ∧ Real4 x ∧ Real4 y := by
  have h0 := congrFun h (fun i => i.elim0)
  dsimp only [fn, fn_part1] at h0
  have hand : ∀ a b : BitVec 1, IntOp.andi a b = 1#1 → a = 1#1 ∧ b = 1#1 := by decide
  obtain ⟨h0, h7⟩ := hand _ _ h0
  obtain ⟨h0, h6⟩ := hand _ _ h0
  obtain ⟨h0, h5⟩ := hand _ _ h0
  obtain ⟨h0, h4⟩ := hand _ _ h0
  obtain ⟨h0, h3⟩ := hand _ _ h0
  obtain ⟨h1, h2⟩ := hand _ _ h0
  exact ⟨real_of_all q _ (fun _ => rfl) _ _ _ h1, real_of_all k _ (fun _ => rfl) _ _ _ h2,
    real_of_all v _ (fun _ => rfl) _ _ _ h3, real_of_all a _ (fun _ => rfl) _ _ _ h4,
    real_of_all b _ (fun _ => rfl) _ _ _ h5, real_of_all x _ (fun _ => rfl) _ _ _ h6,
    real_of_all y _ (fun _ => rfl) _ _ _ h7⟩

end Cert.Proof.FiniteDiff

end
-- ==== Proof.lean ====
module
public import proofs.«01_k».proof.Defs
public import proofs.«01_k».proof.Proof.Gen.Kernel
public import proofs.«01_k».proof.Proof.Gen.Kernel.Skeleton
public import proofs.«01_k».proof.Proof.Gen.KernelIdeal
public import proofs.«01_k».proof.Proof.Gen.KernelIdeal.Skeleton
public import proofs.«01_k».proof.Proof.Gen.Kernel2
public import proofs.«01_k».proof.Proof.Gen.Kernel2.Frame
public import proofs.«01_k».proof.Proof.Gen.Kernel2Ideal
public import proofs.«01_k».proof.Proof.Gen.Kernel2Ideal.Skeleton
public import proofs.«01_k».proof.Proof.Gen.Kernel2Ideal.Value
public import proofs.«01_k».proof.Proof.Gen.Reference2Ideal
public import proofs.«01_k».proof.Proof.Gen.Reference2Ideal.Run
public import proofs.«01_k».proof.Proof.Gen.Kernel3
public import proofs.«01_k».proof.Proof.Gen.Kernel3.Frame
public import proofs.«01_k».proof.Proof.Gen.Kernel3Ideal
public import proofs.«01_k».proof.Proof.Gen.Kernel3Ideal.Skeleton
public import proofs.«01_k».proof.Proof.Gen.Kernel3Ideal.Value
public import proofs.«01_k».proof.Proof.Gen.Reference3Ideal
public import proofs.«01_k».proof.Proof.Gen.Reference3Ideal.Run
public import proofs.«01_k».proof.Proof.Gen.Kernel4
public import proofs.«01_k».proof.Proof.Gen.Kernel4.Frame
public import proofs.«01_k».proof.Proof.Gen.Kernel4Ideal
public import proofs.«01_k».proof.Proof.Gen.Kernel4Ideal.Skeleton
public import proofs.«01_k».proof.Proof.Gen.Kernel4Ideal.Value
public import proofs.«01_k».proof.Proof.Gen.Reference4Ideal
public import proofs.«01_k».proof.Proof.Gen.Reference4Ideal.Run
public import proofs.«01_k».proof.Proof.Gen.Kernel5
public import proofs.«01_k».proof.Proof.Gen.Kernel5.Frame
public import proofs.«01_k».proof.Proof.Gen.Kernel5Ideal
public import proofs.«01_k».proof.Proof.Gen.Kernel5Ideal.Skeleton
public import proofs.«01_k».proof.Proof.Gen.Kernel5Ideal.Value
public import proofs.«01_k».proof.Proof.Gen.Reference5Ideal
public import proofs.«01_k».proof.Proof.Gen.Reference5Ideal.Run
public import proofs.«01_k».proof.Proof.Gen.Pre_finite_diff
public import proofs.«01_k».proof.Proof.Gen.Pre_finite
public import proofs.«01_k».proof.Proof.Gen.Reference
public import proofs.«01_k».proof.Proof.Gen.Reference.Run
public import proofs.«01_k».proof.Proof.Gen.ReferenceIdeal
public import proofs.«01_k».proof.Proof.Gen.ReferenceIdeal.Run
public import proofs.«01_k».proof.Proof.Gen.Pre_dispatch
public import proofs.«01_k».proof.Proof.Gen.Kernel6
public import proofs.«01_k».proof.Proof.Gen.Kernel6.Frame
public import proofs.«01_k».proof.Proof.Gen.Kernel6Ideal
public import proofs.«01_k».proof.Proof.Gen.Kernel6Ideal.Skeleton
public import proofs.«01_k».proof.Proof.Gen.Kernel6Ideal.Value
public import proofs.«01_k».proof.Proof.Gen.Reference6Ideal
public import proofs.«01_k».proof.Proof.Gen.Reference6Ideal.Run
public import proofs.«01_k».proof.Proof.Ends
public import proofs.«01_k».proof.Proof.Combine
public import proofs.«01_k».proof.Proof.Gates
public import proofs.«01_k».proof.Proof.Attn
public import proofs.«01_k».proof.Proof.Finite
public import proofs.«01_k».proof.Proof.Diff
public import proofs.«01_k».proof.Proof.First
public import proofs.«01_k».proof.Proof.FiniteDiff

@[expose] public section

noncomputable section

namespace Cert.Proof

open Idealize.ShloMosaic Idealize.SL.Sem Cert.Proof.Scatter

/-! The certificate's claims. -/

theorem frame_Kernel : Cert.quiescent_Kernel := fun m g hpre =>
  (θ_run _ _ _).mono (fun _ h => ⟨fun c => (h.1 c).2, h.2⟩) (ends (F := Bits) m g fun d => plan_of_pre _ _ _ (hpre d))

theorem frame_KernelIdeal : Cert.quiescent_KernelIdeal := fun m g hpre =>
  (θ_run _ _ _).mono (fun _ h => ⟨fun c => (h.1 c).2, h.2⟩) (ends (F := Ideal) m g fun d => plan_of_pre _ _ _ (hpre d))

theorem frame_ReferenceIdeal : Cert.quiescent_ReferenceIdeal := fun m g _ =>
  (θ_run _ _ _).mono (fun r h => ⟨fun c => (h c).2, sem_eq_zero_of_no_sems (by decide) r.2⟩) (Cert.ReferenceIdeal.Value.run m g)

theorem frame_Reference : Cert.quiescent_Reference := fun m g _ =>
  (θ_run _ _ _).mono (fun r h => ⟨fun c => (h c).2, sem_eq_zero_of_no_sems (by decide) r.2⟩) (Cert.Reference.Value.run m g)

theorem algebraic : Cert.algebraic_KernelIdeal_ReferenceIdeal := fun m g m' g' hpre hm =>
  ⟨fun c => refOut (argH m c) (argD m c),
    (θ_run _ _ _).mono (fun _ h => h.1) (ends (F := Ideal) m g fun d => plan_of_pre _ _ _ (hpre d)),
    (θ_run _ _ _).mono (fun _ h c => ⟨(h c).1.trans (congrArg₂ refOut (hm c).1 (hm c).2.1), (h c).2⟩) (Cert.ReferenceIdeal.Value.run m' g')⟩

theorem bitexact : Cert.bitexact_Kernel_Reference := fun m g m' g' hpre hm =>
  ⟨fun c => refOut (argH (F := Bits) m c) (argD (F := Bits) m c),
    (θ_run _ _ _).mono (fun _ h => h.1) (ends (F := Bits) m g fun d => plan_of_pre _ _ _ (hpre d)),
    (θ_run _ _ _).mono (fun _ h c => ⟨(h c).1.trans (congrArg₂ refOut (hm c).1 (hm c).2.1), (h c).2⟩) (Cert.Reference.Value.run m' g')⟩

/-! The latent attention. -/

theorem frame_Kernel2 : Cert.quiescent_Kernel2 := fun m g _ => Cert.Kernel2.Gen.frame m g

theorem frame_Kernel2Ideal : Cert.quiescent_Kernel2Ideal := fun m g _ => Cert.Kernel2Ideal.Gen.frame m g

theorem frame_Reference2Ideal : Cert.quiescent_Reference2Ideal := fun m g _ =>
  (θ_run _ _ _).mono (fun r h => ⟨fun c => (h c).2, sem_eq_zero_of_no_sems (by decide) r.2⟩) (Cert.Reference2Ideal.Value.run m g)

theorem frame_Kernel2Ideal_pre_finite : Cert.quiescent_Kernel2Ideal_pre_finite := fun m g _ => Cert.Kernel2Ideal.Gen.frame m g

theorem frame_Reference2Ideal_pre_finite : Cert.quiescent_Reference2Ideal_pre_finite := fun m g _ =>
  (θ_run _ _ _).mono (fun r h => ⟨fun c => (h c).2, sem_eq_zero_of_no_sems (by decide) r.2⟩) (Cert.Reference2Ideal.Value.run m g)

theorem preserves2 : Cert.preserves_Kernel2_Kernel2Ideal :=
  ⟨IdealRules.named_const.statement _ _ _ _ _ rfl, IdealRules.named_const.statement _ _ _ _ _ rfl⟩

theorem algebraic2 : Cert.algebraic_Kernel2Ideal_Reference2Ideal_pre_finite := fun m g m' g' hpre hm =>
  ⟨fun c => AttnRef.want (m ((c.tc : Thread Cert.Kernel2Ideal.nD Cert.Kernel2Ideal.τ).loc Cert.Kernel2Ideal.main_arg0))
      (m ((c.tc : Thread Cert.Kernel2Ideal.nD Cert.Kernel2Ideal.τ).loc Cert.Kernel2Ideal.main_arg1))
      (m ((c.tc : Thread Cert.Kernel2Ideal.nD Cert.Kernel2Ideal.τ).loc Cert.Kernel2Ideal.main_arg2)),
    (θ_run _ _ _).mono (fun _ h c => ⟨(h c).1.trans (by
      obtain ⟨⟨qr, hq⟩, kr, hk⟩ := Finite.reals _ _ _ (hpre c)
      exact Attn.final m c qr kr hq hk), (h c).2⟩) (Cert.Kernel2Ideal.Value.run_blocks m g),
    (θ_run _ _ _).mono (fun _ h c => ⟨(h c).1.trans (by
      obtain ⟨h0, h1, h2⟩ := hm c
      rw [AttnRef.res_eq, h0, h1, h2]), (h c).2⟩) (Cert.Reference2Ideal.Value.run m' g')⟩

/-! The expert combine with the final norm. -/

theorem frame_Kernel3 : Cert.quiescent_Kernel3 := fun m g _ => Cert.Kernel3.Gen.frame m g

theorem frame_Kernel3Ideal : Cert.quiescent_Kernel3Ideal := fun m g _ => Cert.Kernel3Ideal.Gen.frame m g

theorem frame_Reference3Ideal : Cert.quiescent_Reference3Ideal := fun m g _ =>
  (θ_run _ _ _).mono (fun r h => ⟨fun c => (h c).2, sem_eq_zero_of_no_sems (by decide) r.2⟩) (Cert.Reference3Ideal.Value.run m g)

theorem algebraic3 : Cert.algebraic_Kernel3Ideal_Reference3Ideal := fun m g m' g' _ hm =>
  ⟨fun c => Combine.want (m ((c.tc : Thread Cert.Kernel3Ideal.nD Cert.Kernel3Ideal.τ).loc Cert.Kernel3Ideal.main_arg0))
      (m ((c.tc : Thread Cert.Kernel3Ideal.nD Cert.Kernel3Ideal.τ).loc Cert.Kernel3Ideal.main_arg1))
      (m ((c.tc : Thread Cert.Kernel3Ideal.nD Cert.Kernel3Ideal.τ).loc Cert.Kernel3Ideal.main_arg2))
      (m ((c.tc : Thread Cert.Kernel3Ideal.nD Cert.Kernel3Ideal.τ).loc Cert.Kernel3Ideal.main_arg3))
      (m ((c.tc : Thread Cert.Kernel3Ideal.nD Cert.Kernel3Ideal.τ).loc Cert.Kernel3Ideal.main_arg4)),
    (θ_run _ _ _).mono (fun _ h c => ⟨(h c).1.trans (Combine.final m c), (h c).2⟩) (Cert.Kernel3Ideal.Value.run_blocks m g),
    (θ_run _ _ _).mono (fun _ h c => ⟨(h c).1.trans (by
      obtain ⟨h0, h1, h2, h3, h4⟩ := hm c
      rw [h0, h1, h2, h3, h4]
      rfl), (h c).2⟩) (Cert.Reference3Ideal.Value.run m' g')⟩

/-! The differential attention of the second layer. -/

theorem frame_Kernel4 : Cert.quiescent_Kernel4 := fun m g _ => Cert.Kernel4.Gen.frame m g

theorem frame_Kernel4Ideal : Cert.quiescent_Kernel4Ideal := fun m g _ => Cert.Kernel4Ideal.Gen.frame m g

theorem frame_Reference4Ideal : Cert.quiescent_Reference4Ideal := fun m g _ =>
  (θ_run _ _ _).mono (fun r h => ⟨fun c => (h c).2, sem_eq_zero_of_no_sems (by decide) r.2⟩) (Cert.Reference4Ideal.Value.run m g)

theorem frame_Kernel4Ideal_pre_finite_diff : Cert.quiescent_Kernel4Ideal_pre_finite_diff := fun m g _ => Cert.Kernel4Ideal.Gen.frame m g

theorem frame_Reference4Ideal_pre_finite_diff : Cert.quiescent_Reference4Ideal_pre_finite_diff := fun m g _ =>
  (θ_run _ _ _).mono (fun r h => ⟨fun c => (h c).2, sem_eq_zero_of_no_sems (by decide) r.2⟩) (Cert.Reference4Ideal.Value.run m g)

theorem preserves4 : Cert.preserves_Kernel4_Kernel4Ideal :=
  ⟨IdealRules.named_const.statement _ _ _ _ _ rfl, IdealRules.named_const.statement _ _ _ _ _ rfl⟩

theorem algebraic4 : Cert.algebraic_Kernel4Ideal_Reference4Ideal_pre_finite_diff := fun m g m' g' hpre hm =>
  ⟨fun c => Diff.goal m c,
    (θ_run _ _ _).mono (fun _ h c => ⟨(h c).1.trans (by
      obtain ⟨⟨qr, hq⟩, ⟨kr, hk⟩, ⟨vr, hv⟩, ⟨ar, ha⟩, ⟨br, hb⟩, ⟨xr, hx⟩, yr, hy⟩ := FiniteDiff.reals _ _ _ _ _ _ _ _ (hpre c)
      exact Diff.final m c qr kr hq hk vr hv ar br xr yr ha hb hx hy), (h c).2⟩) (Cert.Kernel4Ideal.Value.run_blocks m g),
    (θ_run _ _ _).mono (fun _ h c => ⟨(h c).1.trans (by
      obtain ⟨h0, h1, h2, h3, h4, h5, h6, h7⟩ := hm c
      rw [DiffRef.res_eq, h0, h1, h2, h3, h4, h5, h6, h7]), (h c).2⟩) (Cert.Reference4Ideal.Value.run m' g')⟩

/-! The differential attention of the first layer. -/

theorem frame_Kernel5 : Cert.quiescent_Kernel5 := fun m g _ => Cert.Kernel5.Gen.frame m g

theorem frame_Kernel5Ideal : Cert.quiescent_Kernel5Ideal := fun m g _ => Cert.Kernel5Ideal.Gen.frame m g

theorem frame_Reference5Ideal : Cert.quiescent_Reference5Ideal := fun m g _ =>
  (θ_run _ _ _).mono (fun r h => ⟨fun c => (h c).2, sem_eq_zero_of_no_sems (by decide) r.2⟩) (Cert.Reference5Ideal.Value.run m g)

theorem frame_Kernel5Ideal_pre_finite_diff : Cert.quiescent_Kernel5Ideal_pre_finite_diff := fun m g _ => Cert.Kernel5Ideal.Gen.frame m g

theorem frame_Reference5Ideal_pre_finite_diff : Cert.quiescent_Reference5Ideal_pre_finite_diff := fun m g _ =>
  (θ_run _ _ _).mono (fun r h => ⟨fun c => (h c).2, sem_eq_zero_of_no_sems (by decide) r.2⟩) (Cert.Reference5Ideal.Value.run m g)

theorem preserves5 : Cert.preserves_Kernel5_Kernel5Ideal :=
  ⟨IdealRules.named_const.statement _ _ _ _ _ rfl, IdealRules.named_const.statement _ _ _ _ _ rfl⟩

theorem algebraic5 : Cert.algebraic_Kernel5Ideal_Reference5Ideal_pre_finite_diff := fun m g m' g' hpre hm =>
  ⟨fun c => First.goal m c,
    (θ_run _ _ _).mono (fun _ h c => ⟨(h c).1.trans (by
      obtain ⟨⟨qr, hq⟩, ⟨kr, hk⟩, ⟨vr, hv⟩, ⟨ar, ha⟩, ⟨br, hb⟩, ⟨xr, hx⟩, yr, hy⟩ := FiniteDiff.reals _ _ _ _ _ _ _ _ (hpre c)
      exact First.final m c qr kr hq hk vr hv ar br xr yr ha hb hx hy), (h c).2⟩) (Cert.Kernel5Ideal.Value.run_blocks m g),
    (θ_run _ _ _).mono (fun _ h c => ⟨(h c).1.trans (by
      obtain ⟨h0, h1, h2, h3, h4, h5, h6, h7⟩ := hm c
      rw [FirstRef.res_eq, h0, h1, h2, h3, h4, h5, h6, h7]), (h c).2⟩) (Cert.Reference5Ideal.Value.run m' g')⟩

theorem frame_Kernel6 : Cert.quiescent_Kernel6 := fun m g _ => Cert.Kernel6.Gen.frame m g

theorem frame_Kernel6Ideal : Cert.quiescent_Kernel6Ideal := fun m g _ => Cert.Kernel6Ideal.Gen.frame m g

theorem frame_Reference6Ideal : Cert.quiescent_Reference6Ideal :=
  fun m g _ => (θ_run _ _ _).mono (fun r h => ⟨fun c => (h c).2, sem_eq_zero_of_no_sems (by decide) r.2⟩) (Cert.Reference6Ideal.Value.run m g)

theorem algebraic6 : Cert.algebraic_Kernel6Ideal_Reference6Ideal := fun m g m' g' _ hm =>
  ⟨fun c => Gates.want (m ((c.tc : Thread Cert.Kernel6Ideal.nD Cert.Kernel6Ideal.τ).loc Cert.Kernel6Ideal.main_arg0))
      (m ((c.tc : Thread Cert.Kernel6Ideal.nD Cert.Kernel6Ideal.τ).loc Cert.Kernel6Ideal.main_arg1))
      (m ((c.tc : Thread Cert.Kernel6Ideal.nD Cert.Kernel6Ideal.τ).loc Cert.Kernel6Ideal.main_arg2))
      (m ((c.tc : Thread Cert.Kernel6Ideal.nD Cert.Kernel6Ideal.τ).loc Cert.Kernel6Ideal.main_arg3))
      (m ((c.tc : Thread Cert.Kernel6Ideal.nD Cert.Kernel6Ideal.τ).loc Cert.Kernel6Ideal.main_arg4))
      (m ((c.tc : Thread Cert.Kernel6Ideal.nD Cert.Kernel6Ideal.τ).loc Cert.Kernel6Ideal.main_arg5)),
    (θ_run _ _ _).mono (fun _ h c => ⟨(h c).1.trans (Gates.final m c), (h c).2⟩) (Cert.Kernel6Ideal.Value.run_blocks m g),
    (θ_run _ _ _).mono (fun _ h c => ⟨(h c).1.trans (by
      obtain ⟨h0, h1, h2, h3, h4, h5⟩ := hm c
      rw [h0, h1, h2, h3, h4, h5]
      rfl), (h c).2⟩) (Cert.Reference6Ideal.Value.run m' g')⟩

theorem claim : Cert.Claim :=
  ⟨Cert.Kernel.Gen.facts, Cert.KernelIdeal.Gen.facts, Cert.ReferenceIdeal.Gen.facts, Cert.Reference.Gen.facts,
    Cert.Kernel2.Gen.facts, Cert.Kernel2Ideal.Gen.facts, Cert.Reference2Ideal.Gen.facts,
    Cert.Kernel3.Gen.facts, Cert.Kernel3Ideal.Gen.facts, Cert.Reference3Ideal.Gen.facts,
    Cert.Kernel4.Gen.facts, Cert.Kernel4Ideal.Gen.facts, Cert.Reference4Ideal.Gen.facts,
    Cert.Kernel5.Gen.facts, Cert.Kernel5Ideal.Gen.facts, Cert.Reference5Ideal.Gen.facts,
    Cert.Kernel6.Gen.facts, Cert.Kernel6Ideal.Gen.facts, Cert.Reference6Ideal.Gen.facts,
    Cert.Pre_dispatch.Gen.facts, Cert.Pre_finite.Gen.facts, Cert.Pre_finite_diff.Gen.facts,
    frame_Kernel, frame_KernelIdeal, frame_ReferenceIdeal, frame_Reference,
    frame_Kernel2, frame_Kernel2Ideal, frame_Kernel2Ideal_pre_finite, frame_Reference2Ideal, frame_Reference2Ideal_pre_finite,
    frame_Kernel3, frame_Kernel3Ideal, frame_Reference3Ideal,
    frame_Kernel4, frame_Kernel4Ideal, frame_Kernel4Ideal_pre_finite_diff, frame_Reference4Ideal, frame_Reference4Ideal_pre_finite_diff,
    frame_Kernel5, frame_Kernel5Ideal, frame_Kernel5Ideal_pre_finite_diff, frame_Reference5Ideal, frame_Reference5Ideal_pre_finite_diff,
    frame_Kernel6, frame_Kernel6Ideal, frame_Reference6Ideal,
    trivial, algebraic, bitexact, preserves2, algebraic2, trivial, algebraic3, preserves4, algebraic4, preserves5, algebraic5, trivial, algebraic6⟩

end Cert.Proof

end
